-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_QkvSample (m : (ℓ : Loc Cert.QkvSample.nD Cert.QkvSample.τ Cert.QkvSample.sig) → Buf (Elt Bits) ℓ) : Prop :=
  True

def Pre_QkvSampleIdeal (m : (ℓ : Loc Cert.QkvSampleIdeal.nD Cert.QkvSampleIdeal.τ Cert.QkvSampleIdeal.sig) → Buf (Elt Ideal) ℓ) : Prop :=
  True

def Pre_QkvSampleReferenceIdeal (m : (ℓ : Loc Cert.QkvSampleReferenceIdeal.nD Cert.QkvSampleReferenceIdeal.τ Cert.QkvSampleReferenceIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleReferenceIdeal (m : (ℓ : Loc Cert.PleSampleReferenceIdeal.nD Cert.PleSampleReferenceIdeal.τ Cert.PleSampleReferenceIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_rows [hPre_finite_rows : Cert.Pre_finite_rows.Facts] (m : (ℓ : Loc Cert.MobaIdeal.nD Cert.MobaIdeal.τ Cert.MobaIdeal.sig) → Buf (Elt Ideal) ℓ) : Prop :=
  ∀ c : Dev Cert.MobaIdeal.nD,
    (Cert.Pre_finite_rows.fn (F := Ideal) (m ((c.tc : Thread Cert.MobaIdeal.nD Cert.MobaIdeal.τ).loc Cert.MobaIdeal.main_arg0))) = (fun _ => 1#1)

def Pre_MobaReferenceIdeal (m : (ℓ : Loc Cert.MobaReferenceIdeal.nD Cert.MobaReferenceIdeal.τ Cert.MobaReferenceIdeal.sig) → Buf (Elt Ideal) ℓ) : Prop :=
  True

def Pre_MobaReferenceIdeal_finite_rows [hPre_finite_rows : Cert.Pre_finite_rows.Facts] (m : (ℓ : Loc Cert.MobaReferenceIdeal.nD Cert.MobaReferenceIdeal.τ Cert.MobaReferenceIdeal.sig) → Buf (Elt Ideal) ℓ) : Prop :=
  ∀ c : Dev Cert.MobaReferenceIdeal.nD,
    (Cert.Pre_finite_rows.fn (F := Ideal) (m ((c.tc : Thread Cert.MobaReferenceIdeal.nD Cert.MobaReferenceIdeal.τ).loc Cert.MobaReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_QkvSample [hQkvSample : Cert.QkvSample.Facts] : Prop :=
  ∀ (m : (ℓ : Loc Cert.QkvSample.nD Cert.QkvSample.τ Cert.QkvSample.sig) → Buf (Elt Bits) ℓ) (g : Dev Cert.QkvSample.nD → PrngReg), Pre_QkvSample m →
    θ_run (Cert.QkvSample.defs (F := Bits)) (onTc (τ := Cert.QkvSample.τ) (Cert.QkvSample.main (F := Bits))) ⟨m, fun _ => 0, g⟩ (fun r => (∀ c : Dev Cert.QkvSample.nD,
      r.2.mem ((c.tc : Thread Cert.QkvSample.nD Cert.QkvSample.τ).loc Cert.QkvSample.main_arg0) = m ((c.tc : Thread Cert.QkvSample.nD Cert.QkvSample.τ).loc Cert.QkvSample.main_arg0)
      ∧ r.2.mem ((c.tc : Thread Cert.QkvSample.nD Cert.QkvSample.τ).loc Cert.QkvSample.main_arg1) = m ((c.tc : Thread Cert.QkvSample.nD Cert.QkvSample.τ).loc Cert.QkvSample.main_arg1)
      ∧ r.2.mem ((c.tc : Thread Cert.QkvSample.nD Cert.QkvSample.τ).loc Cert.QkvSample.main_arg2) = m ((c.tc : Thread Cert.QkvSample.nD Cert.QkvSample.τ).loc Cert.QkvSample.main_arg2))
      ∧ r.2.sem = fun _ => 0)

def quiescent_QkvSampleIdeal [hQkvSampleIdeal : Cert.QkvSampleIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg), Pre_QkvSampleIdeal m →
    θ_run (Cert.QkvSampleIdeal.defs (F := Ideal)) (onTc (τ := Cert.QkvSampleIdeal.τ) (Cert.QkvSampleIdeal.main (F := Ideal))) ⟨m, fun _ => 0, g⟩ (fun r => (∀ c : Dev Cert.QkvSampleIdeal.nD,
      r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
      ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
      ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2))
      ∧ r.2.sem = fun _ => 0)

def quiescent_QkvSampleReferenceIdeal [hQkvSampleReferenceIdeal : Cert.QkvSampleReferenceIdeal.Facts] : Prop :=
  ∀ (m : (ℓ : Loc Cert.QkvSampleReferenceIdeal.nD Cert.QkvSampleReferenceIdeal.τ Cert.QkvSampleReferenceIdeal.sig) → Buf (Elt Ideal) ℓ) (g : Dev Cert.QkvSampleReferenceIdeal.nD → PrngReg), Pre_QkvSampleReferenceIdeal m →
    θ_run (Cert.QkvSampleReferenceIdeal.defs (F := Ideal)) (onTc (τ := Cert.QkvSampleReferenceIdeal.τ) (Cert.QkvSampleReferenceIdeal.main (F := Ideal))) ⟨m, fun _ => 0, g⟩ (fun r => (∀ c : Dev Cert.QkvSampleReferenceIdeal.nD,
      r.2.mem ((c.tc : Thread Cert.QkvSampleReferenceIdeal.nD Cert.QkvSampleReferenceIdeal.τ).loc Cert.QkvSampleReferenceIdeal.main_arg0) = m ((c.tc : Thread Cert.QkvSampleReferenceIdeal.nD Cert.QkvSampleReferenceIdeal.τ).loc Cert.QkvSampleReferenceIdeal.main_arg0)
      ∧ r.2.mem ((c.tc : Thread Cert.QkvSampleReferenceIdeal.nD Cert.QkvSampleReferenceIdeal.τ).loc Cert.QkvSampleReferenceIdeal.main_arg1) = m ((c.tc : Thread Cert.QkvSampleReferenceIdeal.nD Cert.QkvSampleReferenceIdeal.τ).loc Cert.QkvSampleReferenceIdeal.main_arg1)
      ∧ r.2.mem ((c.tc : Thread Cert.QkvSampleReferenceIdeal.nD Cert.QkvSampleReferenceIdeal.τ).loc Cert.QkvSampleReferenceIdeal.main_arg2) = m ((c.tc : Thread Cert.QkvSampleReferenceIdeal.nD Cert.QkvSampleReferenceIdeal.τ).loc Cert.QkvSampleReferenceIdeal.main_arg2))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4)
      ∧ r.2.mem ((c.tc : Thread Cert.PleSample.nD Cert.PleSample.τ).loc Cert.PleSample.main_arg5) = m ((c.tc : Thread Cert.PleSample.nD Cert.PleSample.τ).loc Cert.PleSample.main_arg5))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
      ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5))
      ∧ r.2.sem = fun _ => 0)

def quiescent_PleSampleReferenceIdeal [hPleSampleReferenceIdeal : Cert.PleSampleReferenceIdeal.Facts] : Prop :=
  ∀ (m : (ℓ : Loc Cert.PleSampleReferenceIdeal.nD Cert.PleSampleReferenceIdeal.τ Cert.PleSampleReferenceIdeal.sig) → Buf (Elt Ideal) ℓ) (g : Dev Cert.PleSampleReferenceIdeal.nD → PrngReg), Pre_PleSampleReferenceIdeal m →
    θ_run (Cert.PleSampleReferenceIdeal.defs (F := Ideal)) (onTc (τ := Cert.PleSampleReferenceIdeal.τ) (Cert.PleSampleReferenceIdeal.main (F := Ideal))) ⟨m, fun _ => 0, g⟩ (fun r => (∀ c : Dev Cert.PleSampleReferenceIdeal.nD,
      r.2.mem ((c.tc : Thread Cert.PleSampleReferenceIdeal.nD Cert.PleSampleReferenceIdeal.τ).loc Cert.PleSampleReferenceIdeal.main_arg0) = m ((c.tc : Thread Cert.PleSampleReferenceIdeal.nD Cert.PleSampleReferenceIdeal.τ).loc Cert.PleSampleReferenceIdeal.main_arg0)
      ∧ r.2.mem ((c.tc : Thread Cert.PleSampleReferenceIdeal.nD Cert.PleSampleReferenceIdeal.τ).loc Cert.PleSampleReferenceIdeal.main_arg1) = m ((c.tc : Thread Cert.PleSampleReferenceIdeal.nD Cert.PleSampleReferenceIdeal.τ).loc Cert.PleSampleReferenceIdeal.main_arg1)
      ∧ r.2.mem ((c.tc : Thread Cert.PleSampleReferenceIdeal.nD Cert.PleSampleReferenceIdeal.τ).loc Cert.PleSampleReferenceIdeal.main_arg2) = m ((c.tc : Thread Cert.PleSampleReferenceIdeal.nD Cert.PleSampleReferenceIdeal.τ).loc Cert.PleSampleReferenceIdeal.main_arg2)
      ∧ r.2.mem ((c.tc : Thread Cert.PleSampleReferenceIdeal.nD Cert.PleSampleReferenceIdeal.τ).loc Cert.PleSampleReferenceIdeal.main_arg3) = m ((c.tc : Thread Cert.PleSampleReferenceIdeal.nD Cert.PleSampleReferenceIdeal.τ).loc Cert.PleSampleReferenceIdeal.main_arg3)
      ∧ r.2.mem ((c.tc : Thread Cert.PleSampleReferenceIdeal.nD Cert.PleSampleReferenceIdeal.τ).loc Cert.PleSampleReferenceIdeal.main_arg4) = m ((c.tc : Thread Cert.PleSampleReferenceIdeal.nD Cert.PleSampleReferenceIdeal.τ).loc Cert.PleSampleReferenceIdeal.main_arg4)
      ∧ r.2.mem ((c.tc : Thread Cert.PleSampleReferenceIdeal.nD Cert.PleSampleReferenceIdeal.τ).loc Cert.PleSampleReferenceIdeal.main_arg5) = m ((c.tc : Thread Cert.PleSampleReferenceIdeal.nD Cert.PleSampleReferenceIdeal.τ).loc Cert.PleSampleReferenceIdeal.main_arg5))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaIdeal_pre_finite_rows [hMobaIdeal : Cert.MobaIdeal.Facts] [hPre_finite_rows : Cert.Pre_finite_rows.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_rows m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaReferenceIdeal [hMobaReferenceIdeal : Cert.MobaReferenceIdeal.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0))
      ∧ r.2.sem = fun _ => 0)

def quiescent_MobaReferenceIdeal_pre_finite_rows [hMobaReferenceIdeal : Cert.MobaReferenceIdeal.Facts] [hPre_finite_rows : Cert.Pre_finite_rows.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal_finite_rows m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v22) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v82)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v82) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v141) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v7) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v6) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v40) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_QkvSample_QkvSampleIdeal : Prop :=
  True

def algebraic_QkvSampleIdeal_QkvSampleReferenceIdeal [hQkvSampleIdeal : Cert.QkvSampleIdeal.Facts] [hQkvSampleReferenceIdeal : Cert.QkvSampleReferenceIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg)
    (m' : (ℓ : Loc Cert.QkvSampleReferenceIdeal.nD Cert.QkvSampleReferenceIdeal.τ Cert.QkvSampleReferenceIdeal.sig) → Buf (Elt Ideal) ℓ) (g' : Dev Cert.QkvSampleReferenceIdeal.nD → PrngReg), Pre_QkvSampleIdeal m →
    (∀ c : Dev Cert.QkvSampleIdeal.nD,
      m' ((c.tc : Thread Cert.QkvSampleReferenceIdeal.nD Cert.QkvSampleReferenceIdeal.τ).loc Cert.QkvSampleReferenceIdeal.main_arg0) = m ((c.tc : Thread Cert.QkvSampleIdeal.nD Cert.QkvSampleIdeal.τ).loc Cert.QkvSampleIdeal.main_arg0)
      ∧ m' ((c.tc : Thread Cert.QkvSampleReferenceIdeal.nD Cert.QkvSampleReferenceIdeal.τ).loc Cert.QkvSampleReferenceIdeal.main_arg1) = m ((c.tc : Thread Cert.QkvSampleIdeal.nD Cert.QkvSampleIdeal.τ).loc Cert.QkvSampleIdeal.main_arg1)
      ∧ m' ((c.tc : Thread Cert.QkvSampleReferenceIdeal.nD Cert.QkvSampleReferenceIdeal.τ).loc Cert.QkvSampleReferenceIdeal.main_arg2) = m ((c.tc : Thread Cert.QkvSampleIdeal.nD Cert.QkvSampleIdeal.τ).loc Cert.QkvSampleIdeal.main_arg2)) →
    ∃ (v0 : (c : Dev Cert.QkvSampleIdeal.nD) → Buf (Elt Ideal) ((c.tc : Thread Cert.QkvSampleIdeal.nD Cert.QkvSampleIdeal.τ).loc Cert.QkvSampleIdeal.main_v82)),
      θ_run (Cert.QkvSampleIdeal.defs (F := Ideal)) (onTc (τ := Cert.QkvSampleIdeal.τ) (Cert.QkvSampleIdeal.main (F := Ideal))) ⟨m, fun _ => 0, g⟩ (fun r => ∀ c : Dev Cert.QkvSampleIdeal.nD,
          r.2.mem ((c.tc : Thread Cert.QkvSampleIdeal.nD Cert.QkvSampleIdeal.τ).loc Cert.QkvSampleIdeal.main_v82) = v0 c
          ∧ r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
          ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
          ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2))
      ∧ θ_run (Cert.QkvSampleReferenceIdeal.defs (F := Ideal)) (onTc (τ := Cert.QkvSampleReferenceIdeal.τ) (Cert.QkvSampleReferenceIdeal.main (F := Ideal))) ⟨m', fun _ => 0, g'⟩ (fun r => ∀ c : Dev Cert.QkvSampleReferenceIdeal.nD,
          r.2.mem ((c.tc : Thread Cert.QkvSampleReferenceIdeal.nD Cert.QkvSampleReferenceIdeal.τ).loc Cert.QkvSampleReferenceIdeal.main_v139) = v0 c
          ∧ r.2.mem ((c.tc : Thread Cert.QkvSampleReferenceIdeal.nD Cert.QkvSampleReferenceIdeal.τ).loc Cert.QkvSampleReferenceIdeal.main_arg0) = m' ((c.tc : Thread Cert.QkvSampleReferenceIdeal.nD Cert.QkvSampleReferenceIdeal.τ).loc Cert.QkvSampleReferenceIdeal.main_arg0)
          ∧ r.2.mem ((c.tc : Thread Cert.QkvSampleReferenceIdeal.nD Cert.QkvSampleReferenceIdeal.τ).loc Cert.QkvSampleReferenceIdeal.main_arg1) = m' ((c.tc : Thread Cert.QkvSampleReferenceIdeal.nD Cert.QkvSampleReferenceIdeal.τ).loc Cert.QkvSampleReferenceIdeal.main_arg1)
          ∧ r.2.mem ((c.tc : Thread Cert.QkvSampleReferenceIdeal.nD Cert.QkvSampleReferenceIdeal.τ).loc Cert.QkvSampleReferenceIdeal.main_arg2) = m' ((c.tc : Thread Cert.QkvSampleReferenceIdeal.nD Cert.QkvSampleReferenceIdeal.τ).loc Cert.QkvSampleReferenceIdeal.main_arg2))

def preserves_PleSample_PleSampleIdeal : Prop :=
  True

def algebraic_PleSampleIdeal_PleSampleReferenceIdeal [hPleSampleIdeal : Cert.PleSampleIdeal.Facts] [hPleSampleReferenceIdeal : Cert.PleSampleReferenceIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleReferenceIdeal.nD Cert.PleSampleReferenceIdeal.τ Cert.PleSampleReferenceIdeal.sig) → Buf (Elt Ideal) ℓ) (g' : Dev Cert.PleSampleReferenceIdeal.nD → PrngReg), Pre_PleSampleIdeal m →
    (∀ c : Dev Cert.PleSampleIdeal.nD,
      m' ((c.tc : Thread Cert.PleSampleReferenceIdeal.nD Cert.PleSampleReferenceIdeal.τ).loc Cert.PleSampleReferenceIdeal.main_arg0) = m ((c.tc : Thread Cert.PleSampleIdeal.nD Cert.PleSampleIdeal.τ).loc Cert.PleSampleIdeal.main_arg0)
      ∧ m' ((c.tc : Thread Cert.PleSampleReferenceIdeal.nD Cert.PleSampleReferenceIdeal.τ).loc Cert.PleSampleReferenceIdeal.main_arg1) = m ((c.tc : Thread Cert.PleSampleIdeal.nD Cert.PleSampleIdeal.τ).loc Cert.PleSampleIdeal.main_arg1)
      ∧ m' ((c.tc : Thread Cert.PleSampleReferenceIdeal.nD Cert.PleSampleReferenceIdeal.τ).loc Cert.PleSampleReferenceIdeal.main_arg2) = m ((c.tc : Thread Cert.PleSampleIdeal.nD Cert.PleSampleIdeal.τ).loc Cert.PleSampleIdeal.main_arg2)
      ∧ m' ((c.tc : Thread Cert.PleSampleReferenceIdeal.nD Cert.PleSampleReferenceIdeal.τ).loc Cert.PleSampleReferenceIdeal.main_arg3) = m ((c.tc : Thread Cert.PleSampleIdeal.nD Cert.PleSampleIdeal.τ).loc Cert.PleSampleIdeal.main_arg3)
      ∧ m' ((c.tc : Thread Cert.PleSampleReferenceIdeal.nD Cert.PleSampleReferenceIdeal.τ).loc Cert.PleSampleReferenceIdeal.main_arg4) = m ((c.tc : Thread Cert.PleSampleIdeal.nD Cert.PleSampleIdeal.τ).loc Cert.PleSampleIdeal.main_arg4)
      ∧ m' ((c.tc : Thread Cert.PleSampleReferenceIdeal.nD Cert.PleSampleReferenceIdeal.τ).loc Cert.PleSampleReferenceIdeal.main_arg5) = m ((c.tc : Thread Cert.PleSampleIdeal.nD Cert.PleSampleIdeal.τ).loc Cert.PleSampleIdeal.main_arg5)) →
    ∃ (v0 : (c : Dev Cert.PleSampleIdeal.nD) → Buf (Elt Ideal) ((c.tc : Thread Cert.PleSampleIdeal.nD Cert.PleSampleIdeal.τ).loc Cert.PleSampleIdeal.main_v6)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v6) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
          ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5))
      ∧ θ_run (Cert.PleSampleReferenceIdeal.defs (F := Ideal)) (onTc (τ := Cert.PleSampleReferenceIdeal.τ) (Cert.PleSampleReferenceIdeal.main (F := Ideal))) ⟨m', fun _ => 0, g'⟩ (fun r => ∀ c : Dev Cert.PleSampleReferenceIdeal.nD,
          r.2.mem ((c.tc : Thread Cert.PleSampleReferenceIdeal.nD Cert.PleSampleReferenceIdeal.τ).loc Cert.PleSampleReferenceIdeal.main_v40) = v0 c
          ∧ r.2.mem ((c.tc : Thread Cert.PleSampleReferenceIdeal.nD Cert.PleSampleReferenceIdeal.τ).loc Cert.PleSampleReferenceIdeal.main_arg0) = m' ((c.tc : Thread Cert.PleSampleReferenceIdeal.nD Cert.PleSampleReferenceIdeal.τ).loc Cert.PleSampleReferenceIdeal.main_arg0)
          ∧ r.2.mem ((c.tc : Thread Cert.PleSampleReferenceIdeal.nD Cert.PleSampleReferenceIdeal.τ).loc Cert.PleSampleReferenceIdeal.main_arg1) = m' ((c.tc : Thread Cert.PleSampleReferenceIdeal.nD Cert.PleSampleReferenceIdeal.τ).loc Cert.PleSampleReferenceIdeal.main_arg1)
          ∧ r.2.mem ((c.tc : Thread Cert.PleSampleReferenceIdeal.nD Cert.PleSampleReferenceIdeal.τ).loc Cert.PleSampleReferenceIdeal.main_arg2) = m' ((c.tc : Thread Cert.PleSampleReferenceIdeal.nD Cert.PleSampleReferenceIdeal.τ).loc Cert.PleSampleReferenceIdeal.main_arg2)
          ∧ r.2.mem ((c.tc : Thread Cert.PleSampleReferenceIdeal.nD Cert.PleSampleReferenceIdeal.τ).loc Cert.PleSampleReferenceIdeal.main_arg3) = m' ((c.tc : Thread Cert.PleSampleReferenceIdeal.nD Cert.PleSampleReferenceIdeal.τ).loc Cert.PleSampleReferenceIdeal.main_arg3)
          ∧ r.2.mem ((c.tc : Thread Cert.PleSampleReferenceIdeal.nD Cert.PleSampleReferenceIdeal.τ).loc Cert.PleSampleReferenceIdeal.main_arg4) = m' ((c.tc : Thread Cert.PleSampleReferenceIdeal.nD Cert.PleSampleReferenceIdeal.τ).loc Cert.PleSampleReferenceIdeal.main_arg4)
          ∧ r.2.mem ((c.tc : Thread Cert.PleSampleReferenceIdeal.nD Cert.PleSampleReferenceIdeal.τ).loc Cert.PleSampleReferenceIdeal.main_arg5) = m' ((c.tc : Thread Cert.PleSampleReferenceIdeal.nD Cert.PleSampleReferenceIdeal.τ).loc Cert.PleSampleReferenceIdeal.main_arg5))

def preserves_Moba_MobaIdeal : Prop :=
  IdealRules.named_const.Statement Cert.MobaIdeal.κ "moba_scale_log2e" .f32 0x3E0293EE#32 (((11863283 / 134217728) * (Real.log 2)⁻¹ : ℝ) : EReal)

def algebraic_MobaIdeal_MobaReferenceIdeal_pre_finite_rows [hMobaIdeal : Cert.MobaIdeal.Facts] [hMobaReferenceIdeal : Cert.MobaReferenceIdeal.Facts] [hPre_finite_rows : Cert.Pre_finite_rows.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaReferenceIdeal.nD Cert.MobaReferenceIdeal.τ Cert.MobaReferenceIdeal.sig) → Buf (Elt Ideal) ℓ) (g' : Dev Cert.MobaReferenceIdeal.nD → PrngReg), Pre_MobaIdeal_finite_rows m →
    (∀ c : Dev Cert.MobaIdeal.nD,
      m' ((c.tc : Thread Cert.MobaReferenceIdeal.nD Cert.MobaReferenceIdeal.τ).loc Cert.MobaReferenceIdeal.main_arg0) = m ((c.tc : Thread Cert.MobaIdeal.nD Cert.MobaIdeal.τ).loc Cert.MobaIdeal.main_arg0)) →
    ∃ (v0 : (c : Dev Cert.MobaIdeal.nD) → Buf (Elt Ideal) ((c.tc : Thread Cert.MobaIdeal.nD Cert.MobaIdeal.τ).loc Cert.MobaIdeal.main_v1)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v1) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ θ_run (Cert.MobaReferenceIdeal.defs (F := Ideal)) (onTc (τ := Cert.MobaReferenceIdeal.τ) (Cert.MobaReferenceIdeal.main (F := Ideal))) ⟨m', fun _ => 0, g'⟩ (fun r => ∀ c : Dev Cert.MobaReferenceIdeal.nD,
          r.2.mem ((c.tc : Thread Cert.MobaReferenceIdeal.nD Cert.MobaReferenceIdeal.τ).loc Cert.MobaReferenceIdeal.main_v113) = v0 c
          ∧ r.2.mem ((c.tc : Thread Cert.MobaReferenceIdeal.nD Cert.MobaReferenceIdeal.τ).loc Cert.MobaReferenceIdeal.main_arg0) = m' ((c.tc : Thread Cert.MobaReferenceIdeal.nD Cert.MobaReferenceIdeal.τ).loc Cert.MobaReferenceIdeal.main_arg0))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hQkv : Cert.Qkv.Facts) (hQkvIdeal : Cert.QkvIdeal.Facts) (hQkvReferenceIdeal : Cert.QkvReferenceIdeal.Facts) (hOutProj : Cert.OutProj.Facts) (hOutProjIdeal : Cert.OutProjIdeal.Facts) (hOutProjReferenceIdeal : Cert.OutProjReferenceIdeal.Facts) (hPle : Cert.Ple.Facts) (hPleIdeal : Cert.PleIdeal.Facts) (hPleReferenceIdeal : Cert.PleReferenceIdeal.Facts) (hQkvSample : Cert.QkvSample.Facts) (hQkvSampleIdeal : Cert.QkvSampleIdeal.Facts) (hQkvSampleReferenceIdeal : Cert.QkvSampleReferenceIdeal.Facts) (hPleSample : Cert.PleSample.Facts) (hPleSampleIdeal : Cert.PleSampleIdeal.Facts) (hPleSampleReferenceIdeal : Cert.PleSampleReferenceIdeal.Facts) (hMoba : Cert.Moba.Facts) (hMobaIdeal : Cert.MobaIdeal.Facts) (hMobaReferenceIdeal : Cert.MobaReferenceIdeal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Ple (hPle := hPle)
    ∧ quiescent_PleIdeal (hPleIdeal := hPleIdeal)
    ∧ quiescent_PleReferenceIdeal (hPleReferenceIdeal := hPleReferenceIdeal)
    ∧ quiescent_QkvSample (hQkvSample := hQkvSample)
    ∧ quiescent_QkvSampleIdeal (hQkvSampleIdeal := hQkvSampleIdeal)
    ∧ quiescent_QkvSampleReferenceIdeal (hQkvSampleReferenceIdeal := hQkvSampleReferenceIdeal)
    ∧ quiescent_PleSample (hPleSample := hPleSample)
    ∧ quiescent_PleSampleIdeal (hPleSampleIdeal := hPleSampleIdeal)
    ∧ quiescent_PleSampleReferenceIdeal (hPleSampleReferenceIdeal := hPleSampleReferenceIdeal)
    ∧ quiescent_Moba (hMoba := hMoba)
    ∧ quiescent_MobaIdeal (hMobaIdeal := hMobaIdeal)
    ∧ quiescent_MobaIdeal_pre_finite_rows (hMobaIdeal := hMobaIdeal) (hPre_finite_rows := hPre_finite_rows)
    ∧ quiescent_MobaReferenceIdeal (hMobaReferenceIdeal := hMobaReferenceIdeal)
    ∧ quiescent_MobaReferenceIdeal_pre_finite_rows (hMobaReferenceIdeal := hMobaReferenceIdeal) (hPre_finite_rows := hPre_finite_rows)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Qkv_QkvIdeal
    ∧ algebraic_QkvIdeal_QkvReferenceIdeal (hQkvIdeal := hQkvIdeal) (hQkvReferenceIdeal := hQkvReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Ple_PleIdeal
    ∧ algebraic_PleIdeal_PleReferenceIdeal (hPleIdeal := hPleIdeal) (hPleReferenceIdeal := hPleReferenceIdeal)
    ∧ preserves_QkvSample_QkvSampleIdeal
    ∧ algebraic_QkvSampleIdeal_QkvSampleReferenceIdeal (hQkvSampleIdeal := hQkvSampleIdeal) (hQkvSampleReferenceIdeal := hQkvSampleReferenceIdeal)
    ∧ preserves_PleSample_PleSampleIdeal
    ∧ algebraic_PleSampleIdeal_PleSampleReferenceIdeal (hPleSampleIdeal := hPleSampleIdeal) (hPleSampleReferenceIdeal := hPleSampleReferenceIdeal)
    ∧ preserves_Moba_MobaIdeal
    ∧ algebraic_MobaIdeal_MobaReferenceIdeal_pre_finite_rows (hMobaIdeal := hMobaIdeal) (hMobaReferenceIdeal := hMobaReferenceIdeal) (hPre_finite_rows := hPre_finite_rows)
-- ==== Pre_finite.lean ====
abbrev S8192x4096 : Shape := ⟨2, ![8192, 4096]⟩
abbrev S64 : Shape := ⟨1, ![64]⟩
abbrev S128 : Shape := ⟨1, ![128]⟩
abbrev S_ : Shape := ⟨0, ![]⟩

class Facts : Prop where
  bcast_S_S8192x4096 : S_.BroadcastsInDim S8192x4096 (![] : Fin 0 → Fin S8192x4096.rank)
  bcast_S_S64 : S_.BroadcastsInDim S64 (![] : Fin 0 → Fin S64.rank)

variable [Facts]

def fn {F : FTy → Type} [FloatOps F] (main_arg0 : FVec F S8192x4096 .f32) (main_arg1 : FVec F S64 .f32) (main_arg2 : FVec F S64 .f32) (main_arg3 : FVec F S64 .f32) (main_arg4 : FVec F S64 .f32) (main_arg5 : FVec F S128 .f32) : IVec S8192x4096 1 × IVec S64 1 × IVec S64 1 × IVec S64 1 × IVec S64 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Pre_finite_rows.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)

variable [Facts]

def fn {F : FTy → Type} [FloatOps F] (main_arg0 : FVec F S8192x4096 .f32) : IVec S8192x4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  main_v2
-- ==== Kernel.lean ====
abbrev S8192x4096 : Shape := ⟨2, ![8192, 4096]⟩
abbrev S64 : Shape := ⟨1, ![64]⟩
abbrev S128 : Shape := ⟨1, ![128]⟩
abbrev S4x2048x4096 : Shape := ⟨3, ![4, 2048, 4096]⟩
abbrev S1x64 : Shape := ⟨2, ![1, 64]⟩
abbrev S128x1 : Shape := ⟨2, ![128, 1]⟩
abbrev S4x2048x1024 : Shape := ⟨3, ![4, 2048, 1024]⟩
abbrev S1x512x128 : Shape := ⟨3, ![1, 512, 128]⟩
abbrev S1x2048x128 : Shape := ⟨3, ![1, 2048, 128]⟩
abbrev S2048x128 : Shape := ⟨2, ![2048, 128]⟩
abbrev S4x128x512 : Shape := ⟨3, ![4, 128, 512]⟩
abbrev S512x128 : Shape := ⟨2, ![512, 128]⟩
abbrev S128x512 : Shape := ⟨2, ![128, 512]⟩
abbrev S1x128x512 : Shape := ⟨3, ![1, 128, 512]⟩
abbrev S1024x128 : Shape := ⟨2, ![1024, 128]⟩
abbrev S512x1024 : Shape := ⟨2, ![512, 1024]⟩
abbrev S1024 : Shape := ⟨1, ![1024]⟩
abbrev S1x1024 : Shape := ⟨2, ![1, 1024]⟩
abbrev S128x1024 : Shape := ⟨2, ![128, 1024]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 13
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S4x2048x4096, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S128x1, .f32⟩
  | .hbm, ⟨12, _⟩ => ⟨S4x2048x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S128x1, .f32⟩
  | .local _ .vmem, ⟨5, _⟩ => ⟨S1x512x128, .f32⟩
  | .local _ .vmem, ⟨6, _⟩ => ⟨S1x512x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x512x128, .bf16⟩
  | .local _ .vmem, ⟨12, _⟩ => ⟨S1x512x128, .bf16⟩
  | .local _ .vmem, ⟨13, _⟩ => ⟨S2048x128, .bf16⟩
  | .local _ .vmem, ⟨14, _⟩ => ⟨S4x128x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c0_i32_6 : BitVec 32 := 0#32
  let v18 : BitVec 1 := Scalar.cmpi .eq arg2 c0_i32_6
  let v19 : BitVec 32 := Scalar.extui v18
  let c0_i32_7 : BitVec 32 := 0#32
  let v20 : BitVec 1 := Scalar.cmpi .ne v19 c0_i32_7
  v20

def k0_cond3 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_8 : BitVec 32 := 0#32
  let v23 : BitVec 1 := Scalar.cmpi .ne v22 c0_i32_8
  v23

def k0_cond4 (i : grid0.Coords) : BitVec 1 :=
  let arg2 : BitVec 32 := BitVec.ofNat 32 (i 2).val
  let c2_i32 : BitVec 32 := 2#32
  let v24 : BitVec 1 := Scalar.cmpi .eq arg2 c2_i32
  let v25 : BitVec 32 := Scalar.extui v24
  let c0_i32_9 : BitVec 32 := 0#32
  let v26 : BitVec 1 := Scalar.cmpi .ne v25 c0_i32_9
  v26

def k0_cond5 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  let c0_i32_5 : BitVec 32 := 0#32
  ![arg0.toNat, c0_i32_4.toNat, v17.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.addi c24_i32 v16
  let c0_i32_4 : BitVec 32 := 0#32
  let c0_i32_5 : BitVec 32 := 0#32
  ![arg0.toNat, c0_i32_4.toNat, v17.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S8192x4096 : Shape := ⟨2, ![8192, 4096]⟩
abbrev S64 : Shape := ⟨1, ![64]⟩
abbrev S128 : Shape := ⟨1, ![128]⟩
abbrev S4x2048x4096 : Shape := ⟨3, ![4, 2048, 4096]⟩
abbrev S4x2048x1024 : Shape := ⟨3, ![4, 2048, 1024]⟩
abbrev S4x2048x4x2x2x64 : Shape := ⟨6, ![4, 2048, 4, 2, 2, 64]⟩
abbrev S4x2048x512 : Shape := ⟨3, ![4, 2048, 512]⟩
abbrev S4x2048x4x2x64 : Shape := ⟨5, ![4, 2048, 4, 2, 64]⟩
abbrev S4x2048x4x128 : Shape := ⟨4, ![4, 2048, 4, 128]⟩
abbrev S_ : Shape := ⟨0, ![]⟩
abbrev S2048 : Shape := ⟨1, ![2048]⟩
abbrev S4x4x2x2048x2048x2 : Shape := ⟨6, ![4, 4, 2, 2048, 2048, 2]⟩
abbrev S4x4x2x2x2048x2048 : Shape := ⟨6, ![4, 4, 2, 2, 2048, 2048]⟩
abbrev S1x2048 : Shape := ⟨2, ![1, 2048]⟩
abbrev S2048x1 : Shape := ⟨2, ![2048, 1]⟩
abbrev S2048x2048 : Shape := ⟨2, ![2048, 2048]⟩
abbrev S4x4x2x2x2048 : Shape := ⟨5, ![4, 4, 2, 2, 2048]⟩
abbrev S4x4x2x2x2048x1 : Shape := ⟨6, ![4, 4, 2, 2, 2048, 1]⟩
abbrev S4x4x2x1x2048x2048 : Shape := ⟨6, ![4, 4, 2, 1, 2048, 2048]⟩
abbrev S4x4x2x2048x2048 : Shape := ⟨5, ![4, 4, 2, 2048, 2048]⟩
abbrev S4x4x128x2x2048 : Shape := ⟨5, ![4, 4, 128, 2, 2048]⟩
abbrev S4x2048x4x2x128 : Shape := ⟨5, ![4, 2048, 4, 2, 128]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S4x2048x4096, .f32⟩
  | .hbm, ⟨7, _⟩ => ⟨S4x2048x1024, .f32⟩
  | .hbm, ⟨8, _⟩ => ⟨S4x2048x4x2x2x64, .f32⟩
  | .hbm, ⟨9, _⟩ => ⟨S4x2048x512, .f32⟩
  | .hbm, ⟨10, _⟩ => ⟨S4x2048x4x2x64, .f32⟩
  | .hbm, ⟨11, _⟩ => ⟨S4x2048x512, .f32⟩
  | .hbm, ⟨12, _⟩ => ⟨S4x2048x4x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .i32⟩
  | .hbm, ⟨25, _⟩ => ⟨S4x4x2x2048x2048x2, .f32⟩
  | .hbm, ⟨26, _⟩ => ⟨S4x4x2x2x2048x2048, .f32⟩
  | .hbm, ⟨27, _⟩ => ⟨S_, .f32⟩
  | .hbm, ⟨28, _⟩ => ⟨S4x4x2x2x2048x2048, .f32⟩
  | .hbm, ⟨29, _⟩ => ⟨S4x4x2x2x2048x2048, .f32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S4x4x2x2x2048x2048, .i1⟩
  | .hbm, ⟨38, _⟩ => ⟨S4x4x2x2x2048x2048, .f32⟩
  | .hbm, ⟨39, _⟩ => ⟨S4x4x2x2x2048x2048, .f32⟩
  | .hbm, ⟨40, _⟩ => ⟨S_, .f32⟩
  | .hbm, ⟨41, _⟩ => ⟨S4x4x2x2x2048, .f32⟩
  | .hbm, ⟨42, _⟩ => ⟨S_, .f32⟩
  | .hbm, ⟨43, _⟩ => ⟨S4x4x2x2x2048, .f32⟩
  | .hbm, ⟨44, _⟩ => ⟨S4x4x2x2x2048, .f32⟩
  | .hbm, ⟨45, _⟩ => ⟨S4x4x2x2x2048x1, .f32⟩
  | .hbm, ⟨46, _⟩ => ⟨S4x4x2x2x2048x2048, .f32⟩
  | .hbm, ⟨47, _⟩ => ⟨S4x4x2x2x2048x2048, .f32⟩
  | .hbm, ⟨48, _⟩ => ⟨S4x4x2x2x2048x2048, .f32⟩
  | .hbm, ⟨49, _⟩ => ⟨S_, .f32⟩
  | .hbm, ⟨50, _⟩ => ⟨S4x4x2x2x2048, .f32⟩
  | .hbm, ⟨51, _⟩ => ⟨S4x4x2x2x2048x1, .f32⟩
  | .hbm, ⟨52, _⟩ => ⟨S4x4x2x2x2048x2048, .f32⟩
  | .hbm, ⟨53, _⟩ => ⟨S4x4x2x2x2048x2048, .f32⟩
  | .hbm, ⟨54, _⟩ => ⟨S4x4x2x1x2048x2048, .f32⟩
  | .hbm, ⟨55, _⟩ => ⟨S4x4x2x2048x2048, .f32⟩
  | .hbm, ⟨56, _⟩ => ⟨S4x4x2x1x2048x2048, .f32⟩
  | .hbm, ⟨57, _⟩ => ⟨S4x4x2x2048x2048, .f32⟩
  | .hbm, ⟨58, _⟩ => ⟨S4x4x2x2048x2048, .f32⟩
  | .hbm, ⟨59, _⟩ => ⟨S4x4x2x2048x2048, .f32⟩
  | .hbm, ⟨60, _⟩ => ⟨S4x4x2x2048x2048, .f32⟩
  | .hbm, ⟨61, _⟩ => ⟨S4x4x128x2x2048, .f32⟩
  | .hbm, ⟨62, _⟩ => ⟨S4x2048x4x2x128, .f32⟩
  | .hbm, ⟨63, _⟩ => ⟨S4x2048x8x128, .f32⟩
  | .hbm, ⟨64, _⟩ => ⟨S4x2048x8x128, .f32⟩
  | .hbm, ⟨65, _⟩ => ⟨S_, .f32⟩
  | .hbm, ⟨66, _⟩ => ⟨S4x2048x8, .f32⟩
  | .hbm, ⟨67, _⟩ => ⟨S4x2048x8x1, .f32⟩
  | .hbm, ⟨68, _⟩ => ⟨S_, .f32⟩
  | .hbm, ⟨69, _⟩ => ⟨S4x2048x8x1, .f32⟩
  | .hbm, ⟨70, _⟩ => ⟨S4x2048x8x1, .f32⟩
  | .hbm, ⟨71, _⟩ => ⟨S_, .f32⟩
  | .hbm, ⟨72, _⟩ => ⟨S4x2048x8x1, .f32⟩
  | .hbm, ⟨73, _⟩ => ⟨S4x2048x8x1, .f32⟩
  | .hbm, ⟨74, _⟩ => ⟨S4x2048x8x1, .f32⟩
  | .hbm, ⟨75, _⟩ => ⟨S4x2048x8x128, .f32⟩
  | .hbm, ⟨76, _⟩ => ⟨S4x2048x8x128, .f32⟩
  | .hbm, ⟨77, _⟩ => ⟨S1x1x1x128, .f32⟩
  | .hbm, ⟨78, _⟩ => ⟨S4x2048x8x128, .f32⟩
  | .hbm, ⟨79, _⟩ => ⟨S4x2048x8x128, .f32⟩
  | .hbm, ⟨80, _⟩ => ⟨S_, .f32⟩
  | .hbm, ⟨81, _⟩ => ⟨S4x2048x8x128, .f32⟩
  | .hbm, ⟨82, _⟩ => ⟨S4x2048x8x128, .f32⟩
  | .hbm, ⟨83, _⟩ => ⟨S4x2048x1024, .f32⟩
  | .hbm, ⟨84, _⟩ => ⟨S4x2048x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Mlp.lean ====
abbrev S4x2048x2048 : Shape := ⟨3, ![4, 2048, 2048]⟩
abbrev S2048 : Shape := ⟨1, ![2048]⟩
abbrev S2x2048x8192 : Shape := ⟨3, ![2, 2048, 8192]⟩
abbrev S2x8192x2048 : Shape := ⟨3, ![2, 8192, 2048]⟩
abbrev S8192x2048 : Shape := ⟨2, ![8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S8192x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S4x2048x2048 : Shape := ⟨3, ![4, 2048, 2048]⟩
abbrev S2048 : Shape := ⟨1, ![2048]⟩
abbrev S2x2048x8192 : Shape := ⟨3, ![2, 2048, 8192]⟩
abbrev S2x8192x2048 : Shape := ⟨3, ![2, 8192, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S1x8192x2048 : Shape := ⟨3, ![1, 8192, 2048]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S1x2048x8192, .f32⟩
  | .hbm, ⟨21, _⟩ => ⟨S2048x8192, .f32⟩
  | .hbm, ⟨22, _⟩ => ⟨S4x2048x8192, .f32⟩
  | .hbm, ⟨23, _⟩ => ⟨S_, .f32⟩
  | .hbm, ⟨24, _⟩ => ⟨S4x2048x8192, .f32⟩
  | .hbm, ⟨25, _⟩ => ⟨S4x2048x8192, .f32⟩
  | .hbm, ⟨26, _⟩ => ⟨S4x2048x8192, .f32⟩
  | .hbm, ⟨27, _⟩ => ⟨S1x8192x2048, .f32⟩
  | .hbm, ⟨28, _⟩ => ⟨S8192x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Qkv.lean ====
abbrev S4x2048x2048 : Shape := ⟨3, ![4, 2048, 2048]⟩
abbrev S2048 : Shape := ⟨1, ![2048]⟩
abbrev S2x2048x4096 : Shape := ⟨3, ![2, 2048, 4096]⟩
abbrev S8192x2048 : Shape := ⟨2, ![8192, 2048]⟩
abbrev S128 : Shape := ⟨1, ![128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S128x1 : Shape := ⟨2, ![128, 1]⟩
abbrev S2048x128 : Shape := ⟨2, ![2048, 128]⟩
abbrev S1x128 : Shape := ⟨2, ![1, 128]⟩
abbrev S64 : Shape := ⟨1, ![64]⟩
abbrev S1x64 : Shape := ⟨2, ![1, 64]⟩
abbrev S2048x64 : Shape := ⟨2, ![2048, 64]⟩
abbrev S2x2048x1024 : Shape := ⟨3, ![2, 2048, 1024]⟩
abbrev S2x2048x512 : Shape := ⟨3, ![2, 2048, 512]⟩
abbrev S1x2048 : Shape := ⟨2, ![1, 2048]⟩
abbrev S8192x4096 : Shape := ⟨2, ![8192, 4096]⟩
abbrev S1024x2048 : Shape := ⟨2, ![1024, 2048]⟩
abbrev S1x2048x512 : Shape := ⟨3, ![1, 2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S2048x512 : Shape := ⟨2, ![2048, 512]⟩

abbrev nBuf : Space → Nat
  | .hbm => 190
  | .vmem => 16
  | .smem => 0
  | _ => 0

abbrev hbmTy0_0 (i : Nat) : BufTy := match i % 128 with
  | 0 => ⟨S4x2048x2048, .f32⟩
  | 1 => ⟨S2048, .f32⟩
  | 2 => ⟨S2x2048x4096, .f32⟩
  | 3 => ⟨S8192x2048, .f32⟩
  | 4 => ⟨S2048, .i32⟩
  | 5 => ⟨S128, .i32⟩
  | 6 => ⟨S32, .f32⟩
  | 7 => ⟨S_, .f32⟩
  | 8 => ⟨S32, .f32⟩
  | 9 => ⟨S32, .f32⟩
  | 10 => ⟨S32, .f32⟩
  | 11 => ⟨S2048, .f32⟩
  | 12 => ⟨S2048x1, .f32⟩
  | 13 => ⟨S1x32, .f32⟩
  | 14 => ⟨S2048x32, .f32⟩
  | 15 => ⟨S2048x32, .f32⟩
  | 16 => ⟨S2048x32, .f32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S128, .i32⟩
  | 24 => ⟨S128, .i32⟩
  | 25 => ⟨S_, .i32⟩
  | 26 => ⟨S128, .i32⟩
  | 27 => ⟨S128, .i1⟩
  | 28 => ⟨S_, .i32⟩
  | 29 => ⟨S128, .i32⟩
  | 30 => ⟨S128, .i1⟩
  | 31 => ⟨S_, .i32⟩
  | 32 => ⟨S_, .i1⟩
  | 33 => ⟨S128, .i1⟩
  | 34 => ⟨S128, .i1⟩
  | 35 => ⟨S128, .i1⟩
  | 36 => ⟨S128, .i32⟩
  | 37 => ⟨S128, .i32⟩
  | 38 => ⟨S128, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S128, .i32⟩
  | 46 => ⟨S128, .i32⟩
  | 47 => ⟨S_, .i32⟩
  | 48 => ⟨S128, .i32⟩
  | 49 => ⟨S128, .i1⟩
  | 50 => ⟨S_, .i32⟩
  | 51 => ⟨S128, .i32⟩
  | 52 => ⟨S128, .i1⟩
  | 53 => ⟨S_, .i32⟩
  | 54 => ⟨S_, .i1⟩
  | 55 => ⟨S128, .i1⟩
  | 56 => ⟨S128, .i1⟩
  | 57 => ⟨S128, .i1⟩
  | 58 => ⟨S128, .i32⟩
  | 59 => ⟨S128, .i32⟩
  | 60 => ⟨S128, .i32⟩
  | 61 => ⟨S_, .i32⟩
  | 62 => ⟨S128, .i32⟩
  | 63 => ⟨S128, .i1⟩
  | 64 => ⟨S_, .f32⟩
  | 65 => ⟨S_, .f32⟩
  | 66 => ⟨S128, .f32⟩
  | 67 => ⟨S128, .f32⟩
  | 68 => ⟨S128, .f32⟩
  | 69 => ⟨S128, .f32⟩
  | 70 => ⟨S2048x32, .f32⟩
  | 71 => ⟨S_, .i32⟩
  | 72 => ⟨S128, .i32⟩
  | 73 => ⟨S128, .i1⟩
  | 74 => ⟨S_, .i32⟩
  | 75 => ⟨S128, .i32⟩
  | 76 => ⟨S128, .i32⟩
  | 77 => ⟨S128, .i32⟩
  | 78 => ⟨S128x1, .i32⟩
  | 79 => ⟨S2048x128, .f32⟩
  | 80 => ⟨S2048x32, .f32⟩
  | 81 => ⟨S_, .i32⟩
  | 82 => ⟨S128, .i32⟩
  | 83 => ⟨S128, .i1⟩
  | 84 => ⟨S_, .i32⟩
  | 85 => ⟨S128, .i32⟩
  | 86 => ⟨S128, .i32⟩
  | 87 => ⟨S128, .i32⟩
  | 88 => ⟨S128x1, .i32⟩
  | 89 => ⟨S2048x128, .f32⟩
  | 90 => ⟨S1x128, .f32⟩
  | 91 => ⟨S2048x128, .f32⟩
  | 92 => ⟨S2048x128, .f32⟩
  | 93 => ⟨S64, .f32⟩
  | 94 => ⟨S_, .f32⟩
  | 95 => ⟨S64, .f32⟩
  | 96 => ⟨S64, .f32⟩
  | 97 => ⟨S64, .f32⟩
  | 98 => ⟨S2048, .f32⟩
  | 99 => ⟨S2048x1, .f32⟩
  | 100 => ⟨S1x64, .f32⟩
  | 101 => ⟨S2048x64, .f32⟩
  | 102 => ⟨S2048x64, .f32⟩
  | 103 => ⟨S2048x64, .f32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S128, .i32⟩
  | 111 => ⟨S128, .i32⟩
  | 112 => ⟨S_, .i32⟩
  | 113 => ⟨S128, .i32⟩
  | 114 => ⟨S128, .i1⟩
  | 115 => ⟨S_, .i32⟩
  | 116 => ⟨S128, .i32⟩
  | 117 => ⟨S128, .i1⟩
  | 118 => ⟨S_, .i32⟩
  | 119 => ⟨S_, .i1⟩
  | 120 => ⟨S128, .i1⟩
  | 121 => ⟨S128, .i1⟩
  | 122 => ⟨S128, .i1⟩
  | 123 => ⟨S128, .i32⟩
  | 124 => ⟨S128, .i32⟩
  | 125 => ⟨S128, .i32⟩
  | 126 => ⟨S_, .i32⟩
  | 127 => ⟨S_, .i32⟩
  | _ => ⟨S4x2048x2048, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S128, .i32⟩
  | 5 => ⟨S128, .i32⟩
  | 6 => ⟨S_, .i32⟩
  | 7 => ⟨S128, .i32⟩
  | 8 => ⟨S128, .i1⟩
  | 9 => ⟨S_, .i32⟩
  | 10 => ⟨S128, .i32⟩
  | 11 => ⟨S128, .i1⟩
  | 12 => ⟨S_, .i32⟩
  | 13 => ⟨S_, .i1⟩
  | 14 => ⟨S128, .i1⟩
  | 15 => ⟨S128, .i1⟩
  | 16 => ⟨S128, .i1⟩
  | 17 => ⟨S128, .i32⟩
  | 18 => ⟨S128, .i32⟩
  | 19 => ⟨S128, .i32⟩
  | 20 => ⟨S_, .i32⟩
  | 21 => ⟨S128, .i32⟩
  | 22 => ⟨S128, .i1⟩
  | 23 => ⟨S_, .f32⟩
  | 24 => ⟨S_, .f32⟩
  | 25 => ⟨S128, .f32⟩
  | 26 => ⟨S128, .f32⟩
  | 27 => ⟨S128, .f32⟩
  | 28 => ⟨S128, .f32⟩
  | 29 => ⟨S2048x64, .f32⟩
  | 30 => ⟨S_, .i32⟩
  | 31 => ⟨S128, .i32⟩
  | 32 => ⟨S128, .i1⟩
  | 33 => ⟨S_, .i32⟩
  | 34 => ⟨S128, .i32⟩
  | 35 => ⟨S128, .i32⟩
  | 36 => ⟨S128, .i32⟩
  | 37 => ⟨S128x1, .i32⟩
  | 38 => ⟨S2048x128, .f32⟩
  | 39 => ⟨S2048x64, .f32⟩
  | 40 => ⟨S_, .i32⟩
  | 41 => ⟨S128, .i32⟩
  | 42 => ⟨S128, .i1⟩
  | 43 => ⟨S_, .i32⟩
  | 44 => ⟨S128, .i32⟩
  | 45 => ⟨S128, .i32⟩
  | 46 => ⟨S128, .i32⟩
  | 47 => ⟨S128x1, .i32⟩
  | 48 => ⟨S2048x128, .f32⟩
  | 49 => ⟨S1x128, .f32⟩
  | 50 => ⟨S2048x128, .f32⟩
  | 51 => ⟨S2048x128, .f32⟩
  | 52 => ⟨S2x2048x1024, .f32⟩
  | 53 => ⟨S2x2048x512, .f32⟩
  | 54 => ⟨S2x2048x512, .f32⟩
  | 55 => ⟨S2x2048x1024, .f32⟩
  | 56 => ⟨S2x2048x512, .f32⟩
  | 57 => ⟨S2x2048x512, .f32⟩
  | 58 => ⟨S2x2048x4096, .f32⟩
  | 59 => ⟨S2x2048x4096, .bf16⟩
  | 60 => ⟨S1x2048, .f32⟩
  | 61 => ⟨S8192x4096, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .f32⟩
  | .local _ .vmem, ⟨14, _⟩ => ⟨S1024x512, .f32⟩
  | .local _ .vmem, ⟨15, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v13 : Ref sig .tc := ⟨.hbm, 38, rfl⟩
abbrev main_c_0 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v14 : Ref sig .tc := ⟨.hbm, 60, rfl⟩
abbrev main_c_1 : Ref sig .tc := ⟨.hbm, 61, rfl⟩
abbrev main_v15 : Ref sig .tc := ⟨.hbm, 62, rfl⟩
abbrev main_v16 : Ref sig .tc := ⟨.hbm, 63, rfl⟩
abbrev main_cst_2 : Ref sig .tc := ⟨.hbm, 64, rfl⟩
abbrev main_cst_3 : Ref sig .tc := ⟨.hbm, 65, rfl⟩
abbrev main_call2_v0 : Ref sig .tc := ⟨.hbm, 66, rfl⟩
abbrev main_call2_v1 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_c_4 : Ref sig .tc := ⟨.hbm, 71, rfl⟩
abbrev main_v20 : Ref sig .tc := ⟨.hbm, 72, rfl⟩
abbrev main_v21 : Ref sig .tc := ⟨.hbm, 73, rfl⟩
abbrev main_c_5 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_c_6 : Ref sig .tc := ⟨.hbm, 81, rfl⟩
abbrev main_v28 : Ref sig .tc := ⟨.hbm, 82, rfl⟩
abbrev main_v29 : Ref sig .tc := ⟨.hbm, 83, rfl⟩
abbrev main_c_7 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_8 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_c_9 : Ref sig .tc := ⟨.hbm, 104, rfl⟩
abbrev main_call3_v0 : Ref sig .tc := ⟨.hbm, 105, rfl⟩
abbrev main_call3_c : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_c_1 : Ref sig .tc := ⟨.hbm, 112, rfl⟩
abbrev main_call3_v5 : Ref sig .tc := ⟨.hbm, 113, rfl⟩
abbrev main_call3_v6 : Ref sig .tc := ⟨.hbm, 114, rfl⟩
abbrev main_call3_c_2 : Ref sig .tc := ⟨.hbm, 115, rfl⟩
abbrev main_call3_v7 : Ref sig .tc := ⟨.hbm, 116, rfl⟩
abbrev main_call3_v8 : Ref sig .tc := ⟨.hbm, 117, rfl⟩
abbrev main_call3_c_3 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_v48 : Ref sig .tc := ⟨.hbm, 125, rfl⟩
abbrev main_c_10 : Ref sig .tc := ⟨.hbm, 126, rfl⟩
abbrev main_call4_v0 : Ref sig .tc := ⟨.hbm, 127, rfl⟩
abbrev main_call4_c : Ref sig .tc := ⟨.hbm, 128, rfl⟩
abbrev main_call4_v1 : Ref sig .tc := ⟨.hbm, 129, rfl⟩
abbrev main_call4_c_0 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_c_1 : Ref sig .tc := ⟨.hbm, 134, rfl⟩
abbrev main_call4_v5 : Ref sig .tc := ⟨.hbm, 135, rfl⟩
abbrev main_call4_v6 : Ref sig .tc := ⟨.hbm, 136, rfl⟩
abbrev main_call4_c_2 : Ref sig .tc := ⟨.hbm, 137, rfl⟩
abbrev main_call4_v7 : Ref sig .tc := ⟨.hbm, 138, rfl⟩
abbrev main_call4_v8 : Ref sig .tc := ⟨.hbm, 139, rfl⟩
abbrev main_call4_c_3 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_v12 : Ref sig .tc := ⟨.hbm, 144, rfl⟩
abbrev main_call4_v13 : Ref sig .tc := ⟨.hbm, 145, rfl⟩
abbrev main_call4_v14 : Ref sig .tc := ⟨.hbm, 146, rfl⟩
abbrev main_v49 : Ref sig .tc := ⟨.hbm, 147, rfl⟩
abbrev main_c_11 : Ref sig .tc := ⟨.hbm, 148, rfl⟩
abbrev main_v50 : Ref sig .tc := ⟨.hbm, 149, rfl⟩
abbrev main_v51 : Ref sig .tc := ⟨.hbm, 150, rfl⟩
abbrev main_cst_12 : Ref sig .tc := ⟨.hbm, 151, rfl⟩
abbrev main_cst_13 : Ref sig .tc := ⟨.hbm, 152, rfl⟩
abbrev main_call5_v0 : Ref sig .tc := ⟨.hbm, 153, rfl⟩
abbrev main_call5_v1 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_c_14 : Ref sig .tc := ⟨.hbm, 158, rfl⟩
abbrev main_v55 : Ref sig .tc := ⟨.hbm, 159, rfl⟩
abbrev main_v56 : Ref sig .tc := ⟨.hbm, 160, rfl⟩
abbrev main_c_15 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_c_16 : Ref sig .tc := ⟨.hbm, 168, rfl⟩
abbrev main_v63 : Ref sig .tc := ⟨.hbm, 169, rfl⟩
abbrev main_v64 : Ref sig .tc := ⟨.hbm, 170, rfl⟩
abbrev main_c_17 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let c4_i32 : BitVec 32 := 4#32
  let v4 : BitVec 1 := Scalar.cmpi .eq arg1 c4_i32
  let v5 : BitVec 1 := Scalar.ori v3 v4
  let v12 : BitVec 32 := Scalar.extui v5
  let c0_i32_3 : BitVec 32 := 0#32
  let v13 : BitVec 1 := Scalar.cmpi .ne v12 c0_i32_3
  v13

def k0_cond3 (i : grid0.Coords) : BitVec 1 :=
  let arg1 : BitVec 32 := BitVec.ofNat 32 (i 1).val
  let c2_i32_1 : BitVec 32 := 2#32
  let v6 : BitVec 1 := Scalar.cmpi .sge arg1 c2_i32_1
  let c4_i32_2 : BitVec 32 := 4#32
  let v7 : BitVec 1 := Scalar.cmpi .slt arg1 c4_i32_2
  let v8 : BitVec 1 := Scalar.andi v6 v7
  let c5_i32 : BitVec 32 := 5#32
  let v9 : BitVec 1 := Scalar.cmpi .eq arg1 c5_i32
  let v10 : BitVec 1 := Scalar.ori v8 v9
  let v14 : BitVec 32 := Scalar.extui v10
  let c0_i32_4 : BitVec 32 := 0#32
  let v15 : BitVec 1 := Scalar.cmpi .ne v14 c0_i32_4
  v15

def k0_cond4 (i : grid0.Coords) : BitVec 1 :=
  let arg1 : BitVec 32 := BitVec.ofNat 32 (i 1).val
  let c6_i32 : BitVec 32 := 6#32
  let v11 : BitVec 1 := Scalar.cmpi .sge arg1 c6_i32
  let v16 : BitVec 32 := Scalar.extui v11
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvReferenceIdeal.lean ====
abbrev S4x2048x2048 : Shape := ⟨3, ![4, 2048, 2048]⟩
abbrev S2048 : Shape := ⟨1, ![2048]⟩
abbrev S2x2048x4096 : Shape := ⟨3, ![2, 2048, 4096]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S4x2048x4096 : Shape := ⟨3, ![4, 2048, 4096]⟩
abbrev S4x2048x1024 : Shape := ⟨3, ![4, 2048, 1024]⟩
abbrev S4x2048x512 : Shape := ⟨3, ![4, 2048, 512]⟩
abbrev S4x2048x8x2x64 : Shape := ⟨5, ![4, 2048, 8, 2, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x1x32 : Shape := ⟨5, ![1, 2048, 1, 1, 32]⟩
abbrev S4x2048x8x2x32 : Shape := ⟨5, ![4, 2048, 8, 2, 32]⟩
abbrev S4x2048x4x2x64 : Shape := ⟨5, ![4, 2048, 4, 2, 64]⟩
abbrev S4x2048x4x2x32 : Shape := ⟨5, ![4, 2048, 4, 2, 32]⟩
abbrev S4x2048x8x128 : Shape := ⟨4, ![4, 2048, 8, 128]⟩
abbrev S64 : Shape := ⟨1, ![64]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x2048x4x128 : Shape := ⟨4, ![4, 2048, 4, 128]⟩
abbrev S4x2048x4x64 : Shape := ⟨4, ![4, 2048, 4, 64]⟩
abbrev S8192x1024 : Shape := ⟨2, ![8192, 1024]⟩
abbrev S8192x512 : Shape := ⟨2, ![8192, 512]⟩
abbrev S8192x4096 : Shape := ⟨2, ![8192, 4096]⟩

abbrev nBuf : Space → Nat
  | .hbm => 152
  | .vmem => 0
  | .smem => 0
  | _ => 0

abbrev hbmTy0_0 (i : Nat) : BufTy := match i % 128 with
  | 0 => ⟨S4x2048x2048, .f32⟩
  | 1 => ⟨S2048, .f32⟩
  | 2 => ⟨S2x2048x4096, .f32⟩
  | 3 => ⟨S2048, .i32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x1, .f32⟩
  | 15 => ⟨S4x2048x2048, .f32⟩
  | 16 => ⟨S4x2048x2048, .f32⟩
  | 17 => ⟨S1x1x2048, .f32⟩
  | 18 => ⟨S4x2048x2048, .f32⟩
  | 19 => ⟨S4x2048x2048, .f32⟩
  | 20 => ⟨S1x2048x4096, .f32⟩
  | 21 => ⟨S2048x4096, .f32⟩
  | 22 => ⟨S4x2048x4096, .f32⟩
  | 23 => ⟨S4x2048x1024, .f32⟩
  | 24 => ⟨S4x2048x512, .f32⟩
  | 25 => ⟨S4x2048x512, .f32⟩
  | 26 => ⟨S4x2048x1024, .f32⟩
  | 27 => ⟨S4x2048x512, .f32⟩
  | 28 => ⟨S4x2048x512, .f32⟩
  | 29 => ⟨S4x2048x8x2x64, .f32⟩
  | 30 => ⟨S32, .f32⟩
  | 31 => ⟨S_, .f32⟩
  | 32 => ⟨S32, .f32⟩
  | 33 => ⟨S32, .f32⟩
  | 34 => ⟨S32, .f32⟩
  | 35 => ⟨S2048, .f32⟩
  | 36 => ⟨S2048x1, .f32⟩
  | 37 => ⟨S1x32, .f32⟩
  | 38 => ⟨S2048x32, .f32⟩
  | 39 => ⟨S2048x32, .f32⟩
  | 40 => ⟨S2048x32, .f32⟩
  | 41 => ⟨S2048x32, .f32⟩
  | 42 => ⟨S1x2048x1x1x32, .f32⟩
  | 43 => ⟨S2048x32, .f32⟩
  | 44 => ⟨S1x2048x1x1x32, .f32⟩
  | 45 => ⟨S4x2048x8x2x32, .f32⟩
  | 46 => ⟨S4x2048x8x2x32, .f32⟩
  | 47 => ⟨S4x2048x8x2x32, .f32⟩
  | 48 => ⟨S4x2048x8x2x32, .f32⟩
  | 49 => ⟨S4x2048x8x2x32, .f32⟩
  | 50 => ⟨S4x2048x8x2x32, .f32⟩
  | 51 => ⟨S4x2048x8x2x32, .f32⟩
  | 52 => ⟨S4x2048x8x2x32, .f32⟩
  | 53 => ⟨S4x2048x8x2x32, .f32⟩
  | 54 => ⟨S4x2048x8x2x32, .f32⟩
  | 55 => ⟨S4x2048x8x2x32, .f32⟩
  | 56 => ⟨S4x2048x8x2x32, .f32⟩
  | 57 => ⟨S4x2048x8x2x64, .f32⟩
  | 58 => ⟨S4x2048x4x2x64, .f32⟩
  | 59 => ⟨S32, .f32⟩
  | 60 => ⟨S_, .f32⟩
  | 61 => ⟨S32, .f32⟩
  | 62 => ⟨S32, .f32⟩
  | 63 => ⟨S32, .f32⟩
  | 64 => ⟨S2048, .f32⟩
  | 65 => ⟨S2048x1, .f32⟩
  | 66 => ⟨S1x32, .f32⟩
  | 67 => ⟨S2048x32, .f32⟩
  | 68 => ⟨S2048x32, .f32⟩
  | 69 => ⟨S2048x32, .f32⟩
  | 70 => ⟨S2048x32, .f32⟩
  | 71 => ⟨S1x2048x1x1x32, .f32⟩
  | 72 => ⟨S2048x32, .f32⟩
  | 73 => ⟨S1x2048x1x1x32, .f32⟩
  | 74 => ⟨S4x2048x4x2x32, .f32⟩
  | 75 => ⟨S4x2048x4x2x32, .f32⟩
  | 76 => ⟨S4x2048x4x2x32, .f32⟩
  | 77 => ⟨S4x2048x4x2x32, .f32⟩
  | 78 => ⟨S4x2048x4x2x32, .f32⟩
  | 79 => ⟨S4x2048x4x2x32, .f32⟩
  | 80 => ⟨S4x2048x4x2x32, .f32⟩
  | 81 => ⟨S4x2048x4x2x32, .f32⟩
  | 82 => ⟨S4x2048x4x2x32, .f32⟩
  | 83 => ⟨S4x2048x4x2x32, .f32⟩
  | 84 => ⟨S4x2048x4x2x32, .f32⟩
  | 85 => ⟨S4x2048x4x2x32, .f32⟩
  | 86 => ⟨S4x2048x4x2x64, .f32⟩
  | 87 => ⟨S4x2048x8x128, .f32⟩
  | 88 => ⟨S64, .f32⟩
  | 89 => ⟨S_, .f32⟩
  | 90 => ⟨S64, .f32⟩
  | 91 => ⟨S64, .f32⟩
  | 92 => ⟨S64, .f32⟩
  | 93 => ⟨S2048, .f32⟩
  | 94 => ⟨S2048x1, .f32⟩
  | 95 => ⟨S1x64, .f32⟩
  | 96 => ⟨S2048x64, .f32⟩
  | 97 => ⟨S2048x64, .f32⟩
  | 98 => ⟨S2048x64, .f32⟩
  | 99 => ⟨S2048x64, .f32⟩
  | 100 => ⟨S1x2048x1x64, .f32⟩
  | 101 => ⟨S2048x64, .f32⟩
  | 102 => ⟨S1x2048x1x64, .f32⟩
  | 103 => ⟨S4x2048x8x64, .f32⟩
  | 104 => ⟨S4x2048x8x64, .f32⟩
  | 105 => ⟨S4x2048x8x64, .f32⟩
  | 106 => ⟨S4x2048x8x64, .f32⟩
  | 107 => ⟨S4x2048x8x64, .f32⟩
  | 108 => ⟨S4x2048x8x64, .f32⟩
  | 109 => ⟨S4x2048x8x64, .f32⟩
  | 110 => ⟨S4x2048x8x64, .f32⟩
  | 111 => ⟨S4x2048x8x64, .f32⟩
  | 112 => ⟨S4x2048x8x64, .f32⟩
  | 113 => ⟨S4x2048x8x64, .f32⟩
  | 114 => ⟨S4x2048x8x64, .f32⟩
  | 115 => ⟨S4x2048x8x128, .f32⟩
  | 116 => ⟨S4x2048x4x128, .f32⟩
  | 117 => ⟨S64, .f32⟩
  | 118 => ⟨S_, .f32⟩
  | 119 => ⟨S64, .f32⟩
  | 120 => ⟨S64, .f32⟩
  | 121 => ⟨S64, .f32⟩
  | 122 => ⟨S2048, .f32⟩
  | 123 => ⟨S2048x1, .f32⟩
  | 124 => ⟨S1x64, .f32⟩
  | 125 => ⟨S2048x64, .f32⟩
  | 126 => ⟨S2048x64, .f32⟩
  | 127 => ⟨S2048x64, .f32⟩
  | _ => ⟨S4x2048x2048, .f32⟩

abbrev hbmTy0_1 (i : Nat) : BufTy := match i % 128 with
  | 0 => ⟨S2048x64, .f32⟩
  | 1 => ⟨S1x2048x1x64, .f32⟩
  | 2 => ⟨S2048x64, .f32⟩
  | 3 => ⟨S1x2048x1x64, .f32⟩
  | 4 => ⟨S4x2048x4x64, .f32⟩
  | 5 => ⟨S4x2048x4x64, .f32⟩
  | 6 => ⟨S4x2048x4x64, .f32⟩
  | 7 => ⟨S4x2048x4x64, .f32⟩
  | 8 => ⟨S4x2048x4x64, .f32⟩
  | 9 => ⟨S4x2048x4x64, .f32⟩
  | 10 => ⟨S4x2048x4x64, .f32⟩
  | 11 => ⟨S4x2048x4x64, .f32⟩
  | 12 => ⟨S4x2048x4x64, .f32⟩
  | 13 => ⟨S4x2048x4x64, .f32⟩
  | 14 => ⟨S4x2048x4x64, .f32⟩
  | 15 => ⟨S4x2048x4x64, .f32⟩
  | 16 => ⟨S4x2048x4x128, .f32⟩
  | 17 => ⟨S8192x1024, .f32⟩
  | 18 => ⟨S8192x1024, .f32⟩
  | 19 => ⟨S8192x512, .f32⟩
  | 20 => ⟨S8192x512, .f32⟩
  | 21 => ⟨S8192x512, .f32⟩
  | 22 => ⟨S8192x512, .f32⟩
  | 23 => ⟨S8192x4096, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_4 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_cst_5 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩

abbrev nD : Nat := 1
abbrev τ : Topo := Topo.v7x

variable {F : FTy → Type} [FloatOps F]
-- ==== OutProj.lean ====
abbrev S4x2048x2048 : Shape := ⟨3, ![4, 2048, 2048]⟩
abbrev S4x2048x1024 : Shape := ⟨3, ![4, 2048, 1024]⟩
abbrev S2x2048x2048 : Shape := ⟨3, ![2, 2048, 2048]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S1x2048x2048 : Shape := ⟨3, ![1, 2048, 2048]⟩
abbrev S1x1024x2048 : Shape := ⟨3, ![1, 1024, 2048]⟩
abbrev S1024x2048 : Shape := ⟨2, ![1024, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .bf16⟩
  | .hbm, ⟨3, _⟩ => ⟨S2x2048x2048, .f32⟩
  | .hbm, ⟨4, _⟩ => ⟨S8192x2048, .f32⟩
  | .hbm, ⟨5, _⟩ => ⟨S8192x1024, .bf16⟩
  | .hbm, ⟨6, _⟩ => ⟨S8192x1024, .bf16⟩
  | .hbm, ⟨7, _⟩ => ⟨S2x2048x2048, .bf16⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjReferenceIdeal.lean ====
abbrev S4x2048x2048 : Shape := ⟨3, ![4, 2048, 2048]⟩
abbrev S4x2048x1024 : Shape := ⟨3, ![4, 2048, 1024]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .bf16⟩
  | .hbm, ⟨3, _⟩ => ⟨S2x2048x2048, .f32⟩
  | .hbm, ⟨4, _⟩ => ⟨S4x2048x1024, .f32⟩
  | .hbm, ⟨5, _⟩ => ⟨S4x2048x1024, .f32⟩
  | .hbm, ⟨6, _⟩ => ⟨S4x2048x2048, .f32⟩
  | .hbm, ⟨7, _⟩ => ⟨S1x2048x2048, .f32⟩
  | .hbm, ⟨8, _⟩ => ⟨S2048x2048, .f32⟩
  | .hbm, ⟨9, _⟩ => ⟨S4x2048x2048, .f32⟩
  | .hbm, ⟨10, _⟩ => ⟨S4x2048x2048, .f32⟩
  | .hbm, ⟨11, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ple.lean ====
abbrev S4x2048x2048 : Shape := ⟨3, ![4, 2048, 2048]⟩
abbrev S4x2048x256 : Shape := ⟨3, ![4, 2048, 256]⟩
abbrev S2x2048x2048 : Shape := ⟨3, ![2, 2048, 2048]⟩
abbrev S2x256x2048 : Shape := ⟨3, ![2, 256, 2048]⟩
abbrev S2048 : Shape := ⟨1, ![2048]⟩
abbrev S8192x2048 : Shape := ⟨2, ![8192, 2048]⟩
abbrev S8192x256 : Shape := ⟨2, ![8192, 256]⟩
abbrev S1x2048 : Shape := ⟨2, ![1, 2048]⟩
abbrev S512x2048 : Shape := ⟨2, ![512, 2048]⟩
abbrev S512x256 : Shape := ⟨2, ![512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x2048x256, .f32⟩
  | .hbm, ⟨2, _⟩ => ⟨S2x2048x2048, .f32⟩
  | .hbm, ⟨3, _⟩ => ⟨S2x256x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S8192x256, .f32⟩
  | .hbm, ⟨8, _⟩ => ⟨S2x2048x2048, .bf16⟩
  | .hbm, ⟨9, _⟩ => ⟨S2x256x2048, .bf16⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048x2048, .bf16⟩
  | .local _ .vmem, ⟨5, _⟩ => ⟨S1x256x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S4x2048x2048 : Shape := ⟨3, ![4, 2048, 2048]⟩
abbrev S4x2048x256 : Shape := ⟨3, ![4, 2048, 256]⟩
abbrev S2x2048x2048 : Shape := ⟨3, ![2, 2048, 2048]⟩
abbrev S2x256x2048 : Shape := ⟨3, ![2, 256, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x256, .f32⟩
  | .hbm, ⟨2, _⟩ => ⟨S2x2048x2048, .f32⟩
  | .hbm, ⟨3, _⟩ => ⟨S2x256x2048, .f32⟩
  | .hbm, ⟨4, _⟩ => ⟨S2048, .f32⟩
  | .hbm, ⟨5, _⟩ => ⟨S2048, .f32⟩
  | .hbm, ⟨6, _⟩ => ⟨S1x2048x2048, .f32⟩
  | .hbm, ⟨7, _⟩ => ⟨S2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S1x256x2048, .f32⟩
  | .hbm, ⟨18, _⟩ => ⟨S256x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== QkvSample.lean ====
abbrev S32x1x2048 : Shape := ⟨3, ![32, 1, 2048]⟩
abbrev S2048 : Shape := ⟨1, ![2048]⟩
abbrev S2x2048x4096 : Shape := ⟨3, ![2, 2048, 4096]⟩
abbrev S32x2048 : Shape := ⟨2, ![32, 2048]⟩
abbrev S_ : Shape := ⟨0, ![]⟩
abbrev S32 : Shape := ⟨1, ![32]⟩
abbrev S128 : Shape := ⟨1, ![128]⟩
abbrev S32x1 : Shape := ⟨2, ![32, 1]⟩
abbrev S1x32 : Shape := ⟨2, ![1, 32]⟩
abbrev S32x32 : Shape := ⟨2, ![32, 32]⟩
abbrev S128x1 : Shape := ⟨2, ![128, 1]⟩
abbrev S32x128 : Shape := ⟨2, ![32, 128]⟩
abbrev S1x128 : Shape := ⟨2, ![1, 128]⟩
abbrev S64 : Shape := ⟨1, ![64]⟩
abbrev S1x64 : Shape := ⟨2, ![1, 64]⟩
abbrev S32x64 : Shape := ⟨2, ![32, 64]⟩
abbrev S2x2048x1024 : Shape := ⟨3, ![2, 2048, 1024]⟩
abbrev S2x2048x512 : Shape := ⟨3, ![2, 2048, 512]⟩
abbrev S1x2048 : Shape := ⟨2, ![1, 2048]⟩
abbrev S32x4096 : Shape := ⟨2, ![32, 4096]⟩
abbrev S1x2048x512 : Shape := ⟨3, ![1, 2048, 512]⟩
abbrev S32x512 : Shape := ⟨2, ![32, 512]⟩
abbrev S1x2048x256 : Shape := ⟨3, ![1, 2048, 256]⟩
abbrev S2048x256 : Shape := ⟨2, ![2048, 256]⟩
abbrev S32x256 : Shape := ⟨2, ![32, 256]⟩
abbrev S2048x512 : Shape := ⟨2, ![2048, 512]⟩

abbrev nBuf : Space → Nat
  | .hbm => 191
  | .vmem => 11
  | .smem => 0
  | _ => 0

abbrev hbmTy0_0 (i : Nat) : BufTy := match i % 128 with
  | 0 => ⟨S32x1x2048, .f32⟩
  | 1 => ⟨S2048, .f32⟩
  | 2 => ⟨S2x2048x4096, .f32⟩
  | 3 => ⟨S32x2048, .f32⟩
  | 4 => ⟨S_, .i32⟩
  | 5 => ⟨S32, .i32⟩
  | 6 => ⟨S128, .i32⟩
  | 7 => ⟨S32, .f32⟩
  | 8 => ⟨S_, .f32⟩
  | 9 => ⟨S32, .f32⟩
  | 10 => ⟨S32, .f32⟩
  | 11 => ⟨S32, .f32⟩
  | 12 => ⟨S32, .f32⟩
  | 13 => ⟨S32x1, .f32⟩
  | 14 => ⟨S1x32, .f32⟩
  | 15 => ⟨S32x32, .f32⟩
  | 16 => ⟨S32x32, .f32⟩
  | 17 => ⟨S32x32, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S128, .i32⟩
  | 47 => ⟨S128, .i32⟩
  | 48 => ⟨S_, .i32⟩
  | 49 => ⟨S128, .i32⟩
  | 50 => ⟨S128, .i1⟩
  | 51 => ⟨S_, .i32⟩
  | 52 => ⟨S128, .i32⟩
  | 53 => ⟨S128, .i1⟩
  | 54 => ⟨S_, .i32⟩
  | 55 => ⟨S_, .i1⟩
  | 56 => ⟨S128, .i1⟩
  | 57 => ⟨S128, .i1⟩
  | 58 => ⟨S128, .i1⟩
  | 59 => ⟨S128, .i32⟩
  | 60 => ⟨S128, .i32⟩
  | 61 => ⟨S128, .i32⟩
  | 62 => ⟨S_, .i32⟩
  | 63 => ⟨S128, .i32⟩
  | 64 => ⟨S128, .i1⟩
  | 65 => ⟨S_, .f32⟩
  | 66 => ⟨S_, .f32⟩
  | 67 => ⟨S128, .f32⟩
  | 68 => ⟨S128, .f32⟩
  | 69 => ⟨S128, .f32⟩
  | 70 => ⟨S128, .f32⟩
  | 71 => ⟨S32x32, .f32⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S128x1, .i32⟩
  | 80 => ⟨S32x128, .f32⟩
  | 81 => ⟨S32x32, .f32⟩
  | 82 => ⟨S_, .i32⟩
  | 83 => ⟨S128, .i32⟩
  | 84 => ⟨S128, .i1⟩
  | 85 => ⟨S_, .i32⟩
  | 86 => ⟨S128, .i32⟩
  | 87 => ⟨S128, .i32⟩
  | 88 => ⟨S128, .i32⟩
  | 89 => ⟨S128x1, .i32⟩
  | 90 => ⟨S32x128, .f32⟩
  | 91 => ⟨S1x128, .f32⟩
  | 92 => ⟨S32x128, .f32⟩
  | 93 => ⟨S32x128, .f32⟩
  | 94 => ⟨S64, .f32⟩
  | 95 => ⟨S_, .f32⟩
  | 96 => ⟨S64, .f32⟩
  | 97 => ⟨S64, .f32⟩
  | 98 => ⟨S64, .f32⟩
  | 99 => ⟨S32, .f32⟩
  | 100 => ⟨S32x1, .f32⟩
  | 101 => ⟨S1x64, .f32⟩
  | 102 => ⟨S32x64, .f32⟩
  | 103 => ⟨S32x64, .f32⟩
  | 104 => ⟨S32x64, .f32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S128, .i32⟩
  | 112 => ⟨S128, .i32⟩
  | 113 => ⟨S_, .i32⟩
  | 114 => ⟨S128, .i32⟩
  | 115 => ⟨S128, .i1⟩
  | 116 => ⟨S_, .i32⟩
  | 117 => ⟨S128, .i32⟩
  | 118 => ⟨S128, .i1⟩
  | 119 => ⟨S_, .i32⟩
  | 120 => ⟨S_, .i1⟩
  | 121 => ⟨S128, .i1⟩
  | 122 => ⟨S128, .i1⟩
  | 123 => ⟨S128, .i1⟩
  | 124 => ⟨S128, .i32⟩
  | 125 => ⟨S128, .i32⟩
  | 126 => ⟨S128, .i32⟩
  | 127 => ⟨S_, .i32⟩
  | _ => ⟨S32x1x2048, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S128, .i32⟩
  | 6 => ⟨S128, .i32⟩
  | 7 => ⟨S_, .i32⟩
  | 8 => ⟨S128, .i32⟩
  | 9 => ⟨S128, .i1⟩
  | 10 => ⟨S_, .i32⟩
  | 11 => ⟨S128, .i32⟩
  | 12 => ⟨S128, .i1⟩
  | 13 => ⟨S_, .i32⟩
  | 14 => ⟨S_, .i1⟩
  | 15 => ⟨S128, .i1⟩
  | 16 => ⟨S128, .i1⟩
  | 17 => ⟨S128, .i1⟩
  | 18 => ⟨S128, .i32⟩
  | 19 => ⟨S128, .i32⟩
  | 20 => ⟨S128, .i32⟩
  | 21 => ⟨S_, .i32⟩
  | 22 => ⟨S128, .i32⟩
  | 23 => ⟨S128, .i1⟩
  | 24 => ⟨S_, .f32⟩
  | 25 => ⟨S_, .f32⟩
  | 26 => ⟨S128, .f32⟩
  | 27 => ⟨S128, .f32⟩
  | 28 => ⟨S128, .f32⟩
  | 29 => ⟨S128, .f32⟩
  | 30 => ⟨S32x64, .f32⟩
  | 31 => ⟨S_, .i32⟩
  | 32 => ⟨S128, .i32⟩
  | 33 => ⟨S128, .i1⟩
  | 34 => ⟨S_, .i32⟩
  | 35 => ⟨S128, .i32⟩
  | 36 => ⟨S128, .i32⟩
  | 37 => ⟨S128, .i32⟩
  | 38 => ⟨S128x1, .i32⟩
  | 39 => ⟨S32x128, .f32⟩
  | 40 => ⟨S32x64, .f32⟩
  | 41 => ⟨S_, .i32⟩
  | 42 => ⟨S128, .i32⟩
  | 43 => ⟨S128, .i1⟩
  | 44 => ⟨S_, .i32⟩
  | 45 => ⟨S128, .i32⟩
  | 46 => ⟨S128, .i32⟩
  | 47 => ⟨S128, .i32⟩
  | 48 => ⟨S128x1, .i32⟩
  | 49 => ⟨S32x128, .f32⟩
  | 50 => ⟨S1x128, .f32⟩
  | 51 => ⟨S32x128, .f32⟩
  | 52 => ⟨S32x128, .f32⟩
  | 53 => ⟨S2x2048x1024, .f32⟩
  | 54 => ⟨S2x2048x512, .f32⟩
  | 55 => ⟨S2x2048x512, .f32⟩
  | 56 => ⟨S2x2048x1024, .f32⟩
  | 57 => ⟨S2x2048x512, .f32⟩
  | 58 => ⟨S2x2048x512, .f32⟩
  | 59 => ⟨S2x2048x4096, .f32⟩
  | 60 => ⟨S2x2048x4096, .bf16⟩
  | 61 => ⟨S1x2048, .f32⟩
  | 62 => ⟨S32x4096, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | .local _ .vmem, ⟨0, _⟩ => ⟨S32x2048, .f32⟩
  | .local _ .vmem, ⟨1, _⟩ => ⟨S1x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x512, .f32⟩
  | .local _ .vmem, ⟨9, _⟩ => ⟨S32x512, .f32⟩
  | .local _ .vmem, ⟨10, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v13 : Ref sig .tc := ⟨.hbm, 39, rfl⟩
abbrev main_c_1 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v14 : Ref sig .tc := ⟨.hbm, 61, rfl⟩
abbrev main_c_2 : Ref sig .tc := ⟨.hbm, 62, rfl⟩
abbrev main_v15 : Ref sig .tc := ⟨.hbm, 63, rfl⟩
abbrev main_v16 : Ref sig .tc := ⟨.hbm, 64, rfl⟩
abbrev main_cst_3 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_c_5 : Ref sig .tc := ⟨.hbm, 72, rfl⟩
abbrev main_v20 : Ref sig .tc := ⟨.hbm, 73, rfl⟩
abbrev main_v21 : Ref sig .tc := ⟨.hbm, 74, rfl⟩
abbrev main_c_6 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_c_7 : Ref sig .tc := ⟨.hbm, 82, rfl⟩
abbrev main_v28 : Ref sig .tc := ⟨.hbm, 83, rfl⟩
abbrev main_v29 : Ref sig .tc := ⟨.hbm, 84, rfl⟩
abbrev main_c_8 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_9 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_c_10 : Ref sig .tc := ⟨.hbm, 105, rfl⟩
abbrev main_call3_v0 : Ref sig .tc := ⟨.hbm, 106, rfl⟩
abbrev main_call3_c : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_1 : Ref sig .tc := ⟨.hbm, 113, rfl⟩
abbrev main_call3_v5 : Ref sig .tc := ⟨.hbm, 114, rfl⟩
abbrev main_call3_v6 : Ref sig .tc := ⟨.hbm, 115, rfl⟩
abbrev main_call3_c_2 : Ref sig .tc := ⟨.hbm, 116, rfl⟩
abbrev main_call3_v7 : Ref sig .tc := ⟨.hbm, 117, rfl⟩
abbrev main_call3_v8 : Ref sig .tc := ⟨.hbm, 118, rfl⟩
abbrev main_call3_c_3 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_v48 : Ref sig .tc := ⟨.hbm, 126, rfl⟩
abbrev main_c_11 : Ref sig .tc := ⟨.hbm, 127, rfl⟩
abbrev main_call4_v0 : Ref sig .tc := ⟨.hbm, 128, rfl⟩
abbrev main_call4_c : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_c_1 : Ref sig .tc := ⟨.hbm, 135, rfl⟩
abbrev main_call4_v5 : Ref sig .tc := ⟨.hbm, 136, rfl⟩
abbrev main_call4_v6 : Ref sig .tc := ⟨.hbm, 137, rfl⟩
abbrev main_call4_c_2 : Ref sig .tc := ⟨.hbm, 138, rfl⟩
abbrev main_call4_v7 : Ref sig .tc := ⟨.hbm, 139, rfl⟩
abbrev main_call4_v8 : Ref sig .tc := ⟨.hbm, 140, rfl⟩
abbrev main_call4_c_3 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_v49 : Ref sig .tc := ⟨.hbm, 148, rfl⟩
abbrev main_c_12 : Ref sig .tc := ⟨.hbm, 149, rfl⟩
abbrev main_v50 : Ref sig .tc := ⟨.hbm, 150, rfl⟩
abbrev main_v51 : Ref sig .tc := ⟨.hbm, 151, rfl⟩
abbrev main_cst_13 : Ref sig .tc := ⟨.hbm, 152, rfl⟩
abbrev main_cst_14 : Ref sig .tc := ⟨.hbm, 153, rfl⟩
abbrev main_call5_v0 : Ref sig .tc := ⟨.hbm, 154, rfl⟩
abbrev main_call5_v1 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_c_15 : Ref sig .tc := ⟨.hbm, 159, rfl⟩
abbrev main_v55 : Ref sig .tc := ⟨.hbm, 160, rfl⟩
abbrev main_v56 : Ref sig .tc := ⟨.hbm, 161, rfl⟩
abbrev main_c_16 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_c_17 : Ref sig .tc := ⟨.hbm, 169, rfl⟩
abbrev main_v63 : Ref sig .tc := ⟨.hbm, 170, rfl⟩
abbrev main_v64 : Ref sig .tc := ⟨.hbm, 171, rfl⟩
abbrev main_c_18 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let c4_i32 : BitVec 32 := 4#32
  let v4 : BitVec 1 := Scalar.cmpi .eq arg1 c4_i32
  let v5 : BitVec 1 := Scalar.ori v3 v4
  let v12 : BitVec 32 := Scalar.extui v5
  let c0_i32_3 : BitVec 32 := 0#32
  let v13 : BitVec 1 := Scalar.cmpi .ne v12 c0_i32_3
  v13

def k0_cond3 (i : grid0.Coords) : BitVec 1 :=
  let arg1 : BitVec 32 := BitVec.ofNat 32 (i 1).val
  let c2_i32_1 : BitVec 32 := 2#32
  let v6 : BitVec 1 := Scalar.cmpi .sge arg1 c2_i32_1
  let c4_i32_2 : BitVec 32 := 4#32
  let v7 : BitVec 1 := Scalar.cmpi .slt arg1 c4_i32_2
  let v8 : BitVec 1 := Scalar.andi v6 v7
  let c5_i32 : BitVec 32 := 5#32
  let v9 : BitVec 1 := Scalar.cmpi .eq arg1 c5_i32
  let v10 : BitVec 1 := Scalar.ori v8 v9
  let v14 : BitVec 32 := Scalar.extui v10
  let c0_i32_4 : BitVec 32 := 0#32
  let v15 : BitVec 1 := Scalar.cmpi .ne v14 c0_i32_4
  v15

def k0_cond4 (i : grid0.Coords) : BitVec 1 :=
  let arg1 : BitVec 32 := BitVec.ofNat 32 (i 1).val
  let c6_i32 : BitVec 32 := 6#32
  let v11 : BitVec 1 := Scalar.cmpi .sge arg1 c6_i32
  let v16 : BitVec 32 := Scalar.extui v11
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvSampleReferenceIdeal.lean ====
abbrev S32x1x2048 : Shape := ⟨3, ![32, 1, 2048]⟩
abbrev S2048 : Shape := ⟨1, ![2048]⟩
abbrev S2x2048x4096 : Shape := ⟨3, ![2, 2048, 4096]⟩
abbrev S1 : Shape := ⟨1, ![1]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S32x1x4096 : Shape := ⟨3, ![32, 1, 4096]⟩
abbrev S32x1x1024 : Shape := ⟨3, ![32, 1, 1024]⟩
abbrev S32x1x512 : Shape := ⟨3, ![32, 1, 512]⟩
abbrev S32x1x8x2x64 : Shape := ⟨5, ![32, 1, 8, 2, 64]⟩
abbrev S32 : Shape := ⟨1, ![32]⟩
abbrev S1x1 : Shape := ⟨2, ![1, 1]⟩
abbrev S1x32 : Shape := ⟨2, ![1, 32]⟩
abbrev S1x1x1x1x32 : Shape := ⟨5, ![1, 1, 1, 1, 32]⟩
abbrev S32x1x8x2x32 : Shape := ⟨5, ![32, 1, 8, 2, 32]⟩
abbrev S32x1x4x2x64 : Shape := ⟨5, ![32, 1, 4, 2, 64]⟩
abbrev S32x1x4x2x32 : Shape := ⟨5, ![32, 1, 4, 2, 32]⟩
abbrev S32x1x8x128 : Shape := ⟨4, ![32, 1, 8, 128]⟩
abbrev S64 : Shape := ⟨1, ![64]⟩
abbrev S1x64 : Shape := ⟨2, ![1, 64]⟩
abbrev S1x1x1x64 : Shape := ⟨4, ![1, 1, 1, 64]⟩
abbrev S32x1x8x64 : Shape := ⟨4, ![32, 1, 8, 64]⟩
abbrev S32x1x4x128 : Shape := ⟨4, ![32, 1, 4, 128]⟩
abbrev S32x1x4x64 : Shape := ⟨4, ![32, 1, 4, 64]⟩
abbrev S32x1024 : Shape := ⟨2, ![32, 1024]⟩
abbrev S32x512 : Shape := ⟨2, ![32, 512]⟩
abbrev S32x4096 : Shape := ⟨2, ![32, 4096]⟩

abbrev nBuf : Space → Nat
  | .hbm => 151
  | .vmem => 0
  | .smem => 0
  | _ => 0

abbrev hbmTy0_0 (i : Nat) : BufTy := match i % 128 with
  | 0 => ⟨S32x1x2048, .f32⟩
  | 1 => ⟨S2048, .f32⟩
  | 2 => ⟨S2x2048x4096, .f32⟩
  | 3 => ⟨S1, .i32⟩
  | 4 => ⟨S_, .i32⟩
  | 5 => ⟨S1, .i32⟩
  | 6 => ⟨S1, .i32⟩
  | 7 => ⟨S32x1x2048, .f32⟩
  | 8 => ⟨S_, .f32⟩
  | 9 => ⟨S32x1, .f32⟩
  | 10 => ⟨S32x1x1, .f32⟩
  | 11 => ⟨S_, .f32⟩
  | 12 => ⟨S32x1x1, .f32⟩
  | 13 => ⟨S32x1x1, .f32⟩
  | 14 => ⟨S_, .f32⟩
  | 15 => ⟨S32x1x1, .f32⟩
  | 16 => ⟨S32x1x1, .f32⟩
  | 17 => ⟨S32x1x1, .f32⟩
  | 18 => ⟨S32x1x2048, .f32⟩
  | 19 => ⟨S32x1x2048, .f32⟩
  | 20 => ⟨S1x1x2048, .f32⟩
  | 21 => ⟨S32x1x2048, .f32⟩
  | 22 => ⟨S32x1x2048, .f32⟩
  | 23 => ⟨S1x2048x4096, .f32⟩
  | 24 => ⟨S2048x4096, .f32⟩
  | 25 => ⟨S32x1x4096, .f32⟩
  | 26 => ⟨S32x1x1024, .f32⟩
  | 27 => ⟨S32x1x512, .f32⟩
  | 28 => ⟨S32x1x512, .f32⟩
  | 29 => ⟨S32x1x1024, .f32⟩
  | 30 => ⟨S32x1x512, .f32⟩
  | 31 => ⟨S32x1x512, .f32⟩
  | 32 => ⟨S32x1x8x2x64, .f32⟩
  | 33 => ⟨S32, .f32⟩
  | 34 => ⟨S_, .f32⟩
  | 35 => ⟨S32, .f32⟩
  | 36 => ⟨S32, .f32⟩
  | 37 => ⟨S32, .f32⟩
  | 38 => ⟨S1, .f32⟩
  | 39 => ⟨S1x1, .f32⟩
  | 40 => ⟨S1x32, .f32⟩
  | 41 => ⟨S1x32, .f32⟩
  | 42 => ⟨S1x32, .f32⟩
  | 43 => ⟨S1x32, .f32⟩
  | 44 => ⟨S1x1x1x1x32, .f32⟩
  | 45 => ⟨S1x32, .f32⟩
  | 46 => ⟨S1x1x1x1x32, .f32⟩
  | 47 => ⟨S32x1x8x2x32, .f32⟩
  | 48 => ⟨S32x1x8x2x32, .f32⟩
  | 49 => ⟨S32x1x8x2x32, .f32⟩
  | 50 => ⟨S32x1x8x2x32, .f32⟩
  | 51 => ⟨S32x1x8x2x32, .f32⟩
  | 52 => ⟨S32x1x8x2x32, .f32⟩
  | 53 => ⟨S32x1x8x2x32, .f32⟩
  | 54 => ⟨S32x1x8x2x32, .f32⟩
  | 55 => ⟨S32x1x8x2x32, .f32⟩
  | 56 => ⟨S32x1x8x2x32, .f32⟩
  | 57 => ⟨S32x1x8x2x32, .f32⟩
  | 58 => ⟨S32x1x8x2x32, .f32⟩
  | 59 => ⟨S32x1x8x2x64, .f32⟩
  | 60 => ⟨S32x1x4x2x64, .f32⟩
  | 61 => ⟨S32, .f32⟩
  | 62 => ⟨S_, .f32⟩
  | 63 => ⟨S32, .f32⟩
  | 64 => ⟨S32, .f32⟩
  | 65 => ⟨S32, .f32⟩
  | 66 => ⟨S1, .f32⟩
  | 67 => ⟨S1x1, .f32⟩
  | 68 => ⟨S1x32, .f32⟩
  | 69 => ⟨S1x32, .f32⟩
  | 70 => ⟨S1x32, .f32⟩
  | 71 => ⟨S1x32, .f32⟩
  | 72 => ⟨S1x1x1x1x32, .f32⟩
  | 73 => ⟨S1x32, .f32⟩
  | 74 => ⟨S1x1x1x1x32, .f32⟩
  | 75 => ⟨S32x1x4x2x32, .f32⟩
  | 76 => ⟨S32x1x4x2x32, .f32⟩
  | 77 => ⟨S32x1x4x2x32, .f32⟩
  | 78 => ⟨S32x1x4x2x32, .f32⟩
  | 79 => ⟨S32x1x4x2x32, .f32⟩
  | 80 => ⟨S32x1x4x2x32, .f32⟩
  | 81 => ⟨S32x1x4x2x32, .f32⟩
  | 82 => ⟨S32x1x4x2x32, .f32⟩
  | 83 => ⟨S32x1x4x2x32, .f32⟩
  | 84 => ⟨S32x1x4x2x32, .f32⟩
  | 85 => ⟨S32x1x4x2x32, .f32⟩
  | 86 => ⟨S32x1x4x2x32, .f32⟩
  | 87 => ⟨S32x1x4x2x64, .f32⟩
  | 88 => ⟨S32x1x8x128, .f32⟩
  | 89 => ⟨S64, .f32⟩
  | 90 => ⟨S_, .f32⟩
  | 91 => ⟨S64, .f32⟩
  | 92 => ⟨S64, .f32⟩
  | 93 => ⟨S64, .f32⟩
  | 94 => ⟨S1, .f32⟩
  | 95 => ⟨S1x1, .f32⟩
  | 96 => ⟨S1x64, .f32⟩
  | 97 => ⟨S1x64, .f32⟩
  | 98 => ⟨S1x64, .f32⟩
  | 99 => ⟨S1x64, .f32⟩
  | 100 => ⟨S1x1x1x64, .f32⟩
  | 101 => ⟨S1x64, .f32⟩
  | 102 => ⟨S1x1x1x64, .f32⟩
  | 103 => ⟨S32x1x8x64, .f32⟩
  | 104 => ⟨S32x1x8x64, .f32⟩
  | 105 => ⟨S32x1x8x64, .f32⟩
  | 106 => ⟨S32x1x8x64, .f32⟩
  | 107 => ⟨S32x1x8x64, .f32⟩
  | 108 => ⟨S32x1x8x64, .f32⟩
  | 109 => ⟨S32x1x8x64, .f32⟩
  | 110 => ⟨S32x1x8x64, .f32⟩
  | 111 => ⟨S32x1x8x64, .f32⟩
  | 112 => ⟨S32x1x8x64, .f32⟩
  | 113 => ⟨S32x1x8x64, .f32⟩
  | 114 => ⟨S32x1x8x64, .f32⟩
  | 115 => ⟨S32x1x8x128, .f32⟩
  | 116 => ⟨S32x1x4x128, .f32⟩
  | 117 => ⟨S64, .f32⟩
  | 118 => ⟨S_, .f32⟩
  | 119 => ⟨S64, .f32⟩
  | 120 => ⟨S64, .f32⟩
  | 121 => ⟨S64, .f32⟩
  | 122 => ⟨S1, .f32⟩
  | 123 => ⟨S1x1, .f32⟩
  | 124 => ⟨S1x64, .f32⟩
  | 125 => ⟨S1x64, .f32⟩
  | 126 => ⟨S1x64, .f32⟩
  | 127 => ⟨S1x64, .f32⟩
  | _ => ⟨S32x1x2048, .f32⟩

abbrev hbmTy0_1 (i : Nat) : BufTy := match i % 128 with
  | 0 => ⟨S1x1x1x64, .f32⟩
  | 1 => ⟨S1x64, .f32⟩
  | 2 => ⟨S1x1x1x64, .f32⟩
  | 3 => ⟨S32x1x4x64, .f32⟩
  | 4 => ⟨S32x1x4x64, .f32⟩
  | 5 => ⟨S32x1x4x64, .f32⟩
  | 6 => ⟨S32x1x4x64, .f32⟩
  | 7 => ⟨S32x1x4x64, .f32⟩
  | 8 => ⟨S32x1x4x64, .f32⟩
  | 9 => ⟨S32x1x4x64, .f32⟩
  | 10 => ⟨S32x1x4x64, .f32⟩
  | 11 => ⟨S32x1x4x64, .f32⟩
  | 12 => ⟨S32x1x4x64, .f32⟩
  | 13 => ⟨S32x1x4x64, .f32⟩
  | 14 => ⟨S32x1x4x64, .f32⟩
  | 15 => ⟨S32x1x4x128, .f32⟩
  | 16 => ⟨S32x1024, .f32⟩
  | 17 => ⟨S32x1024, .f32⟩
  | 18 => ⟨S32x512, .f32⟩
  | 19 => ⟨S32x512, .f32⟩
  | 20 => ⟨S32x512, .f32⟩
  | 21 => ⟨S32x512, .f32⟩
  | 22 => ⟨S32x4096, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_4 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_cst_5 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩

abbrev nD : Nat := 1
abbrev τ : Topo := Topo.v7x

variable {F : FTy → Type} [FloatOps F]
-- ==== PleSample.lean ====
abbrev S32x1x2048 : Shape := ⟨3, ![32, 1, 2048]⟩
abbrev S32x1x256 : Shape := ⟨3, ![32, 1, 256]⟩
abbrev S2x2048x2048 : Shape := ⟨3, ![2, 2048, 2048]⟩
abbrev S2x256x2048 : Shape := ⟨3, ![2, 256, 2048]⟩
abbrev S2048 : Shape := ⟨1, ![2048]⟩
abbrev S32x2048 : Shape := ⟨2, ![32, 2048]⟩
abbrev S32x256 : Shape := ⟨2, ![32, 256]⟩
abbrev S1x2048 : Shape := ⟨2, ![1, 2048]⟩
abbrev S1x2048x2048 : Shape := ⟨3, ![1, 2048, 2048]⟩
abbrev S1x256x2048 : Shape := ⟨3, ![1, 256, 2048]⟩
abbrev S256x2048 : Shape := ⟨2, ![256, 2048]⟩
abbrev S2048x2048 : Shape := ⟨2, ![2048, 2048]⟩
abbrev S32 : Shape := ⟨1, ![32]⟩
abbrev S32x1 : Shape := ⟨2, ![32, 1]⟩

abbrev nBuf : Space → Nat
  | .hbm => 13
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S32x1x256, .f32⟩
  | .hbm, ⟨2, _⟩ => ⟨S2x2048x2048, .f32⟩
  | .hbm, ⟨3, _⟩ => ⟨S2x256x2048, .f32⟩
  | .hbm, ⟨4, _⟩ => ⟨S2048, .f32⟩
  | .hbm, ⟨5, _⟩ => ⟨S2048, .f32⟩
  | .hbm, ⟨6, _⟩ => ⟨S32x2048, .f32⟩
  | .hbm, ⟨7, _⟩ => ⟨S32x256, .f32⟩
  | .hbm, ⟨8, _⟩ => ⟨S2x2048x2048, .bf16⟩
  | .hbm, ⟨9, _⟩ => ⟨S2x256x2048, .bf16⟩
  | .hbm, ⟨10, _⟩ => ⟨S1x2048, .f32⟩
  | .hbm, ⟨11, _⟩ => ⟨S1x2048, .f32⟩
  | .hbm, ⟨12, _⟩ => ⟨S32x2048, .f32⟩
  | .local _ .vmem, ⟨0, _⟩ => ⟨S32x2048, .f32⟩
  | .local _ .vmem, ⟨1, _⟩ => ⟨S32x256, .f32⟩
  | .local _ .vmem, ⟨2, _⟩ => ⟨S1x2048x2048, .bf16⟩
  | .local _ .vmem, ⟨3, _⟩ => ⟨S1x256x2048, .bf16⟩
  | .local _ .vmem, ⟨4, _⟩ => ⟨S1x2048, .f32⟩
  | .local _ .vmem, ⟨5, _⟩ => ⟨S1x2048, .f32⟩
  | .local _ .vmem, ⟨6, _⟩ => ⟨S32x2048, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PleSampleReferenceIdeal.lean ====
abbrev S32x1x2048 : Shape := ⟨3, ![32, 1, 2048]⟩
abbrev S32x1x256 : Shape := ⟨3, ![32, 1, 256]⟩
abbrev S2x2048x2048 : Shape := ⟨3, ![2, 2048, 2048]⟩
abbrev S2x256x2048 : Shape := ⟨3, ![2, 256, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩
abbrev S32x1 : Shape := ⟨2, ![32, 1]⟩
abbrev S32x1x1 : Shape := ⟨3, ![32, 1, 1]⟩
abbrev S1x1x2048 : Shape := ⟨3, ![1, 1, 2048]⟩
abbrev S32x2048 : Shape := ⟨2, ![32, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S32x1x256, .f32⟩
  | .hbm, ⟨2, _⟩ => ⟨S2x2048x2048, .f32⟩
  | .hbm, ⟨3, _⟩ => ⟨S2x256x2048, .f32⟩
  | .hbm, ⟨4, _⟩ => ⟨S2048, .f32⟩
  | .hbm, ⟨5, _⟩ => ⟨S2048, .f32⟩
  | .hbm, ⟨6, _⟩ => ⟨S1x2048x2048, .f32⟩
  | .hbm, ⟨7, _⟩ => ⟨S2048x2048, .f32⟩
  | .hbm, ⟨8, _⟩ => ⟨S32x1x2048, .f32⟩
  | .hbm, ⟨9, _⟩ => ⟨S32x1x2048, .f32⟩
  | .hbm, ⟨10, _⟩ => ⟨S32x1x2048, .f32⟩
  | .hbm, ⟨11, _⟩ => ⟨S_, .f32⟩
  | .hbm, ⟨12, _⟩ => ⟨S32x1x2048, .f32⟩
  | .hbm, ⟨13, _⟩ => ⟨S32x1x2048, .f32⟩
  | .hbm, ⟨14, _⟩ => ⟨S_, .f32⟩
  | .hbm, ⟨15, _⟩ => ⟨S32x1x2048, .f32⟩
  | .hbm, ⟨16, _⟩ => ⟨S32x1x2048, .f32⟩
  | .hbm, ⟨17, _⟩ => ⟨S1x256x2048, .f32⟩
  | .hbm, ⟨18, _⟩ => ⟨S256x2048, .f32⟩
  | .hbm, ⟨19, _⟩ => ⟨S32x1x2048, .f32⟩
  | .hbm, ⟨20, _⟩ => ⟨S32x1x2048, .f32⟩
  | .hbm, ⟨21, _⟩ => ⟨S_, .f32⟩
  | .hbm, ⟨22, _⟩ => ⟨S32x1, .f32⟩
  | .hbm, ⟨23, _⟩ => ⟨S32x1x1, .f32⟩
  | .hbm, ⟨24, _⟩ => ⟨S_, .f32⟩
  | .hbm, ⟨25, _⟩ => ⟨S32x1x1, .f32⟩
  | .hbm, ⟨26, _⟩ => ⟨S32x1x1, .f32⟩
  | .hbm, ⟨27, _⟩ => ⟨S_, .f32⟩
  | .hbm, ⟨28, _⟩ => ⟨S32x1x1, .f32⟩
  | .hbm, ⟨29, _⟩ => ⟨S32x1x1, .f32⟩
  | .hbm, ⟨30, _⟩ => ⟨S32x1x1, .f32⟩
  | .hbm, ⟨31, _⟩ => ⟨S32x1x2048, .f32⟩
  | .hbm, ⟨32, _⟩ => ⟨S32x1x2048, .f32⟩
  | .hbm, ⟨33, _⟩ => ⟨S1x1x2048, .f32⟩
  | .hbm, ⟨34, _⟩ => ⟨S32x1x2048, .f32⟩
  | .hbm, ⟨35, _⟩ => ⟨S32x1x2048, .f32⟩
  | .hbm, ⟨36, _⟩ => ⟨S32x1x2048, .f32⟩
  | .hbm, ⟨37, _⟩ => ⟨S32x1x2048, .f32⟩
  | .hbm, ⟨38, _⟩ => ⟨S32x1x2048, .f32⟩
  | .hbm, ⟨39, _⟩ => ⟨S_, .f32⟩
  | .hbm, ⟨40, _⟩ => ⟨S32x1, .f32⟩
  | .hbm, ⟨41, _⟩ => ⟨S32x1x1, .f32⟩
  | .hbm, ⟨42, _⟩ => ⟨S_, .f32⟩
  | .hbm, ⟨43, _⟩ => ⟨S32x1x1, .f32⟩
  | .hbm, ⟨44, _⟩ => ⟨S32x1x1, .f32⟩
  | .hbm, ⟨45, _⟩ => ⟨S_, .f32⟩
  | .hbm, ⟨46, _⟩ => ⟨S32x1x1, .f32⟩
  | .hbm, ⟨47, _⟩ => ⟨S32x1x1, .f32⟩
  | .hbm, ⟨48, _⟩ => ⟨S32x1x1, .f32⟩
  | .hbm, ⟨49, _⟩ => ⟨S32x1x2048, .f32⟩
  | .hbm, ⟨50, _⟩ => ⟨S32x1x2048, .f32⟩
  | .hbm, ⟨51, _⟩ => ⟨S1x1x2048, .f32⟩
  | .hbm, ⟨52, _⟩ => ⟨S32x1x2048, .f32⟩
  | .hbm, ⟨53, _⟩ => ⟨S32x1x2048, .f32⟩
  | .hbm, ⟨54, _⟩ => ⟨S32x2048, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Moba.lean ====
abbrev S8192x4096 : Shape := ⟨2, ![8192, 4096]⟩
abbrev S4x2048x4096 : Shape := ⟨3, ![4, 2048, 4096]⟩
abbrev S4x2048x1024 : Shape := ⟨3, ![4, 2048, 1024]⟩
abbrev S1x256x256 : Shape := ⟨3, ![1, 256, 256]⟩
abbrev S1x2048x128 : Shape := ⟨3, ![1, 2048, 128]⟩
abbrev S2048x128 : Shape := ⟨2, ![2048, 128]⟩
abbrev S8x128x256 : Shape := ⟨3, ![8, 128, 256]⟩
abbrev S128x128 : Shape := ⟨2, ![128, 128]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S128x256 : Shape := ⟨2, ![128, 256]⟩
abbrev S1x128x256 : Shape := ⟨3, ![1, 128, 256]⟩
abbrev S512x128 : Shape := ⟨2, ![512, 128]⟩
abbrev S256x512 : Shape := ⟨2, ![256, 512]⟩
abbrev S512 : Shape := ⟨1, ![512]⟩
abbrev S1x512 : Shape := ⟨2, ![1, 512]⟩
abbrev S128x512 : Shape := ⟨2, ![128, 512]⟩
abbrev S512x512 : Shape := ⟨2, ![512, 512]⟩
abbrev S8x512 : Shape := ⟨2, ![8, 512]⟩

abbrev nBuf : Space → Nat
  | .hbm => 3
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4x2048x4096, .f32⟩
  | .hbm, ⟨2, _⟩ => ⟨S4x2048x1024, .bf16⟩
  | .local _ .vmem, ⟨0, _⟩ => ⟨S1x256x256, .f32⟩
  | .local _ .vmem, ⟨1, _⟩ => ⟨S1x256x256, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x256, .bf16⟩
  | .local _ .vmem, ⟨7, _⟩ => ⟨S1x256x256, .bf16⟩
  | .local _ .vmem, ⟨8, _⟩ => ⟨S2048x128, .bf16⟩
  | .local _ .vmem, ⟨9, _⟩ => ⟨S8x128x256, .bf16⟩
  | .local _ .vmem, ⟨10, _⟩ => ⟨S128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c0_i32_5 : BitVec 32 := 0#32
  let v9 : BitVec 1 := Scalar.cmpi .eq arg2 c0_i32_5
  let v10 : BitVec 32 := Scalar.extui v9
  let c0_i32_6 : BitVec 32 := 0#32
  let v11 : BitVec 1 := Scalar.cmpi .ne v10 c0_i32_6
  v11

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def k0_cond4 (i : grid0.Coords) : BitVec 1 :=
  let arg2 : BitVec 32 := BitVec.ofNat 32 (i 2).val
  let c2_i32 : BitVec 32 := 2#32
  let v15 : BitVec 1 := Scalar.cmpi .eq arg2 c2_i32
  let v16 : BitVec 32 := Scalar.extui v15
  let c0_i32_8 : BitVec 32 := 0#32
  let v17 : BitVec 1 := Scalar.cmpi .ne v16 c0_i32_8
  v17

def k0_cond5 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def k0_cond6 (i : grid0.Coords) : BitVec 1 :=
  let arg2 : BitVec 32 := BitVec.ofNat 32 (i 2).val
  let c4_i32 : BitVec 32 := 4#32
  let v21 : BitVec 1 := Scalar.cmpi .eq arg2 c4_i32
  let v22 : BitVec 32 := Scalar.extui v21
  let c0_i32_10 : BitVec 32 := 0#32
  let v23 : BitVec 1 := Scalar.cmpi .ne v22 c0_i32_10
  v23

def k0_cond7 (i : grid0.Coords) : BitVec 1 :=
  let arg2 : BitVec 32 := BitVec.ofNat 32 (i 2).val
  let c5_i32 : BitVec 32 := 5#32
  let v24 : BitVec 1 := Scalar.cmpi .eq arg2 c5_i32
  let v25 : BitVec 32 := Scalar.extui v24
  let c0_i32_11 : BitVec 32 := 0#32
  let v26 : BitVec 1 := Scalar.cmpi .ne v25 c0_i32_11
  v26

def k0_cond8 (i : grid0.Coords) : BitVec 1 :=
  let arg2 : BitVec 32 := BitVec.ofNat 32 (i 2).val
  let c6_i32 : BitVec 32 := 6#32
  let v27 : BitVec 1 := Scalar.cmpi .eq arg2 c6_i32
  let v28 : BitVec 32 := Scalar.extui v27
  let c0_i32_12 : BitVec 32 := 0#32
  let v29 : BitVec 1 := Scalar.cmpi .ne v28 c0_i32_12
  v29

def k0_cond9 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_13 : BitVec 32 := 0#32
  let v32 : BitVec 1 := Scalar.cmpi .ne v31 c0_i32_13
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MobaIdeal.lean ====
variable {F : FTy → Type} [FloatOps F] [Named F]
def κ : String → Option EReal := fun
  | "moba_scale_log2e" => some (((11863283 / 134217728) * (Real.log 2)⁻¹ : ℝ) : EReal)
  | _ => none
-- ==== MobaReferenceIdeal.lean ====
abbrev S8192x4096 : Shape := ⟨2, ![8192, 4096]⟩
abbrev S4x2048x4096 : Shape := ⟨3, ![4, 2048, 4096]⟩
abbrev S4x2048x1024 : Shape := ⟨3, ![4, 2048, 1024]⟩
abbrev S4x2048x4x2x128 : Shape := ⟨5, ![4, 2048, 4, 2, 128]⟩
abbrev S4x2048x512 : Shape := ⟨3, ![4, 2048, 512]⟩
abbrev S4x8x256x4x128 : Shape := ⟨5, ![4, 8, 256, 4, 128]⟩
abbrev S4x4x8x256x128 : Shape := ⟨5, ![4, 4, 8, 256, 128]⟩
abbrev S_ : Shape := ⟨0, ![]⟩
abbrev S4x4x8x128 : Shape := ⟨4, ![4, 4, 8, 128]⟩
abbrev S2048 : Shape := ⟨1, ![2048]⟩
abbrev S4x4x8x2048x2 : Shape := ⟨5, ![4, 4, 8, 2048, 2]⟩
abbrev S4x2048x4x2x8 : Shape := ⟨5, ![4, 2048, 4, 2, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S1x2048x1x1x8 : Shape := ⟨5, ![1, 2048, 1, 1, 8]⟩
abbrev S4x2048x4x2x3 : Shape := ⟨5, ![4, 2048, 4, 2, 3]⟩
abbrev S1x2048x1x1x1 : Shape := ⟨5, ![1, 2048, 1, 1, 1]⟩
abbrev S4x2048x4x2x1 : Shape := ⟨5, ![4, 2048, 4, 2, 1]⟩
abbrev S4x2048x4x2x4 : Shape := ⟨5, ![4, 2048, 4, 2, 4]⟩
abbrev S4 : Shape := ⟨1, ![4]⟩
abbrev S4x1x1x1x1 : Shape := ⟨5, ![4, 1, 1, 1, 1]⟩
abbrev S1x1x4x1x1 : Shape := ⟨5, ![1, 1, 4, 1, 1]⟩
abbrev S4x2048x4x2x4x1 : Shape := ⟨6, ![4, 2048, 4, 2, 4, 1]⟩
abbrev S4x2048x4x2x4x3 : Shape := ⟨6, ![4, 2048, 4, 2, 4, 3]⟩
abbrev S4x2048x4x2x4x256x128 : Shape := ⟨7, ![4, 2048, 4, 2, 4, 256, 128]⟩
abbrev S4x2048x4x2x4x256 : Shape := ⟨6, ![4, 2048, 4, 2, 4, 256]⟩
abbrev S256 : Shape := ⟨1, ![256]⟩
abbrev S1x1x1x1x1x256 : Shape := ⟨6, ![1, 1, 1, 1, 1, 256]⟩
abbrev S1x2048x1x1x1x1 : Shape := ⟨6, ![1, 2048, 1, 1, 1, 1]⟩
abbrev S4x2048x4x2x1024 : Shape := ⟨5, ![4, 2048, 4, 2, 1024]⟩
abbrev S4x2048x4x2 : Shape := ⟨4, ![4, 2048, 4, 2]⟩

abbrev nBuf : Space → Nat
  | .hbm => 162
  | .vmem => 0
  | .smem => 0
  | _ => 0

abbrev hbmTy0_0 (i : Nat) : BufTy := match i % 128 with
  | 0 => ⟨S8192x4096, .f32⟩
  | 1 => ⟨S4x2048x4096, .f32⟩
  | 2 => ⟨S4x2048x1024, .f32⟩
  | 3 => ⟨S4x2048x4x2x128, .f32⟩
  | 4 => ⟨S4x2048x512, .f32⟩
  | 5 => ⟨S4x2048x512, .f32⟩
  | 6 => ⟨S4x8x256x4x128, .f32⟩
  | 7 => ⟨S4x4x8x256x128, .f32⟩
  | 8 => ⟨S4x8x256x4x128, .f32⟩
  | 9 => ⟨S4x4x8x256x128, .f32⟩
  | 10 => ⟨S_, .f32⟩
  | 11 => ⟨S4x4x8x128, .f32⟩
  | 12 => ⟨S_, .f32⟩
  | 13 => ⟨S4x4x8x128, .f32⟩
  | 14 => ⟨S4x4x8x128, .f32⟩
  | 15 => ⟨S2048, .i32⟩
  | 16 => ⟨S_, .i32⟩
  | 17 => ⟨S_, .i32⟩
  | 18 => ⟨S2048, .i32⟩
  | 19 => ⟨S2048, .i32⟩
  | 20 => ⟨S2048, .i32⟩
  | 21 => ⟨S_, .i32⟩
  | 22 => ⟨S2048, .i32⟩
  | 23 => ⟨S2048, .i1⟩
  | 24 => ⟨S2048, .i32⟩
  | 25 => ⟨S2048, .i32⟩
  | 26 => ⟨S_, .i32⟩
  | 27 => ⟨S2048, .i32⟩
  | 28 => ⟨S2048, .i1⟩
  | 29 => ⟨S2048, .i1⟩
  | 30 => ⟨S_, .i32⟩
  | 31 => ⟨S2048, .i32⟩
  | 32 => ⟨S2048, .i32⟩
  | 33 => ⟨S2048, .i32⟩
  | 34 => ⟨S4x4x8x2048x2, .f32⟩
  | 35 => ⟨S4x2048x4x2x8, .f32⟩
  | 36 => ⟨S8, .i32⟩
  | 37 => ⟨S1x8, .i32⟩
  | 38 => ⟨S2048x1, .i32⟩
  | 39 => ⟨S2048x8, .i32⟩
  | 40 => ⟨S2048x8, .i32⟩
  | 41 => ⟨S2048x8, .i1⟩
  | 42 => ⟨S1x2048x1x1x8, .i1⟩
  | 43 => ⟨S_, .f32⟩
  | 44 => ⟨S_, .f32⟩
  | 45 => ⟨S4x2048x4x2x8, .i1⟩
  | 46 => ⟨S4x2048x4x2x8, .f32⟩
  | 47 => ⟨S4x2048x4x2x8, .f32⟩
  | 48 => ⟨S4x2048x4x2x3, .f32⟩
  | 49 => ⟨S4x2048x4x2x3, .i32⟩
  | 50 => ⟨S1x2048x1x1x1, .i32⟩
  | 51 => ⟨S4x2048x4x2x1, .i32⟩
  | 52 => ⟨S4x2048x4x2x4, .i32⟩
  | 53 => ⟨S4x2048x4x2x3, .f32⟩
  | 54 => ⟨S_, .f32⟩
  | 55 => ⟨S4x2048x4x2x3, .f32⟩
  | 56 => ⟨S4x2048x4x2x3, .i1⟩
  | 57 => ⟨S_, .i1⟩
  | 58 => ⟨S4x2048x4x2x1, .i1⟩
  | 59 => ⟨S4x2048x4x2x4, .i1⟩
  | 60 => ⟨S4, .i32⟩
  | 61 => ⟨S4x1x1x1x1, .i32⟩
  | 62 => ⟨S4, .i32⟩
  | 63 => ⟨S1x1x4x1x1, .i32⟩
  | 64 => ⟨S_, .i32⟩
  | 65 => ⟨S4x1x1x1x1, .i32⟩
  | 66 => ⟨S4x1x1x1x1, .i1⟩
  | 67 => ⟨S_, .i32⟩
  | 68 => ⟨S4x1x1x1x1, .i32⟩
  | 69 => ⟨S4x1x1x1x1, .i32⟩
  | 70 => ⟨S4x1x1x1x1, .i32⟩
  | 71 => ⟨S_, .i32⟩
  | 72 => ⟨S1x1x4x1x1, .i32⟩
  | 73 => ⟨S1x1x4x1x1, .i1⟩
  | 74 => ⟨S_, .i32⟩
  | 75 => ⟨S1x1x4x1x1, .i32⟩
  | 76 => ⟨S1x1x4x1x1, .i32⟩
  | 77 => ⟨S1x1x4x1x1, .i32⟩
  | 78 => ⟨S_, .i32⟩
  | 79 => ⟨S4x2048x4x2x4, .i32⟩
  | 80 => ⟨S4x2048x4x2x4, .i1⟩
  | 81 => ⟨S_, .i32⟩
  | 82 => ⟨S4x2048x4x2x4, .i32⟩
  | 83 => ⟨S4x2048x4x2x4, .i32⟩
  | 84 => ⟨S4x2048x4x2x4, .i32⟩
  | 85 => ⟨S4x2048x4x2x4, .i32⟩
  | 86 => ⟨S4x2048x4x2x4, .i32⟩
  | 87 => ⟨S4x2048x4x2x4x1, .i32⟩
  | 88 => ⟨S4x2048x4x2x4x1, .i32⟩
  | 89 => ⟨S4x2048x4x2x4x1, .i32⟩
  | 90 => ⟨S4x2048x4x2x4x3, .i32⟩
  | 91 => ⟨S4x2048x4x2x4x256x128, .f32⟩
  | 92 => ⟨S_, .i32⟩
  | 93 => ⟨S4x1x1x1x1, .i32⟩
  | 94 => ⟨S4x1x1x1x1, .i1⟩
  | 95 => ⟨S_, .i32⟩
  | 96 => ⟨S4x1x1x1x1, .i32⟩
  | 97 => ⟨S4x1x1x1x1, .i32⟩
  | 98 => ⟨S4x1x1x1x1, .i32⟩
  | 99 => ⟨S_, .i32⟩
  | 100 => ⟨S1x1x4x1x1, .i32⟩
  | 101 => ⟨S1x1x4x1x1, .i1⟩
  | 102 => ⟨S_, .i32⟩
  | 103 => ⟨S1x1x4x1x1, .i32⟩
  | 104 => ⟨S1x1x4x1x1, .i32⟩
  | 105 => ⟨S1x1x4x1x1, .i32⟩
  | 106 => ⟨S_, .i32⟩
  | 107 => ⟨S4x2048x4x2x4, .i32⟩
  | 108 => ⟨S4x2048x4x2x4, .i1⟩
  | 109 => ⟨S_, .i32⟩
  | 110 => ⟨S4x2048x4x2x4, .i32⟩
  | 111 => ⟨S4x2048x4x2x4, .i32⟩
  | 112 => ⟨S4x2048x4x2x4, .i32⟩
  | 113 => ⟨S4x2048x4x2x4, .i32⟩
  | 114 => ⟨S4x2048x4x2x4, .i32⟩
  | 115 => ⟨S4x2048x4x2x4x1, .i32⟩
  | 116 => ⟨S4x2048x4x2x4x1, .i32⟩
  | 117 => ⟨S4x2048x4x2x4x1, .i32⟩
  | 118 => ⟨S4x2048x4x2x4x3, .i32⟩
  | 119 => ⟨S4x2048x4x2x4x256x128, .f32⟩
  | 120 => ⟨S4x2048x4x2x4x256, .f32⟩
  | 121 => ⟨S_, .f32⟩
  | 122 => ⟨S4x2048x4x2x4x256, .f32⟩
  | 123 => ⟨S4x2048x4x2x4x256, .f32⟩
  | 124 => ⟨S4x2048x4x2x4x1, .i32⟩
  | 125 => ⟨S_, .i32⟩
  | 126 => ⟨S4x2048x4x2x4x1, .i32⟩
  | 127 => ⟨S4x2048x4x2x4x1, .i32⟩
  | _ => ⟨S8192x4096, .f32⟩

abbrev hbmTy0_1 (i : Nat) : BufTy := match i % 128 with
  | 0 => ⟨S256, .i32⟩
  | 1 => ⟨S1x1x1x1x1x256, .i32⟩
  | 2 => ⟨S4x2048x4x2x4x256, .i32⟩
  | 3 => ⟨S4x2048x4x2x4x256, .i32⟩
  | 4 => ⟨S4x2048x4x2x4x256, .i32⟩
  | 5 => ⟨S4x2048x4x2x4x1, .i1⟩
  | 6 => ⟨S1x2048x1x1x1x1, .i32⟩
  | 7 => ⟨S4x2048x4x2x4x256, .i32⟩
  | 8 => ⟨S4x2048x4x2x4x256, .i1⟩
  | 9 => ⟨S4x2048x4x2x4x256, .i1⟩
  | 10 => ⟨S4x2048x4x2x4x256, .i1⟩
  | 11 => ⟨S_, .f32⟩
  | 12 => ⟨S_, .f32⟩
  | 13 => ⟨S4x2048x4x2x4x256, .f32⟩
  | 14 => ⟨S4x2048x4x2x4x256, .f32⟩
  | 15 => ⟨S4x2048x4x2x1024, .f32⟩
  | 16 => ⟨S_, .f32⟩
  | 17 => ⟨S4x2048x4x2, .f32⟩
  | 18 => ⟨S_, .f32⟩
  | 19 => ⟨S4x2048x4x2, .f32⟩
  | 20 => ⟨S4x2048x4x2, .f32⟩
  | 21 => ⟨S4x2048x4x2x1, .f32⟩
  | 22 => ⟨S4x2048x4x2x1024, .f32⟩
  | 23 => ⟨S4x2048x4x2x1024, .f32⟩
  | 24 => ⟨S4x2048x4x2x1024, .f32⟩
  | 25 => ⟨S_, .f32⟩
  | 26 => ⟨S4x2048x4x2, .f32⟩
  | 27 => ⟨S4x2048x4x2x1, .f32⟩
  | 28 => ⟨S4x2048x4x2x1024, .f32⟩
  | 29 => ⟨S4x2048x4x2x1024, .f32⟩
  | 30 => ⟨S4x2048x4x2x4x256, .f32⟩
  | 31 => ⟨S4x2048x4x2x128, .f32⟩
  | 32 => ⟨S4x2048x1024, .f32⟩
  | 33 => ⟨S4x2048x1024, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_values : Ref sig .tc := ⟨.hbm, 48, rfl⟩
abbrev main_indices : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_c_3 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_v41 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_c_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_10 : Ref sig .tc := ⟨.hbm, 92, rfl⟩
abbrev main_v58 : Ref sig .tc := ⟨.hbm, 93, rfl⟩
abbrev main_v59 : Ref sig .tc := ⟨.hbm, 94, rfl⟩
abbrev main_c_11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_12 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_17 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_18 : Ref sig .tc := ⟨.hbm, 139, rfl⟩
abbrev main_call2_v0 : Ref sig .tc := ⟨.hbm, 140, rfl⟩
abbrev main_call2_v1 : Ref sig .tc := ⟨.hbm, 141, rfl⟩
abbrev main_v97 : Ref sig .tc := ⟨.hbm, 142, rfl⟩
abbrev main_v98 : Ref sig .tc := ⟨.hbm, 143, rfl⟩
abbrev main_cst_19 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_21 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩

abbrev nD : Nat := 1
abbrev τ : Topo := Topo.v7x

variable {F : FTy → Type} [FloatOps F]
-- ==== Proof.MlpValue.lean ====
/-
  The VALUE of the multi-layer-perceptron program: what its result array holds after the run, equal over the extended
  reals to the reference's line `x + square(relu(rmsnorm(x) @ w_up)) @ w_down`, for every argument.

  The grid is 16 row tiles of 512 rows times 8 tiles of 1024 hidden units. At the first hidden tile of a row tile the
  body normalises the rows into one scratch and clears the accumulator; at every hidden tile it adds that tile's share
  of the second product; at the last one it adds the residual and writes the row tile back.

    scratch_norm   the first scratch holds the normalised rows of the row tile at every one of its points;
    scratch_acc    the second one holds, at the last point of a row tile, the sum of the eight tiles' shares;
    point          so the block written back is the reference's block (the hidden axis cut in eight);
    final          and the array is the reference's.
-/
module

public import proofs.«01_k».proof.Proof.Gen.MlpIdeal.Value
public import proofs.«01_k».proof.Proof.Gen.MlpReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpReferenceIdeal.Value

open Cert.MlpReferenceIdeal Cert.MlpReferenceIdeal.Gen

/-- The reference's result as one term of its four arguments. -/
def REF (X : FVec Ideal S4x2048x2048 .f32) (G : FVec Ideal S2048 .f32) (WU : FVec Ideal S2x2048x8192 .f32)
    (WD : FVec Ideal S2x8192x2048 .f32) : FVec Ideal S8192x2048 .f32 :=
  shapeCast S8192x2048 (addf X (Host.dotGeneral dot_S4x2048x8192_S8192x2048_S4x2048x2048_2_0_01_1_n_n none (mulf (maximumf (Host.dotGeneral dot_S4x2048x2048_S2048x8192_S4x2048x8192_2_0_01_1_n_n none (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 G))) (shapeCast S2048x8192 (extractStridedSlice S1x2048x8192 ![0, 0, 0] WU slices_S2x2048x8192_S1x2048x8192_0_0_0) shapeCasts_S1x2048x8192_S2048x8192)) (broadcastInDim S4x2048x8192 ![] bcast_S_S4x2048x8192 (constant S_ .f32 0x00000000#32))) (maximumf (Host.dotGeneral dot_S4x2048x2048_S2048x8192_S4x2048x8192_2_0_01_1_n_n none (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 G))) (shapeCast S2048x8192 (extractStridedSlice S1x2048x8192 ![0, 0, 0] WU slices_S2x2048x8192_S1x2048x8192_0_0_0) shapeCasts_S1x2048x8192_S2048x8192)) (broadcastInDim S4x2048x8192 ![] bcast_S_S4x2048x8192 (constant S_ .f32 0x00000000#32)))) (shapeCast S8192x2048 (extractStridedSlice S1x8192x2048 ![0, 0, 0] WD slices_S2x8192x2048_S1x8192x2048_0_0_0) shapeCasts_S1x8192x2048_S8192x2048))) shapeCasts_S4x2048x2048_S8192x2048

end Cert.MlpReferenceIdeal.Value

namespace Cert.MlpIdeal.Value

open Cert.MlpIdeal Cert.MlpIdeal.Gen

variable (m : (ℓ : Loc nD τ sig) → Buf (Elt Ideal) ℓ)

/-- The windows' block indices at every point: row tile `t / 8`, hidden tile `t % 8`. -/
theorem idx : ∀ t : Fin cfg0.N, win0_0.index t = ![t.val / 8, 0] ∧ win0_1.index t = ![0, 0]
    ∧ win0_2.index t = ![0, 0, t.val % 8] ∧ win0_3.index t = ![0, t.val % 8, 0] ∧ win0_4.index t = ![t.val / 8, 0]
    ∧ t.val / 8 < 16 :=
  (by decide +kernel : ∀ t : Fin grid0.N, _)

/-- The rows of `x` staged at a point and at the one before it in the same row tile are the same. -/
theorem iblk0_prev (c : Dev nD) (t : Fin cfg0.N) (h : ¬t.val % 8 = 0) :
    iblk m c 0 ⟨t.val - 1, Nat.lt_of_le_of_lt (Nat.sub_le _ _) t.isLt⟩ = iblk m c 0 t := by
  have hd : (t.val - 1) / 8 = t.val / 8 := by omega
  blk_ext! [iblk, V, idx t, idx ⟨t.val - 1, Nat.lt_of_le_of_lt (Nat.sub_le _ _) t.isLt⟩]

/-- The gain staged at a point and at the one before it are the same. -/
theorem iblk1_prev (c : Dev nD) (t : Fin cfg0.N) :
    iblk m c 1 ⟨t.val - 1, Nat.lt_of_le_of_lt (Nat.sub_le _ _) t.isLt⟩ = iblk m c 1 t := by
  blk_ext! [iblk, V, idx t, idx ⟨t.val - 1, Nat.lt_of_le_of_lt (Nat.sub_le _ _) t.isLt⟩]

/-- At every point the first scratch holds the normalised rows of the point's row tile. -/
theorem scratch_norm (c : Dev nD) : ∀ (n : ℕ) (h : n < cfg0.N),
    (outsAt0 m c n h).2.1 = k0_pay1 (iblk m c 0 ⟨n, h⟩) (iblk m c 1 ⟨n, h⟩) := by
  intro n
  induction n with
  | zero =>
    intro h
    rw [outsAt0_A m c ⟨0, h⟩ rfl (by simp)]
    frame_out
  | succ n ih =>
    intro h
    by_cases h0 : (n + 1) % 8 = 0
    · rw [outsAt0_A m c ⟨n + 1, h⟩ h0 (by dsimp only; omega)]
      frame_out
    · have key := ih (Nat.lt_of_succ_lt h)
      have e0 := iblk0_prev m c ⟨n + 1, h⟩ h0
      have e1 := iblk1_prev m c ⟨n + 1, h⟩
      by_cases h1 : (n + 1) % 8 = 7
      · rw [outsAt0_C m c ⟨n + 1, h⟩ h0 h1]
        frame_out
        exact key.trans (by rw [← e0, ← e1]; rfl)
      · rw [outsAt0_B m c ⟨n + 1, h⟩ h0 h1]
        frame_out
        exact key.trans (by rw [← e0, ← e1]; rfl)

/-- One hidden tile's share of the second product, from the normalised rows and the two weight tiles. -/
def part (H : FVec Ideal S512x2048 .bf16) (wu : FVec Ideal S1x2048x1024 .bf16) (wd : FVec Ideal S1x1024x2048 .bf16)
    (j : S512x2048.Idx) : EReal :=
  ∑ f : Fin 1024, max (∑ k : Fin 2048, H (ix2 (j 0) k) * wu (ix3 0 k f)) 0
    * max (∑ k : Fin 2048, H (ix2 (j 0) k) * wu (ix3 0 k f)) 0 * wd (ix3 0 f (j 1))

/-- The accumulating payload is what was there plus the tile's share. -/
theorem pay3_at (H : FVec Ideal S512x2048 .bf16) (wu : FVec Ideal S1x2048x1024 .bf16) (acc : FVec Ideal S512x2048 .f32)
    (wd : FVec Ideal S1x1024x2048 .bf16) (j : S512x2048.Idx) :
    k0_pay3 (F := Ideal) H wu acc wd j = acc j + part H wu wd j := by
  pointwise [k0_pay3, part]

/-- The clearing payload is zero. -/
theorem pay2_at (j : S512x2048.Idx) : k0_pay2 (F := Ideal) j = 0 := by pointwise [k0_pay2]

/-- At the last point of a row tile the accumulator is the sum of the eight hidden tiles' shares. -/
theorem scratch_acc (c : Dev nD) (t : Fin cfg0.N) (hr : t.val % 8 = 8 - 1) (j : S512x2048.Idx) :
    (outsAt0 m c t.val t.isLt).2.2 j = (0 : EReal) + ∑ s : Fin 8,
      part (k0_pay1 (iblk m c 0 ⟨8 * (t.val / 8) + s.val, Pipeline.run_point_lt_of_flush t hr s⟩) (iblk m c 1 ⟨8 * (t.val / 8) + s.val, Pipeline.run_point_lt_of_flush t hr s⟩))
        (iblk m c 2 ⟨8 * (t.val / 8) + s.val, Pipeline.run_point_lt_of_flush t hr s⟩)
        (iblk m c 3 ⟨8 * (t.val / 8) + s.val, Pipeline.run_point_lt_of_flush t hr s⟩) j := by
  refine Pipeline.eq_sum_fin_of_reset_step_apply_of_flush (M := EReal) (fun n h => (outsAt0 m c n h).2.2) 8 (fun _ => (0 : EReal))
    (fun t j => part (k0_pay1 (iblk m c 0 t) (iblk m c 1 t)) (iblk m c 2 t) (iblk m c 3 t) j) ?_ ?_ t hr j
  · intro t h j
    rw [outsAt0_A m c t h (by omega)]
    frame_out
    rw [pay3_at, pay2_at]
  · intro t h j
    by_cases h1 : t.val % 8 = 7
    · rw [outsAt0_C m c t h h1]
      frame_out
      rw [pay3_at, scratch_norm m c (t.val - 1), iblk0_prev m c t h, iblk1_prev m c t]
      erw [Memref.IsWhole.read_unread, Memref.IsWhole.read_unread]
    · rw [outsAt0_B m c t h h1]
      frame_out
      rw [pay3_at, scratch_norm m c (t.val - 1), iblk0_prev m c t h, iblk1_prev m c t]
      erw [Memref.IsWhole.read_unread, Memref.IsWhole.read_unread]

/-- At the last point of a row tile the written block is the residual plus the accumulator. -/
theorem written (c : Dev nD) (t : Fin cfg0.N) (h : t.val % 8 = 7) :
    (outsAt0 m c t.val t.isLt).1 = k0_pay4 (iblk m c 0 t) (outsAt0 m c t.val t.isLt).2.2 := by
  have h0 : ¬t.val % 8 = 0 := by omega
  rw [outsAt0_C m c t h0 h]
  frame_out

/-- The last payload at an index: residual plus accumulator. -/
theorem pay4_at (x a : FVec Ideal S512x2048 .f32) (j : S512x2048.Idx) : k0_pay4 (F := Ideal) x a j = x j + a j := by
  pointwise [k0_pay4]

/-- The staged rows of `x` are the array's rows `512 (t / 8) …`. -/
theorem x_at (c : Dev nD) (t : Fin cfg0.N) (r : Fin 512) (k : Fin 2048) :
    (iblk m c 0 t : FVec Ideal S512x2048 .f32) (ix2 r k)
      = (m ((c : Thread nD τ).loc main_arg0) : FVec Ideal S4x2048x2048 .f32)
        (ix3 ⟨(t.val / 8 * 512 + r.val) / 2048, by have := (idx t).2.2.2.2.2; omega⟩
          ⟨(t.val / 8 * 512 + r.val) % 2048, Nat.mod_lt _ (by decide)⟩ k) := by
  have h0 := (idx t).1
  have hb := (idx t).2.2.2.2.2
  blk_simp [iblk]
  entry_read
  pointwise
  blk_ext [h0]

/-- The staged gain is the gain. -/
theorem g_at (c : Dev nD) (t : Fin cfg0.N) (k : Fin 2048) :
    (iblk m c 1 t : FVec Ideal S1x2048 .f32) (ix2 0 k)
      = (m ((c : Thread nD τ).loc main_arg1) : FVec Ideal S2048 .f32) (ix1 k) := by
  have h0 := (idx t).2.1
  blk_simp [iblk]
  entry_read
  pointwise
  blk_ext [h0]

/-- The staged block of the first weights is their columns `1024 (t % 8) …`. -/
theorem wu_at (c : Dev nD) (t : Fin cfg0.N) (k : Fin 2048) (f : Fin 1024) :
    (iblk m c 2 t : FVec Ideal S1x2048x1024 .bf16) (ix3 0 k f)
      = (m ((c : Thread nD τ).loc main_arg2) : FVec Ideal S2x2048x8192 .f32)
        (ix3 0 k ⟨t.val % 8 * 1024 + f.val, by have := f.isLt; omega⟩) := by
  have h0 := (idx t).2.2.1
  blk_simp [iblk]
  entry_read
  pointwise
  blk_ext [h0]

/-- The staged block of the second weights is their rows `1024 (t % 8) …`. -/
theorem wd_at (c : Dev nD) (t : Fin cfg0.N) (f : Fin 1024) (l : Fin 2048) :
    (iblk m c 3 t : FVec Ideal S1x1024x2048 .bf16) (ix3 0 f l)
      = (m ((c : Thread nD τ).loc main_arg3) : FVec Ideal S2x8192x2048 .f32)
        (ix3 0 ⟨t.val % 8 * 1024 + f.val, by have := f.isLt; omega⟩ l) := by
  have h0 := (idx t).2.2.2.1
  blk_simp [iblk]
  entry_read
  pointwise
  blk_ext [h0]

/-- What a row tile's last point writes at a block index is the reference's value at the array index it sits at. -/
theorem point (c : Dev nD) (t : Fin cfg0.N) (h : t.val % 8 = 7) (r : Fin 512) (l : Fin 2048) :
    (outsAt0 m c t.val t.isLt).1 (ix2 r l : S512x2048.Idx)
      = Cert.MlpReferenceIdeal.Value.REF (m ((c : Thread nD τ).loc main_arg0)) (m ((c : Thread nD τ).loc main_arg1))
        (m ((c : Thread nD τ).loc main_arg2)) (m ((c : Thread nD τ).loc main_arg3))
        (ix2 ⟨t.val / 8 * 512 + r.val, by have := (idx t).2.2.2.2.2; omega⟩ l) := by
  have hb := (idx t).2.2.2.2.2
  have hd : ∀ s : Fin 8, (8 * (t.val / 8) + s.val) / 8 = t.val / 8 := fun s => by have := s.isLt; omega
  have hm : ∀ s : Fin 8, (8 * (t.val / 8) + s.val) % 8 = s.val := fun s => by have := s.isLt; omega
  rw [written m c t h, pay4_at]
  rw [scratch_acc m c t h (ix2 r l), zero_add]
  pointwise [part, k0_pay1, Cert.MlpReferenceIdeal.Value.REF]
  refine Ideal.add_congr (x_at m c t r l) ?_
  refine Fin.sum_mul_add_congr fun s k hl => ?_
  simp only [x_at, g_at, wu_at, wd_at, hd, hm]

/-- The result array after the run is the reference's term of the four arguments. -/
theorem final (c : Dev nD) : (dats m 0 c).arrAt 4 cfg0.N
    = Cert.MlpReferenceIdeal.Value.REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h4 := (idx t).2.2.2.2.1
  blk_simp
  rw [after0_4]
  have ey : y = (ix2 (y 0) (y 1) : S512x2048.Idx) := eq_ix2 y
  refine (congrArg (outsAt0 m c t.val t.isLt).1 ey).trans ((point m c t ((flush0_4 t).mp hf) (y 0) (y 1)).trans ?_)
  refine congrArg _ ?_
  blk_ext [h4]

end Cert.MlpIdeal.Value
-- ==== Proof.MlpClaims.lean ====
/-
  The claims about the multi-layer perceptron: the frames of the kernel at both instances and of the reference, the
  idealization, and the equality of the two results over the extended reals (Proof/MlpValue.lean has the mathematics).
-/
module

public import proofs.«01_k».proof.Defs
public import proofs.«01_k».proof.Proof.MlpValue
public import proofs.«01_k».proof.Proof.Gen.Mlp.Frame
public import Idealize.ShloMosaic.Lib.Claim
public import Idealize.ShloMosaic.Lib.Quiescent
public import Idealize.ShloMosaic.Adequacy

@[expose] public section

set_option maxRecDepth 16384

noncomputable section

namespace Cert.MlpClaims

open Idealize.ShloMosaic Idealize.SL.Sem

/-- The reference runs and leaves its arguments unchanged. -/
theorem frame_ri : Cert.quiescent_MlpReferenceIdeal (hMlpReferenceIdeal := Cert.MlpReferenceIdeal.Gen.facts) := by
  intro m g _
  exact (θ_run _ _ _).mono (fun r h => ⟨fun c => (h c).2, sem_eq_zero_of_no_sems (sig := Cert.MlpReferenceIdeal.sig) rfl r.2⟩)
    (Cert.MlpReferenceIdeal.Value.run m g)

/-- Kernel and reference end with equal results over the extended reals, for every argument. -/
theorem algebraic : Cert.algebraic_MlpIdeal_MlpReferenceIdeal (hMlpIdeal := Cert.MlpIdeal.Gen.facts) (hMlpReferenceIdeal := Cert.MlpReferenceIdeal.Gen.facts) := by
  pair_intro
  · run_from Cert.MlpIdeal.Gen.run_main m g
  · run_from Cert.MlpReferenceIdeal.Value.run m' g'
    exact (Cert.MlpIdeal.Value.final m c).symm

end Cert.MlpClaims

end
-- ==== Proof.QkvReference.lean ====
/-
  The reference of the projection's program, read one entry at a time: rows normalised, times the weights, cut into the
  queries, keys and values of the two kinds of attention, the queries and keys turned by their position's angles.
-/
module

public import proofs.«01_k».proof.Proof.Gen.QkvReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvReferenceIdeal.Value

open Cert.QkvReferenceIdeal Cert.QkvReferenceIdeal.Gen

/-- The reference's norm of rows, with a gain. -/
def rNorm (X : FVec Ideal S4x2048x2048 .f32) (G : FVec Ideal S2048 .f32) : FVec Ideal S4x2048x2048 .f32 :=
  (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 G)))

/-- The reference's projection: the normalised rows times the layer's first weight matrix. -/
def rProj (X : FVec Ideal S4x2048x2048 .f32) (G : FVec Ideal S2048 .f32) (W : FVec Ideal S2x2048x4096 .f32) : FVec Ideal S4x2048x4096 .f32 :=
  (Host.dotGeneral dot_S4x2048x2048_S2048x4096_S4x2048x4096_2_0_01_1_n_n none (rNorm X G) (shapeCast _ (extractStridedSlice S1x2048x4096 ![0, 0, 0] W slices_S2x2048x4096_S1x2048x4096_0_0_0) shapeCasts_S1x2048x4096_S2048x4096))

/-- The reference's angles for heads of 64 lanes. -/
def rAng32 : FVec Ideal S2048x32 .f32 :=
  (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.exp (mulf (sitofp .f32 (iotaInDim S32 32 0)) (broadcastInDim S32 ![] bcast_S_S32 (constant S_ .f32 0xBE935D8E#32)))))))

/-- The reference's angles for heads of 128 lanes. -/
def rAng64 : FVec Ideal S2048x64 .f32 :=
  (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.exp (mulf (sitofp .f32 (iotaInDim S64 32 0)) (broadcastInDim S64 ![] bcast_S_S64 (constant S_ .f32 0xBE135D8E#32)))))))

/-- Of the projection, the first kind's rotated queries. -/
def rQa (P : FVec Ideal S4x2048x4096 .f32) : FVec Ideal S8192x1024 .f32 :=
  (shapeCast _ (concatenate S4x2048x8x2x64 4 [⟨S4x2048x8x2x32, (subf (mulf (extractStridedSlice S4x2048x8x2x32 ![0, 0, 0, 0, 0] (shapeCast _ (extractStridedSlice S4x2048x1024 ![0, 0, 0] P slices_S4x2048x4096_S4x2048x1024_0_0_0) shapeCasts_S4x2048x1024_S4x2048x8x2x64) slices_S4x2048x8x2x64_S4x2048x8x2x32_0_0_0_0_0) (broadcastInDim S4x2048x8x2x32 ![0, 1, 2, 3, 4] bcast_S1x2048x1x1x32_S4x2048x8x2x32_0_1_2_3_4 (shapeCast _ (Host.cos rAng32) shapeCasts_S2048x32_S1x2048x1x1x32))) (mulf (extractStridedSlice S4x2048x8x2x32 ![0, 0, 0, 0, 32] (shapeCast _ (extractStridedSlice S4x2048x1024 ![0, 0, 0] P slices_S4x2048x4096_S4x2048x1024_0_0_0) shapeCasts_S4x2048x1024_S4x2048x8x2x64) slices_S4x2048x8x2x64_S4x2048x8x2x32_0_0_0_0_32) (broadcastInDim S4x2048x8x2x32 ![0, 1, 2, 3, 4] bcast_S1x2048x1x1x32_S4x2048x8x2x32_0_1_2_3_4 (shapeCast _ (Host.sin rAng32) shapeCasts_S2048x32_S1x2048x1x1x32))))⟩, ⟨S4x2048x8x2x32, (addf (mulf (extractStridedSlice S4x2048x8x2x32 ![0, 0, 0, 0, 32] (shapeCast _ (extractStridedSlice S4x2048x1024 ![0, 0, 0] P slices_S4x2048x4096_S4x2048x1024_0_0_0) shapeCasts_S4x2048x1024_S4x2048x8x2x64) slices_S4x2048x8x2x64_S4x2048x8x2x32_0_0_0_0_32) (broadcastInDim S4x2048x8x2x32 ![0, 1, 2, 3, 4] bcast_S1x2048x1x1x32_S4x2048x8x2x32_0_1_2_3_4 (shapeCast _ (Host.cos rAng32) shapeCasts_S2048x32_S1x2048x1x1x32))) (mulf (extractStridedSlice S4x2048x8x2x32 ![0, 0, 0, 0, 0] (shapeCast _ (extractStridedSlice S4x2048x1024 ![0, 0, 0] P slices_S4x2048x4096_S4x2048x1024_0_0_0) shapeCasts_S4x2048x1024_S4x2048x8x2x64) slices_S4x2048x8x2x64_S4x2048x8x2x32_0_0_0_0_0) (broadcastInDim S4x2048x8x2x32 ![0, 1, 2, 3, 4] bcast_S1x2048x1x1x32_S4x2048x8x2x32_0_1_2_3_4 (shapeCast _ (Host.sin rAng32) shapeCasts_S2048x32_S1x2048x1x1x32))))⟩] concatenates_S4x2048x8x2x32_S4x2048x8x2x32_S4x2048x8x2x64_d4) shapeCasts_S4x2048x8x2x64_S8192x1024)

/-- Of the projection, the second kind's rotated queries. -/
def rQb (P : FVec Ideal S4x2048x4096 .f32) : FVec Ideal S8192x1024 .f32 :=
  (shapeCast _ (concatenate S4x2048x8x128 3 [⟨S4x2048x8x64, (subf (mulf (extractStridedSlice S4x2048x8x64 ![0, 0, 0, 0] (shapeCast _ (extractStridedSlice S4x2048x1024 ![0, 0, 2048] P slices_S4x2048x4096_S4x2048x1024_0_0_2048) shapeCasts_S4x2048x1024_S4x2048x8x128) slices_S4x2048x8x128_S4x2048x8x64_0_0_0_0) (broadcastInDim S4x2048x8x64 ![0, 1, 2, 3] bcast_S1x2048x1x64_S4x2048x8x64_0_1_2_3 (shapeCast _ (Host.cos rAng64) shapeCasts_S2048x64_S1x2048x1x64))) (mulf (extractStridedSlice S4x2048x8x64 ![0, 0, 0, 64] (shapeCast _ (extractStridedSlice S4x2048x1024 ![0, 0, 2048] P slices_S4x2048x4096_S4x2048x1024_0_0_2048) shapeCasts_S4x2048x1024_S4x2048x8x128) slices_S4x2048x8x128_S4x2048x8x64_0_0_0_64) (broadcastInDim S4x2048x8x64 ![0, 1, 2, 3] bcast_S1x2048x1x64_S4x2048x8x64_0_1_2_3 (shapeCast _ (Host.sin rAng64) shapeCasts_S2048x64_S1x2048x1x64))))⟩, ⟨S4x2048x8x64, (addf (mulf (extractStridedSlice S4x2048x8x64 ![0, 0, 0, 64] (shapeCast _ (extractStridedSlice S4x2048x1024 ![0, 0, 2048] P slices_S4x2048x4096_S4x2048x1024_0_0_2048) shapeCasts_S4x2048x1024_S4x2048x8x128) slices_S4x2048x8x128_S4x2048x8x64_0_0_0_64) (broadcastInDim S4x2048x8x64 ![0, 1, 2, 3] bcast_S1x2048x1x64_S4x2048x8x64_0_1_2_3 (shapeCast _ (Host.cos rAng64) shapeCasts_S2048x64_S1x2048x1x64))) (mulf (extractStridedSlice S4x2048x8x64 ![0, 0, 0, 0] (shapeCast _ (extractStridedSlice S4x2048x1024 ![0, 0, 2048] P slices_S4x2048x4096_S4x2048x1024_0_0_2048) shapeCasts_S4x2048x1024_S4x2048x8x128) slices_S4x2048x8x128_S4x2048x8x64_0_0_0_0) (broadcastInDim S4x2048x8x64 ![0, 1, 2, 3] bcast_S1x2048x1x64_S4x2048x8x64_0_1_2_3 (shapeCast _ (Host.sin rAng64) shapeCasts_S2048x64_S1x2048x1x64))))⟩] concatenates_S4x2048x8x64_S4x2048x8x64_S4x2048x8x128_d3) shapeCasts_S4x2048x8x128_S8192x1024)

/-- Of the projection, the first kind's rotated keys. -/
def rKa (P : FVec Ideal S4x2048x4096 .f32) : FVec Ideal S8192x512 .f32 :=
  (shapeCast _ (concatenate S4x2048x4x2x64 4 [⟨S4x2048x4x2x32, (subf (mulf (extractStridedSlice S4x2048x4x2x32 ![0, 0, 0, 0, 0] (shapeCast _ (extractStridedSlice S4x2048x512 ![0, 0, 1024] P slices_S4x2048x4096_S4x2048x512_0_0_1024) shapeCasts_S4x2048x512_S4x2048x4x2x64) slices_S4x2048x4x2x64_S4x2048x4x2x32_0_0_0_0_0) (broadcastInDim S4x2048x4x2x32 ![0, 1, 2, 3, 4] bcast_S1x2048x1x1x32_S4x2048x4x2x32_0_1_2_3_4 (shapeCast _ (Host.cos rAng32) shapeCasts_S2048x32_S1x2048x1x1x32))) (mulf (extractStridedSlice S4x2048x4x2x32 ![0, 0, 0, 0, 32] (shapeCast _ (extractStridedSlice S4x2048x512 ![0, 0, 1024] P slices_S4x2048x4096_S4x2048x512_0_0_1024) shapeCasts_S4x2048x512_S4x2048x4x2x64) slices_S4x2048x4x2x64_S4x2048x4x2x32_0_0_0_0_32) (broadcastInDim S4x2048x4x2x32 ![0, 1, 2, 3, 4] bcast_S1x2048x1x1x32_S4x2048x4x2x32_0_1_2_3_4 (shapeCast _ (Host.sin rAng32) shapeCasts_S2048x32_S1x2048x1x1x32))))⟩, ⟨S4x2048x4x2x32, (addf (mulf (extractStridedSlice S4x2048x4x2x32 ![0, 0, 0, 0, 32] (shapeCast _ (extractStridedSlice S4x2048x512 ![0, 0, 1024] P slices_S4x2048x4096_S4x2048x512_0_0_1024) shapeCasts_S4x2048x512_S4x2048x4x2x64) slices_S4x2048x4x2x64_S4x2048x4x2x32_0_0_0_0_32) (broadcastInDim S4x2048x4x2x32 ![0, 1, 2, 3, 4] bcast_S1x2048x1x1x32_S4x2048x4x2x32_0_1_2_3_4 (shapeCast _ (Host.cos rAng32) shapeCasts_S2048x32_S1x2048x1x1x32))) (mulf (extractStridedSlice S4x2048x4x2x32 ![0, 0, 0, 0, 0] (shapeCast _ (extractStridedSlice S4x2048x512 ![0, 0, 1024] P slices_S4x2048x4096_S4x2048x512_0_0_1024) shapeCasts_S4x2048x512_S4x2048x4x2x64) slices_S4x2048x4x2x64_S4x2048x4x2x32_0_0_0_0_0) (broadcastInDim S4x2048x4x2x32 ![0, 1, 2, 3, 4] bcast_S1x2048x1x1x32_S4x2048x4x2x32_0_1_2_3_4 (shapeCast _ (Host.sin rAng32) shapeCasts_S2048x32_S1x2048x1x1x32))))⟩] concatenates_S4x2048x4x2x32_S4x2048x4x2x32_S4x2048x4x2x64_d4) shapeCasts_S4x2048x4x2x64_S8192x512)

/-- Of the projection, the second kind's rotated keys. -/
def rKb (P : FVec Ideal S4x2048x4096 .f32) : FVec Ideal S8192x512 .f32 :=
  (shapeCast _ (concatenate S4x2048x4x128 3 [⟨S4x2048x4x64, (subf (mulf (extractStridedSlice S4x2048x4x64 ![0, 0, 0, 0] (shapeCast _ (extractStridedSlice S4x2048x512 ![0, 0, 3072] P slices_S4x2048x4096_S4x2048x512_0_0_3072) shapeCasts_S4x2048x512_S4x2048x4x128) slices_S4x2048x4x128_S4x2048x4x64_0_0_0_0) (broadcastInDim S4x2048x4x64 ![0, 1, 2, 3] bcast_S1x2048x1x64_S4x2048x4x64_0_1_2_3 (shapeCast _ (Host.cos rAng64) shapeCasts_S2048x64_S1x2048x1x64))) (mulf (extractStridedSlice S4x2048x4x64 ![0, 0, 0, 64] (shapeCast _ (extractStridedSlice S4x2048x512 ![0, 0, 3072] P slices_S4x2048x4096_S4x2048x512_0_0_3072) shapeCasts_S4x2048x512_S4x2048x4x128) slices_S4x2048x4x128_S4x2048x4x64_0_0_0_64) (broadcastInDim S4x2048x4x64 ![0, 1, 2, 3] bcast_S1x2048x1x64_S4x2048x4x64_0_1_2_3 (shapeCast _ (Host.sin rAng64) shapeCasts_S2048x64_S1x2048x1x64))))⟩, ⟨S4x2048x4x64, (addf (mulf (extractStridedSlice S4x2048x4x64 ![0, 0, 0, 64] (shapeCast _ (extractStridedSlice S4x2048x512 ![0, 0, 3072] P slices_S4x2048x4096_S4x2048x512_0_0_3072) shapeCasts_S4x2048x512_S4x2048x4x128) slices_S4x2048x4x128_S4x2048x4x64_0_0_0_64) (broadcastInDim S4x2048x4x64 ![0, 1, 2, 3] bcast_S1x2048x1x64_S4x2048x4x64_0_1_2_3 (shapeCast _ (Host.cos rAng64) shapeCasts_S2048x64_S1x2048x1x64))) (mulf (extractStridedSlice S4x2048x4x64 ![0, 0, 0, 0] (shapeCast _ (extractStridedSlice S4x2048x512 ![0, 0, 3072] P slices_S4x2048x4096_S4x2048x512_0_0_3072) shapeCasts_S4x2048x512_S4x2048x4x128) slices_S4x2048x4x128_S4x2048x4x64_0_0_0_0) (broadcastInDim S4x2048x4x64 ![0, 1, 2, 3] bcast_S1x2048x1x64_S4x2048x4x64_0_1_2_3 (shapeCast _ (Host.sin rAng64) shapeCasts_S2048x64_S1x2048x1x64))))⟩] concatenates_S4x2048x4x64_S4x2048x4x64_S4x2048x4x128_d3) shapeCasts_S4x2048x4x128_S8192x512)

/-- Of the projection, the first kind's values. -/
def rVa (P : FVec Ideal S4x2048x4096 .f32) : FVec Ideal S8192x512 .f32 :=
  (shapeCast _ (extractStridedSlice S4x2048x512 ![0, 0, 1536] P slices_S4x2048x4096_S4x2048x512_0_0_1536) shapeCasts_S4x2048x512_S8192x512)

/-- Of the projection, the second kind's values. -/
def rVb (P : FVec Ideal S4x2048x4096 .f32) : FVec Ideal S8192x512 .f32 :=
  (shapeCast _ (extractStridedSlice S4x2048x512 ![0, 0, 3584] P slices_S4x2048x4096_S4x2048x512_0_0_3584) shapeCasts_S4x2048x512_S8192x512)

/-- The reference's result as one term of its three arguments. -/
def REF (X : FVec Ideal S4x2048x2048 .f32) (G : FVec Ideal S2048 .f32) (W : FVec Ideal S2x2048x4096 .f32) : FVec Ideal S8192x4096 .f32 :=
  concatenate S8192x4096 1 [⟨S8192x1024, (rQa (rProj X G W))⟩, ⟨S8192x1024, (rQb (rProj X G W))⟩, ⟨S8192x512, (rKa (rProj X G W))⟩, ⟨S8192x512, (rKb (rProj X G W))⟩, ⟨S8192x512, (rVa (rProj X G W))⟩, ⟨S8192x512, (rVb (rProj X G W))⟩] concatenates_S8192x1024_S8192x1024_S8192x512_S8192x512_S8192x512_S8192x512_S8192x4096_d1

/-- One row normalised: each entry over the root mean square of the row, times the gain. -/
def nrm (y g : Fin 2048 → EReal) (l : Fin 2048) : EReal :=
  y l * Ideal.rsqrt (Ideal.div (∑ k, y k * y k) (Ideal.ofBits FTy.f32 1157627904#32) + Ideal.ofBits FTy.f32 897988541#32) * g l

/-- The angle of lane `d` at position `t`: the position times the exponential of the lane's number times a rate. -/
def ang (w : BitVec 32) (t d : ℕ) : EReal :=
  FloatOps.sitofp (F := Ideal) FTy.f32 (BitVec.ofNat 32 t) * Ideal.exp (FloatOps.sitofp (F := Ideal) FTy.f32 (BitVec.ofNat 32 d) * Ideal.ofBits FTy.f32 w)

/-- Lane `l` of a row turned by the position's angles, in heads of `2 H` lanes whose two halves turn together. -/
def rope (w : BitVec 32) (H t : ℕ) (y : ℕ → EReal) (l : ℕ) : EReal :=
  if l % (2 * H) < H then y l * Ideal.cos (ang w t (l % H)) - y (l + H) * Ideal.sin (ang w t (l % H))
  else y l * Ideal.cos (ang w t (l % H)) + y (l - H) * Ideal.sin (ang w t (l % H))

/-- The reference's norm at an index. -/
theorem rNorm_at (X : FVec Ideal S4x2048x2048 .f32) (G : FVec Ideal S2048 .f32) (b : Fin 4) (r l : Fin 2048) :
    rNorm X G (ix3 b r l) = nrm (fun k => X (ix3 b r k)) (fun k => G (ix1 k)) l := by
  pointwise [rNorm, nrm]

/-- The reference's projection at an index. -/
theorem rProj_at (X : FVec Ideal S4x2048x2048 .f32) (G : FVec Ideal S2048 .f32) (W : FVec Ideal S2x2048x4096 .f32) (b : Fin 4) (r : Fin 2048) (j : Fin 4096) :
    rProj X G W (ix3 b r j) = ∑ k, nrm (fun k => X (ix3 b r k)) (fun k => G (ix1 k)) k * W (ix3 0 k j) := by
  have e : rProj X G W (ix3 b r j) = ∑ k, rNorm X G (ix3 b r k) * W (ix3 0 k j) := by
    unfold rProj
    generalize rNorm X G = Y
    pointwise
  rw [e]
  exact Finset.sum_congr rfl fun k _ => congrArg (· * _) (rNorm_at X G b r k)

/-- The reference's angles at an index. -/
theorem rAng32_at (t : Fin 2048) (d : Fin 32) : rAng32 (ix2 t d) = ang 0xBE935D8E#32 t.val d.val := by
  pointwise [rAng32, ang]

/-- The reference's angles at an index. -/
theorem rAng64_at (t : Fin 2048) (d : Fin 64) : rAng64 (ix2 t d) = ang 0xBE135D8E#32 t.val d.val := by
  pointwise [rAng64, ang]

/-- A rotated part at an index. -/
theorem rQa_at (P : FVec Ideal S4x2048x4096 .f32) (n : Fin 8192) (l : Fin 1024) :
    rQa P (ix2 n l) = rope 0xBE935D8E#32 32 (n.val % 2048)
      (fun j => P (ix3 ⟨n.val / 2048, by omega⟩ ⟨n.val % 2048, Nat.mod_lt _ (by decide)⟩ ⟨(0 + j) % 4096, Nat.mod_lt _ (by decide)⟩)) l.val := by
  unfold rQa rope
  by_cases h : l.val % 64 < 32
  · rw [if_pos h]
    pointwise [h]
    simp only [rAng32_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng32_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A rotated part at an index. -/
theorem rQb_at (P : FVec Ideal S4x2048x4096 .f32) (n : Fin 8192) (l : Fin 1024) :
    rQb P (ix2 n l) = rope 0xBE135D8E#32 64 (n.val % 2048)
      (fun j => P (ix3 ⟨n.val / 2048, by omega⟩ ⟨n.val % 2048, Nat.mod_lt _ (by decide)⟩ ⟨(2048 + j) % 4096, Nat.mod_lt _ (by decide)⟩)) l.val := by
  unfold rQb rope
  by_cases h : l.val % 128 < 64
  · rw [if_pos h]
    pointwise [h]
    simp only [rAng64_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng64_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A rotated part at an index. -/
theorem rKa_at (P : FVec Ideal S4x2048x4096 .f32) (n : Fin 8192) (l : Fin 512) :
    rKa P (ix2 n l) = rope 0xBE935D8E#32 32 (n.val % 2048)
      (fun j => P (ix3 ⟨n.val / 2048, by omega⟩ ⟨n.val % 2048, Nat.mod_lt _ (by decide)⟩ ⟨(1024 + j) % 4096, Nat.mod_lt _ (by decide)⟩)) l.val := by
  unfold rKa rope
  by_cases h : l.val % 64 < 32
  · rw [if_pos h]
    pointwise [h]
    simp only [rAng32_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng32_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A rotated part at an index. -/
theorem rKb_at (P : FVec Ideal S4x2048x4096 .f32) (n : Fin 8192) (l : Fin 512) :
    rKb P (ix2 n l) = rope 0xBE135D8E#32 64 (n.val % 2048)
      (fun j => P (ix3 ⟨n.val / 2048, by omega⟩ ⟨n.val % 2048, Nat.mod_lt _ (by decide)⟩ ⟨(3072 + j) % 4096, Nat.mod_lt _ (by decide)⟩)) l.val := by
  unfold rKb rope
  by_cases h : l.val % 128 < 64
  · rw [if_pos h]
    pointwise [h]
    simp only [rAng64_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng64_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A part of values at an index. -/
theorem rVa_at (P : FVec Ideal S4x2048x4096 .f32) (n : Fin 8192) (l : Fin 512) :
    rVa P (ix2 n l) = P (ix3 ⟨n.val / 2048, by omega⟩ ⟨n.val % 2048, Nat.mod_lt _ (by decide)⟩ ⟨(1536 + l.val) % 4096, Nat.mod_lt _ (by decide)⟩) := by
  pointwise [rVa]
  exact congrArg P (congrArg (ix3 _ _) (Fin.ext (by dsimp only; omega)))

/-- A part of values at an index. -/
theorem rVb_at (P : FVec Ideal S4x2048x4096 .f32) (n : Fin 8192) (l : Fin 512) :
    rVb P (ix2 n l) = P (ix3 ⟨n.val / 2048, by omega⟩ ⟨n.val % 2048, Nat.mod_lt _ (by decide)⟩ ⟨(3584 + l.val) % 4096, Nat.mod_lt _ (by decide)⟩) := by
  pointwise [rVb]
  exact congrArg P (congrArg (ix3 _ _) (Fin.ext (by dsimp only; omega)))

/-- One entry of the projection, by the array's row and the weights' column. -/
def proj (X : FVec Ideal S4x2048x2048 .f32) (G : FVec Ideal S2048 .f32) (W : FVec Ideal S2x2048x4096 .f32) (n : Fin 8192) (j : ℕ) : EReal :=
  ∑ k, nrm (fun k => X (ix3 ⟨n.val / 2048, by omega⟩ ⟨n.val % 2048, Nat.mod_lt _ (by decide)⟩ k)) (fun k => G (ix1 k)) k
    * W (ix3 0 k ⟨j % 4096, Nat.mod_lt _ (by decide)⟩)

/-- The result's columns from 0 to 1023. -/
theorem REF_Qa (X : FVec Ideal S4x2048x2048 .f32) (G : FVec Ideal S2048 .f32) (W : FVec Ideal S2x2048x4096 .f32) (n : Fin 8192) (l : Fin 1024) :
    REF X G W (ix2 n ⟨0 + l.val, by omega⟩) = rope 0xBE935D8E#32 32 (n.val % 2048) (fun j => proj X G W n (0 + j)) l.val := by
  have e : REF X G W (ix2 n ⟨0 + l.val, by omega⟩) = rQa (rProj X G W) (ix2 n l) := by
    unfold REF
    generalize rProj X G W = P
    generalize rQa P = p1, rQb P = p2, rKa P = p3, rKb P = p4, rVa P = p5, rVb P = p6
    pointwise
  rw [e, rQa_at]
  exact congrArg (fun f => rope _ _ _ f _) (funext fun j => rProj_at X G W _ _ _)

/-- The result's columns from 1024 to 2047. -/
theorem REF_Qb (X : FVec Ideal S4x2048x2048 .f32) (G : FVec Ideal S2048 .f32) (W : FVec Ideal S2x2048x4096 .f32) (n : Fin 8192) (l : Fin 1024) :
    REF X G W (ix2 n ⟨1024 + l.val, by omega⟩) = rope 0xBE135D8E#32 64 (n.val % 2048) (fun j => proj X G W n (2048 + j)) l.val := by
  have e : REF X G W (ix2 n ⟨1024 + l.val, by omega⟩) = rQb (rProj X G W) (ix2 n l) := by
    unfold REF
    generalize rProj X G W = P
    generalize rQa P = p1, rQb P = p2, rKa P = p3, rKb P = p4, rVa P = p5, rVb P = p6
    pointwise
  rw [e, rQb_at]
  exact congrArg (fun f => rope _ _ _ f _) (funext fun j => rProj_at X G W _ _ _)

/-- The result's columns from 2048 to 2559. -/
theorem REF_Ka (X : FVec Ideal S4x2048x2048 .f32) (G : FVec Ideal S2048 .f32) (W : FVec Ideal S2x2048x4096 .f32) (n : Fin 8192) (l : Fin 512) :
    REF X G W (ix2 n ⟨2048 + l.val, by omega⟩) = rope 0xBE935D8E#32 32 (n.val % 2048) (fun j => proj X G W n (1024 + j)) l.val := by
  have e : REF X G W (ix2 n ⟨2048 + l.val, by omega⟩) = rKa (rProj X G W) (ix2 n l) := by
    unfold REF
    generalize rProj X G W = P
    generalize rQa P = p1, rQb P = p2, rKa P = p3, rKb P = p4, rVa P = p5, rVb P = p6
    pointwise
    rw [dif_neg (by omega), dif_neg (by omega), dif_pos (by omega)]
    exact congrArg (fun l => p3 (ix2 n l)) (Fin.ext (by (try dsimp only); omega))
  rw [e, rKa_at]
  exact congrArg (fun f => rope _ _ _ f _) (funext fun j => rProj_at X G W _ _ _)

/-- The result's columns from 2560 to 3071. -/
theorem REF_Kb (X : FVec Ideal S4x2048x2048 .f32) (G : FVec Ideal S2048 .f32) (W : FVec Ideal S2x2048x4096 .f32) (n : Fin 8192) (l : Fin 512) :
    REF X G W (ix2 n ⟨2560 + l.val, by omega⟩) = rope 0xBE135D8E#32 64 (n.val % 2048) (fun j => proj X G W n (3072 + j)) l.val := by
  have e : REF X G W (ix2 n ⟨2560 + l.val, by omega⟩) = rKb (rProj X G W) (ix2 n l) := by
    unfold REF
    generalize rProj X G W = P
    generalize rQa P = p1, rQb P = p2, rKa P = p3, rKb P = p4, rVa P = p5, rVb P = p6
    pointwise
    rw [dif_neg (by omega), dif_neg (by omega), dif_neg (by omega), dif_pos (by omega)]
    exact congrArg (fun l => p4 (ix2 n l)) (Fin.ext (by (try dsimp only); omega))
  rw [e, rKb_at]
  exact congrArg (fun f => rope _ _ _ f _) (funext fun j => rProj_at X G W _ _ _)

/-- The result's columns from 3072 to 3583. -/
theorem REF_Va (X : FVec Ideal S4x2048x2048 .f32) (G : FVec Ideal S2048 .f32) (W : FVec Ideal S2x2048x4096 .f32) (n : Fin 8192) (l : Fin 512) :
    REF X G W (ix2 n ⟨3072 + l.val, by omega⟩) = proj X G W n (1536 + l.val) := by
  have e : REF X G W (ix2 n ⟨3072 + l.val, by omega⟩) = rVa (rProj X G W) (ix2 n l) := by
    unfold REF
    generalize rProj X G W = P
    generalize rQa P = p1, rQb P = p2, rKa P = p3, rKb P = p4, rVa P = p5, rVb P = p6
    pointwise
    rw [dif_neg (by omega), dif_neg (by omega), dif_neg (by omega), dif_neg (by omega), dif_pos (by omega)]
    exact congrArg (fun l => p5 (ix2 n l)) (Fin.ext (by (try dsimp only); omega))
  rw [e, rVa_at]
  exact rProj_at X G W _ _ _

/-- The result's columns from 3584 to 4095. -/
theorem REF_Vb (X : FVec Ideal S4x2048x2048 .f32) (G : FVec Ideal S2048 .f32) (W : FVec Ideal S2x2048x4096 .f32) (n : Fin 8192) (l : Fin 512) :
    REF X G W (ix2 n ⟨3584 + l.val, by omega⟩) = proj X G W n (3584 + l.val) := by
  have e : REF X G W (ix2 n ⟨3584 + l.val, by omega⟩) = rVb (rProj X G W) (ix2 n l) := by
    unfold REF
    generalize rProj X G W = P
    generalize rQa P = p1, rQb P = p2, rKa P = p3, rKb P = p4, rVa P = p5, rVb P = p6
    pointwise
    rw [dif_neg (by omega), dif_neg (by omega), dif_neg (by omega), dif_neg (by omega), dif_neg (by omega)]
    exact congrArg (fun l => p6 (ix2 n l)) (Fin.ext (by (try dsimp only); omega))
  rw [e, rVb_at]
  exact rProj_at X G W _ _ _

end Cert.QkvReferenceIdeal.Value
-- ==== Proof.QkvHost.lean ====
/-
  The operands that the projection's program makes on the host before its kernel runs: the rows of `x`, the gain, the
  weights with their columns put in the kernel's order, and the four tables of cosines and signed sines of the positions'
  angles. Each is read here at an index; a table's entry is the cosine or the sine of the angle that the reference takes at
  that position and lane, the sine with a minus sign in the first half of a head.
-/
module

public import proofs.«01_k».proof.Proof.Gen.QkvIdeal.Value
public import proofs.«01_k».proof.Proof.QkvReference
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

/-- The dimensions of a lookup of whole columns: column `b` of the result is the column of the operand that entry `b` names. -/
abbrev colDims (N C B : Nat) (wf : GatherDims.WF ⟨2, ![N, C]⟩ ⟨2, ![B, 1]⟩ ⟨2, ![N, B]⟩ [0] [1] [] [1] [] 1 ![N, 1]) :
    GatherDims ⟨2, ![N, C]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

/-- A lookup of columns at an entry: the operand's entry of the same row in the named column. -/
theorem gather_cols_at {α : Type} {N C B w : Nat} (hC : 0 < C)
    (wf : GatherDims.WF ⟨2, ![N, C]⟩ ⟨2, ![B, 1]⟩ ⟨2, ![N, B]⟩ [0] [1] [] [1] [] 1 ![N, 1])
    (x : (⟨2, ![N, C]⟩ : Shape).Idx → α) (i : IVec ⟨2, ![B, 1]⟩ w) (n : Fin N) (b : Fin B) :
    Host.gather (colDims N C B wf) x i (ix2 n b) = x (ix2 n ⟨min (i (ix2 b 0)).toInt.toNat (C - 1), by omega⟩) := by
  unfold Host.gather
  refine congrArg x (funext fun a => Fin.ext ?_)
  show (colDims N C B wf).start (ix2 n b) i a + (colDims N C B wf).batchCoord (ix2 n b) a
      + (colDims N C B wf).offCoord (ix2 n b) a = _
  rw [GatherDims.batchCoord_eq_zero _ _ _ (List.not_mem_nil)]
  have ha : a = 0 ∨ a = 1 := by
    match a with
    | ⟨0, _⟩ => exact Or.inl rfl
    | ⟨1, _⟩ => exact Or.inr rfl
  rcases ha with rfl | rfl
  · have h : ¬ (0 : Fin 2) ∈ (colDims N C B wf).startIndexMap := by simp
    unfold GatherDims.start
    rw [dif_neg h]
    have hk : (0 : Fin 2) ∈ (colDims N C B wf).sKept := (GatherDims.mem_sKept _ _).mpr ⟨by simp, by simp⟩
    unfold GatherDims.offCoord
    rw [dif_pos hk]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N C B wf).startIndexMap from List.mem_singleton.mpr rfl)]
    have hs : (colDims N C B wf).siIdx (ix2 n b) ⟨List.idxOf (1 : Fin 2) (colDims N C B wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hs]
    rfl

/-- The lanes' numbers modulo `d`, the way the host code writes a remainder of floor division. -/
def rem (d : IVec S_ 32) : IVec S128 32 :=
  select (andi (cmpi .ne (cmpi .slt (Host.remsi (iotaInDim S128 32 0) (broadcastInDim S128 ![] bcast_S_S128 (select (cmpi .eq d (constantI S_ 32 0#32)) (constantI S_ 32 1#32) d))) (broadcastInDim S128 ![] bcast_S_S128 (constantI S_ 32 0#32)))
      (broadcastInDim S128 ![] bcast_S_S128 (cmpi .slt (select (cmpi .eq d (constantI S_ 32 0#32)) (constantI S_ 32 1#32) d) (constantI S_ 32 0#32))))
      (cmpi .ne (Host.remsi (iotaInDim S128 32 0) (broadcastInDim S128 ![] bcast_S_S128 (select (cmpi .eq d (constantI S_ 32 0#32)) (constantI S_ 32 1#32) d))) (broadcastInDim S128 ![] bcast_S_S128 (constantI S_ 32 0#32))))
    (addi (Host.remsi (iotaInDim S128 32 0) (broadcastInDim S128 ![] bcast_S_S128 (select (cmpi .eq d (constantI S_ 32 0#32)) (constantI S_ 32 1#32) d))) (broadcastInDim S128 ![] bcast_S_S128 (select (cmpi .eq d (constantI S_ 32 0#32)) (constantI S_ 32 1#32) d)))
    (Host.remsi (iotaInDim S128 32 0) (broadcastInDim S128 ![] bcast_S_S128 (select (cmpi .eq d (constantI S_ 32 0#32)) (constantI S_ 32 1#32) d)))

/-- The column every lane looks up in a table of `d` columns. -/
def look (d : IVec S_ 32) : IVec S128x1 32 :=
  broadcastInDim S128x1 ![0] bcast_S128_S128x1_0 (select (cmpi .slt (rem d) (broadcastInDim S128 ![] bcast_S_S128 (constantI S_ 32 0#32)))
    (addi (rem d) (broadcastInDim S128 ![] bcast_S_S128 d)) (rem d))

/-- The sign of every lane's sine: minus in the first half of a head's lanes. -/
def sgn (d h : IVec S_ 32) : FVec Ideal S2048x128 .f32 :=
  broadcastInDim S2048x128 ![0, 1] bcast_S1x128_S2048x128_0_1 (broadcastInDim S1x128 ![1] bcast_S128_S1x128_1
    (select (cmpi .slt (rem d) (broadcastInDim S128 ![] bcast_S_S128 h))
      (broadcastInDim S128 ![] bcast_S_S128 (constant S_ .f32 0xBF800000#32)) (broadcastInDim S128 ![] bcast_S_S128 (constant S_ .f32 0x3F800000#32))))

/-- The angles of the heads of 64 lanes. -/
def ang32 : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.exp (mulf (sitofp .f32 (iotaInDim S32 32 0)) (broadcastInDim S32 ![] bcast_S_S32 (constant S_ .f32 0xBE935D8E#32))))))

/-- The angles of the heads of 128 lanes. -/
def ang64 : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.exp (mulf (sitofp .f32 (iotaInDim S64 32 0)) (broadcastInDim S64 ![] bcast_S_S64 (constant S_ .f32 0xBE135D8E#32))))))

variable (m : (ℓ : Loc nD τ sig) → Buf (Elt Ideal) ℓ)

/-- The cosines of the heads of 64 lanes. -/
theorem V_v26 (c : Dev nD) : V m c main_v26
    = Host.gather gather_S2048x32_S128x1_S2048x128_0_1_n_n_1_1_20481 (Host.cos ang32) (look (constantI S_ 32 32#32)) := by
  after_reads_simp
  rfl

/-- Their signed sines. -/
theorem V_v37 (c : Dev nD) : V m c main_v37
    = mulf (Host.gather gather_S2048x32_S128x1_S2048x128_0_1_n_n_1_1_20481 (Host.sin ang32) (look (constantI S_ 32 32#32)))
      (sgn (constantI S_ 32 64#32) (constantI S_ 32 32#32)) := by
  after_reads_simp
  rfl

/-- The cosines of the heads of 128 lanes. -/
theorem V_v61 (c : Dev nD) : V m c main_v61
    = Host.gather gather_S2048x64_S128x1_S2048x128_0_1_n_n_1_1_20481 (Host.cos ang64) (look (constantI S_ 32 64#32)) := by
  after_reads_simp
  rfl

/-- Their signed sines. -/
theorem V_v72 (c : Dev nD) : V m c main_v72
    = mulf (Host.gather gather_S2048x64_S128x1_S2048x128_0_1_n_n_1_1_20481 (Host.sin ang64) (look (constantI S_ 32 64#32)))
      (sgn (constantI S_ 32 128#32) (constantI S_ 32 64#32)) := by
  after_reads_simp
  rfl

/-- The lanes' numbers modulo 32, 64 and 128. -/
theorem rem_at (l : Fin 128) : rem (constantI S_ 32 32#32) (ix1 l) = BitVec.ofNat 32 (l.val % 32)
    ∧ rem (constantI S_ 32 64#32) (ix1 l) = BitVec.ofNat 32 (l.val % 64)
    ∧ rem (constantI S_ 32 128#32) (ix1 l) = BitVec.ofNat 32 l.val := by
  revert l
  decide +kernel

/-- The looked-up columns. -/
theorem look_at (l : Fin 128) : look (constantI S_ 32 32#32) (ix2 l 0) = BitVec.ofNat 32 (l.val % 32)
    ∧ look (constantI S_ 32 64#32) (ix2 l 0) = BitVec.ofNat 32 (l.val % 64) := by
  revert l
  decide +kernel

open Cert.QkvReferenceIdeal.Value (ang)

/-- The angles at an index. -/
theorem ang32_at (t : Fin 2048) (d : Fin 32) : ang32 (ix2 t d) = ang 0xBE935D8E#32 t.val d.val := by
  pointwise [ang32, ang]

/-- The angles at an index. -/
theorem ang64_at (t : Fin 2048) (d : Fin 64) : ang64 (ix2 t d) = ang 0xBE135D8E#32 t.val d.val := by
  pointwise [ang64, ang]

/-- Whether a lane lies in the first half of its head. -/
theorem half_at (l : Fin 128) : IntOp.cmpi CmpIPredicate.slt (rem (constantI S_ 32 64#32) (ix1 l)) 32#32 = BitVec.ofBool (decide (l.val % 64 < 32))
    ∧ IntOp.cmpi CmpIPredicate.slt (rem (constantI S_ 32 128#32) (ix1 l)) 64#32 = BitVec.ofBool (decide (l.val < 64)) := by
  revert l
  decide +kernel

/-- The signs at an index, heads of 64 lanes. -/
theorem sgn32_at (n : Fin 2048) (l : Fin 128) :
    sgn (constantI S_ 32 64#32) (constantI S_ 32 32#32) (ix2 n l) = if l.val % 64 < 32 then Ideal.ofBits FTy.f32 0xBF800000#32 else 1 := by
  pointwise [sgn]
  rw [(half_at l).1]
  by_cases h : l.val % 64 < 32 <;> simp [Scalar.select, h]

/-- The signs at an index, heads of 128 lanes. -/
theorem sgn64_at (n : Fin 2048) (l : Fin 128) :
    sgn (constantI S_ 32 128#32) (constantI S_ 32 64#32) (ix2 n l) = if l.val < 64 then Ideal.ofBits FTy.f32 0xBF800000#32 else 1 := by
  pointwise [sgn]
  rw [(half_at l).2]
  by_cases h : l.val < 64 <;> simp [Scalar.select, h]

/-- The looked-up column's number, read signed and clamped to the table. -/
theorem col_at (l : Fin 128) : min (BitVec.ofNat 32 (l.val % 32)).toInt.toNat (32 - 1) = l.val % 32
    ∧ min (BitVec.ofNat 32 (l.val % 64)).toInt.toNat (64 - 1) = l.val % 64 := by
  revert l
  decide +kernel

/-- A lookup in a table of 32 columns. -/
theorem look32_at (x : FVec Ideal S2048x32 .f32) (n : Fin 2048) (l : Fin 128) :
    Host.gather gather_S2048x32_S128x1_S2048x128_0_1_n_n_1_1_20481 x (look (constantI S_ 32 32#32)) (ix2 n l) = x (ix2 n ⟨l.val % 32, Nat.mod_lt _ (by decide)⟩) := by
  refine (gather_cols_at (by decide) _ x _ n l).trans (congrArg x (congrArg (ix2 n) (Fin.ext ?_)))
  dsimp only
  rw [(look_at l).1]
  exact (col_at l).1

/-- A lookup in a table of 64 columns. -/
theorem look64_at (x : FVec Ideal S2048x64 .f32) (n : Fin 2048) (l : Fin 128) :
    Host.gather gather_S2048x64_S128x1_S2048x128_0_1_n_n_1_1_20481 x (look (constantI S_ 32 64#32)) (ix2 n l) = x (ix2 n ⟨l.val % 64, Nat.mod_lt _ (by decide)⟩) := by
  refine (gather_cols_at (by decide) _ x _ n l).trans (congrArg x (congrArg (ix2 n) (Fin.ext ?_)))
  dsimp only
  rw [(look_at l).2]
  exact (col_at l).2

/-- The table of cosines at an index, heads of 64 lanes. -/
theorem ca_tab (c : Dev nD) (n : Fin 2048) (l : Fin 128) :
    (V m c main_v26 : FVec Ideal S2048x128 .f32) (ix2 n l) = Ideal.cos (ang 0xBE935D8E#32 n.val (l.val % 32)) := by
  refine (congrFun (V_v26 m c) _).trans ((look32_at _ n l).trans ?_)
  exact congrArg Ideal.cos (ang32_at n _)

/-- The table of signed sines at an index, heads of 64 lanes. -/
theorem sa_tab (c : Dev nD) (n : Fin 2048) (l : Fin 128) :
    (V m c main_v37 : FVec Ideal S2048x128 .f32) (ix2 n l)
      = Ideal.sin (ang 0xBE935D8E#32 n.val (l.val % 32)) * (if l.val % 64 < 32 then Ideal.ofBits FTy.f32 0xBF800000#32 else 1) := by
  refine (congrFun (V_v37 m c) _).trans (congrArg₂ (· * ·) ((look32_at _ n l).trans ?_) (sgn32_at n l))
  exact congrArg Ideal.sin (ang32_at n _)

/-- The table of cosines at an index, heads of 128 lanes. -/
theorem cb_tab (c : Dev nD) (n : Fin 2048) (l : Fin 128) :
    (V m c main_v61 : FVec Ideal S2048x128 .f32) (ix2 n l) = Ideal.cos (ang 0xBE135D8E#32 n.val (l.val % 64)) := by
  refine (congrFun (V_v61 m c) _).trans ((look64_at _ n l).trans ?_)
  exact congrArg Ideal.cos (ang64_at n _)

/-- The table of signed sines at an index, heads of 128 lanes. -/
theorem sb_tab (c : Dev nD) (n : Fin 2048) (l : Fin 128) :
    (V m c main_v72 : FVec Ideal S2048x128 .f32) (ix2 n l)
      = Ideal.sin (ang 0xBE135D8E#32 n.val (l.val % 64)) * (if l.val < 64 then Ideal.ofBits FTy.f32 0xBF800000#32 else 1) := by
  refine (congrFun (V_v72 m c) _).trans (congrArg₂ (· * ·) ((look64_at _ n l).trans ?_) (sgn64_at n l))
  exact congrArg Ideal.sin (ang64_at n _)

/-- The rows of `x` in their buffer. -/
theorem V_v0 (c : Dev nD) : V m c main_v0
    = shapeCast S8192x2048 (m ((c : Thread nD τ).loc main_arg0)) shapeCasts_S4x2048x2048_S8192x2048 := by
  after_reads_simp
  rfl

/-- The gain in its buffer. -/
theorem V_v81 (c : Dev nD) : V m c main_v81
    = shapeCast S1x2048 (m ((c : Thread nD τ).loc main_arg1)) shapeCasts_S2048_S1x2048 := by
  after_reads_simp
  rfl

/-- The weights with their columns put in the kernel's order. -/
def WT (W : FVec Ideal S2x2048x4096 .f32) : FVec Ideal S2x2048x4096 .bf16 :=
  truncf FTy.bf16 (concatenate S2x2048x4096 2
    [⟨S2x2048x1024, extractStridedSlice S2x2048x1024 ![0, 0, 0] W slices_S2x2048x4096_S2x2048x1024_0_0_0⟩,
      ⟨S2x2048x1024, extractStridedSlice S2x2048x1024 ![0, 0, 2048] W slices_S2x2048x4096_S2x2048x1024_0_0_2048⟩,
      ⟨S2x2048x512, extractStridedSlice S2x2048x512 ![0, 0, 1024] W slices_S2x2048x4096_S2x2048x512_0_0_1024⟩,
      ⟨S2x2048x512, extractStridedSlice S2x2048x512 ![0, 0, 3072] W slices_S2x2048x4096_S2x2048x512_0_0_3072⟩,
      ⟨S2x2048x512, extractStridedSlice S2x2048x512 ![0, 0, 1536] W slices_S2x2048x4096_S2x2048x512_0_0_1536⟩,
      ⟨S2x2048x512, extractStridedSlice S2x2048x512 ![0, 0, 3584] W slices_S2x2048x4096_S2x2048x512_0_0_3584⟩]
    concatenates_S2x2048x1024_S2x2048x1024_S2x2048x512_S2x2048x512_S2x2048x512_S2x2048x512_S2x2048x4096_d2) bitsLt_bf16_f32

/-- Equal pieces have equal concatenations. -/
theorem cat_congr {u0 v0 u1 v1 : FVec Ideal S2x2048x1024 .f32} {u2 v2 u3 v3 u4 v4 u5 v5 : FVec Ideal S2x2048x512 .f32}
    (e0 : u0 = v0) (e1 : u1 = v1) (e2 : u2 = v2) (e3 : u3 = v3) (e4 : u4 = v4) (e5 : u5 = v5) :
    concatenate S2x2048x4096 2 [⟨S2x2048x1024, u0⟩, ⟨S2x2048x1024, u1⟩, ⟨S2x2048x512, u2⟩, ⟨S2x2048x512, u3⟩, ⟨S2x2048x512, u4⟩, ⟨S2x2048x512, u5⟩]
        concatenates_S2x2048x1024_S2x2048x1024_S2x2048x512_S2x2048x512_S2x2048x512_S2x2048x512_S2x2048x4096_d2
      = concatenate S2x2048x4096 2 [⟨S2x2048x1024, v0⟩, ⟨S2x2048x1024, v1⟩, ⟨S2x2048x512, v2⟩, ⟨S2x2048x512, v3⟩, ⟨S2x2048x512, v4⟩, ⟨S2x2048x512, v5⟩]
        concatenates_S2x2048x1024_S2x2048x1024_S2x2048x512_S2x2048x512_S2x2048x512_S2x2048x512_S2x2048x4096_d2 := by
  subst e0 e1 e2 e3 e4 e5
  rfl

/-- The weights in their buffer. -/
theorem V_v80 (c : Dev nD) : V m c main_v80 = WT (m ((c : Thread nD τ).loc main_arg2)) := by
  after_reads_simp
  unfold WT
  refine congrArg (fun v => truncf (F := Ideal) FTy.bf16 v bitsLt_bf16_f32) (cat_congr ?_ ?_ ?_ ?_ ?_ ?_)
  · show StableHlo.upto _ _ 183 (Proc.tc.devRef main_v73) = _
    after_reads_simp
  · show StableHlo.upto _ _ 183 (Proc.tc.devRef main_v76) = _
    after_reads_simp
  · show StableHlo.upto _ _ 183 (Proc.tc.devRef main_v74) = _
    after_reads_simp
  · show StableHlo.upto _ _ 183 (Proc.tc.devRef main_v77) = _
    after_reads_simp
  · show StableHlo.upto _ _ 183 (Proc.tc.devRef main_v75) = _
    after_reads_simp
  · show StableHlo.upto _ _ 183 (Proc.tc.devRef main_v78) = _
    after_reads_simp

/-- The weights' column that the kernel's column `j` is. -/
def perm (j : ℕ) : ℕ :=
  if j < 1024 then j else if j < 2048 then j + 1024 else if j < 2560 then j - 1024 else if j < 3072 then j + 512
    else if j < 3584 then j - 1536 else j

/-- The reordered weights at an index. -/
theorem WT_at (W : FVec Ideal S2x2048x4096 .f32) (i : Fin 2) (k : Fin 2048) (j : Fin 4096) :
    WT W (ix3 i k j) = W (ix3 i k ⟨perm j.val % 4096, Nat.mod_lt _ (by decide)⟩) := by
  pointwise [WT]
  unfold perm
  by_cases h1 : j.val < 1024
  · rw [dif_pos h1]
    exact congrArg W (congrArg (ix3 i k) (Fin.ext (by dsimp only; rw [if_pos h1]; omega)))
  by_cases h2 : j.val < 2048
  · rw [dif_neg h1, dif_pos (by omega)]
    exact congrArg W (congrArg (ix3 i k) (Fin.ext (by dsimp only; rw [if_neg h1, if_pos h2]; omega)))
  by_cases h3 : j.val < 2560
  · rw [dif_neg h1, dif_neg (by omega), dif_pos (by omega)]
    exact congrArg W (congrArg (ix3 i k) (Fin.ext (by dsimp only; rw [if_neg h1, if_neg h2, if_pos h3]; omega)))
  by_cases h4 : j.val < 3072
  · rw [dif_neg h1, dif_neg (by omega), dif_neg (by omega), dif_pos (by omega)]
    exact congrArg W (congrArg (ix3 i k) (Fin.ext (by dsimp only; rw [if_neg h1, if_neg h2, if_neg h3, if_pos h4]; omega)))
  by_cases h5 : j.val < 3584
  · rw [dif_neg h1, dif_neg (by omega), dif_neg (by omega), dif_neg (by omega), dif_pos (by omega)]
    exact congrArg W (congrArg (ix3 i k) (Fin.ext (by dsimp only; rw [if_neg h1, if_neg h2, if_neg h3, if_neg h4, if_pos h5]; omega)))
  · rw [dif_neg h1, dif_neg (by omega), dif_neg (by omega), dif_neg (by omega), dif_neg (by omega)]
    exact congrArg W (congrArg (ix3 i k) (Fin.ext (by dsimp only; rw [if_neg h1, if_neg h2, if_neg h3, if_neg h4, if_neg h5]; omega)))

end Cert.QkvIdeal.Value
-- ==== Proof.QkvStaged.lean ====
/-
What the projection stages at each of its 64 points, and what its scratch buffer holds.

  Eight row tiles of 1024 rows, eight column tiles of 512 columns; a row tile lies in one half of a sequence. The first
  point of a row tile normalises the rows into the scratch buffer, the seven others find them there.

    x_at, g_at, w_at          the staged rows, gain and columns as entries of the arguments;
    ca_at, sa_at, cb_at, sb_at the staged tables as cosines and signed sines of the position's angle;
    scratch_norm              the scratch buffer holds the normalised rows at every point.
-/
module

public import proofs.«01_k».proof.Proof.Gen.QkvIdeal.Value
public import proofs.«01_k».proof.Proof.QkvHost
public import Idealize.ShloMosaic.Lib.Pipeline.ValueKit
public import Idealize.ShloMosaic.Lib.Pipeline.ReadBack
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen
open Cert.QkvReferenceIdeal.Value (ang nrm rope proj)

variable (m : (ℓ : Loc nD τ sig) → Buf (Elt Ideal) ℓ)

/-- The windows' block indices at every point: row tile `t / 8`, column tile `t % 8`; the tables repeat after two row tiles. -/
theorem idx : ∀ t : Fin cfg0.N, win0_0.index t = ![t.val / 8, 0] ∧ win0_1.index t = ![0, 0] ∧ win0_2.index t = ![0, 0, t.val % 8]
    ∧ win0_3.index t = ![t.val / 8 % 2, 0] ∧ win0_4.index t = ![t.val / 8 % 2, 0] ∧ win0_5.index t = ![t.val / 8 % 2, 0]
    ∧ win0_6.index t = ![t.val / 8 % 2, 0] ∧ win0_7.index t = ![t.val / 8, t.val % 8] ∧ t.val < 64 :=
  (by decide +kernel : ∀ t : Fin grid0.N, _)

/-- The point's number is below 64. -/
theorem lt64 (t : Fin cfg0.N) : t.val < 64 := (idx t).2.2.2.2.2.2.2.2

/-- The rows as one matrix. -/
theorem x_tab (X : FVec Ideal S4x2048x2048 .f32) (n : Fin 8192) (k : Fin 2048) :
    shapeCast S8192x2048 X shapeCasts_S4x2048x2048_S8192x2048 (ix2 n k)
      = X (ix3 ⟨n.val / 2048, by omega⟩ ⟨n.val % 2048, Nat.mod_lt _ (by decide)⟩ k) := by
  pointwise

/-- The staged rows of `x`. -/
theorem x_at (c : Dev nD) (t : Fin cfg0.N) (r : Fin 1024) (k : Fin 2048) :
    (iblk m c 0 t : FVec Ideal S1024x2048 .f32) (ix2 r k) = (m ((c : Thread nD τ).loc main_arg0) : FVec Ideal S4x2048x2048 .f32)
      (ix3 ⟨(t.val / 8 * 1024 + r.val) / 2048, by have := lt64 t; omega⟩ ⟨(t.val / 8 * 1024 + r.val) % 2048, Nat.mod_lt _ (by decide)⟩ k) := by
  have h := idx t
  refine Eq.trans ?_ (x_tab (m ((c : Thread nD τ).loc main_arg0)) ⟨t.val / 8 * 1024 + r.val, by have := lt64 t; omega⟩ k)
  blk_simp [iblk]
  refine (congrFun (V_v0 m c) _).trans ?_
  refine congrArg _ ?_
  blk_ext [h]

/-- The staged gain. -/
theorem g_at (c : Dev nD) (t : Fin cfg0.N) (k : Fin 2048) :
    (iblk m c 1 t : FVec Ideal S1x2048 .f32) (ix2 0 k) = (m ((c : Thread nD τ).loc main_arg1) : FVec Ideal S2048 .f32) (ix1 k) := by
  have h := idx t
  blk_simp [iblk]
  refine (congrFun (V_v81 m c) _).trans ?_
  pointwise
  blk_ext [h]

/-- The staged weights: 512 columns of the first layer's, in the kernel's order. -/
theorem w_at (c : Dev nD) (t : Fin cfg0.N) (k : Fin 2048) (l : Fin 512) :
    (iblk m c 2 t : FVec Ideal S1x2048x512 .bf16) (ix3 0 k l) = (m ((c : Thread nD τ).loc main_arg2) : FVec Ideal S2x2048x4096 .f32)
      (ix3 0 k ⟨perm (t.val % 8 * 512 + l.val) % 4096, Nat.mod_lt _ (by decide)⟩) := by
  have h := idx t
  refine Eq.trans ?_ (WT_at (m ((c : Thread nD τ).loc main_arg2)) 0 k ⟨t.val % 8 * 512 + l.val, by omega⟩)
  blk_simp [iblk]
  refine (congrFun (V_v80 m c) _).trans ?_
  refine congrArg _ ?_
  blk_ext [h]

/-- The staged cosines, heads of 64 lanes. -/
theorem ca_at (c : Dev nD) (t : Fin cfg0.N) (r : Fin 1024) (l : Fin 128) :
    (iblk m c 3 t : FVec Ideal S1024x128 .f32) (ix2 r l) = Ideal.cos (ang 0xBE935D8E#32 (t.val / 8 % 2 * 1024 + r.val) (l.val % 32)) := by
  have h := idx t
  refine Eq.trans ?_ (ca_tab m c ⟨t.val / 8 % 2 * 1024 + r.val, by omega⟩ l)
  blk_simp [iblk]
  refine congrArg (V m c main_v26) ?_
  blk_ext [h]

/-- The staged signed sines, heads of 64 lanes. -/
theorem sa_at (c : Dev nD) (t : Fin cfg0.N) (r : Fin 1024) (l : Fin 128) :
    (iblk m c 4 t : FVec Ideal S1024x128 .f32) (ix2 r l) = Ideal.sin (ang 0xBE935D8E#32 (t.val / 8 % 2 * 1024 + r.val) (l.val % 32)) * (if l.val % 64 < 32 then Ideal.ofBits FTy.f32 0xBF800000#32 else 1) := by
  have h := idx t
  refine Eq.trans ?_ (sa_tab m c ⟨t.val / 8 % 2 * 1024 + r.val, by omega⟩ l)
  blk_simp [iblk]
  refine congrArg (V m c main_v37) ?_
  blk_ext [h]

/-- The staged cosines, heads of 128 lanes. -/
theorem cb_at (c : Dev nD) (t : Fin cfg0.N) (r : Fin 1024) (l : Fin 128) :
    (iblk m c 5 t : FVec Ideal S1024x128 .f32) (ix2 r l) = Ideal.cos (ang 0xBE135D8E#32 (t.val / 8 % 2 * 1024 + r.val) (l.val % 64)) := by
  have h := idx t
  refine Eq.trans ?_ (cb_tab m c ⟨t.val / 8 % 2 * 1024 + r.val, by omega⟩ l)
  blk_simp [iblk]
  refine congrArg (V m c main_v61) ?_
  blk_ext [h]

/-- The staged signed sines, heads of 128 lanes. -/
theorem sb_at (c : Dev nD) (t : Fin cfg0.N) (r : Fin 1024) (l : Fin 128) :
    (iblk m c 6 t : FVec Ideal S1024x128 .f32) (ix2 r l) = Ideal.sin (ang 0xBE135D8E#32 (t.val / 8 % 2 * 1024 + r.val) (l.val % 64)) * (if l.val < 64 then Ideal.ofBits FTy.f32 0xBF800000#32 else 1) := by
  have h := idx t
  refine Eq.trans ?_ (sb_tab m c ⟨t.val / 8 % 2 * 1024 + r.val, by omega⟩ l)
  blk_simp [iblk]
  refine congrArg (V m c main_v72) ?_
  blk_ext [h]

/-- Within a row tile the staged rows stay. -/
theorem iblk0_prev (c : Dev nD) (t : Fin cfg0.N) (h : ¬t.val % 8 = 0) :
    (iblk m c 0 ⟨t.val - 1, Nat.lt_of_le_of_lt (Nat.sub_le _ _) t.isLt⟩ : FVec Ideal S1024x2048 .f32) = iblk m c 0 t := by
  have hd : (t.val - 1) / 8 = t.val / 8 := by omega
  refine funext fun (y : S1024x2048.Idx) => ?_
  rw [eq_ix2 y]
  refine (x_at m c _ (y 0) (y 1)).trans (Eq.trans ?_ (x_at m c t (y 0) (y 1)).symm)
  simp only [hd]

/-- The staged gain stays. -/
theorem iblk1_prev (c : Dev nD) (t : Fin cfg0.N) :
    (iblk m c 1 ⟨t.val - 1, Nat.lt_of_le_of_lt (Nat.sub_le _ _) t.isLt⟩ : FVec Ideal S1x2048 .f32) = iblk m c 1 t := by
  refine funext fun (y : S1x2048.Idx) => ?_
  rw [eq_ix2 y]
  obtain h0 : y 0 = (0 : Fin 1) := Fin.ext (Nat.lt_one_iff.mp (y 0).isLt)
  rw [h0]
  exact (g_at m c _ (y 1)).trans (g_at m c t (y 1)).symm

/-- At every point the scratch buffer holds the normalised rows of the point's row tile. -/
theorem scratch_norm (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    rw [outsAt0_A m c ⟨0, h⟩ rfl (by simp) (by simp) (by simp)]
    frame_out
  | succ n ih =>
    intro h
    by_cases h0 : (n + 1) % 8 = 0
    · rw [outsAt0_A m c ⟨n + 1, h⟩ h0 (by dsimp only; omega) (by dsimp only; omega) (by dsimp only; omega)]
      frame_out
    · have key := ih (Nat.lt_of_succ_lt h)
      have e0 := iblk0_prev m c ⟨n + 1, h⟩ h0
      have e1 := iblk1_prev m c ⟨n + 1, h⟩
      have hc : ((n + 1) % 8 = 0 ∨ (n + 1) % 8 = 1 ∨ (n + 1) % 8 = 4) ∨ ((n + 1) % 8 = 2 ∨ (n + 1) % 8 = 3 ∨ (n + 1) % 8 = 5) ∨ 6 ≤ (n + 1) % 8 := by omega
      rcases hc with hc | hc | hc
      · rw [outsAt0_B m c ⟨n + 1, h⟩ h0 hc (by dsimp only; omega) (by dsimp only; omega)]
        frame_out
        exact key.trans (by rw [← e0, ← e1]; rfl)
      · rw [outsAt0_C m c ⟨n + 1, h⟩ h0 (by dsimp only; omega) hc (by dsimp only; omega)]
        frame_out
        exact key.trans (by rw [← e0, ← e1]; rfl)
      · rw [outsAt0_D m c ⟨n + 1, h⟩ h0 (by dsimp only; omega) (by dsimp only; omega) hc]
        frame_out
        exact key.trans (by rw [← e0, ← e1]; rfl)

/-- The normalised rows, entrywise. -/
theorem pay1_at (x : FVec Ideal S1024x2048 .f32) (g : FVec Ideal S1x2048 .f32) (r : Fin 1024) (k : Fin 2048) :
    k0_pay1 (F := Ideal) x g (ix2 r k) = nrm (fun k => x (ix2 r k)) (fun k => g (ix2 0 k)) k := by
  pointwise [k0_pay1, nrm]

end Cert.QkvIdeal.Value
-- ==== Proof.QkvTiles.lean ====
/-
The four stores of a rotated column tile, entrywise.

  A rotated lane is its own product with the row times a cosine plus its partner's times a signed sine; the partner is
  half a head up for a lane of the first half and half a head down for one of the second. The kernel finds the partner by
  turning 128 lanes round: both ways and a choice for heads of 64 lanes, one way for heads of 128.

    tile       the rotated lane;
    row, rowF  a row's product with one column of 256, or of 512;
    pay…_at    each store is `tile` of the products of its own 128 columns;
    turn       and `tile` at the staged tables is the reference's rotation.
-/
module

public import proofs.«01_k».proof.Proof.Gen.QkvIdeal.Value
public import proofs.«01_k».proof.Proof.QkvHost
public import Idealize.ShloMosaic.Lib.Pipeline.ValueKit
public import Idealize.ShloMosaic.Lib.Pipeline.ReadBack
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen
open Cert.QkvReferenceIdeal.Value (ang nrm rope proj)

/-- A rotated lane: its value times the cosine plus its partner's times the signed sine. -/
def tile (H : ℕ) (y : ℕ → EReal) (l : ℕ) (ca sa : EReal) : EReal :=
  y l * ca + (if l % (2 * H) < H then y (l + H) else y (l - H)) * sa

/-- Row `r` times one column of 256. -/
def row (xn : FVec Ideal S1024x2048 .bf16) (w : FVec Ideal S1x2048x256 .bf16) (r : Fin 1024) (j : ℕ) : EReal :=
  ∑ k : Fin 2048, xn (ix2 r k) * w (ix3 0 k ⟨j % 256, Nat.mod_lt _ (by decide)⟩)

/-- Row `r` times one column of 512. -/
def rowF (xn : FVec Ideal S1024x2048 .bf16) (w : FVec Ideal S1x2048x512 .bf16) (r : Fin 1024) (j : ℕ) : EReal :=
  ∑ k : Fin 2048, xn (ix2 r k) * w (ix3 0 k ⟨j % 512, Nat.mod_lt _ (by decide)⟩)

/-- The two loads of half a column tile. -/
theorem ld_at (X : FVec Ideal S1x2048x512 .bf16) (k : Fin 2048) (l : Fin 256) :
    (View.ld (Val := Elt Ideal) (e' := .bf16) X (Rect.unit ![0, 0, 0] ![1, 2048, 256] inb_S1x2048x512_S1x2048x256_0_0_0) : FVec Ideal S1x2048x256 .bf16) (ix3 0 k l) = X (ix3 0 k ⟨l.val, by omega⟩)
    ∧ (View.ld (Val := Elt Ideal) (e' := .bf16) X (Rect.unit ![0, 0, 256] ![1, 2048, 256] inb_S1x2048x512_S1x2048x256_0_0_256) : FVec Ideal S1x2048x256 .bf16) (ix3 0 k l) = X (ix3 0 k ⟨256 + l.val, by omega⟩) := by
  refine ⟨?_, ?_⟩ <;> (pointwise; try rfl)

/-- A product with a column of the first loaded half. -/
theorem row_lo (xn : FVec Ideal S1024x2048 .bf16) (X : FVec Ideal S1x2048x512 .bf16) (r : Fin 1024) (j : ℕ) (hj : j < 256) :
    row xn (View.ld (Val := Elt Ideal) (e' := .bf16) X (Rect.unit ![0, 0, 0] ![1, 2048, 256] inb_S1x2048x512_S1x2048x256_0_0_0) : FVec Ideal S1x2048x256 .bf16) r j = rowF xn X r j := by
  refine Finset.sum_congr rfl fun k _ => congrArg (xn (ix2 r k) * ·) ?_
  refine (ld_at X k _).1.trans (congrArg (fun a => X (ix3 0 k a)) (Fin.ext ?_))
  show j % 256 = j % 512
  omega

/-- A product with a column of the second loaded half. -/
theorem row_hi (xn : FVec Ideal S1024x2048 .bf16) (X : FVec Ideal S1x2048x512 .bf16) (r : Fin 1024) (j : ℕ) (hj : j < 256) :
    row xn (View.ld (Val := Elt Ideal) (e' := .bf16) X (Rect.unit ![0, 0, 256] ![1, 2048, 256] inb_S1x2048x512_S1x2048x256_0_0_256) : FVec Ideal S1x2048x256 .bf16) r j = rowF xn X r (256 + j) := by
  refine Finset.sum_congr rfl fun k _ => congrArg (xn (ix2 r k) * ·) ?_
  refine (ld_at X k _).2.trans (congrArg (fun a => X (ix3 0 k a)) (Fin.ext ?_))
  show 256 + j % 256 = (256 + j) % 512
  omega

/-- The mask of the first half of each head of 64 lanes. -/
theorem pay6_at (r : Fin 1024) (l : Fin 128) : k0_pay6 (ix2 r l) = BitVec.ofBool (decide (l.val % 64 < 32)) := by
  pointwise [k0_pay6]
  revert l
  decide +kernel

variable (xn : FVec Ideal S1024x2048 .bf16) (w : FVec Ideal S1x2048x256 .bf16) (ca sa : FVec Ideal S1024x128 .f32) (r : Fin 1024) (l : Fin 128)

/-- Equal indices of a sum of products. -/
theorem row_ix (a : Fin 256) (j : ℕ) (h : a.val = j % 256) : (∑ k : Fin 2048, xn (ix2 r k) * w (ix3 0 k a)) = row xn w r j := by
  obtain rfl : a = ⟨j % 256, Nat.mod_lt _ (by decide)⟩ := Fin.ext h
  rfl

/-- The first store, heads of 64 lanes. -/
theorem pay8_at : k0_pay8 (F := Ideal) xn w ca sa (ix2 r l) = tile 32 (row xn w r) l.val (ca (ix2 r l)) (sa (ix2 r l)) := by
  pointwise [k0_pay8, k0_pay7, pay6_at]
  rw [row_ix xn w r _ l.val (by show l.val = _; omega), tile]
  by_cases h : l.val % 64 < 32
  · rw [if_pos h, if_pos h, row_ix xn w r _ (l.val + 32) (by show (l.val + 128 - 96) % 128 = _; omega)]
  · rw [if_neg h, if_neg h, row_ix xn w r _ (l.val - 32) (by show (l.val + 128 - 32) % 128 = _; omega)]

/-- The third store, heads of 64 lanes. -/
theorem pay13_at : k0_pay13 (F := Ideal) k0_pay6 xn w ca sa (ix2 r l) = tile 32 (row xn w r) l.val (ca (ix2 r l)) (sa (ix2 r l)) := by
  pointwise [k0_pay13, k0_pay12, pay6_at]
  rw [row_ix xn w r _ l.val (by show l.val = _; omega), tile]
  by_cases h : l.val % 64 < 32
  · rw [if_pos h, if_pos h, row_ix xn w r _ (l.val + 32) (by show (l.val + 128 - 96) % 128 = _; omega)]
  · rw [if_neg h, if_neg h, row_ix xn w r _ (l.val - 32) (by show (l.val + 128 - 32) % 128 = _; omega)]

/-- The second store, heads of 64 lanes. -/
theorem pay11_at : k0_pay11 (F := Ideal) k0_pay6 (k0_pay9 xn w) (k0_pay10 xn w) ca sa (ix2 r l)
    = tile 32 (row xn w r) (128 + l.val) (ca (ix2 r l)) (sa (ix2 r l)) := by
  pointwise [k0_pay11, k0_pay10, k0_pay9, k0_pay7, pay6_at]
  rw [row_ix xn w r _ (128 + l.val) (by show 128 + l.val = _; omega), tile]
  by_cases h : l.val % 64 < 32
  · have h' : (128 + l.val) % (2 * 32) < 32 := by omega
    rw [if_pos h, if_pos h', row_ix xn w r _ (128 + l.val + 32) (by show 128 + (l.val + 128 - 96) % 128 = _; omega)]
  · have h' : ¬(128 + l.val) % (2 * 32) < 32 := by omega
    rw [if_neg h, if_neg h', row_ix xn w r _ (128 + l.val - 32) (by show 128 + (l.val + 128 - 32) % 128 = _; omega)]

/-- The fourth store, heads of 64 lanes. -/
theorem pay2_at : k0_pay2 (F := Ideal) (k0_pay15 k0_pay6 xn w) (k0_pay16 xn w ca) sa (ix2 r l)
    = tile 32 (row xn w r) (128 + l.val) (ca (ix2 r l)) (sa (ix2 r l)) := by
  pointwise [k0_pay2, k0_pay15, k0_pay16, k0_pay14, k0_pay12, pay6_at]
  rw [row_ix xn w r _ (128 + l.val) (by show 128 + l.val = _; omega), tile]
  by_cases h : l.val % 64 < 32
  · have h' : (128 + l.val) % (2 * 32) < 32 := by omega
    rw [if_pos h, if_pos h', row_ix xn w r _ (128 + l.val + 32) (by show 128 + (l.val + 128 - 96) % 128 = _; omega)]
  · have h' : ¬(128 + l.val) % (2 * 32) < 32 := by omega
    rw [if_neg h, if_neg h', row_ix xn w r _ (128 + l.val - 32) (by show 128 + (l.val + 128 - 32) % 128 = _; omega)]

/-- The first store, heads of 128 lanes. -/
theorem pay18_at : k0_pay18 (F := Ideal) xn w ca sa (ix2 r l) = tile 64 (row xn w r) l.val (ca (ix2 r l)) (sa (ix2 r l)) := by
  pointwise [k0_pay18, k0_pay17]
  rw [row_ix xn w r _ l.val (by show l.val = _; omega), tile]
  by_cases h : l.val % (2 * 64) < 64
  · rw [if_pos h, row_ix xn w r _ (l.val + 64) (by show (l.val + 128 - 64) % 128 = _; omega)]
  · rw [if_neg h, row_ix xn w r _ (l.val - 64) (by show (l.val + 128 - 64) % 128 = _; omega)]

/-- The second store, heads of 128 lanes. -/
theorem pay19_at : k0_pay19 (F := Ideal) xn w ca sa (ix2 r l) = tile 64 (row xn w r) (128 + l.val) (ca (ix2 r l)) (sa (ix2 r l)) := by
  pointwise [k0_pay19, k0_pay17]
  rw [row_ix xn w r _ (128 + l.val) (by show 128 + l.val = _; omega), tile]
  by_cases h : (128 + l.val) % (2 * 64) < 64
  · rw [if_pos h, row_ix xn w r _ (128 + l.val + 64) (by show 128 + (l.val + 128 - 64) % 128 = _; omega)]
  · rw [if_neg h, row_ix xn w r _ (128 + l.val - 64) (by show 128 + (l.val + 128 - 64) % 128 = _; omega)]

/-- The third store, heads of 128 lanes. -/
theorem pay3_at : k0_pay3 (F := Ideal) (k0_pay21 xn w) (k0_pay22 xn w) ca sa (ix2 r l)
    = tile 64 (row xn w r) l.val (ca (ix2 r l)) (sa (ix2 r l)) := by
  pointwise [k0_pay3, k0_pay21, k0_pay22, k0_pay20]
  rw [row_ix xn w r _ l.val (by show l.val = _; omega), tile]
  by_cases h : l.val % (2 * 64) < 64
  · rw [if_pos h, row_ix xn w r _ (l.val + 64) (by show (l.val + 128 - 64) % 128 = _; omega)]
  · rw [if_neg h, row_ix xn w r _ (l.val - 64) (by show (l.val + 128 - 64) % 128 = _; omega)]

/-- The fourth store, heads of 128 lanes. -/
theorem pay4_at : k0_pay4 (F := Ideal) (k0_pay20 xn w) ca sa (ix2 r l)
    = tile 64 (row xn w r) (128 + l.val) (ca (ix2 r l)) (sa (ix2 r l)) := by
  pointwise [k0_pay4, k0_pay20]
  rw [row_ix xn w r _ (128 + l.val) (by show 128 + l.val = _; omega), tile]
  by_cases h : (128 + l.val) % (2 * 64) < 64
  · rw [if_pos h, row_ix xn w r _ (128 + l.val + 64) (by show 128 + (l.val + 128 - 64) % 128 = _; omega)]
  · rw [if_neg h, row_ix xn w r _ (128 + l.val - 64) (by show 128 + (l.val + 128 - 64) % 128 = _; omega)]

/-- The values' columns are stored as they are. -/
theorem pay5_at (W : FVec Ideal S1x2048x512 .bf16) (j : Fin 512) : k0_pay5 (F := Ideal) xn W (ix2 r j) = rowF xn W r j.val := by
  pointwise [k0_pay5, rowF]
  simp only [Nat.mod_eq_of_lt j.isLt]

/-- `tile` reads its column and the partner's only. -/
theorem tile_congr (H : ℕ) (y y' : ℕ → EReal) (a b : ℕ) (ca sa : EReal) (h : a % (2 * H) = b % (2 * H)) (h0 : y a = y' b)
    (h1 : a % (2 * H) < H → y (a + H) = y' (b + H)) (h2 : ¬a % (2 * H) < H → y (a - H) = y' (b - H)) :
    tile H y a ca sa = tile H y' b ca sa := by
  unfold tile
  rw [h0, ← h]
  by_cases hc : a % (2 * H) < H
  · rw [if_pos hc, if_pos hc, h1 hc]
  · rw [if_neg hc, if_neg hc, h2 hc]

/-- Columns moved by a multiple of 128: partners lie in the same 128 columns, so both move alike. -/
theorem tile_piece (H : ℕ) (hH : H = 32 ∨ H = 64) (y y' : ℕ → EReal) (q : ℕ) (hq : 128 ∣ q) (b : ℕ) (hb : 128 ∣ b) (a : ℕ) (ha : a < b)
    (hy : ∀ j < b, y j = y' (q + j)) (ca sa : EReal) : tile H y a ca sa = tile H y' (q + a) ca sa := by
  rcases hH with rfl | rfl
  · refine tile_congr 32 y y' a (q + a) ca sa (by omega) (hy a ha) (fun h => ?_) (fun h => ?_)
    · rw [hy (a + 32) (by omega), Nat.add_assoc]
    · rw [hy (a - 32) (by omega), show q + (a - 32) = q + a - 32 by omega]
  · refine tile_congr 64 y y' a (q + a) ca sa (by omega) (hy a ha) (fun h => ?_) (fun h => ?_)
    · rw [hy (a + 64) (by omega), Nat.add_assoc]
    · rw [hy (a - 64) (by omega), show q + (a - 64) = q + a - 64 by omega]

/-- The f32 pattern `0xBF800000` is minus one. -/
theorem ofBits_neg_one_f32 : Ideal.ofBits FTy.f32 0xBF800000#32 = -1 := by
  have e : Ideal.ofBits FTy.f32 0xBF800000#32 = ((-(1 : ℝ)) : EReal) := by
    simp [Ideal.ofBits, Ideal.ieee, -EReal.coe_mul, -EReal.coe_neg]; norm_num
  exact e

/-- A tile at cosine and signed sine is the rotation. -/
theorem turn (b : BitVec 32) (H t : ℕ) (y : ℕ → EReal) (l : ℕ) (c s : EReal) (hc : c = Ideal.cos (ang b t (l % H)))
    (hs : s = Ideal.sin (ang b t (l % H)) * (if l % (2 * H) < H then Ideal.ofBits FTy.f32 0xBF800000#32 else 1)) :
    tile H y l c s = rope b H t y l := by
  subst hc hs
  unfold tile rope
  by_cases h : l % (2 * H) < H
  · rw [if_pos h, if_pos h, if_pos h, ofBits_neg_one_f32, mul_neg, mul_one, mul_neg, sub_eq_add_neg]
  · rw [if_neg h, if_neg h, if_neg h, mul_one]

end Cert.QkvIdeal.Value
-- ==== Proof.QkvValue.lean ====
/-
The projection's result, entrywise, is the reference's: every point writes its block.

    pointA … pointD   what each kind of point writes: `tile` of the row's products with the staged columns, or for the
                      values the products themselves;
    row_ref           such a product is the reference's projection at the column the staged one came from;
    rotA, rotB        so a rotated tile is the reference's rotation;
    point, final      and the written array is the reference's.
-/
module

public import proofs.«01_k».proof.Proof.Gen.QkvIdeal.Value
public import proofs.«01_k».proof.Proof.QkvStaged
public import proofs.«01_k».proof.Proof.QkvTiles
public import proofs.«01_k».proof.Proof.QkvHost
public import Idealize.ShloMosaic.Lib.Pipeline.ValueKit
public import Idealize.ShloMosaic.Lib.Pipeline.ReadBack
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen
open Cert.QkvReferenceIdeal.Value (ang nrm rope proj)

variable (m : (ℓ : Loc nD τ sig) → Buf (Elt Ideal) ℓ)

/-- A piece's own index, from its two coordinates. -/
theorem piece_ix (x : S1024x128.Idx) (r : Fin 1024) (l : Fin 128) (h0 : r.val = (x 0).val) (h1 : l.val = (x 1).val) : x = ix2 r l := by
  funext a
  match a with
  | ⟨0, _⟩ => exact Fin.ext h0.symm
  | ⟨1, _⟩ => exact Fin.ext h1.symm

/-- The first column tile: the point that normalises the rows. -/
theorem pointA (c : Dev nD) (t : Fin cfg0.N) (h0 : t.val % 8 = 0) (r : Fin 1024) (l : Fin 512) :
    (outsAt0 m c t.val t.isLt).1 (ix2 r l) = tile 32 (rowF (k0_pay1 (iblk m c 0 t) (iblk m c 1 t)) (iblk m c 2 t) r) l.val
      ((iblk m c 3 t : FVec Ideal S1024x128 .f32) (ix2 r ⟨l.val % 128, Nat.mod_lt _ (by decide)⟩))
      ((iblk m c 4 t : FVec Ideal S1024x128 .f32) (ix2 r ⟨l.val % 128, Nat.mod_lt _ (by decide)⟩)) := by
  rw [outsAt0_A m c t h0 (by omega) (by omega) (by omega)]
  frame_out
  canon_tiles x h
  · obtain ⟨l', rfl, hl⟩ : ∃ l' : Fin 128, x = ix2 r l' ∧ l.val = 256 + (128 + l'.val) :=
      ⟨x 1, piece_ix x r (x 1) h0 rfl, by have e : l.val = 384 + (x 1).val := h1; show l.val = 256 + (128 + (x 1).val); omega⟩
    have e : (⟨l.val % 128, Nat.mod_lt _ (by decide)⟩ : Fin 128) = l' := Fin.ext (by show l.val % 128 = l'.val; omega)
    rw [e, hl]
    exact (pay2_at _ _ _ _ r l').trans (tile_piece 32 (.inl rfl) _ _ 256 (by decide) 256 (by decide) (128 + l'.val) (by omega)
      (fun j hj => row_hi _ _ r j hj) _ _)
  · obtain ⟨l', rfl, hl⟩ : ∃ l' : Fin 128, x = ix2 r l' ∧ l.val = 256 + (l'.val) :=
      ⟨x 1, piece_ix x r (x 1) h0 rfl, by have e : l.val = 256 + (x 1).val := h1; show l.val = 256 + ((x 1).val); omega⟩
    have e : (⟨l.val % 128, Nat.mod_lt _ (by decide)⟩ : Fin 128) = l' := Fin.ext (by show l.val % 128 = l'.val; omega)
    rw [e, hl]
    exact (pay13_at _ _ _ _ r l').trans (tile_piece 32 (.inl rfl) _ _ 256 (by decide) 256 (by decide) (l'.val) (by omega)
      (fun j hj => row_hi _ _ r j hj) _ _)
  · obtain ⟨l', rfl, hl⟩ : ∃ l' : Fin 128, x = ix2 r l' ∧ l.val = 0 + (128 + l'.val) :=
      ⟨x 1, piece_ix x r (x 1) h0 rfl, by have e : l.val = 128 + (x 1).val := h1; show l.val = 0 + (128 + (x 1).val); omega⟩
    have e : (⟨l.val % 128, Nat.mod_lt _ (by decide)⟩ : Fin 128) = l' := Fin.ext (by show l.val % 128 = l'.val; omega)
    rw [e, hl]
    exact (pay11_at _ _ _ _ r l').trans (tile_piece 32 (.inl rfl) _ _ 0 (by decide) 256 (by decide) (128 + l'.val) (by omega)
      (fun j hj => (row_lo _ _ r j hj).trans (by rw [Nat.zero_add])) _ _)
  · obtain ⟨l', rfl, hl⟩ : ∃ l' : Fin 128, x = ix2 r l' ∧ l.val = 0 + (l'.val) :=
      ⟨x 1, piece_ix x r (x 1) h0 rfl, by have e : l.val = (x 1).val := h1; show l.val = 0 + ((x 1).val); omega⟩
    have e : (⟨l.val % 128, Nat.mod_lt _ (by decide)⟩ : Fin 128) = l' := Fin.ext (by show l.val % 128 = l'.val; omega)
    rw [e, hl]
    exact (pay8_at _ _ _ _ r l').trans (tile_piece 32 (.inl rfl) _ _ 0 (by decide) 256 (by decide) (l'.val) (by omega)
      (fun j hj => (row_lo _ _ r j hj).trans (by rw [Nat.zero_add])) _ _)

/-- The other column tiles of heads of 64 lanes. -/
theorem pointB (c : Dev nD) (t : Fin cfg0.N) (g0 : ¬t.val % 8 = 0) (g1 : t.val % 8 = 0 ∨ t.val % 8 = 1 ∨ t.val % 8 = 4) (r : Fin 1024) (l : Fin 512) :
    (outsAt0 m c t.val t.isLt).1 (ix2 r l) = tile 32 (rowF (k0_pay1 (iblk m c 0 t) (iblk m c 1 t)) (iblk m c 2 t) r) l.val
      ((iblk m c 3 t : FVec Ideal S1024x128 .f32) (ix2 r ⟨l.val % 128, Nat.mod_lt _ (by decide)⟩))
      ((iblk m c 4 t : FVec Ideal S1024x128 .f32) (ix2 r ⟨l.val % 128, Nat.mod_lt _ (by decide)⟩)) := by
  rw [outsAt0_B m c t g0 g1 (by omega) (by omega)]
  frame_out
  simp only [scratch_norm m c (t.val - 1), iblk0_prev m c t g0, iblk1_prev m c t, Memref.IsWhole.read_unread, read_unread_whole]
  canon_tiles x h
  · obtain ⟨l', rfl, hl⟩ : ∃ l' : Fin 128, x = ix2 r l' ∧ l.val = 256 + (128 + l'.val) :=
      ⟨x 1, piece_ix x r (x 1) h0 rfl, by have e : l.val = 384 + (x 1).val := h1; show l.val = 256 + (128 + (x 1).val); omega⟩
    have e : (⟨l.val % 128, Nat.mod_lt _ (by decide)⟩ : Fin 128) = l' := Fin.ext (by show l.val % 128 = l'.val; omega)
    rw [e, hl]
    exact (pay2_at _ _ _ _ r l').trans (tile_piece 32 (.inl rfl) _ _ 256 (by decide) 256 (by decide) (128 + l'.val) (by omega)
      (fun j hj => row_hi _ _ r j hj) _ _)
  · obtain ⟨l', rfl, hl⟩ : ∃ l' : Fin 128, x = ix2 r l' ∧ l.val = 256 + (l'.val) :=
      ⟨x 1, piece_ix x r (x 1) h0 rfl, by have e : l.val = 256 + (x 1).val := h1; show l.val = 256 + ((x 1).val); omega⟩
    have e : (⟨l.val % 128, Nat.mod_lt _ (by decide)⟩ : Fin 128) = l' := Fin.ext (by show l.val % 128 = l'.val; omega)
    rw [e, hl]
    exact (pay13_at _ _ _ _ r l').trans (tile_piece 32 (.inl rfl) _ _ 256 (by decide) 256 (by decide) (l'.val) (by omega)
      (fun j hj => row_hi _ _ r j hj) _ _)
  · obtain ⟨l', rfl, hl⟩ : ∃ l' : Fin 128, x = ix2 r l' ∧ l.val = 0 + (128 + l'.val) :=
      ⟨x 1, piece_ix x r (x 1) h0 rfl, by have e : l.val = 128 + (x 1).val := h1; show l.val = 0 + (128 + (x 1).val); omega⟩
    have e : (⟨l.val % 128, Nat.mod_lt _ (by decide)⟩ : Fin 128) = l' := Fin.ext (by show l.val % 128 = l'.val; omega)
    rw [e, hl]
    exact (pay11_at _ _ _ _ r l').trans (tile_piece 32 (.inl rfl) _ _ 0 (by decide) 256 (by decide) (128 + l'.val) (by omega)
      (fun j hj => (row_lo _ _ r j hj).trans (by rw [Nat.zero_add])) _ _)
  · obtain ⟨l', rfl, hl⟩ : ∃ l' : Fin 128, x = ix2 r l' ∧ l.val = 0 + (l'.val) :=
      ⟨x 1, piece_ix x r (x 1) h0 rfl, by have e : l.val = (x 1).val := h1; show l.val = 0 + ((x 1).val); omega⟩
    have e : (⟨l.val % 128, Nat.mod_lt _ (by decide)⟩ : Fin 128) = l' := Fin.ext (by show l.val % 128 = l'.val; omega)
    rw [e, hl]
    exact (pay8_at _ _ _ _ r l').trans (tile_piece 32 (.inl rfl) _ _ 0 (by decide) 256 (by decide) (l'.val) (by omega)
      (fun j hj => (row_lo _ _ r j hj).trans (by rw [Nat.zero_add])) _ _)

/-- The column tiles of heads of 128 lanes. -/
theorem pointC (c : Dev nD) (t : Fin cfg0.N) (g0 : ¬t.val % 8 = 0) (g1 : ¬(t.val % 8 = 0 ∨ t.val % 8 = 1 ∨ t.val % 8 = 4))
   (g2 : t.val % 8 = 2 ∨ t.val % 8 = 3 ∨ t.val % 8 = 5) (r : Fin 1024) (l : Fin 512) :
    (outsAt0 m c t.val t.isLt).1 (ix2 r l) = tile 64 (rowF (k0_pay1 (iblk m c 0 t) (iblk m c 1 t)) (iblk m c 2 t) r) l.val
      ((iblk m c 5 t : FVec Ideal S1024x128 .f32) (ix2 r ⟨l.val % 128, Nat.mod_lt _ (by decide)⟩))
      ((iblk m c 6 t : FVec Ideal S1024x128 .f32) (ix2 r ⟨l.val % 128, Nat.mod_lt _ (by decide)⟩)) := by
  rw [outsAt0_C m c t g0 g1 g2 (by omega)]
  frame_out
  simp only [scratch_norm m c (t.val - 1), iblk0_prev m c t g0, iblk1_prev m c t, Memref.IsWhole.read_unread, read_unread_whole]
  canon_tiles x h
  · obtain ⟨l', rfl, hl⟩ : ∃ l' : Fin 128, x = ix2 r l' ∧ l.val = 256 + (128 + l'.val) :=
      ⟨x 1, piece_ix x r (x 1) h0 rfl, by have e : l.val = 384 + (x 1).val := h1; show l.val = 256 + (128 + (x 1).val); omega⟩
    have e : (⟨l.val % 128, Nat.mod_lt _ (by decide)⟩ : Fin 128) = l' := Fin.ext (by show l.val % 128 = l'.val; omega)
    rw [e, hl]
    exact (pay4_at _ _ _ _ r l').trans (tile_piece 64 (.inr rfl) _ _ 256 (by decide) 256 (by decide) (128 + l'.val) (by omega)
      (fun j hj => row_hi _ _ r j hj) _ _)
  · obtain ⟨l', rfl, hl⟩ : ∃ l' : Fin 128, x = ix2 r l' ∧ l.val = 256 + (l'.val) :=
      ⟨x 1, piece_ix x r (x 1) h0 rfl, by have e : l.val = 256 + (x 1).val := h1; show l.val = 256 + ((x 1).val); omega⟩
    have e : (⟨l.val % 128, Nat.mod_lt _ (by decide)⟩ : Fin 128) = l' := Fin.ext (by show l.val % 128 = l'.val; omega)
    rw [e, hl]
    exact (pay3_at _ _ _ _ r l').trans (tile_piece 64 (.inr rfl) _ _ 256 (by decide) 256 (by decide) (l'.val) (by omega)
      (fun j hj => row_hi _ _ r j hj) _ _)
  · obtain ⟨l', rfl, hl⟩ : ∃ l' : Fin 128, x = ix2 r l' ∧ l.val = 0 + (128 + l'.val) :=
      ⟨x 1, piece_ix x r (x 1) h0 rfl, by have e : l.val = 128 + (x 1).val := h1; show l.val = 0 + (128 + (x 1).val); omega⟩
    have e : (⟨l.val % 128, Nat.mod_lt _ (by decide)⟩ : Fin 128) = l' := Fin.ext (by show l.val % 128 = l'.val; omega)
    rw [e, hl]
    exact (pay19_at _ _ _ _ r l').trans (tile_piece 64 (.inr rfl) _ _ 0 (by decide) 256 (by decide) (128 + l'.val) (by omega)
      (fun j hj => (row_lo _ _ r j hj).trans (by rw [Nat.zero_add])) _ _)
  · obtain ⟨l', rfl, hl⟩ : ∃ l' : Fin 128, x = ix2 r l' ∧ l.val = 0 + (l'.val) :=
      ⟨x 1, piece_ix x r (x 1) h0 rfl, by have e : l.val = (x 1).val := h1; show l.val = 0 + ((x 1).val); omega⟩
    have e : (⟨l.val % 128, Nat.mod_lt _ (by decide)⟩ : Fin 128) = l' := Fin.ext (by show l.val % 128 = l'.val; omega)
    rw [e, hl]
    exact (pay18_at _ _ _ _ r l').trans (tile_piece 64 (.inr rfl) _ _ 0 (by decide) 256 (by decide) (l'.val) (by omega)
      (fun j hj => (row_lo _ _ r j hj).trans (by rw [Nat.zero_add])) _ _)

/-- The column tiles of the values. -/
theorem pointD (c : Dev nD) (t : Fin cfg0.N) (g3 : 6 ≤ t.val % 8) (r : Fin 1024) (l : Fin 512) :
    (outsAt0 m c t.val t.isLt).1 (ix2 r l) = rowF (k0_pay1 (iblk m c 0 t) (iblk m c 1 t)) (iblk m c 2 t) r l.val := by
  rw [outsAt0_D m c t (by omega) (by omega) (by omega) g3]
  frame_out
  simp only [scratch_norm m c (t.val - 1), iblk0_prev m c t (by omega), iblk1_prev m c t, Memref.IsWhole.read_unread, read_unread_whole]
  exact pay5_at _ r _ l

/-- A row's product with a staged column is the reference's projection at the column it came from. -/
theorem row_ref (c : Dev nD) (t : Fin cfg0.N) (r : Fin 1024) (j : ℕ) (hj : j < 512) :
    rowF (k0_pay1 (iblk m c 0 t) (iblk m c 1 t)) (iblk m c 2 t) r j
      = proj (m ((c : Thread nD τ).loc main_arg0)) (m ((c : Thread nD τ).loc main_arg1)) (m ((c : Thread nD τ).loc main_arg2)) ⟨t.val / 8 * 1024 + r.val, by have := lt64 t; omega⟩ (perm (t.val % 8 * 512 + j)) := by
  refine Finset.sum_congr rfl fun k _ => ?_
  refine congrArg₂ (· * ·) ?_ ?_
  · refine (pay1_at _ _ r k).trans ?_
    exact congrArg₂ (fun y g => nrm y g k) (funext fun k => x_at m c t r k) (funext fun k => g_at m c t k)
  · refine (w_at m c t k _).trans ?_
    show _ = (_ : FVec Ideal S2x2048x4096 .f32) _
    simp only [Nat.mod_eq_of_lt hj]

/-- A column tile of heads of 64 lanes is the reference's rotation of its columns. -/
theorem rotA (c : Dev nD) (t : Fin cfg0.N) (r : Fin 1024) (l : Fin 512) (o q : ℕ) (hq : 128 ∣ q)
    (hy : ∀ j < 512, perm (t.val % 8 * 512 + j) = o + (q + j)) :
    tile 32 (rowF (k0_pay1 (iblk m c 0 t) (iblk m c 1 t)) (iblk m c 2 t) r) l.val
      ((iblk m c 3 t : FVec Ideal S1024x128 .f32) (ix2 r ⟨l.val % 128, Nat.mod_lt _ (by decide)⟩))
      ((iblk m c 4 t : FVec Ideal S1024x128 .f32) (ix2 r ⟨l.val % 128, Nat.mod_lt _ (by decide)⟩))
    = rope 0xBE935D8E#32 32 ((t.val / 8 * 1024 + r.val) % 2048) (fun j => proj (m ((c : Thread nD τ).loc main_arg0)) (m ((c : Thread nD τ).loc main_arg1)) (m ((c : Thread nD τ).loc main_arg2)) ⟨t.val / 8 * 1024 + r.val, by have := lt64 t; omega⟩ (o + j)) (q + l.val) := by
  refine (tile_piece 32 (.inl rfl) _ (fun j => proj (m ((c : Thread nD τ).loc main_arg0)) (m ((c : Thread nD τ).loc main_arg1)) (m ((c : Thread nD τ).loc main_arg2)) ⟨t.val / 8 * 1024 + r.val, by have := lt64 t; omega⟩ (o + j)) q hq 512 (by decide) l.val l.isLt
    (fun j hj => (row_ref m c t r j hj).trans (by rw [hy j hj])) _ _).trans ?_
  have e : t.val / 8 % 2 * 1024 + r.val = (t.val / 8 * 1024 + r.val) % 2048 := by omega
  refine turn _ 32 _ _ _ _ _ (((ca_at m c t r _).trans ?_)) ((sa_at m c t r _).trans ?_)
  · rw [e]
    show Ideal.cos (ang _ _ (l.val % 128 % 32)) = _
    rw [show l.val % 128 % 32 = (q + l.val) % 32 by omega]
  · rw [e]
    show Ideal.sin (ang _ _ (l.val % 128 % 32)) * (if l.val % 128 % 64 < 32 then _ else _) = _
    rw [show l.val % 128 % 32 = (q + l.val) % 32 by omega, show l.val % 128 % 64 = (q + l.val) % (2 * 32) by omega]

/-- A column tile of heads of 128 lanes is the reference's rotation of its columns. -/
theorem rotB (c : Dev nD) (t : Fin cfg0.N) (r : Fin 1024) (l : Fin 512) (o q : ℕ) (hq : 128 ∣ q)
    (hy : ∀ j < 512, perm (t.val % 8 * 512 + j) = o + (q + j)) :
    tile 64 (rowF (k0_pay1 (iblk m c 0 t) (iblk m c 1 t)) (iblk m c 2 t) r) l.val
      ((iblk m c 5 t : FVec Ideal S1024x128 .f32) (ix2 r ⟨l.val % 128, Nat.mod_lt _ (by decide)⟩))
      ((iblk m c 6 t : FVec Ideal S1024x128 .f32) (ix2 r ⟨l.val % 128, Nat.mod_lt _ (by decide)⟩))
    = rope 0xBE135D8E#32 64 ((t.val / 8 * 1024 + r.val) % 2048) (fun j => proj (m ((c : Thread nD τ).loc main_arg0)) (m ((c : Thread nD τ).loc main_arg1)) (m ((c : Thread nD τ).loc main_arg2)) ⟨t.val / 8 * 1024 + r.val, by have := lt64 t; omega⟩ (o + j)) (q + l.val) := by
  refine (tile_piece 64 (.inr rfl) _ (fun j => proj (m ((c : Thread nD τ).loc main_arg0)) (m ((c : Thread nD τ).loc main_arg1)) (m ((c : Thread nD τ).loc main_arg2)) ⟨t.val / 8 * 1024 + r.val, by have := lt64 t; omega⟩ (o + j)) q hq 512 (by decide) l.val l.isLt
    (fun j hj => (row_ref m c t r j hj).trans (by rw [hy j hj])) _ _).trans ?_
  have e : t.val / 8 % 2 * 1024 + r.val = (t.val / 8 * 1024 + r.val) % 2048 := by omega
  refine turn _ 64 _ _ _ _ _ (((cb_at m c t r _).trans ?_)) ((sb_at m c t r _).trans ?_)
  · rw [e]
    show Ideal.cos (ang _ _ (l.val % 128 % 64)) = _
    rw [show l.val % 128 % 64 = (q + l.val) % 64 by omega]
  · rw [e]
    show Ideal.sin (ang _ _ (l.val % 128 % 64)) * (if l.val % 128 < 64 then _ else _) = _
    rw [show l.val % 128 % 64 = (q + l.val) % 64 by omega, show l.val % 128 = (q + l.val) % (2 * 64) by omega]

/-- Every point writes the reference's block. -/
theorem point (c : Dev nD) (t : Fin cfg0.N) (r : Fin 1024) (l : Fin 512) :
    (outsAt0 m c t.val t.isLt).1 (ix2 r l)
      = Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ ⟨t.val % 8 * 512 + l.val, by omega⟩) := by
  have hc : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases hc with h | h | h | h | h | h | h | h
  · refine (pointA m c t h r l).trans ((rotA m c t r l 0 0 (by decide) (fun j hj => by unfold perm; split_ifs <;> omega)).trans ?_)
    exact (Cert.QkvReferenceIdeal.Value.REF_Qa _ _ _ _ ⟨0 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 0 + (0 + l.val); omega))).symm
  · refine (pointB m c t (by omega) (by omega) r l).trans ((rotA m c t r l 0 512 (by decide) (fun j hj => by unfold perm; split_ifs <;> omega)).trans ?_)
    exact (Cert.QkvReferenceIdeal.Value.REF_Qa _ _ _ _ ⟨512 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 0 + (512 + l.val); omega))).symm
  · refine (pointC m c t (by omega) (by omega) (by omega) r l).trans ((rotB m c t r l 2048 0 (by decide) (fun j hj => by unfold perm; split_ifs <;> omega)).trans ?_)
    exact (Cert.QkvReferenceIdeal.Value.REF_Qb _ _ _ _ ⟨0 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 1024 + (0 + l.val); omega))).symm
  · refine (pointC m c t (by omega) (by omega) (by omega) r l).trans ((rotB m c t r l 2048 512 (by decide) (fun j hj => by unfold perm; split_ifs <;> omega)).trans ?_)
    exact (Cert.QkvReferenceIdeal.Value.REF_Qb _ _ _ _ ⟨512 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 1024 + (512 + l.val); omega))).symm
  · refine (pointB m c t (by omega) (by omega) r l).trans ((rotA m c t r l 1024 0 (by decide) (fun j hj => by unfold perm; split_ifs <;> omega)).trans ?_)
    exact (Cert.QkvReferenceIdeal.Value.REF_Ka _ _ _ _ ⟨0 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 2048 + (0 + l.val); omega))).symm
  · refine (pointC m c t (by omega) (by omega) (by omega) r l).trans ((rotB m c t r l 3072 0 (by decide) (fun j hj => by unfold perm; split_ifs <;> omega)).trans ?_)
    exact (Cert.QkvReferenceIdeal.Value.REF_Kb _ _ _ _ ⟨0 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 2560 + (0 + l.val); omega))).symm
  · refine (pointD m c t (by omega) r l).trans (((row_ref m c t r l.val l.isLt).trans (congrArg (proj (m ((c : Thread nD τ).loc main_arg0)) (m ((c : Thread nD τ).loc main_arg1)) (m ((c : Thread nD τ).loc main_arg2)) ⟨t.val / 8 * 1024 + r.val, by have := lt64 t; omega⟩) (show perm (t.val % 8 * 512 + l.val) = 1536 + (0 + l.val) by unfold perm; split_ifs <;> omega))).trans ?_)
    exact (Cert.QkvReferenceIdeal.Value.REF_Va _ _ _ _ ⟨0 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 3072 + (0 + l.val); omega))).symm
  · refine (pointD m c t (by omega) r l).trans (((row_ref m c t r l.val l.isLt).trans (congrArg (proj (m ((c : Thread nD τ).loc main_arg0)) (m ((c : Thread nD τ).loc main_arg1)) (m ((c : Thread nD τ).loc main_arg2)) ⟨t.val / 8 * 1024 + r.val, by have := lt64 t; omega⟩) (show perm (t.val % 8 * 512 + l.val) = 3584 + (0 + l.val) by unfold perm; split_ifs <;> omega))).trans ?_)
    exact (Cert.QkvReferenceIdeal.Value.REF_Vb _ _ _ _ ⟨0 + l.val, by omega⟩).symm.trans (congrArg (fun a => Cert.QkvReferenceIdeal.Value.REF (m ((c : Thread nD τ).loc main_arg0)) (m ((c : Thread nD τ).loc main_arg1)) (m ((c : Thread nD τ).loc main_arg2)) (ix2 ⟨t.val / 8 * 1024 + r.val, by have := lt64 t; omega⟩ a)) (Fin.ext (by show t.val % 8 * 512 + l.val = 3584 + (0 + l.val); omega))).symm

/-- The result array after the run is the reference's term of the three arguments. -/
theorem final (c : Dev nD) : (dats m 0 c).arrAt 7 cfg0.N = Cert.QkvReferenceIdeal.Value.REF (m ((c : Thread nD τ).loc main_arg0)) (m ((c : Thread nD τ).loc main_arg1)) (m ((c : Thread nD τ).loc main_arg2)) := by
  refine (dats m 0 c).arrAt_eq_of_covers 7 _ (by decide +kernel) fun t hf y => ?_
  have hW := (idx t).2.2.2.2.2.2.2.1
  blk_simp
  rw [after0_7]
  have ey : y = (ix2 (y 0) (y 1) : S1024x512.Idx) := eq_ix2 y
  refine (congrArg (outsAt0 m c t.val t.isLt).1 ey).trans ((point m c t (y 0) (y 1)).trans ?_)
  refine congrArg _ ?_
  blk_ext [hW]

end Cert.QkvIdeal.Value
-- ==== Proof.QkvClaims.lean ====
/-
  The claims about the q/k/v projection: the frames of the kernel at both instances and of the reference, the
  idealization, and the equality of the two results over the extended reals (Proof/QkvValue.lean has the mathematics).
-/
module

public import proofs.«01_k».proof.Defs
public import proofs.«01_k».proof.Proof.QkvValue
public import proofs.«01_k».proof.Proof.Gen.Qkv.Frame
public import Idealize.ShloMosaic.Lib.Claim
public import Idealize.ShloMosaic.Lib.Quiescent
public import Idealize.ShloMosaic.Adequacy

@[expose] public section

set_option maxRecDepth 16384

noncomputable section

namespace Cert.QkvClaims

open Idealize.ShloMosaic Idealize.SL.Sem

/-- The reference runs and leaves its arguments unchanged. -/
theorem frame_ri : Cert.quiescent_QkvReferenceIdeal (hQkvReferenceIdeal := Cert.QkvReferenceIdeal.Gen.facts) := by
  intro m g _
  exact (θ_run _ _ _).mono (fun r h => ⟨fun c => (h c).2, sem_eq_zero_of_no_sems (sig := Cert.QkvReferenceIdeal.sig) rfl r.2⟩)
    (Cert.QkvReferenceIdeal.Value.run m g)

/-- Kernel and reference end with equal results over the extended reals, for every argument. -/
theorem algebraic : Cert.algebraic_QkvIdeal_QkvReferenceIdeal (hQkvIdeal := Cert.QkvIdeal.Gen.facts) (hQkvReferenceIdeal := Cert.QkvReferenceIdeal.Gen.facts) := by
  pair_intro
  · run_from Cert.QkvIdeal.Gen.run_main m g
    exacts [Cert.QkvIdeal.Gen.V_main_arg0 m c, Cert.QkvIdeal.Gen.V_main_arg1 m c, Cert.QkvIdeal.Gen.V_main_arg2 m c]
  · run_from Cert.QkvReferenceIdeal.Value.run m' g'
    obtain ⟨e0, e1, e2⟩ := hagree c
    refine Eq.trans ?_ (Cert.QkvIdeal.Value.final m c).symm
    rw [← e0, ← e1, ← e2]
    rfl

end Cert.QkvClaims

end
-- ==== Proof.OutProjValue.lean ====
/-
  The VALUE of the output projection's program: its result array equals, over the extended reals, the reference's
  `x + concatenate([oa, ob]) @ w_out`, for every argument. The grid is 16 row tiles of 512 rows; each point writes one.

    point   the written block is the reference's block: the 2048 summands are cut where the two head groups meet;
    final   and the array is the reference's.
-/
module

public import proofs.«01_k».proof.Proof.Gen.OutProjIdeal.Value
public import proofs.«01_k».proof.Proof.Gen.OutProjReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjReferenceIdeal.Value

open Cert.OutProjReferenceIdeal Cert.OutProjReferenceIdeal.Gen

/-- The reference's result as one term of its four arguments. -/
def REF (X : FVec Ideal S4x2048x2048 .f32) (A B : FVec Ideal S4x2048x1024 .bf16) (W : FVec Ideal S2x2048x2048 .f32) :
    FVec Ideal S8192x2048 .f32 :=
  shapeCast _ (addf X (Host.dotGeneral dot_S4x2048x2048_S2048x2048_S4x2048x2048_2_0_01_1_n_n none
    (concatenate S4x2048x2048 2 [⟨S4x2048x1024, (extf .f32 A bitsLt_bf16_f32)⟩, ⟨S4x2048x1024, (extf .f32 B bitsLt_bf16_f32)⟩]
      concatenates_S4x2048x1024_S4x2048x1024_S4x2048x2048_d2)
    (shapeCast S2048x2048 (extractStridedSlice S1x2048x2048 ![0, 0, 0] W slices_S2x2048x2048_S1x2048x2048_0_0_0)
      shapeCasts_S1x2048x2048_S2048x2048))) shapeCasts_S4x2048x2048_S8192x2048

/-- The two head groups side by side, read in the first group. -/
theorem cat_lo (A B : FVec Ideal S4x2048x1024 .bf16) (b : Fin 4) (r : Fin 2048) (k : Fin 1024) :
    concatenate S4x2048x2048 2 [⟨S4x2048x1024, (extf .f32 A bitsLt_bf16_f32)⟩, ⟨S4x2048x1024, (extf .f32 B bitsLt_bf16_f32)⟩]
      concatenates_S4x2048x1024_S4x2048x1024_S4x2048x2048_d2 (ix3 b r ⟨k.val, by omega⟩) = A (ix3 b r k) := by
  pointwise

/-- The two head groups side by side, read in the second group. -/
theorem cat_hi (A B : FVec Ideal S4x2048x1024 .bf16) (b : Fin 4) (r : Fin 2048) (k : Fin 1024) :
    concatenate S4x2048x2048 2 [⟨S4x2048x1024, (extf .f32 A bitsLt_bf16_f32)⟩, ⟨S4x2048x1024, (extf .f32 B bitsLt_bf16_f32)⟩]
      concatenates_S4x2048x1024_S4x2048x1024_S4x2048x2048_d2 (ix3 b r ⟨1024 + k.val, by omega⟩) = B (ix3 b r k) := by
  pointwise

/-- The reference at a row and a column. -/
theorem REF_at (X : FVec Ideal S4x2048x2048 .f32) (A B : FVec Ideal S4x2048x1024 .bf16) (W : FVec Ideal S2x2048x2048 .f32)
    (n : Fin 8192) (l : Fin 2048) (b : Fin 4) (r : Fin 2048) (hn : n.val = b.val * 2048 + r.val) :
    REF X A B W (ix2 n l) = X (ix3 b r l)
      + ((∑ k : Fin 1024, A (ix3 b r k) * W (ix3 0 ⟨k.val, by omega⟩ l)) + ∑ k : Fin 1024, B (ix3 b r k) * W (ix3 0 ⟨1024 + k.val, by omega⟩ l)) := by
  have e : (∑ k : Fin 2048, concatenate S4x2048x2048 2 [⟨S4x2048x1024, (extf .f32 A bitsLt_bf16_f32)⟩, ⟨S4x2048x1024, (extf .f32 B bitsLt_bf16_f32)⟩]
      concatenates_S4x2048x1024_S4x2048x1024_S4x2048x2048_d2 (ix3 b r k) * W (ix3 0 k l))
      = (∑ k : Fin 1024, A (ix3 b r k) * W (ix3 0 ⟨k.val, by omega⟩ l)) + ∑ k : Fin 1024, B (ix3 b r k) * W (ix3 0 ⟨1024 + k.val, by omega⟩ l) := by
    refine (Fin.sum_univ_add (a := 1024) (b := 1024) fun k => _).trans ?_
    exact Ideal.add_congr (Finset.sum_congr rfl fun k _ => congrArg (· * _) (cat_lo A B b r k))
      (Finset.sum_congr rfl fun k _ => congrArg (· * _) (cat_hi A B b r k))
  rw [← e]
  unfold REF
  generalize concatenate S4x2048x2048 2 _ _ = C
  have hb : (⟨n.val / 2048, by omega⟩ : Fin 4) = b := Fin.ext (by dsimp only; omega)
  have hr : (⟨n.val % 2048, Nat.mod_lt _ (by decide)⟩ : Fin 2048) = r := Fin.ext (by dsimp only; omega)
  pointwise
  simp only [hb, hr]

end Cert.OutProjReferenceIdeal.Value

namespace Cert.OutProjIdeal.Value

open Cert.OutProjIdeal Cert.OutProjIdeal.Gen

variable (m : (ℓ : Loc nD τ sig) → Buf (Elt Ideal) ℓ)

/-- The windows' block indices: row tile `t`, everything else whole. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ t.val < 16 :=
  (by decide +kernel : ∀ t : Fin grid0.N, _)

/-- The payload at a row and a column. -/
theorem pay_at (x : FVec Ideal S512x2048 .f32) (a b : FVec Ideal S512x1024 .bf16) (w v : FVec Ideal S1x1024x2048 .bf16)
    (r : Fin 512) (l : Fin 2048) : k0_pay1 (F := Ideal) x a w b v (ix2 r l)
      = x (ix2 r l) + ((∑ k : Fin 1024, a (ix2 r k) * w (ix3 0 k l)) + ∑ k : Fin 1024, b (ix2 r k) * v (ix3 0 k l)) := by
  pointwise [k0_pay1]
  rw [add_assoc]

/-- What a point writes at a block index is the reference's value at the array index it sits at. -/
theorem point (c : Dev nD) (t : Fin cfg0.N) (r : Fin 512) (l : Fin 2048) :
    out0_4 (iblk m c 0 t) (iblk m c 1 t) (iblk m c 2 t) (iblk m c 3 t) (ix2 r l : S512x2048.Idx)
      = Cert.OutProjReferenceIdeal.Value.REF (m ((c : Thread nD τ).loc main_arg0)) (m ((c : Thread nD τ).loc main_arg1))
        (m ((c : Thread nD τ).loc main_arg2)) (m ((c : Thread nD τ).loc main_arg3))
        (ix2 ⟨t.val * 512 + r.val, by have := (idx t).2.2.2.2.2; omega⟩ l) := by
  have hb := (idx t).2.2.2.2.2
  frame_out
  rw [pay_at, Cert.OutProjReferenceIdeal.Value.REF_at _ _ _ _ _ l ⟨(t.val * 512 + r.val) / 2048, by omega⟩
    ⟨(t.val * 512 + r.val) % 2048, Nat.mod_lt _ (by decide)⟩ (by dsimp only; omega)]
  blk_point [iblk, V, idx t]

/-- The result array after the run is the reference's term of the four arguments. -/
theorem final (c : Dev nD) : (dats m 0 c).arrAt 4 cfg0.N
    = Cert.OutProjReferenceIdeal.Value.REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h4 := (idx t).2.2.2.2.1
  blk_simp
  rw [after0_4]
  refine (congrArg (out0_4 (iblk m c 0 t) (iblk m c 1 t) (iblk m c 2 t) (iblk m c 3 t)) (eq_ix2 y)).trans ((point m c t (y 0) (y 1)).trans ?_)
  refine congrArg _ ?_
  blk_ext [h4]

end Cert.OutProjIdeal.Value
-- ==== Proof.OutProjClaims.lean ====
/-
  The claims about the output projection: the frames of the kernel at both instances and of the reference, the
  idealization, and the equality of the two results over the extended reals (Proof/OutProjValue.lean has the mathematics).
-/
module

public import proofs.«01_k».proof.Defs
public import proofs.«01_k».proof.Proof.OutProjValue
public import proofs.«01_k».proof.Proof.Gen.OutProj.Frame
public import Idealize.ShloMosaic.Lib.Claim
public import Idealize.ShloMosaic.Lib.Quiescent
public import Idealize.ShloMosaic.Adequacy

@[expose] public section

set_option maxRecDepth 16384

noncomputable section

namespace Cert.OutProjClaims

open Idealize.ShloMosaic Idealize.SL.Sem

/-- The reference runs and leaves its arguments unchanged. -/
theorem frame_ri : Cert.quiescent_OutProjReferenceIdeal (hOutProjReferenceIdeal := Cert.OutProjReferenceIdeal.Gen.facts) := by
  intro m g _
  exact (θ_run _ _ _).mono (fun r h => ⟨fun c => (h c).2, sem_eq_zero_of_no_sems (sig := Cert.OutProjReferenceIdeal.sig) rfl r.2⟩)
    (Cert.OutProjReferenceIdeal.Value.run m g)

/-- Kernel and reference end with equal results over the extended reals, for every argument. -/
theorem algebraic : Cert.algebraic_OutProjIdeal_OutProjReferenceIdeal (hOutProjIdeal := Cert.OutProjIdeal.Gen.facts) (hOutProjReferenceIdeal := Cert.OutProjReferenceIdeal.Gen.facts) := by
  pair_intro
  · run_from Cert.OutProjIdeal.Gen.run_main m g
  · run_from Cert.OutProjReferenceIdeal.Value.run m' g'
    obtain ⟨e0, e1, e2, e3⟩ := hagree c
    refine Eq.trans ?_ (Cert.OutProjIdeal.Value.final m c).symm
    rw [← e0, ← e1, ← e2, ← e3]
    rfl

end Cert.OutProjClaims

end
-- ==== Proof.PleValue.lean ====
/-
  The VALUE of the gated embedding's program with the final norm: its result array equals, over the extended reals, the
  reference's `rmsnorm(x + sigmoid(x @ w_gate) * rmsnorm(p @ w_proj))`, for every argument. The grid is 16 row tiles of
  512 rows; each point writes one.

    point   the written block is the reference's block;
    final   and the array is the reference's.
-/
module

public import proofs.«01_k».proof.Proof.Gen.PleIdeal.Value
public import proofs.«01_k».proof.Proof.Gen.PleReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleReferenceIdeal.Value

open Cert.PleReferenceIdeal Cert.PleReferenceIdeal.Gen

/-- The reference's norm of rows, with a gain. -/
def rNorm (Y : FVec Ideal S4x2048x2048 .f32) (G : FVec Ideal S2048 .f32) : FVec Ideal S4x2048x2048 .f32 :=
  (mulf (mulf Y (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf Y Y) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 G)))

/-- The reference's gated sum. -/
def rGate (X : FVec Ideal S4x2048x2048 .f32) (P : FVec Ideal S4x2048x256 .f32) (WG : FVec Ideal S2x2048x2048 .f32)
    (WP : FVec Ideal S2x256x2048 .f32) (GN : FVec Ideal S2048 .f32) : FVec Ideal S4x2048x2048 .f32 :=
  (addf X (mulf (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (Host.dotGeneral dot_S4x2048x2048_S2048x2048_S4x2048x2048_2_0_01_1_n_n none X (shapeCast S2048x2048 (extractStridedSlice S1x2048x2048 ![1, 0, 0] WG slices_S2x2048x2048_S1x2048x2048_1_0_0) shapeCasts_S1x2048x2048_S2048x2048)))))) (rNorm (Host.dotGeneral dot_S4x2048x256_S256x2048_S4x2048x2048_2_0_01_1_n_n none P (shapeCast S256x2048 (extractStridedSlice S1x256x2048 ![1, 0, 0] WP slices_S2x256x2048_S1x256x2048_1_0_0) shapeCasts_S1x256x2048_S256x2048)) GN)))

/-- The reference's result as one term of its six arguments. -/
def REF (X : FVec Ideal S4x2048x2048 .f32) (P : FVec Ideal S4x2048x256 .f32) (WG : FVec Ideal S2x2048x2048 .f32)
    (WP : FVec Ideal S2x256x2048 .f32) (GN FN : FVec Ideal S2048 .f32) : FVec Ideal S8192x2048 .f32 :=
  shapeCast _ (rNorm (rGate X P WG WP GN) FN) shapeCasts_S4x2048x2048_S8192x2048

/-- One row normalised: each entry over the root mean square of the row, times the gain. -/
def nrm (y g : Fin 2048 → EReal) (l : Fin 2048) : EReal :=
  y l * Ideal.rsqrt (Ideal.div (∑ k, y k * y k) (Ideal.ofBits FTy.f32 1157627904#32) + Ideal.ofBits FTy.f32 897988541#32) * g l

/-- One row of the gated sum. -/
def gated (x : Fin 2048 → EReal) (p : Fin 256 → EReal) (wg : Fin 2048 → Fin 2048 → EReal) (wp : Fin 256 → Fin 2048 → EReal)
    (g : Fin 2048 → EReal) (l : Fin 2048) : EReal :=
  x l + Ideal.div 1 (1 + Ideal.exp (0 - ∑ k, x k * wg k l)) * nrm (fun n => ∑ k, p k * wp k n) g l

/-- The reference's norm at an index. -/
theorem rNorm_at (Y : FVec Ideal S4x2048x2048 .f32) (G : FVec Ideal S2048 .f32) (b : Fin 4) (r l : Fin 2048) :
    rNorm Y G (ix3 b r l) = nrm (fun k => Y (ix3 b r k)) (fun k => G (ix1 k)) l := by
  pointwise [rNorm, nrm]

/-- The reference's gated sum at an index. -/
theorem rGate_at (X : FVec Ideal S4x2048x2048 .f32) (P : FVec Ideal S4x2048x256 .f32) (WG : FVec Ideal S2x2048x2048 .f32)
    (WP : FVec Ideal S2x256x2048 .f32) (GN : FVec Ideal S2048 .f32) (b : Fin 4) (r l : Fin 2048) :
    rGate X P WG WP GN (ix3 b r l) = gated (fun k => X (ix3 b r k)) (fun k => P (ix3 b r k)) (fun k n => WG (ix3 1 k n))
      (fun k n => WP (ix3 1 k n)) (fun k => GN (ix1 k)) l := by
  unfold rGate gated
  refine Ideal.add_congr rfl (congrArg₂ (· * ·) ?_ ((rNorm_at _ _ b r l).trans ?_))
  · pointwise
    rw [zero_sub]
  · refine congrArg (fun f => nrm f _ l) (funext fun n => ?_)
    pointwise

/-- The reference's result at an index. -/
theorem REF_at (X : FVec Ideal S4x2048x2048 .f32) (P : FVec Ideal S4x2048x256 .f32) (WG : FVec Ideal S2x2048x2048 .f32)
    (WP : FVec Ideal S2x256x2048 .f32) (GN FN : FVec Ideal S2048 .f32) (n : Fin 8192) (l : Fin 2048) :
    REF X P WG WP GN FN (ix2 n l) = nrm (gated (fun k => X (ix3 ⟨n.val / 2048, by omega⟩ ⟨n.val % 2048, Nat.mod_lt _ (by decide)⟩ k))
      (fun k => P (ix3 ⟨n.val / 2048, by omega⟩ ⟨n.val % 2048, Nat.mod_lt _ (by decide)⟩ k)) (fun k n => WG (ix3 1 k n))
      (fun k n => WP (ix3 1 k n)) (fun k => GN (ix1 k))) (fun k => FN (ix1 k)) l := by
  have e : REF X P WG WP GN FN (ix2 n l)
      = rNorm (rGate X P WG WP GN) FN (ix3 ⟨n.val / 2048, by omega⟩ ⟨n.val % 2048, Nat.mod_lt _ (by decide)⟩ l) := by
    unfold REF
    generalize rNorm (rGate X P WG WP GN) FN = Y
    pointwise
  rw [e, rNorm_at]
  exact congrArg (fun f => nrm f _ l) (funext fun k => rGate_at X P WG WP GN _ _ k)

end Cert.PleReferenceIdeal.Value

namespace Cert.PleIdeal.Value

open Cert.PleIdeal Cert.PleIdeal.Gen

variable (m : (ℓ : Loc nD τ sig) → Buf (Elt Ideal) ℓ)

/-- The windows' block indices: row tile `t`; the weights' blocks are the last layer's. -/
theorem idx : ∀ t : Fin cfg0.N, win0_0.index t = ![t.val, 0] ∧ win0_1.index t = ![t.val, 0] ∧ win0_2.index t = ![1, 0, 0]
    ∧ win0_3.index t = ![1, 0, 0] ∧ win0_4.index t = ![0, 0] ∧ win0_5.index t = ![0, 0] ∧ win0_6.index t = ![t.val, 0] ∧ t.val < 16 :=
  (by decide +kernel : ∀ t : Fin grid0.N, _)

open Cert.PleReferenceIdeal.Value (REF REF_at nrm gated)

/-- The gated sum's payload at an entry. -/
theorem pay2_at (x : FVec Ideal S512x2048 .f32) (p : FVec Ideal S512x256 .f32) (wp : FVec Ideal S1x256x2048 .bf16)
    (wg : FVec Ideal S1x2048x2048 .bf16) (g : FVec Ideal S1x2048 .f32) (r : Fin 512) (l : Fin 2048) :
    k0_pay2 (F := Ideal) x p wp wg g (ix2 r l) = gated (fun k => x (ix2 r k)) (fun k => p (ix2 r k)) (fun k n => wg (ix3 0 k n))
      (fun k n => wp (ix3 0 k n)) (fun k => g (ix2 0 k)) l := by
  pointwise [k0_pay2, gated, nrm]

/-- The normalising payload at an entry. -/
theorem pay1_at (y : FVec Ideal S512x2048 .f32) (g : FVec Ideal S1x2048 .f32) (r : Fin 512) (l : Fin 2048) :
    k0_pay1 (F := Ideal) y g (ix2 r l) = nrm (fun k => y (ix2 r k)) (fun k => g (ix2 0 k)) l := by
  pointwise [k0_pay1, nrm]

/-- The staged rows of `x`. -/
theorem x_at (c : Dev nD) (t : Fin cfg0.N) (r : Fin 512) (k : Fin 2048) :
    (iblk m c 0 t : FVec Ideal S512x2048 .f32) (ix2 r k) = (m ((c : Thread nD τ).loc main_arg0) : FVec Ideal S4x2048x2048 .f32)
      (ix3 ⟨(t.val * 512 + r.val) / 2048, by have := (idx t).2.2.2.2.2.2.2; omega⟩ ⟨(t.val * 512 + r.val) % 2048, Nat.mod_lt _ (by decide)⟩ k) := by
  have h := idx t
  blk_simp [iblk]; entry_read; pointwise; blk_ext [h]

/-- The staged rows of the layer's embedding. -/
theorem p_at (c : Dev nD) (t : Fin cfg0.N) (r : Fin 512) (k : Fin 256) :
    (iblk m c 1 t : FVec Ideal S512x256 .f32) (ix2 r k) = (m ((c : Thread nD τ).loc main_arg1) : FVec Ideal S4x2048x256 .f32)
      (ix3 ⟨(t.val * 512 + r.val) / 2048, by have := (idx t).2.2.2.2.2.2.2; omega⟩ ⟨(t.val * 512 + r.val) % 2048, Nat.mod_lt _ (by decide)⟩ k) := by
  have h := idx t
  blk_simp [iblk]; entry_read; pointwise; blk_ext [h]

/-- The staged gate weights are the last layer's. -/
theorem wg_at (c : Dev nD) (t : Fin cfg0.N) (k n : Fin 2048) :
    (iblk m c 2 t : FVec Ideal S1x2048x2048 .bf16) (ix3 0 k n) = (m ((c : Thread nD τ).loc main_arg2) : FVec Ideal S2x2048x2048 .f32) (ix3 1 k n) := by
  have h := idx t
  blk_simp [iblk]; entry_read; pointwise; blk_ext [h]

/-- The staged embedding weights are the last layer's. -/
theorem wp_at (c : Dev nD) (t : Fin cfg0.N) (k : Fin 256) (n : Fin 2048) :
    (iblk m c 3 t : FVec Ideal S1x256x2048 .bf16) (ix3 0 k n) = (m ((c : Thread nD τ).loc main_arg3) : FVec Ideal S2x256x2048 .f32) (ix3 1 k n) := by
  have h := idx t
  blk_simp [iblk]; entry_read; pointwise; blk_ext [h]

/-- The staged gain of the embedding. -/
theorem gn_at (c : Dev nD) (t : Fin cfg0.N) (k : Fin 2048) :
    (iblk m c 4 t : FVec Ideal S1x2048 .f32) (ix2 0 k) = (m ((c : Thread nD τ).loc main_arg4) : FVec Ideal S2048 .f32) (ix1 k) := by
  have h := idx t
  blk_simp [iblk]; entry_read; pointwise; blk_ext [h]

/-- The staged final gain. -/
theorem fn_at (c : Dev nD) (t : Fin cfg0.N) (k : Fin 2048) :
    (iblk m c 5 t : FVec Ideal S1x2048 .f32) (ix2 0 k) = (m ((c : Thread nD τ).loc main_arg5) : FVec Ideal S2048 .f32) (ix1 k) := by
  have h := idx t
  blk_simp [iblk]; entry_read; pointwise; blk_ext [h]

/-- What a point writes at a block index is the reference's value at the array index it sits at. -/
theorem point (c : Dev nD) (t : Fin cfg0.N) (r : Fin 512) (l : Fin 2048) :
    out0_6 (iblk m c 0 t) (iblk m c 1 t) (iblk m c 2 t) (iblk m c 3 t) (iblk m c 4 t) (iblk m c 5 t) (ix2 r l : S512x2048.Idx)
      = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (ix2 ⟨t.val * 512 + r.val, by have := (idx t).2.2.2.2.2.2.2; omega⟩ l) := by
  frame_out
  have e3 : (k0_pay3 (iblk m c 5 t) : FVec Ideal S1x2048 .f32) = iblk m c 5 t := by
    funext j; pointwise [k0_pay3]
  rw [REF_at, e3, pay1_at]
  simp only [pay2_at, x_at, p_at, wg_at, wp_at, gn_at, fn_at]

/-- The result array after the run is the reference's term of the six arguments. -/
theorem final (c : Dev nD) : (dats m 0 c).arrAt 6 cfg0.N
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  have h6 := (idx t).2.2.2.2.2.2.1
  blk_simp
  rw [after0_6]
  refine (congrArg (out0_6 (iblk m c 0 t) (iblk m c 1 t) (iblk m c 2 t) (iblk m c 3 t) (iblk m c 4 t) (iblk m c 5 t)) (eq_ix2 y)).trans
    ((point m c t (y 0) (y 1)).trans ?_)
  refine congrArg _ ?_
  blk_ext [h6]

end Cert.PleIdeal.Value
-- ==== Proof.PleClaims.lean ====
/-
  The claims about the gated embedding with the final norm: the frames of the kernel at both instances and of the reference, the
  idealization, and the equality of the two results over the extended reals (Proof/PleValue.lean has the mathematics).
-/
module

public import proofs.«01_k».proof.Defs
public import proofs.«01_k».proof.Proof.PleValue
public import proofs.«01_k».proof.Proof.Gen.Ple.Frame
public import Idealize.ShloMosaic.Lib.Claim
public import Idealize.ShloMosaic.Lib.Quiescent
public import Idealize.ShloMosaic.Adequacy

@[expose] public section

set_option maxRecDepth 16384

noncomputable section

namespace Cert.PleClaims

open Idealize.ShloMosaic Idealize.SL.Sem

/-- The reference runs and leaves its arguments unchanged. -/
theorem frame_ri : Cert.quiescent_PleReferenceIdeal (hPleReferenceIdeal := Cert.PleReferenceIdeal.Gen.facts) := by
  intro m g _
  exact (θ_run _ _ _).mono (fun r h => ⟨fun c => (h c).2, sem_eq_zero_of_no_sems (sig := Cert.PleReferenceIdeal.sig) rfl r.2⟩)
    (Cert.PleReferenceIdeal.Value.run m g)

/-- Kernel and reference end with equal results over the extended reals, for every argument. -/
theorem algebraic : Cert.algebraic_PleIdeal_PleReferenceIdeal (hPleIdeal := Cert.PleIdeal.Gen.facts) (hPleReferenceIdeal := Cert.PleReferenceIdeal.Gen.facts) := by
  pair_intro
  · run_from Cert.PleIdeal.Gen.run_main m g
  · run_from Cert.PleReferenceIdeal.Value.run m' g'
    obtain ⟨e0, e1, e2, e3, e4, e5⟩ := hagree c
    refine Eq.trans ?_ (Cert.PleIdeal.Value.final m c).symm
    rw [← e0, ← e1, ← e2, ← e3, ← e4, ← e5]
    rfl

end Cert.PleClaims

end
-- ==== Proof.QkvSampleReference.lean ====
/-
  The reference of the projection's program at the sample group's shapes, read one entry at a time: rows normalised, times
  the weights, cut into the queries, keys and values of the two kinds of attention, the queries and keys turned by the
  angles of position 8192. Norm, angle and rotation are the functions of the prompt group's (Proof/QkvReference.lean).
-/
module

public import proofs.«01_k».proof.Proof.QkvReference
public import proofs.«01_k».proof.Proof.Gen.QkvSampleReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvSampleReferenceIdeal.Value

open Cert.QkvSampleReferenceIdeal Cert.QkvSampleReferenceIdeal.Gen
open Cert.QkvReferenceIdeal.Value (nrm ang rope)

/-- The reference's norm of rows, with a gain. -/
def rNorm (X : FVec Ideal S32x1x2048 .f32) (G : FVec Ideal S2048 .f32) : FVec Ideal S32x1x2048 .f32 :=
  (mulf (mulf X (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf X X) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x358637BD#32)))))) (broadcastInDim S32x1x2048 ![0, 1, 2] bcast_S1x1x2048_S32x1x2048_0_1_2 (broadcastInDim S1x1x2048 ![2] bcast_S2048_S1x1x2048_2 G)))

/-- The reference's projection: the normalised rows times the layer's first weight matrix. -/
def rProj (X : FVec Ideal S32x1x2048 .f32) (G : FVec Ideal S2048 .f32) (W : FVec Ideal S2x2048x4096 .f32) : FVec Ideal S32x1x4096 .f32 :=
  (Host.dotGeneral dot_S32x1x2048_S2048x4096_S32x1x4096_2_0_01_1_n_n none (rNorm X G) (shapeCast _ (extractStridedSlice S1x2048x4096 ![0, 0, 0] W slices_S2x2048x4096_S1x2048x4096_0_0_0) shapeCasts_S1x2048x4096_S2048x4096))

/-- The reference's angles for heads of 64 lanes. -/
def rAng32 : FVec Ideal S1x32 .f32 :=
  (mulf (broadcastInDim S1x32 ![0, 1] bcast_S1x1_S1x32_0_1 (broadcastInDim S1x1 ![0] bcast_S1_S1x1_0 (sitofp .f32 (addi (broadcastInDim S1 ![] bcast_S_S1 (constantI S_ 32 8192#32)) (iotaInDim S1 32 0))))) (broadcastInDim S1x32 ![1] bcast_S32_S1x32_1 (Host.exp (mulf (sitofp .f32 (iotaInDim S32 32 0)) (broadcastInDim S32 ![] bcast_S_S32 (constant S_ .f32 0xBE935D8E#32))))))

/-- The reference's angles for heads of 128 lanes. -/
def rAng64 : FVec Ideal S1x64 .f32 :=
  (mulf (broadcastInDim S1x64 ![0, 1] bcast_S1x1_S1x64_0_1 (broadcastInDim S1x1 ![0] bcast_S1_S1x1_0 (sitofp .f32 (addi (broadcastInDim S1 ![] bcast_S_S1 (constantI S_ 32 8192#32)) (iotaInDim S1 32 0))))) (broadcastInDim S1x64 ![1] bcast_S64_S1x64_1 (Host.exp (mulf (sitofp .f32 (iotaInDim S64 32 0)) (broadcastInDim S64 ![] bcast_S_S64 (constant S_ .f32 0xBE135D8E#32))))))

/-- Of the projection, the first kind's rotated queries. -/
def rQa (P : FVec Ideal S32x1x4096 .f32) : FVec Ideal S32x1024 .f32 :=
  (shapeCast _ (concatenate S32x1x8x2x64 4 [⟨S32x1x8x2x32, (subf (mulf (extractStridedSlice S32x1x8x2x32 ![0, 0, 0, 0, 0] (shapeCast _ (extractStridedSlice S32x1x1024 ![0, 0, 0] P slices_S32x1x4096_S32x1x1024_0_0_0) shapeCasts_S32x1x1024_S32x1x8x2x64) slices_S32x1x8x2x64_S32x1x8x2x32_0_0_0_0_0) (broadcastInDim S32x1x8x2x32 ![0, 1, 2, 3, 4] bcast_S1x1x1x1x32_S32x1x8x2x32_0_1_2_3_4 (shapeCast _ (Host.cos rAng32) shapeCasts_S1x32_S1x1x1x1x32))) (mulf (extractStridedSlice S32x1x8x2x32 ![0, 0, 0, 0, 32] (shapeCast _ (extractStridedSlice S32x1x1024 ![0, 0, 0] P slices_S32x1x4096_S32x1x1024_0_0_0) shapeCasts_S32x1x1024_S32x1x8x2x64) slices_S32x1x8x2x64_S32x1x8x2x32_0_0_0_0_32) (broadcastInDim S32x1x8x2x32 ![0, 1, 2, 3, 4] bcast_S1x1x1x1x32_S32x1x8x2x32_0_1_2_3_4 (shapeCast _ (Host.sin rAng32) shapeCasts_S1x32_S1x1x1x1x32))))⟩, ⟨S32x1x8x2x32, (addf (mulf (extractStridedSlice S32x1x8x2x32 ![0, 0, 0, 0, 32] (shapeCast _ (extractStridedSlice S32x1x1024 ![0, 0, 0] P slices_S32x1x4096_S32x1x1024_0_0_0) shapeCasts_S32x1x1024_S32x1x8x2x64) slices_S32x1x8x2x64_S32x1x8x2x32_0_0_0_0_32) (broadcastInDim S32x1x8x2x32 ![0, 1, 2, 3, 4] bcast_S1x1x1x1x32_S32x1x8x2x32_0_1_2_3_4 (shapeCast _ (Host.cos rAng32) shapeCasts_S1x32_S1x1x1x1x32))) (mulf (extractStridedSlice S32x1x8x2x32 ![0, 0, 0, 0, 0] (shapeCast _ (extractStridedSlice S32x1x1024 ![0, 0, 0] P slices_S32x1x4096_S32x1x1024_0_0_0) shapeCasts_S32x1x1024_S32x1x8x2x64) slices_S32x1x8x2x64_S32x1x8x2x32_0_0_0_0_0) (broadcastInDim S32x1x8x2x32 ![0, 1, 2, 3, 4] bcast_S1x1x1x1x32_S32x1x8x2x32_0_1_2_3_4 (shapeCast _ (Host.sin rAng32) shapeCasts_S1x32_S1x1x1x1x32))))⟩] concatenates_S32x1x8x2x32_S32x1x8x2x32_S32x1x8x2x64_d4) shapeCasts_S32x1x8x2x64_S32x1024)

/-- Of the projection, the second kind's rotated queries. -/
def rQb (P : FVec Ideal S32x1x4096 .f32) : FVec Ideal S32x1024 .f32 :=
  (shapeCast _ (concatenate S32x1x8x128 3 [⟨S32x1x8x64, (subf (mulf (extractStridedSlice S32x1x8x64 ![0, 0, 0, 0] (shapeCast _ (extractStridedSlice S32x1x1024 ![0, 0, 2048] P slices_S32x1x4096_S32x1x1024_0_0_2048) shapeCasts_S32x1x1024_S32x1x8x128) slices_S32x1x8x128_S32x1x8x64_0_0_0_0) (broadcastInDim S32x1x8x64 ![0, 1, 2, 3] bcast_S1x1x1x64_S32x1x8x64_0_1_2_3 (shapeCast _ (Host.cos rAng64) shapeCasts_S1x64_S1x1x1x64))) (mulf (extractStridedSlice S32x1x8x64 ![0, 0, 0, 64] (shapeCast _ (extractStridedSlice S32x1x1024 ![0, 0, 2048] P slices_S32x1x4096_S32x1x1024_0_0_2048) shapeCasts_S32x1x1024_S32x1x8x128) slices_S32x1x8x128_S32x1x8x64_0_0_0_64) (broadcastInDim S32x1x8x64 ![0, 1, 2, 3] bcast_S1x1x1x64_S32x1x8x64_0_1_2_3 (shapeCast _ (Host.sin rAng64) shapeCasts_S1x64_S1x1x1x64))))⟩, ⟨S32x1x8x64, (addf (mulf (extractStridedSlice S32x1x8x64 ![0, 0, 0, 64] (shapeCast _ (extractStridedSlice S32x1x1024 ![0, 0, 2048] P slices_S32x1x4096_S32x1x1024_0_0_2048) shapeCasts_S32x1x1024_S32x1x8x128) slices_S32x1x8x128_S32x1x8x64_0_0_0_64) (broadcastInDim S32x1x8x64 ![0, 1, 2, 3] bcast_S1x1x1x64_S32x1x8x64_0_1_2_3 (shapeCast _ (Host.cos rAng64) shapeCasts_S1x64_S1x1x1x64))) (mulf (extractStridedSlice S32x1x8x64 ![0, 0, 0, 0] (shapeCast _ (extractStridedSlice S32x1x1024 ![0, 0, 2048] P slices_S32x1x4096_S32x1x1024_0_0_2048) shapeCasts_S32x1x1024_S32x1x8x128) slices_S32x1x8x128_S32x1x8x64_0_0_0_0) (broadcastInDim S32x1x8x64 ![0, 1, 2, 3] bcast_S1x1x1x64_S32x1x8x64_0_1_2_3 (shapeCast _ (Host.sin rAng64) shapeCasts_S1x64_S1x1x1x64))))⟩] concatenates_S32x1x8x64_S32x1x8x64_S32x1x8x128_d3) shapeCasts_S32x1x8x128_S32x1024)

/-- Of the projection, the first kind's rotated keys. -/
def rKa (P : FVec Ideal S32x1x4096 .f32) : FVec Ideal S32x512 .f32 :=
  (shapeCast _ (concatenate S32x1x4x2x64 4 [⟨S32x1x4x2x32, (subf (mulf (extractStridedSlice S32x1x4x2x32 ![0, 0, 0, 0, 0] (shapeCast _ (extractStridedSlice S32x1x512 ![0, 0, 1024] P slices_S32x1x4096_S32x1x512_0_0_1024) shapeCasts_S32x1x512_S32x1x4x2x64) slices_S32x1x4x2x64_S32x1x4x2x32_0_0_0_0_0) (broadcastInDim S32x1x4x2x32 ![0, 1, 2, 3, 4] bcast_S1x1x1x1x32_S32x1x4x2x32_0_1_2_3_4 (shapeCast _ (Host.cos rAng32) shapeCasts_S1x32_S1x1x1x1x32))) (mulf (extractStridedSlice S32x1x4x2x32 ![0, 0, 0, 0, 32] (shapeCast _ (extractStridedSlice S32x1x512 ![0, 0, 1024] P slices_S32x1x4096_S32x1x512_0_0_1024) shapeCasts_S32x1x512_S32x1x4x2x64) slices_S32x1x4x2x64_S32x1x4x2x32_0_0_0_0_32) (broadcastInDim S32x1x4x2x32 ![0, 1, 2, 3, 4] bcast_S1x1x1x1x32_S32x1x4x2x32_0_1_2_3_4 (shapeCast _ (Host.sin rAng32) shapeCasts_S1x32_S1x1x1x1x32))))⟩, ⟨S32x1x4x2x32, (addf (mulf (extractStridedSlice S32x1x4x2x32 ![0, 0, 0, 0, 32] (shapeCast _ (extractStridedSlice S32x1x512 ![0, 0, 1024] P slices_S32x1x4096_S32x1x512_0_0_1024) shapeCasts_S32x1x512_S32x1x4x2x64) slices_S32x1x4x2x64_S32x1x4x2x32_0_0_0_0_32) (broadcastInDim S32x1x4x2x32 ![0, 1, 2, 3, 4] bcast_S1x1x1x1x32_S32x1x4x2x32_0_1_2_3_4 (shapeCast _ (Host.cos rAng32) shapeCasts_S1x32_S1x1x1x1x32))) (mulf (extractStridedSlice S32x1x4x2x32 ![0, 0, 0, 0, 0] (shapeCast _ (extractStridedSlice S32x1x512 ![0, 0, 1024] P slices_S32x1x4096_S32x1x512_0_0_1024) shapeCasts_S32x1x512_S32x1x4x2x64) slices_S32x1x4x2x64_S32x1x4x2x32_0_0_0_0_0) (broadcastInDim S32x1x4x2x32 ![0, 1, 2, 3, 4] bcast_S1x1x1x1x32_S32x1x4x2x32_0_1_2_3_4 (shapeCast _ (Host.sin rAng32) shapeCasts_S1x32_S1x1x1x1x32))))⟩] concatenates_S32x1x4x2x32_S32x1x4x2x32_S32x1x4x2x64_d4) shapeCasts_S32x1x4x2x64_S32x512)

/-- Of the projection, the second kind's rotated keys. -/
def rKb (P : FVec Ideal S32x1x4096 .f32) : FVec Ideal S32x512 .f32 :=
  (shapeCast _ (concatenate S32x1x4x128 3 [⟨S32x1x4x64, (subf (mulf (extractStridedSlice S32x1x4x64 ![0, 0, 0, 0] (shapeCast _ (extractStridedSlice S32x1x512 ![0, 0, 3072] P slices_S32x1x4096_S32x1x512_0_0_3072) shapeCasts_S32x1x512_S32x1x4x128) slices_S32x1x4x128_S32x1x4x64_0_0_0_0) (broadcastInDim S32x1x4x64 ![0, 1, 2, 3] bcast_S1x1x1x64_S32x1x4x64_0_1_2_3 (shapeCast _ (Host.cos rAng64) shapeCasts_S1x64_S1x1x1x64))) (mulf (extractStridedSlice S32x1x4x64 ![0, 0, 0, 64] (shapeCast _ (extractStridedSlice S32x1x512 ![0, 0, 3072] P slices_S32x1x4096_S32x1x512_0_0_3072) shapeCasts_S32x1x512_S32x1x4x128) slices_S32x1x4x128_S32x1x4x64_0_0_0_64) (broadcastInDim S32x1x4x64 ![0, 1, 2, 3] bcast_S1x1x1x64_S32x1x4x64_0_1_2_3 (shapeCast _ (Host.sin rAng64) shapeCasts_S1x64_S1x1x1x64))))⟩, ⟨S32x1x4x64, (addf (mulf (extractStridedSlice S32x1x4x64 ![0, 0, 0, 64] (shapeCast _ (extractStridedSlice S32x1x512 ![0, 0, 3072] P slices_S32x1x4096_S32x1x512_0_0_3072) shapeCasts_S32x1x512_S32x1x4x128) slices_S32x1x4x128_S32x1x4x64_0_0_0_64) (broadcastInDim S32x1x4x64 ![0, 1, 2, 3] bcast_S1x1x1x64_S32x1x4x64_0_1_2_3 (shapeCast _ (Host.cos rAng64) shapeCasts_S1x64_S1x1x1x64))) (mulf (extractStridedSlice S32x1x4x64 ![0, 0, 0, 0] (shapeCast _ (extractStridedSlice S32x1x512 ![0, 0, 3072] P slices_S32x1x4096_S32x1x512_0_0_3072) shapeCasts_S32x1x512_S32x1x4x128) slices_S32x1x4x128_S32x1x4x64_0_0_0_0) (broadcastInDim S32x1x4x64 ![0, 1, 2, 3] bcast_S1x1x1x64_S32x1x4x64_0_1_2_3 (shapeCast _ (Host.sin rAng64) shapeCasts_S1x64_S1x1x1x64))))⟩] concatenates_S32x1x4x64_S32x1x4x64_S32x1x4x128_d3) shapeCasts_S32x1x4x128_S32x512)

/-- Of the projection, the first kind's values. -/
def rVa (P : FVec Ideal S32x1x4096 .f32) : FVec Ideal S32x512 .f32 :=
  (shapeCast _ (extractStridedSlice S32x1x512 ![0, 0, 1536] P slices_S32x1x4096_S32x1x512_0_0_1536) shapeCasts_S32x1x512_S32x512)

/-- Of the projection, the second kind's values. -/
def rVb (P : FVec Ideal S32x1x4096 .f32) : FVec Ideal S32x512 .f32 :=
  (shapeCast _ (extractStridedSlice S32x1x512 ![0, 0, 3584] P slices_S32x1x4096_S32x1x512_0_0_3584) shapeCasts_S32x1x512_S32x512)

/-- The reference's result as one term of its three arguments. -/
def REF (X : FVec Ideal S32x1x2048 .f32) (G : FVec Ideal S2048 .f32) (W : FVec Ideal S2x2048x4096 .f32) : FVec Ideal S32x4096 .f32 :=
  concatenate S32x4096 1 [⟨S32x1024, (rQa (rProj X G W))⟩, ⟨S32x1024, (rQb (rProj X G W))⟩, ⟨S32x512, (rKa (rProj X G W))⟩, ⟨S32x512, (rKb (rProj X G W))⟩, ⟨S32x512, (rVa (rProj X G W))⟩, ⟨S32x512, (rVb (rProj X G W))⟩] concatenates_S32x1024_S32x1024_S32x512_S32x512_S32x512_S32x512_S32x4096_d1

/-- The reference's norm at an index. -/
theorem rNorm_at (X : FVec Ideal S32x1x2048 .f32) (G : FVec Ideal S2048 .f32) (b : Fin 32) (l : Fin 2048) :
    rNorm X G (ix3 b 0 l) = nrm (fun k => X (ix3 b 0 k)) (fun k => G (ix1 k)) l := by
  pointwise [rNorm, nrm]

/-- The reference's projection at an index. -/
theorem rProj_at (X : FVec Ideal S32x1x2048 .f32) (G : FVec Ideal S2048 .f32) (W : FVec Ideal S2x2048x4096 .f32) (b : Fin 32) (j : Fin 4096) :
    rProj X G W (ix3 b 0 j) = ∑ k, nrm (fun k => X (ix3 b 0 k)) (fun k => G (ix1 k)) k * W (ix3 0 k j) := by
  have e : rProj X G W (ix3 b 0 j) = ∑ k, rNorm X G (ix3 b 0 k) * W (ix3 0 k j) := by
    unfold rProj
    generalize rNorm X G = Y
    pointwise
  rw [e]
  exact Finset.sum_congr rfl fun k _ => congrArg (· * _) (rNorm_at X G b k)

/-- The reference's angles at an index. -/
theorem rAng32_at (d : Fin 32) : rAng32 (ix2 0 d) = ang 0xBE935D8E#32 8192 d.val := by
  pointwise [rAng32, ang]
  rw [show IntOp.addi 8192#32 0#32 = 8192#32 by decide]

/-- The reference's angles at an index. -/
theorem rAng64_at (d : Fin 64) : rAng64 (ix2 0 d) = ang 0xBE135D8E#32 8192 d.val := by
  pointwise [rAng64, ang]
  rw [show IntOp.addi 8192#32 0#32 = 8192#32 by decide]

/-- A rotated part at an index. -/
theorem rQa_at (P : FVec Ideal S32x1x4096 .f32) (n : Fin 32) (l : Fin 1024) :
    rQa P (ix2 n l) = rope 0xBE935D8E#32 32 8192
      (fun j => P (ix3 n 0 ⟨(0 + j) % 4096, Nat.mod_lt _ (by decide)⟩)) l.val := by
  unfold rQa rope
  by_cases h : l.val % 64 < 32
  · rw [if_pos h]
    pointwise [h]
    simp only [rAng32_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng32_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A rotated part at an index. -/
theorem rQb_at (P : FVec Ideal S32x1x4096 .f32) (n : Fin 32) (l : Fin 1024) :
    rQb P (ix2 n l) = rope 0xBE135D8E#32 64 8192
      (fun j => P (ix3 n 0 ⟨(2048 + j) % 4096, Nat.mod_lt _ (by decide)⟩)) l.val := by
  unfold rQb rope
  by_cases h : l.val % 128 < 64
  · rw [if_pos h]
    pointwise [h]
    simp only [rAng64_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng64_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A rotated part at an index. -/
theorem rKa_at (P : FVec Ideal S32x1x4096 .f32) (n : Fin 32) (l : Fin 512) :
    rKa P (ix2 n l) = rope 0xBE935D8E#32 32 8192
      (fun j => P (ix3 n 0 ⟨(1024 + j) % 4096, Nat.mod_lt _ (by decide)⟩)) l.val := by
  unfold rKa rope
  by_cases h : l.val % 64 < 32
  · rw [if_pos h]
    pointwise [h]
    simp only [rAng32_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng32_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A rotated part at an index. -/
theorem rKb_at (P : FVec Ideal S32x1x4096 .f32) (n : Fin 32) (l : Fin 512) :
    rKb P (ix2 n l) = rope 0xBE135D8E#32 64 8192
      (fun j => P (ix3 n 0 ⟨(3072 + j) % 4096, Nat.mod_lt _ (by decide)⟩)) l.val := by
  unfold rKb rope
  by_cases h : l.val % 128 < 64
  · rw [if_pos h]
    pointwise [h]
    simp only [rAng64_at]
    refine congrArg₂ (· - ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega
  · rw [if_neg h]
    pointwise [h]
    simp only [rAng64_at]
    refine congrArg₂ (· + ·) (congrArg₂ (· * ·) (congrArg P (congrArg (ix3 _ _) (Fin.ext ?_))) (congrArg Ideal.cos (congrArg (ang _ _) ?_)))
      (congrArg₂ (· * ·) (congrArg P (congrArg (ix3 _ _) (Fin.ext ?_))) (congrArg Ideal.sin (congrArg (ang _ _) ?_))) <;> (try dsimp only) <;> omega

/-- A part of values at an index. -/
theorem rVa_at (P : FVec Ideal S32x1x4096 .f32) (n : Fin 32) (l : Fin 512) :
    rVa P (ix2 n l) = P (ix3 n 0 ⟨(1536 + l.val) % 4096, Nat.mod_lt _ (by decide)⟩) := by
  pointwise [rVa]
  exact congrArg P (congrArg (ix3 _ _) (Fin.ext (by dsimp only; omega)))

/-- A part of values at an index. -/
theorem rVb_at (P : FVec Ideal S32x1x4096 .f32) (n : Fin 32) (l : Fin 512) :
    rVb P (ix2 n l) = P (ix3 n 0 ⟨(3584 + l.val) % 4096, Nat.mod_lt _ (by decide)⟩) := by
  pointwise [rVb]
  exact congrArg P (congrArg (ix3 _ _) (Fin.ext (by dsimp only; omega)))

/-- One entry of the projection, by the array's row and the weights' column. -/
def proj (X : FVec Ideal S32x1x2048 .f32) (G : FVec Ideal S2048 .f32) (W : FVec Ideal S2x2048x4096 .f32) (n : Fin 32) (j : ℕ) : EReal :=
  ∑ k, nrm (fun k => X (ix3 n 0 k)) (fun k => G (ix1 k)) k
    * W (ix3 0 k ⟨j % 4096, Nat.mod_lt _ (by decide)⟩)

/-- The result's columns from 0 to 1023. -/
theorem REF_Qa (X : FVec Ideal S32x1x2048 .f32) (G : FVec Ideal S2048 .f32) (W : FVec Ideal S2x2048x4096 .f32) (n : Fin 32) (l : Fin 1024) :
    REF X G W (ix2 n ⟨0 + l.val, by omega⟩) = rope 0xBE935D8E#32 32 8192 (fun j => proj X G W n (0 + j)) l.val := by
  have e : REF X G W (ix2 n ⟨0 + l.val, by omega⟩) = rQa (rProj X G W) (ix2 n l) := by
    unfold REF
    generalize rProj X G W = P
    generalize rQa P = p1, rQb P = p2, rKa P = p3, rKb P = p4, rVa P = p5, rVb P = p6
    pointwise

  rw [e, rQa_at]
  exact congrArg (fun f => rope _ _ _ f _) (funext fun j => rProj_at X G W _ _)

/-- The result's columns from 1024 to 2047. -/
theorem REF_Qb (X : FVec Ideal S32x1x2048 .f32) (G : FVec Ideal S2048 .f32) (W : FVec Ideal S2x2048x4096 .f32) (n : Fin 32) (l : Fin 1024) :
    REF X G W (ix2 n ⟨1024 + l.val, by omega⟩) = rope 0xBE135D8E#32 64 8192 (fun j => proj X G W n (2048 + j)) l.val := by
  have e : REF X G W (ix2 n ⟨1024 + l.val, by omega⟩) = rQb (rProj X G W) (ix2 n l) := by
    unfold REF
    generalize rProj X G W = P
    generalize rQa P = p1, rQb P = p2, rKa P = p3, rKb P = p4, rVa P = p5, rVb P = p6
    pointwise

  rw [e, rQb_at]
  exact congrArg (fun f => rope _ _ _ f _) (funext fun j => rProj_at X G W _ _)

/-- The result's columns from 2048 to 2559. -/
theorem REF_Ka (X : FVec Ideal S32x1x2048 .f32) (G : FVec Ideal S2048 .f32) (W : FVec Ideal S2x2048x4096 .f32) (n : Fin 32) (l : Fin 512) :
    REF X G W (ix2 n ⟨2048 + l.val, by omega⟩) = rope 0xBE935D8E#32 32 8192 (fun j => proj X G W n (1024 + j)) l.val := by
  have e : REF X G W (ix2 n ⟨2048 + l.val, by omega⟩) = rKa (rProj X G W) (ix2 n l) := by
    unfold REF
    generalize rProj X G W = P
    generalize rQa P = p1, rQb P = p2, rKa P = p3, rKb P = p4, rVa P = p5, rVb P = p6
    pointwise
    rw [dif_neg (by omega), dif_neg (by omega), dif_pos (by omega)]
    exact congrArg (fun l => p3 (ix2 n l)) (Fin.ext (by (try dsimp only); omega))
  rw [e, rKa_at]
  exact congrArg (fun f => rope _ _ _ f _) (funext fun j => rProj_at X G W _ _)

/-- The result's columns from 2560 to 3071. -/
theorem REF_Kb (X : FVec Ideal S32x1x2048 .f32) (G : FVec Ideal S2048 .f32) (W : FVec Ideal S2x2048x4096 .f32) (n : Fin 32) (l : Fin 512) :
    REF X G W (ix2 n ⟨2560 + l.val, by omega⟩) = rope 0xBE135D8E#32 64 8192 (fun j => proj X G W n (3072 + j)) l.val := by
  have e : REF X G W (ix2 n ⟨2560 + l.val, by omega⟩) = rKb (rProj X G W) (ix2 n l) := by
    unfold REF
    generalize rProj X G W = P
    generalize rQa P = p1, rQb P = p2, rKa P = p3, rKb P = p4, rVa P = p5, rVb P = p6
    pointwise
    rw [dif_neg (by omega), dif_neg (by omega), dif_neg (by omega), dif_pos (by omega)]
    exact congrArg (fun l => p4 (ix2 n l)) (Fin.ext (by (try dsimp only); omega))
  rw [e, rKb_at]
  exact congrArg (fun f => rope _ _ _ f _) (funext fun j => rProj_at X G W _ _)

/-- The result's columns from 3072 to 3583. -/
theorem REF_Va (X : FVec Ideal S32x1x2048 .f32) (G : FVec Ideal S2048 .f32) (W : FVec Ideal S2x2048x4096 .f32) (n : Fin 32) (l : Fin 512) :
    REF X G W (ix2 n ⟨3072 + l.val, by omega⟩) = proj X G W n (1536 + l.val) := by
  have e : REF X G W (ix2 n ⟨3072 + l.val, by omega⟩) = rVa (rProj X G W) (ix2 n l) := by
    unfold REF
    generalize rProj X G W = P
    generalize rQa P = p1, rQb P = p2, rKa P = p3, rKb P = p4, rVa P = p5, rVb P = p6
    pointwise
    rw [dif_neg (by omega), dif_neg (by omega), dif_neg (by omega), dif_neg (by omega), dif_pos (by omega)]
    exact congrArg (fun l => p5 (ix2 n l)) (Fin.ext (by (try dsimp only); omega))
  rw [e, rVa_at]
  exact rProj_at X G W _ _

/-- The result's columns from 3584 to 4095. -/
theorem REF_Vb (X : FVec Ideal S32x1x2048 .f32) (G : FVec Ideal S2048 .f32) (W : FVec Ideal S2x2048x4096 .f32) (n : Fin 32) (l : Fin 512) :
    REF X G W (ix2 n ⟨3584 + l.val, by omega⟩) = proj X G W n (3584 + l.val) := by
  have e : REF X G W (ix2 n ⟨3584 + l.val, by omega⟩) = rVb (rProj X G W) (ix2 n l) := by
    unfold REF
    generalize rProj X G W = P
    generalize rQa P = p1, rQb P = p2, rKa P = p3, rKb P = p4, rVa P = p5, rVb P = p6
    pointwise
    rw [dif_neg (by omega), dif_neg (by omega), dif_neg (by omega), dif_neg (by omega), dif_neg (by omega)]
    exact congrArg (fun l => p6 (ix2 n l)) (Fin.ext (by (try dsimp only); omega))
  rw [e, rVb_at]
  exact rProj_at X G W _ _

end Cert.QkvSampleReferenceIdeal.Value
-- ==== Proof.QkvSampleHost.lean ====
/-
The projection's host code at the sample group's shapes: the tables of cosines and signed sines, whose 32 rows are all the
row of position 8192, and the other arguments' buffers. The lanes' lookups and the reordered weights are those of the
prompt group's program (Proof/QkvHost.lean).
-/
module

public import proofs.«01_k».proof.Proof.QkvHost
public import proofs.«01_k».proof.Proof.Gen.QkvSampleIdeal.Value
public import proofs.«01_k».proof.Proof.QkvSampleReference
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvSampleIdeal.Value

open Cert.QkvSampleIdeal Cert.QkvSampleIdeal.Gen
open Cert.QkvIdeal.Value (rem look look_at half_at col_at gather_cols_at WT cat_congr)

/-- The sign of every lane's sine: minus in the first half of a head's lanes. -/
def sgn (d h : IVec S_ 32) : FVec Ideal S32x128 .f32 :=
  broadcastInDim S32x128 ![0, 1] bcast_S1x128_S32x128_0_1 (broadcastInDim S1x128 ![1] bcast_S128_S1x128_1
    (select (cmpi .slt (rem d) (broadcastInDim S128 ![] bcast_S_S128 h))
      (broadcastInDim S128 ![] bcast_S_S128 (constant S_ .f32 0xBF800000#32)) (broadcastInDim S128 ![] bcast_S_S128 (constant S_ .f32 0x3F800000#32))))

/-- The angles of the heads of 64 lanes. -/
def ang32 : FVec Ideal S32x32 .f32 :=
  mulf (broadcastInDim S32x32 ![0, 1] bcast_S32x1_S32x32_0_1 (broadcastInDim S32x1 ![0] bcast_S32_S32x1_0 (sitofp .f32 (broadcastInDim S32 ![] bcast_S_S32 (constantI S_ 32 8192#32)))))
    (broadcastInDim S32x32 ![0, 1] bcast_S1x32_S32x32_0_1 (broadcastInDim S1x32 ![1] bcast_S32_S1x32_1
      (Host.exp (mulf (sitofp .f32 (iotaInDim S32 32 0)) (broadcastInDim S32 ![] bcast_S_S32 (constant S_ .f32 0xBE935D8E#32))))))

/-- The angles of the heads of 128 lanes. -/
def ang64 : FVec Ideal S32x64 .f32 :=
  mulf (broadcastInDim S32x64 ![0, 1] bcast_S32x1_S32x64_0_1 (broadcastInDim S32x1 ![0] bcast_S32_S32x1_0 (sitofp .f32 (broadcastInDim S32 ![] bcast_S_S32 (constantI S_ 32 8192#32)))))
    (broadcastInDim S32x64 ![0, 1] bcast_S1x64_S32x64_0_1 (broadcastInDim S1x64 ![1] bcast_S64_S1x64_1
      (Host.exp (mulf (sitofp .f32 (iotaInDim S64 32 0)) (broadcastInDim S64 ![] bcast_S_S64 (constant S_ .f32 0xBE135D8E#32))))))

variable (m : (ℓ : Loc nD τ sig) → Buf (Elt Ideal) ℓ)

/-- The cosines of the heads of 64 lanes. -/
theorem V_v26 (c : Dev nD) : V m c main_v26
    = Host.gather gather_S32x32_S128x1_S32x128_0_1_n_n_1_1_321 (Host.cos ang32) (look (constantI S_ 32 32#32)) := by
  after_reads_simp
  rfl

/-- Their signed sines. -/
theorem V_v37 (c : Dev nD) : V m c main_v37
    = mulf (Host.gather gather_S32x32_S128x1_S32x128_0_1_n_n_1_1_321 (Host.sin ang32) (look (constantI S_ 32 32#32)))
      (sgn (constantI S_ 32 64#32) (constantI S_ 32 32#32)) := by
  after_reads_simp
  rfl

/-- The cosines of the heads of 128 lanes. -/
theorem V_v61 (c : Dev nD) : V m c main_v61
    = Host.gather gather_S32x64_S128x1_S32x128_0_1_n_n_1_1_321 (Host.cos ang64) (look (constantI S_ 32 64#32)) := by
  after_reads_simp
  rfl

/-- Their signed sines. -/
theorem V_v72 (c : Dev nD) : V m c main_v72
    = mulf (Host.gather gather_S32x64_S128x1_S32x128_0_1_n_n_1_1_321 (Host.sin ang64) (look (constantI S_ 32 64#32)))
      (sgn (constantI S_ 32 128#32) (constantI S_ 32 64#32)) := by
  after_reads_simp
  rfl

open Cert.QkvReferenceIdeal.Value (ang)

/-- The angles at an index. -/
theorem ang32_at (t : Fin 32) (d : Fin 32) : ang32 (ix2 t d) = ang 0xBE935D8E#32 8192 d.val := by
  pointwise [ang32, ang]

/-- The angles at an index. -/
theorem ang64_at (t : Fin 32) (d : Fin 64) : ang64 (ix2 t d) = ang 0xBE135D8E#32 8192 d.val := by
  pointwise [ang64, ang]

/-- The signs at an index, heads of 64 lanes. -/
theorem sgn32_at (n : Fin 32) (l : Fin 128) :
    sgn (constantI S_ 32 64#32) (constantI S_ 32 32#32) (ix2 n l) = if l.val % 64 < 32 then Ideal.ofBits FTy.f32 0xBF800000#32 else 1 := by
  pointwise [sgn]
  rw [(half_at l).1]
  by_cases h : l.val % 64 < 32 <;> simp [Scalar.select, h]

/-- The signs at an index, heads of 128 lanes. -/
theorem sgn64_at (n : Fin 32) (l : Fin 128) :
    sgn (constantI S_ 32 128#32) (constantI S_ 32 64#32) (ix2 n l) = if l.val < 64 then Ideal.ofBits FTy.f32 0xBF800000#32 else 1 := by
  pointwise [sgn]
  rw [(half_at l).2]
  by_cases h : l.val < 64 <;> simp [Scalar.select, h]

/-- A lookup in a table of 32 columns. -/
theorem look32_at (x : FVec Ideal S32x32 .f32) (n : Fin 32) (l : Fin 128) :
    Host.gather gather_S32x32_S128x1_S32x128_0_1_n_n_1_1_321 x (look (constantI S_ 32 32#32)) (ix2 n l) = x (ix2 n ⟨l.val % 32, Nat.mod_lt _ (by decide)⟩) := by
  refine (gather_cols_at (by decide) _ x _ n l).trans (congrArg x (congrArg (ix2 n) (Fin.ext ?_)))
  dsimp only
  rw [(look_at l).1]
  exact (col_at l).1

/-- A lookup in a table of 64 columns. -/
theorem look64_at (x : FVec Ideal S32x64 .f32) (n : Fin 32) (l : Fin 128) :
    Host.gather gather_S32x64_S128x1_S32x128_0_1_n_n_1_1_321 x (look (constantI S_ 32 64#32)) (ix2 n l) = x (ix2 n ⟨l.val % 64, Nat.mod_lt _ (by decide)⟩) := by
  refine (gather_cols_at (by decide) _ x _ n l).trans (congrArg x (congrArg (ix2 n) (Fin.ext ?_)))
  dsimp only
  rw [(look_at l).2]
  exact (col_at l).2

/-- The table of cosines at an index, heads of 64 lanes. -/
theorem ca_tab (c : Dev nD) (n : Fin 32) (l : Fin 128) :
    (V m c main_v26 : FVec Ideal S32x128 .f32) (ix2 n l) = Ideal.cos (ang 0xBE935D8E#32 8192 (l.val % 32)) := by
  refine (congrFun (V_v26 m c) _).trans ((look32_at _ n l).trans ?_)
  exact congrArg Ideal.cos (ang32_at n _)

/-- The table of signed sines at an index, heads of 64 lanes. -/
theorem sa_tab (c : Dev nD) (n : Fin 32) (l : Fin 128) :
    (V m c main_v37 : FVec Ideal S32x128 .f32) (ix2 n l)
      = Ideal.sin (ang 0xBE935D8E#32 8192 (l.val % 32)) * (if l.val % 64 < 32 then Ideal.ofBits FTy.f32 0xBF800000#32 else 1) := by
  refine (congrFun (V_v37 m c) _).trans (congrArg₂ (· * ·) ((look32_at _ n l).trans ?_) (sgn32_at n l))
  exact congrArg Ideal.sin (ang32_at n _)

/-- The table of cosines at an index, heads of 128 lanes. -/
theorem cb_tab (c : Dev nD) (n : Fin 32) (l : Fin 128) :
    (V m c main_v61 : FVec Ideal S32x128 .f32) (ix2 n l) = Ideal.cos (ang 0xBE135D8E#32 8192 (l.val % 64)) := by
  refine (congrFun (V_v61 m c) _).trans ((look64_at _ n l).trans ?_)
  exact congrArg Ideal.cos (ang64_at n _)

/-- The table of signed sines at an index, heads of 128 lanes. -/
theorem sb_tab (c : Dev nD) (n : Fin 32) (l : Fin 128) :
    (V m c main_v72 : FVec Ideal S32x128 .f32) (ix2 n l)
      = Ideal.sin (ang 0xBE135D8E#32 8192 (l.val % 64)) * (if l.val < 64 then Ideal.ofBits FTy.f32 0xBF800000#32 else 1) := by
  refine (congrFun (V_v72 m c) _).trans (congrArg₂ (· * ·) ((look64_at _ n l).trans ?_) (sgn64_at n l))
  exact congrArg Ideal.sin (ang64_at n _)

/-- The rows of `x` in their buffer. -/
theorem V_v0 (c : Dev nD) : V m c main_v0
    = shapeCast S32x2048 (m ((c : Thread nD τ).loc main_arg0)) shapeCasts_S32x1x2048_S32x2048 := by
  after_reads_simp
  rfl

/-- The gain in its buffer. -/
theorem V_v81 (c : Dev nD) : V m c main_v81
    = shapeCast S1x2048 (m ((c : Thread nD τ).loc main_arg1)) shapeCasts_S2048_S1x2048 := by
  after_reads_simp
  rfl

/-- The weights in their buffer. -/
theorem V_v80 (c : Dev nD) : V m c main_v80 = WT (m ((c : Thread nD τ).loc main_arg2)) := by
  after_reads_simp
  unfold WT
  refine congrArg (fun v => truncf (F := Ideal) FTy.bf16 v bitsLt_bf16_f32) (cat_congr ?_ ?_ ?_ ?_ ?_ ?_)
  · show StableHlo.upto _ _ 184 (Proc.tc.devRef main_v73) = _
    after_reads_simp
  · show StableHlo.upto _ _ 184 (Proc.tc.devRef main_v76) = _
    after_reads_simp
  · show StableHlo.upto _ _ 184 (Proc.tc.devRef main_v74) = _
    after_reads_simp
  · show StableHlo.upto _ _ 184 (Proc.tc.devRef main_v77) = _
    after_reads_simp
  · show StableHlo.upto _ _ 184 (Proc.tc.devRef main_v75) = _
    after_reads_simp
  · show StableHlo.upto _ _ 184 (Proc.tc.devRef main_v78) = _
    after_reads_simp

end Cert.QkvSampleIdeal.Value
-- ==== Proof.QkvSampleStaged.lean ====
/-
What the projection at the sample group's shapes stages at each of its 8 points, and what its scratch buffer holds.

  One row tile of 32 rows, eight column tiles of 512 columns. The first point normalises the rows into the scratch buffer,
  the seven others find them there.

    x_at, g_at, w_at          the staged rows, gain and columns as entries of the arguments;
    ca_at, sa_at, cb_at, sb_at the staged tables as cosines and signed sines of position 8192's angle;
    scratch_norm              the scratch buffer holds the normalised rows at every point.
-/
module

public import proofs.«01_k».proof.Proof.Gen.QkvSampleIdeal.Value
public import proofs.«01_k».proof.Proof.QkvSampleHost
public import Idealize.ShloMosaic.Lib.Pipeline.ValueKit
public import Idealize.ShloMosaic.Lib.Pipeline.ReadBack
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvSampleIdeal.Value

open Cert.QkvSampleIdeal Cert.QkvSampleIdeal.Gen
open Cert.QkvReferenceIdeal.Value (ang nrm rope)
open Cert.QkvSampleReferenceIdeal.Value (proj)
open Cert.QkvIdeal.Value (perm WT_at)

variable (m : (ℓ : Loc nD τ sig) → Buf (Elt Ideal) ℓ)

/-- The windows' block indices at every point: the one row tile, column tile `t`; the tables stay. -/
theorem idx : ∀ t : Fin cfg0.N, win0_0.index t = ![0, 0] ∧ win0_1.index t = ![0, 0] ∧ win0_2.index t = ![0, 0, t.val % 8]
    ∧ win0_3.index t = ![0, 0] ∧ win0_4.index t = ![0, 0] ∧ win0_5.index t = ![0, 0]
    ∧ win0_6.index t = ![0, 0] ∧ win0_7.index t = ![0, t.val % 8] ∧ t.val < 8 :=
  (by decide +kernel : ∀ t : Fin grid0.N, _)

/-- The point's number is below 8. -/
theorem lt8 (t : Fin cfg0.N) : t.val < 8 := (idx t).2.2.2.2.2.2.2.2

/-- The rows as one matrix. -/
theorem x_tab (X : FVec Ideal S32x1x2048 .f32) (n : Fin 32) (k : Fin 2048) :
    shapeCast S32x2048 X shapeCasts_S32x1x2048_S32x2048 (ix2 n k)
      = X (ix3 n 0 k) := by
  pointwise

/-- The staged rows of `x`. -/
theorem x_at (c : Dev nD) (t : Fin cfg0.N) (r : Fin 32) (k : Fin 2048) :
    (iblk m c 0 t : FVec Ideal S32x2048 .f32) (ix2 r k) = (m ((c : Thread nD τ).loc main_arg0) : FVec Ideal S32x1x2048 .f32)
      (ix3 r 0 k) := by
  have h := idx t
  refine Eq.trans ?_ (x_tab (m ((c : Thread nD τ).loc main_arg0)) r k)
  blk_simp [iblk]
  refine (congrFun (V_v0 m c) _).trans ?_
  refine congrArg _ ?_
  blk_ext [h]

/-- The staged gain. -/
theorem g_at (c : Dev nD) (t : Fin cfg0.N) (k : Fin 2048) :
    (iblk m c 1 t : FVec Ideal S1x2048 .f32) (ix2 0 k) = (m ((c : Thread nD τ).loc main_arg1) : FVec Ideal S2048 .f32) (ix1 k) := by
  have h := idx t
  blk_simp [iblk]
  refine (congrFun (V_v81 m c) _).trans ?_
  pointwise
  blk_ext [h]

/-- The staged weights: 512 columns of the first layer's, in the kernel's order. -/
theorem w_at (c : Dev nD) (t : Fin cfg0.N) (k : Fin 2048) (l : Fin 512) :
    (iblk m c 2 t : FVec Ideal S1x2048x512 .bf16) (ix3 0 k l) = (m ((c : Thread nD τ).loc main_arg2) : FVec Ideal S2x2048x4096 .f32)
      (ix3 0 k ⟨perm (t.val % 8 * 512 + l.val) % 4096, Nat.mod_lt _ (by decide)⟩) := by
  have h := idx t
  refine Eq.trans ?_ (WT_at (m ((c : Thread nD τ).loc main_arg2)) 0 k ⟨t.val % 8 * 512 + l.val, by omega⟩)
  blk_simp [iblk]
  refine (congrFun (V_v80 m c) _).trans ?_
  refine congrArg _ ?_
  blk_ext [h]

/-- The staged cosines, heads of 64 lanes. -/
theorem ca_at (c : Dev nD) (t : Fin cfg0.N) (r : Fin 32) (l : Fin 128) :
    (iblk m c 3 t : FVec Ideal S32x128 .f32) (ix2 r l) = Ideal.cos (ang 0xBE935D8E#32 8192 (l.val % 32)) := by
  have h := idx t
  refine Eq.trans ?_ (ca_tab m c r l)
  blk_simp [iblk]
  refine congrArg (V m c main_v26) ?_
  blk_ext [h]

/-- The staged signed sines, heads of 64 lanes. -/
theorem sa_at (c : Dev nD) (t : Fin cfg0.N) (r : Fin 32) (l : Fin 128) :
    (iblk m c 4 t : FVec Ideal S32x128 .f32) (ix2 r l) = Ideal.sin (ang 0xBE935D8E#32 8192 (l.val % 32)) * (if l.val % 64 < 32 then Ideal.ofBits FTy.f32 0xBF800000#32 else 1) := by
  have h := idx t
  refine Eq.trans ?_ (sa_tab m c r l)
  blk_simp [iblk]
  refine congrArg (V m c main_v37) ?_
  blk_ext [h]

/-- The staged cosines, heads of 128 lanes. -/
theorem cb_at (c : Dev nD) (t : Fin cfg0.N) (r : Fin 32) (l : Fin 128) :
    (iblk m c 5 t : FVec Ideal S32x128 .f32) (ix2 r l) = Ideal.cos (ang 0xBE135D8E#32 8192 (l.val % 64)) := by
  have h := idx t
  refine Eq.trans ?_ (cb_tab m c r l)
  blk_simp [iblk]
  refine congrArg (V m c main_v61) ?_
  blk_ext [h]

/-- The staged signed sines, heads of 128 lanes. -/
theorem sb_at (c : Dev nD) (t : Fin cfg0.N) (r : Fin 32) (l : Fin 128) :
    (iblk m c 6 t : FVec Ideal S32x128 .f32) (ix2 r l) = Ideal.sin (ang 0xBE135D8E#32 8192 (l.val % 64)) * (if l.val < 64 then Ideal.ofBits FTy.f32 0xBF800000#32 else 1) := by
  have h := idx t
  refine Eq.trans ?_ (sb_tab m c r l)
  blk_simp [iblk]
  refine congrArg (V m c main_v72) ?_
  blk_ext [h]

/-- The staged rows stay. -/
theorem iblk0_prev (c : Dev nD) (t : Fin cfg0.N) :
    (iblk m c 0 ⟨t.val - 1, Nat.lt_of_le_of_lt (Nat.sub_le _ _) t.isLt⟩ : FVec Ideal S32x2048 .f32) = iblk m c 0 t := by
  refine funext fun (y : S32x2048.Idx) => ?_
  rw [eq_ix2 y]
  exact (x_at m c _ (y 0) (y 1)).trans (x_at m c t (y 0) (y 1)).symm

/-- The staged gain stays. -/
theorem iblk1_prev (c : Dev nD) (t : Fin cfg0.N) :
    (iblk m c 1 ⟨t.val - 1, Nat.lt_of_le_of_lt (Nat.sub_le _ _) t.isLt⟩ : FVec Ideal S1x2048 .f32) = iblk m c 1 t := by
  refine funext fun (y : S1x2048.Idx) => ?_
  rw [eq_ix2 y]
  obtain h0 : y 0 = (0 : Fin 1) := Fin.ext (Nat.lt_one_iff.mp (y 0).isLt)
  rw [h0]
  exact (g_at m c _ (y 1)).trans (g_at m c t (y 1)).symm

/-- At every point the scratch buffer holds the normalised rows. -/
theorem scratch_norm (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    rw [outsAt0_A m c ⟨0, h⟩ rfl (by simp) (by simp) (by simp)]
    frame_out
  | succ n ih =>
    intro h
    have hN : n + 1 < 8 := lt8 ⟨n + 1, h⟩
    by_cases h0 : (n + 1) % 8 = 0
    · rw [outsAt0_A m c ⟨n + 1, h⟩ h0 (by dsimp only; omega) (by dsimp only; omega) (by dsimp only; omega)]
      frame_out
    · have key := ih (Nat.lt_of_succ_lt h)
      have e0 := iblk0_prev m c ⟨n + 1, h⟩
      have e1 := iblk1_prev m c ⟨n + 1, h⟩
      have hc : ((n + 1) % 8 = 0 ∨ (n + 1) % 8 = 1 ∨ (n + 1) % 8 = 4) ∨ ((n + 1) % 8 = 2 ∨ (n + 1) % 8 = 3 ∨ (n + 1) % 8 = 5) ∨ 6 ≤ n + 1 := by omega
      rcases hc with hc | hc | hc
      · rw [outsAt0_B m c ⟨n + 1, h⟩ h0 hc (by dsimp only; omega) (by dsimp only; omega)]
        frame_out
        exact key.trans (by rw [← e0, ← e1]; rfl)
      · rw [outsAt0_C m c ⟨n + 1, h⟩ h0 (by dsimp only; omega) hc (by dsimp only; omega)]
        frame_out
        exact key.trans (by rw [← e0, ← e1]; rfl)
      · rw [outsAt0_D m c ⟨n + 1, h⟩ h0 (by dsimp only; omega) (by dsimp only; omega) hc]
        frame_out
        exact key.trans (by rw [← e0, ← e1]; rfl)

/-- The normalised rows, entrywise. -/
theorem pay1_at (x : FVec Ideal S32x2048 .f32) (g : FVec Ideal S1x2048 .f32) (r : Fin 32) (k : Fin 2048) :
    k0_pay1 (F := Ideal) x g (ix2 r k) = nrm (fun k => x (ix2 r k)) (fun k => g (ix2 0 k)) k := by
  pointwise [k0_pay1, nrm]

end Cert.QkvSampleIdeal.Value
-- ==== Proof.QkvSampleTiles.lean ====
/-
The four stores of a rotated column tile at the sample group's shapes, entrywise: as in the prompt group's program each is
`tile` (Proof/QkvTiles.lean) of the row's products with its own 128 columns.

    row, rowF  a row's product with one column of 256, or of 512;
    pay…_at    each store is `tile` of the products of its own 128 columns.
-/
module

public import proofs.«01_k».proof.Proof.QkvTiles
public import proofs.«01_k».proof.Proof.Gen.QkvSampleIdeal.Value
public import proofs.«01_k».proof.Proof.QkvSampleHost
public import Idealize.ShloMosaic.Lib.Pipeline.ValueKit
public import Idealize.ShloMosaic.Lib.Pipeline.ReadBack
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvSampleIdeal.Value

open Cert.QkvSampleIdeal Cert.QkvSampleIdeal.Gen
open Cert.QkvReferenceIdeal.Value (ang nrm rope)
open Cert.QkvSampleReferenceIdeal.Value (proj)
open Cert.QkvIdeal.Value (tile)

/-- Row `r` times one column of 256. -/
def row (xn : FVec Ideal S32x2048 .bf16) (w : FVec Ideal S1x2048x256 .bf16) (r : Fin 32) (j : ℕ) : EReal :=
  ∑ k : Fin 2048, xn (ix2 r k) * w (ix3 0 k ⟨j % 256, Nat.mod_lt _ (by decide)⟩)

/-- Row `r` times one column of 512. -/
def rowF (xn : FVec Ideal S32x2048 .bf16) (w : FVec Ideal S1x2048x512 .bf16) (r : Fin 32) (j : ℕ) : EReal :=
  ∑ k : Fin 2048, xn (ix2 r k) * w (ix3 0 k ⟨j % 512, Nat.mod_lt _ (by decide)⟩)

/-- The two loads of half a column tile. -/
theorem ld_at (X : FVec Ideal S1x2048x512 .bf16) (k : Fin 2048) (l : Fin 256) :
    (View.ld (Val := Elt Ideal) (e' := .bf16) X (Rect.unit ![0, 0, 0] ![1, 2048, 256] inb_S1x2048x512_S1x2048x256_0_0_0) : FVec Ideal S1x2048x256 .bf16) (ix3 0 k l) = X (ix3 0 k ⟨l.val, by omega⟩)
    ∧ (View.ld (Val := Elt Ideal) (e' := .bf16) X (Rect.unit ![0, 0, 256] ![1, 2048, 256] inb_S1x2048x512_S1x2048x256_0_0_256) : FVec Ideal S1x2048x256 .bf16) (ix3 0 k l) = X (ix3 0 k ⟨256 + l.val, by omega⟩) := by
  refine ⟨?_, ?_⟩ <;> (pointwise; try rfl)

/-- A product with a column of the first loaded half. -/
theorem row_lo (xn : FVec Ideal S32x2048 .bf16) (X : FVec Ideal S1x2048x512 .bf16) (r : Fin 32) (j : ℕ) (hj : j < 256) :
    row xn (View.ld (Val := Elt Ideal) (e' := .bf16) X (Rect.unit ![0, 0, 0] ![1, 2048, 256] inb_S1x2048x512_S1x2048x256_0_0_0) : FVec Ideal S1x2048x256 .bf16) r j = rowF xn X r j := by
  refine Finset.sum_congr rfl fun k _ => congrArg (xn (ix2 r k) * ·) ?_
  refine (ld_at X k _).1.trans (congrArg (fun a => X (ix3 0 k a)) (Fin.ext ?_))
  show j % 256 = j % 512
  omega

/-- A product with a column of the second loaded half. -/
theorem row_hi (xn : FVec Ideal S32x2048 .bf16) (X : FVec Ideal S1x2048x512 .bf16) (r : Fin 32) (j : ℕ) (hj : j < 256) :
    row xn (View.ld (Val := Elt Ideal) (e' := .bf16) X (Rect.unit ![0, 0, 256] ![1, 2048, 256] inb_S1x2048x512_S1x2048x256_0_0_256) : FVec Ideal S1x2048x256 .bf16) r j = rowF xn X r (256 + j) := by
  refine Finset.sum_congr rfl fun k _ => congrArg (xn (ix2 r k) * ·) ?_
  refine (ld_at X k _).2.trans (congrArg (fun a => X (ix3 0 k a)) (Fin.ext ?_))
  show 256 + j % 256 = (256 + j) % 512
  omega

/-- The mask of the first half of each head of 64 lanes. -/
theorem pay6_at (r : Fin 32) (l : Fin 128) : k0_pay6 (ix2 r l) = BitVec.ofBool (decide (l.val % 64 < 32)) := by
  pointwise [k0_pay6]
  revert l
  decide +kernel

variable (xn : FVec Ideal S32x2048 .bf16) (w : FVec Ideal S1x2048x256 .bf16) (ca sa : FVec Ideal S32x128 .f32) (r : Fin 32) (l : Fin 128)

/-- Equal indices of a sum of products. -/
theorem row_ix (a : Fin 256) (j : ℕ) (h : a.val = j % 256) : (∑ k : Fin 2048, xn (ix2 r k) * w (ix3 0 k a)) = row xn w r j := by
  obtain rfl : a = ⟨j % 256, Nat.mod_lt _ (by decide)⟩ := Fin.ext h
  rfl

/-- The first store, heads of 64 lanes. -/
theorem pay8_at : k0_pay8 (F := Ideal) xn w ca sa (ix2 r l) = tile 32 (row xn w r) l.val (ca (ix2 r l)) (sa (ix2 r l)) := by
  pointwise [k0_pay8, k0_pay7, pay6_at]
  rw [row_ix xn w r _ l.val (by show l.val = _; omega), tile]
  by_cases h : l.val % 64 < 32
  · rw [if_pos h, if_pos h, row_ix xn w r _ (l.val + 32) (by show (l.val + 128 - 96) % 128 = _; omega)]
  · rw [if_neg h, if_neg h, row_ix xn w r _ (l.val - 32) (by show (l.val + 128 - 32) % 128 = _; omega)]

/-- The third store, heads of 64 lanes. -/
theorem pay13_at : k0_pay13 (F := Ideal) k0_pay6 xn w ca sa (ix2 r l) = tile 32 (row xn w r) l.val (ca (ix2 r l)) (sa (ix2 r l)) := by
  pointwise [k0_pay13, k0_pay12, pay6_at]
  rw [row_ix xn w r _ l.val (by show l.val = _; omega), tile]
  by_cases h : l.val % 64 < 32
  · rw [if_pos h, if_pos h, row_ix xn w r _ (l.val + 32) (by show (l.val + 128 - 96) % 128 = _; omega)]
  · rw [if_neg h, if_neg h, row_ix xn w r _ (l.val - 32) (by show (l.val + 128 - 32) % 128 = _; omega)]

/-- The second store, heads of 64 lanes. -/
theorem pay11_at : k0_pay11 (F := Ideal) k0_pay6 (k0_pay9 xn w) (k0_pay10 xn w) ca sa (ix2 r l)
    = tile 32 (row xn w r) (128 + l.val) (ca (ix2 r l)) (sa (ix2 r l)) := by
  pointwise [k0_pay11, k0_pay10, k0_pay9, k0_pay7, pay6_at]
  rw [row_ix xn w r _ (128 + l.val) (by show 128 + l.val = _; omega), tile]
  by_cases h : l.val % 64 < 32
  · have h' : (128 + l.val) % (2 * 32) < 32 := by omega
    rw [if_pos h, if_pos h', row_ix xn w r _ (128 + l.val + 32) (by show 128 + (l.val + 128 - 96) % 128 = _; omega)]
  · have h' : ¬(128 + l.val) % (2 * 32) < 32 := by omega
    rw [if_neg h, if_neg h', row_ix xn w r _ (128 + l.val - 32) (by show 128 + (l.val + 128 - 32) % 128 = _; omega)]

/-- The fourth store, heads of 64 lanes. -/
theorem pay2_at : k0_pay2 (F := Ideal) (k0_pay15 k0_pay6 xn w) (k0_pay16 xn w ca) sa (ix2 r l)
    = tile 32 (row xn w r) (128 + l.val) (ca (ix2 r l)) (sa (ix2 r l)) := by
  pointwise [k0_pay2, k0_pay15, k0_pay16, k0_pay14, k0_pay12, pay6_at]
  rw [row_ix xn w r _ (128 + l.val) (by show 128 + l.val = _; omega), tile]
  by_cases h : l.val % 64 < 32
  · have h' : (128 + l.val) % (2 * 32) < 32 := by omega
    rw [if_pos h, if_pos h', row_ix xn w r _ (128 + l.val + 32) (by show 128 + (l.val + 128 - 96) % 128 = _; omega)]
  · have h' : ¬(128 + l.val) % (2 * 32) < 32 := by omega
    rw [if_neg h, if_neg h', row_ix xn w r _ (128 + l.val - 32) (by show 128 + (l.val + 128 - 32) % 128 = _; omega)]

/-- The first store, heads of 128 lanes. -/
theorem pay18_at : k0_pay18 (F := Ideal) xn w ca sa (ix2 r l) = tile 64 (row xn w r) l.val (ca (ix2 r l)) (sa (ix2 r l)) := by
  pointwise [k0_pay18, k0_pay17]
  rw [row_ix xn w r _ l.val (by show l.val = _; omega), tile]
  by_cases h : l.val % (2 * 64) < 64
  · rw [if_pos h, row_ix xn w r _ (l.val + 64) (by show (l.val + 128 - 64) % 128 = _; omega)]
  · rw [if_neg h, row_ix xn w r _ (l.val - 64) (by show (l.val + 128 - 64) % 128 = _; omega)]

/-- The second store, heads of 128 lanes. -/
theorem pay19_at : k0_pay19 (F := Ideal) xn w ca sa (ix2 r l) = tile 64 (row xn w r) (128 + l.val) (ca (ix2 r l)) (sa (ix2 r l)) := by
  pointwise [k0_pay19, k0_pay17]
  rw [row_ix xn w r _ (128 + l.val) (by show 128 + l.val = _; omega), tile]
  by_cases h : (128 + l.val) % (2 * 64) < 64
  · rw [if_pos h, row_ix xn w r _ (128 + l.val + 64) (by show 128 + (l.val + 128 - 64) % 128 = _; omega)]
  · rw [if_neg h, row_ix xn w r _ (128 + l.val - 64) (by show 128 + (l.val + 128 - 64) % 128 = _; omega)]

/-- The third store, heads of 128 lanes. -/
theorem pay3_at : k0_pay3 (F := Ideal) (k0_pay21 xn w) (k0_pay22 xn w) ca sa (ix2 r l)
    = tile 64 (row xn w r) l.val (ca (ix2 r l)) (sa (ix2 r l)) := by
  pointwise [k0_pay3, k0_pay21, k0_pay22, k0_pay20]
  rw [row_ix xn w r _ l.val (by show l.val = _; omega), tile]
  by_cases h : l.val % (2 * 64) < 64
  · rw [if_pos h, row_ix xn w r _ (l.val + 64) (by show (l.val + 128 - 64) % 128 = _; omega)]
  · rw [if_neg h, row_ix xn w r _ (l.val - 64) (by show (l.val + 128 - 64) % 128 = _; omega)]

/-- The fourth store, heads of 128 lanes. -/
theorem pay4_at : k0_pay4 (F := Ideal) (k0_pay20 xn w) ca sa (ix2 r l)
    = tile 64 (row xn w r) (128 + l.val) (ca (ix2 r l)) (sa (ix2 r l)) := by
  pointwise [k0_pay4, k0_pay20]
  rw [row_ix xn w r _ (128 + l.val) (by show 128 + l.val = _; omega), tile]
  by_cases h : (128 + l.val) % (2 * 64) < 64
  · rw [if_pos h, row_ix xn w r _ (128 + l.val + 64) (by show 128 + (l.val + 128 - 64) % 128 = _; omega)]
  · rw [if_neg h, row_ix xn w r _ (128 + l.val - 64) (by show 128 + (l.val + 128 - 64) % 128 = _; omega)]

/-- The values' columns are stored as they are. -/
theorem pay5_at (W : FVec Ideal S1x2048x512 .bf16) (j : Fin 512) : k0_pay5 (F := Ideal) xn W (ix2 r j) = rowF xn W r j.val := by
  pointwise [k0_pay5, rowF]
  simp only [Nat.mod_eq_of_lt j.isLt]

end Cert.QkvSampleIdeal.Value
-- ==== Proof.QkvSampleValue.lean ====
/-
The projection's result at the sample group's shapes, entrywise, is the reference's: every point writes its block.

    pointA … pointD   what each kind of point writes: `tile` of the row's products with the staged columns, or for the
                      values the products themselves;
    row_ref           such a product is the reference's projection at the column the staged one came from;
    rotA, rotB        so a rotated tile is the reference's rotation;
    point, final      and the written array is the reference's.
-/
module

public import proofs.«01_k».proof.Proof.Gen.QkvSampleIdeal.Value
public import proofs.«01_k».proof.Proof.QkvSampleStaged
public import proofs.«01_k».proof.Proof.QkvSampleTiles
public import proofs.«01_k».proof.Proof.QkvSampleHost
public import Idealize.ShloMosaic.Lib.Pipeline.ValueKit
public import Idealize.ShloMosaic.Lib.Pipeline.ReadBack
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvSampleIdeal.Value

open Cert.QkvSampleIdeal Cert.QkvSampleIdeal.Gen
open Cert.QkvReferenceIdeal.Value (ang nrm rope)
open Cert.QkvSampleReferenceIdeal.Value (proj)
open Cert.QkvIdeal.Value (perm tile tile_piece turn)

variable (m : (ℓ : Loc nD τ sig) → Buf (Elt Ideal) ℓ)

/-- A piece's own index, from its two coordinates. -/
theorem piece_ix (x : S32x128.Idx) (r : Fin 32) (l : Fin 128) (h0 : r.val = (x 0).val) (h1 : l.val = (x 1).val) : x = ix2 r l := by
  funext a
  match a with
  | ⟨0, _⟩ => exact Fin.ext h0.symm
  | ⟨1, _⟩ => exact Fin.ext h1.symm

/-- The first column tile: the point that normalises the rows. -/
theorem pointA (c : Dev nD) (t : Fin cfg0.N) (h0 : t.val % 8 = 0) (r : Fin 32) (l : Fin 512) :
    (outsAt0 m c t.val t.isLt).1 (ix2 r l) = tile 32 (rowF (k0_pay1 (iblk m c 0 t) (iblk m c 1 t)) (iblk m c 2 t) r) l.val
      ((iblk m c 3 t : FVec Ideal S32x128 .f32) (ix2 r ⟨l.val % 128, Nat.mod_lt _ (by decide)⟩))
      ((iblk m c 4 t : FVec Ideal S32x128 .f32) (ix2 r ⟨l.val % 128, Nat.mod_lt _ (by decide)⟩)) := by
  rw [outsAt0_A m c t h0 (by omega) (by omega) (by have := lt8 t; omega)]
  frame_out
  canon_tiles x h
  · obtain ⟨l', rfl, hl⟩ : ∃ l' : Fin 128, x = ix2 r l' ∧ l.val = 256 + (128 + l'.val) :=
      ⟨x 1, piece_ix x r (x 1) h0 rfl, by have e : l.val = 384 + (x 1).val := h1; show l.val = 256 + (128 + (x 1).val); omega⟩
    have e : (⟨l.val % 128, Nat.mod_lt _ (by decide)⟩ : Fin 128) = l' := Fin.ext (by show l.val % 128 = l'.val; omega)
    rw [e, hl]
    exact (pay2_at _ _ _ _ r l').trans (tile_piece 32 (.inl rfl) _ _ 256 (by decide) 256 (by decide) (128 + l'.val) (by omega)
      (fun j hj => row_hi _ _ r j hj) _ _)
  · obtain ⟨l', rfl, hl⟩ : ∃ l' : Fin 128, x = ix2 r l' ∧ l.val = 256 + (l'.val) :=
      ⟨x 1, piece_ix x r (x 1) h0 rfl, by have e : l.val = 256 + (x 1).val := h1; show l.val = 256 + ((x 1).val); omega⟩
    have e : (⟨l.val % 128, Nat.mod_lt _ (by decide)⟩ : Fin 128) = l' := Fin.ext (by show l.val % 128 = l'.val; omega)
    rw [e, hl]
    exact (pay13_at _ _ _ _ r l').trans (tile_piece 32 (.inl rfl) _ _ 256 (by decide) 256 (by decide) (l'.val) (by omega)
      (fun j hj => row_hi _ _ r j hj) _ _)
  · obtain ⟨l', rfl, hl⟩ : ∃ l' : Fin 128, x = ix2 r l' ∧ l.val = 0 + (128 + l'.val) :=
      ⟨x 1, piece_ix x r (x 1) h0 rfl, by have e : l.val = 128 + (x 1).val := h1; show l.val = 0 + (128 + (x 1).val); omega⟩
    have e : (⟨l.val % 128, Nat.mod_lt _ (by decide)⟩ : Fin 128) = l' := Fin.ext (by show l.val % 128 = l'.val; omega)
    rw [e, hl]
    exact (pay11_at _ _ _ _ r l').trans (tile_piece 32 (.inl rfl) _ _ 0 (by decide) 256 (by decide) (128 + l'.val) (by omega)
      (fun j hj => (row_lo _ _ r j hj).trans (by rw [Nat.zero_add])) _ _)
  · obtain ⟨l', rfl, hl⟩ : ∃ l' : Fin 128, x = ix2 r l' ∧ l.val = 0 + (l'.val) :=
      ⟨x 1, piece_ix x r (x 1) h0 rfl, by have e : l.val = (x 1).val := h1; show l.val = 0 + ((x 1).val); omega⟩
    have e : (⟨l.val % 128, Nat.mod_lt _ (by decide)⟩ : Fin 128) = l' := Fin.ext (by show l.val % 128 = l'.val; omega)
    rw [e, hl]
    exact (pay8_at _ _ _ _ r l').trans (tile_piece 32 (.inl rfl) _ _ 0 (by decide) 256 (by decide) (l'.val) (by omega)
      (fun j hj => (row_lo _ _ r j hj).trans (by rw [Nat.zero_add])) _ _)

/-- The other column tiles of heads of 64 lanes. -/
theorem pointB (c : Dev nD) (t : Fin cfg0.N) (g0 : ¬t.val % 8 = 0) (g1 : t.val % 8 = 0 ∨ t.val % 8 = 1 ∨ t.val % 8 = 4) (r : Fin 32) (l : Fin 512) :
    (outsAt0 m c t.val t.isLt).1 (ix2 r l) = tile 32 (rowF (k0_pay1 (iblk m c 0 t) (iblk m c 1 t)) (iblk m c 2 t) r) l.val
      ((iblk m c 3 t : FVec Ideal S32x128 .f32) (ix2 r ⟨l.val % 128, Nat.mod_lt _ (by decide)⟩))
      ((iblk m c 4 t : FVec Ideal S32x128 .f32) (ix2 r ⟨l.val % 128, Nat.mod_lt _ (by decide)⟩)) := by
  rw [outsAt0_B m c t g0 g1 (by omega) (by have := lt8 t; omega)]
  frame_out
  simp only [scratch_norm m c (t.val - 1), iblk0_prev m c t, iblk1_prev m c t, Memref.IsWhole.read_unread, read_unread_whole]
  canon_tiles x h
  · obtain ⟨l', rfl, hl⟩ : ∃ l' : Fin 128, x = ix2 r l' ∧ l.val = 256 + (128 + l'.val) :=
      ⟨x 1, piece_ix x r (x 1) h0 rfl, by have e : l.val = 384 + (x 1).val := h1; show l.val = 256 + (128 + (x 1).val); omega⟩
    have e : (⟨l.val % 128, Nat.mod_lt _ (by decide)⟩ : Fin 128) = l' := Fin.ext (by show l.val % 128 = l'.val; omega)
    rw [e, hl]
    exact (pay2_at _ _ _ _ r l').trans (tile_piece 32 (.inl rfl) _ _ 256 (by decide) 256 (by decide) (128 + l'.val) (by omega)
      (fun j hj => row_hi _ _ r j hj) _ _)
  · obtain ⟨l', rfl, hl⟩ : ∃ l' : Fin 128, x = ix2 r l' ∧ l.val = 256 + (l'.val) :=
      ⟨x 1, piece_ix x r (x 1) h0 rfl, by have e : l.val = 256 + (x 1).val := h1; show l.val = 256 + ((x 1).val); omega⟩
    have e : (⟨l.val % 128, Nat.mod_lt _ (by decide)⟩ : Fin 128) = l' := Fin.ext (by show l.val % 128 = l'.val; omega)
    rw [e, hl]
    exact (pay13_at _ _ _ _ r l').trans (tile_piece 32 (.inl rfl) _ _ 256 (by decide) 256 (by decide) (l'.val) (by omega)
      (fun j hj => row_hi _ _ r j hj) _ _)
  · obtain ⟨l', rfl, hl⟩ : ∃ l' : Fin 128, x = ix2 r l' ∧ l.val = 0 + (128 + l'.val) :=
      ⟨x 1, piece_ix x r (x 1) h0 rfl, by have e : l.val = 128 + (x 1).val := h1; show l.val = 0 + (128 + (x 1).val); omega⟩
    have e : (⟨l.val % 128, Nat.mod_lt _ (by decide)⟩ : Fin 128) = l' := Fin.ext (by show l.val % 128 = l'.val; omega)
    rw [e, hl]
    exact (pay11_at _ _ _ _ r l').trans (tile_piece 32 (.inl rfl) _ _ 0 (by decide) 256 (by decide) (128 + l'.val) (by omega)
      (fun j hj => (row_lo _ _ r j hj).trans (by rw [Nat.zero_add])) _ _)
  · obtain ⟨l', rfl, hl⟩ : ∃ l' : Fin 128, x = ix2 r l' ∧ l.val = 0 + (l'.val) :=
      ⟨x 1, piece_ix x r (x 1) h0 rfl, by have e : l.val = (x 1).val := h1; show l.val = 0 + ((x 1).val); omega⟩
    have e : (⟨l.val % 128, Nat.mod_lt _ (by decide)⟩ : Fin 128) = l' := Fin.ext (by show l.val % 128 = l'.val; omega)
    rw [e, hl]
    exact (pay8_at _ _ _ _ r l').trans (tile_piece 32 (.inl rfl) _ _ 0 (by decide) 256 (by decide) (l'.val) (by omega)
      (fun j hj => (row_lo _ _ r j hj).trans (by rw [Nat.zero_add])) _ _)

/-- The column tiles of heads of 128 lanes. -/
theorem pointC (c : Dev nD) (t : Fin cfg0.N) (g0 : ¬t.val % 8 = 0) (g1 : ¬(t.val % 8 = 0 ∨ t.val % 8 = 1 ∨ t.val % 8 = 4))
   (g2 : t.val % 8 = 2 ∨ t.val % 8 = 3 ∨ t.val % 8 = 5) (r : Fin 32) (l : Fin 512) :
    (outsAt0 m c t.val t.isLt).1 (ix2 r l) = tile 64 (rowF (k0_pay1 (iblk m c 0 t) (iblk m c 1 t)) (iblk m c 2 t) r) l.val
      ((iblk m c 5 t : FVec Ideal S32x128 .f32) (ix2 r ⟨l.val % 128, Nat.mod_lt _ (by decide)⟩))
      ((iblk m c 6 t : FVec Ideal S32x128 .f32) (ix2 r ⟨l.val % 128, Nat.mod_lt _ (by decide)⟩)) := by
  rw [outsAt0_C m c t g0 g1 g2 (by have := lt8 t; omega)]
  frame_out
  simp only [scratch_norm m c (t.val - 1), iblk0_prev m c t, iblk1_prev m c t, Memref.IsWhole.read_unread, read_unread_whole]
  canon_tiles x h
  · obtain ⟨l', rfl, hl⟩ : ∃ l' : Fin 128, x = ix2 r l' ∧ l.val = 256 + (128 + l'.val) :=
      ⟨x 1, piece_ix x r (x 1) h0 rfl, by have e : l.val = 384 + (x 1).val := h1; show l.val = 256 + (128 + (x 1).val); omega⟩
    have e : (⟨l.val % 128, Nat.mod_lt _ (by decide)⟩ : Fin 128) = l' := Fin.ext (by show l.val % 128 = l'.val; omega)
    rw [e, hl]
    exact (pay4_at _ _ _ _ r l').trans (tile_piece 64 (.inr rfl) _ _ 256 (by decide) 256 (by decide) (128 + l'.val) (by omega)
      (fun j hj => row_hi _ _ r j hj) _ _)
  · obtain ⟨l', rfl, hl⟩ : ∃ l' : Fin 128, x = ix2 r l' ∧ l.val = 256 + (l'.val) :=
      ⟨x 1, piece_ix x r (x 1) h0 rfl, by have e : l.val = 256 + (x 1).val := h1; show l.val = 256 + ((x 1).val); omega⟩
    have e : (⟨l.val % 128, Nat.mod_lt _ (by decide)⟩ : Fin 128) = l' := Fin.ext (by show l.val % 128 = l'.val; omega)
    rw [e, hl]
    exact (pay3_at _ _ _ _ r l').trans (tile_piece 64 (.inr rfl) _ _ 256 (by decide) 256 (by decide) (l'.val) (by omega)
      (fun j hj => row_hi _ _ r j hj) _ _)
  · obtain ⟨l', rfl, hl⟩ : ∃ l' : Fin 128, x = ix2 r l' ∧ l.val = 0 + (128 + l'.val) :=
      ⟨x 1, piece_ix x r (x 1) h0 rfl, by have e : l.val = 128 + (x 1).val := h1; show l.val = 0 + (128 + (x 1).val); omega⟩
    have e : (⟨l.val % 128, Nat.mod_lt _ (by decide)⟩ : Fin 128) = l' := Fin.ext (by show l.val % 128 = l'.val; omega)
    rw [e, hl]
    exact (pay19_at _ _ _ _ r l').trans (tile_piece 64 (.inr rfl) _ _ 0 (by decide) 256 (by decide) (128 + l'.val) (by omega)
      (fun j hj => (row_lo _ _ r j hj).trans (by rw [Nat.zero_add])) _ _)
  · obtain ⟨l', rfl, hl⟩ : ∃ l' : Fin 128, x = ix2 r l' ∧ l.val = 0 + (l'.val) :=
      ⟨x 1, piece_ix x r (x 1) h0 rfl, by have e : l.val = (x 1).val := h1; show l.val = 0 + ((x 1).val); omega⟩
    have e : (⟨l.val % 128, Nat.mod_lt _ (by decide)⟩ : Fin 128) = l' := Fin.ext (by show l.val % 128 = l'.val; omega)
    rw [e, hl]
    exact (pay18_at _ _ _ _ r l').trans (tile_piece 64 (.inr rfl) _ _ 0 (by decide) 256 (by decide) (l'.val) (by omega)
      (fun j hj => (row_lo _ _ r j hj).trans (by rw [Nat.zero_add])) _ _)

/-- The column tiles of the values. -/
theorem pointD (c : Dev nD) (t : Fin cfg0.N) (g3 : 6 ≤ t.val % 8) (r : Fin 32) (l : Fin 512) :
    (outsAt0 m c t.val t.isLt).1 (ix2 r l) = rowF (k0_pay1 (iblk m c 0 t) (iblk m c 1 t)) (iblk m c 2 t) r l.val := by
  rw [outsAt0_D m c t (by have := lt8 t; omega) (by have := lt8 t; omega) (by have := lt8 t; omega) (by omega)]
  frame_out
  simp only [scratch_norm m c (t.val - 1), iblk0_prev m c t, iblk1_prev m c t, Memref.IsWhole.read_unread, read_unread_whole]
  exact pay5_at _ r _ l

/-- A row's product with a staged column is the reference's projection at the column it came from. -/
theorem row_ref (c : Dev nD) (t : Fin cfg0.N) (r : Fin 32) (j : ℕ) (hj : j < 512) :
    rowF (k0_pay1 (iblk m c 0 t) (iblk m c 1 t)) (iblk m c 2 t) r j
      = proj (m ((c : Thread nD τ).loc main_arg0)) (m ((c : Thread nD τ).loc main_arg1)) (m ((c : Thread nD τ).loc main_arg2)) r (perm (t.val % 8 * 512 + j)) := by
  refine Finset.sum_congr rfl fun k _ => ?_
  refine congrArg₂ (· * ·) ?_ ?_
  · refine (pay1_at _ _ r k).trans ?_
    exact congrArg₂ (fun y g => nrm y g k) (funext fun k => x_at m c t r k) (funext fun k => g_at m c t k)
  · refine (w_at m c t k _).trans ?_
    show _ = (_ : FVec Ideal S2x2048x4096 .f32) _
    simp only [Nat.mod_eq_of_lt hj]

/-- A column tile of heads of 64 lanes is the reference's rotation of its columns. -/
theorem rotA (c : Dev nD) (t : Fin cfg0.N) (r : Fin 32) (l : Fin 512) (o q : ℕ) (hq : 128 ∣ q)
    (hy : ∀ j < 512, perm (t.val % 8 * 512 + j) = o + (q + j)) :
    tile 32 (rowF (k0_pay1 (iblk m c 0 t) (iblk m c 1 t)) (iblk m c 2 t) r) l.val
      ((iblk m c 3 t : FVec Ideal S32x128 .f32) (ix2 r ⟨l.val % 128, Nat.mod_lt _ (by decide)⟩))
      ((iblk m c 4 t : FVec Ideal S32x128 .f32) (ix2 r ⟨l.val % 128, Nat.mod_lt _ (by decide)⟩))
    = rope 0xBE935D8E#32 32 8192 (fun j => proj (m ((c : Thread nD τ).loc main_arg0)) (m ((c : Thread nD τ).loc main_arg1)) (m ((c : Thread nD τ).loc main_arg2)) r (o + j)) (q + l.val) := by
  refine (tile_piece 32 (.inl rfl) _ (fun j => proj (m ((c : Thread nD τ).loc main_arg0)) (m ((c : Thread nD τ).loc main_arg1)) (m ((c : Thread nD τ).loc main_arg2)) r (o + j)) q hq 512 (by decide) l.val l.isLt
    (fun j hj => (row_ref m c t r j hj).trans (by rw [hy j hj])) _ _).trans ?_
  refine turn _ 32 _ _ _ _ _ (((ca_at m c t r _).trans ?_)) ((sa_at m c t r _).trans ?_)
  · show Ideal.cos (ang _ _ (l.val % 128 % 32)) = _
    rw [show l.val % 128 % 32 = (q + l.val) % 32 by omega]
  · show Ideal.sin (ang _ _ (l.val % 128 % 32)) * (if l.val % 128 % 64 < 32 then _ else _) = _
    rw [show l.val % 128 % 32 = (q + l.val) % 32 by omega, show l.val % 128 % 64 = (q + l.val) % (2 * 32) by omega]

/-- A column tile of heads of 128 lanes is the reference's rotation of its columns. -/
theorem rotB (c : Dev nD) (t : Fin cfg0.N) (r : Fin 32) (l : Fin 512) (o q : ℕ) (hq : 128 ∣ q)
    (hy : ∀ j < 512, perm (t.val % 8 * 512 + j) = o + (q + j)) :
    tile 64 (rowF (k0_pay1 (iblk m c 0 t) (iblk m c 1 t)) (iblk m c 2 t) r) l.val
      ((iblk m c 5 t : FVec Ideal S32x128 .f32) (ix2 r ⟨l.val % 128, Nat.mod_lt _ (by decide)⟩))
      ((iblk m c 6 t : FVec Ideal S32x128 .f32) (ix2 r ⟨l.val % 128, Nat.mod_lt _ (by decide)⟩))
    = rope 0xBE135D8E#32 64 8192 (fun j => proj (m ((c : Thread nD τ).loc main_arg0)) (m ((c : Thread nD τ).loc main_arg1)) (m ((c : Thread nD τ).loc main_arg2)) r (o + j)) (q + l.val) := by
  refine (tile_piece 64 (.inr rfl) _ (fun j => proj (m ((c : Thread nD τ).loc main_arg0)) (m ((c : Thread nD τ).loc main_arg1)) (m ((c : Thread nD τ).loc main_arg2)) r (o + j)) q hq 512 (by decide) l.val l.isLt
    (fun j hj => (row_ref m c t r j hj).trans (by rw [hy j hj])) _ _).trans ?_
  refine turn _ 64 _ _ _ _ _ (((cb_at m c t r _).trans ?_)) ((sb_at m c t r _).trans ?_)
  · show Ideal.cos (ang _ _ (l.val % 128 % 64)) = _
    rw [show l.val % 128 % 64 = (q + l.val) % 64 by omega]
  · show Ideal.sin (ang _ _ (l.val % 128 % 64)) * (if l.val % 128 < 64 then _ else _) = _
    rw [show l.val % 128 % 64 = (q + l.val) % 64 by omega, show l.val % 128 = (q + l.val) % (2 * 64) by omega]

/-- Every point writes the reference's block. -/
theorem point (c : Dev nD) (t : Fin cfg0.N) (r : Fin 32) (l : Fin 512) :
    (outsAt0 m c t.val t.isLt).1 (ix2 r l)
      = Cert.QkvSampleReferenceIdeal.Value.REF (m ((c : Thread nD τ).loc main_arg0)) (m ((c : Thread nD τ).loc main_arg1)) (m ((c : Thread nD τ).loc main_arg2)) (ix2 r ⟨t.val % 8 * 512 + l.val, by omega⟩) := by
  have hc : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases hc with h | h | h | h | h | h | h | h
  · refine (pointA m c t h r l).trans ((rotA m c t r l 0 0 (by decide) (fun j hj => by unfold perm; split_ifs <;> omega)).trans ?_)
    exact (Cert.QkvSampleReferenceIdeal.Value.REF_Qa _ _ _ _ ⟨0 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 0 + (0 + l.val); omega))).symm
  · refine (pointB m c t (by omega) (by omega) r l).trans ((rotA m c t r l 0 512 (by decide) (fun j hj => by unfold perm; split_ifs <;> omega)).trans ?_)
    exact (Cert.QkvSampleReferenceIdeal.Value.REF_Qa _ _ _ _ ⟨512 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 0 + (512 + l.val); omega))).symm
  · refine (pointC m c t (by omega) (by omega) (by omega) r l).trans ((rotB m c t r l 2048 0 (by decide) (fun j hj => by unfold perm; split_ifs <;> omega)).trans ?_)
    exact (Cert.QkvSampleReferenceIdeal.Value.REF_Qb _ _ _ _ ⟨0 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 1024 + (0 + l.val); omega))).symm
  · refine (pointC m c t (by omega) (by omega) (by omega) r l).trans ((rotB m c t r l 2048 512 (by decide) (fun j hj => by unfold perm; split_ifs <;> omega)).trans ?_)
    exact (Cert.QkvSampleReferenceIdeal.Value.REF_Qb _ _ _ _ ⟨512 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 1024 + (512 + l.val); omega))).symm
  · refine (pointB m c t (by omega) (by omega) r l).trans ((rotA m c t r l 1024 0 (by decide) (fun j hj => by unfold perm; split_ifs <;> omega)).trans ?_)
    exact (Cert.QkvSampleReferenceIdeal.Value.REF_Ka _ _ _ _ ⟨0 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 2048 + (0 + l.val); omega))).symm
  · refine (pointC m c t (by omega) (by omega) (by omega) r l).trans ((rotB m c t r l 3072 0 (by decide) (fun j hj => by unfold perm; split_ifs <;> omega)).trans ?_)
    exact (Cert.QkvSampleReferenceIdeal.Value.REF_Kb _ _ _ _ ⟨0 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 2560 + (0 + l.val); omega))).symm
  · refine (pointD m c t (by omega) r l).trans (((row_ref m c t r l.val l.isLt).trans (congrArg (proj (m ((c : Thread nD τ).loc main_arg0)) (m ((c : Thread nD τ).loc main_arg1)) (m ((c : Thread nD τ).loc main_arg2)) r) (show perm (t.val % 8 * 512 + l.val) = 1536 + (0 + l.val) by unfold perm; split_ifs <;> omega))).trans ?_)
    exact (Cert.QkvSampleReferenceIdeal.Value.REF_Va _ _ _ _ ⟨0 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 3072 + (0 + l.val); omega))).symm
  · refine (pointD m c t (by omega) r l).trans (((row_ref m c t r l.val l.isLt).trans (congrArg (proj (m ((c : Thread nD τ).loc main_arg0)) (m ((c : Thread nD τ).loc main_arg1)) (m ((c : Thread nD τ).loc main_arg2)) r) (show perm (t.val % 8 * 512 + l.val) = 3584 + (0 + l.val) by unfold perm; split_ifs <;> omega))).trans ?_)
    exact (Cert.QkvSampleReferenceIdeal.Value.REF_Vb _ _ _ _ ⟨0 + l.val, by omega⟩).symm.trans (congrArg (fun a => Cert.QkvSampleReferenceIdeal.Value.REF (m ((c : Thread nD τ).loc main_arg0)) (m ((c : Thread nD τ).loc main_arg1)) (m ((c : Thread nD τ).loc main_arg2)) (ix2 r a)) (Fin.ext (by show t.val % 8 * 512 + l.val = 3584 + (0 + l.val); omega))).symm

/-- The result array after the run is the reference's term of the three arguments. -/
theorem final (c : Dev nD) : (dats m 0 c).arrAt 7 cfg0.N = Cert.QkvSampleReferenceIdeal.Value.REF (m ((c : Thread nD τ).loc main_arg0)) (m ((c : Thread nD τ).loc main_arg1)) (m ((c : Thread nD τ).loc main_arg2)) := by
  refine (dats m 0 c).arrAt_eq_of_covers 7 _ (by decide +kernel) fun t hf y => ?_
  have hW := (idx t).2.2.2.2.2.2.2.1
  blk_simp
  rw [after0_7]
  have ey : y = (ix2 (y 0) (y 1) : S32x512.Idx) := eq_ix2 y
  refine (congrArg (outsAt0 m c t.val t.isLt).1 ey).trans ((point m c t (y 0) (y 1)).trans ?_)
  refine congrArg _ ?_
  blk_ext [hW]

end Cert.QkvSampleIdeal.Value
-- ==== Proof.QkvSampleClaims.lean ====
/-
  The claims about the q/k/v projection at the sample group's shapes: the frames of the kernel at both instances and of the reference, the
  idealization, and the equality of the two results over the extended reals (Proof/QkvSampleValue.lean has the mathematics).
-/
module

public import proofs.«01_k».proof.Defs
public import proofs.«01_k».proof.Proof.QkvSampleValue
public import proofs.«01_k».proof.Proof.Gen.QkvSample.Frame
public import Idealize.ShloMosaic.Lib.Claim
public import Idealize.ShloMosaic.Lib.Quiescent
public import Idealize.ShloMosaic.Adequacy

@[expose] public section

set_option maxRecDepth 16384

noncomputable section

namespace Cert.QkvSampleClaims

open Idealize.ShloMosaic Idealize.SL.Sem

/-- The reference runs and leaves its arguments unchanged. -/
theorem frame_ri : Cert.quiescent_QkvSampleReferenceIdeal (hQkvSampleReferenceIdeal := Cert.QkvSampleReferenceIdeal.Gen.facts) := by
  intro m g _
  exact (θ_run _ _ _).mono (fun r h => ⟨fun c => (h c).2, sem_eq_zero_of_no_sems (sig := Cert.QkvSampleReferenceIdeal.sig) rfl r.2⟩)
    (Cert.QkvSampleReferenceIdeal.Value.run m g)

/-- Kernel and reference end with equal results over the extended reals, for every argument. -/
theorem algebraic : Cert.algebraic_QkvSampleIdeal_QkvSampleReferenceIdeal (hQkvSampleIdeal := Cert.QkvSampleIdeal.Gen.facts) (hQkvSampleReferenceIdeal := Cert.QkvSampleReferenceIdeal.Gen.facts) := by
  pair_intro
  · run_from Cert.QkvSampleIdeal.Gen.run_main m g
    exacts [Cert.QkvSampleIdeal.Gen.V_main_arg0 m c, Cert.QkvSampleIdeal.Gen.V_main_arg1 m c, Cert.QkvSampleIdeal.Gen.V_main_arg2 m c]
  · run_from Cert.QkvSampleReferenceIdeal.Value.run m' g'
    obtain ⟨e0, e1, e2⟩ := hagree c
    refine Eq.trans ?_ (Cert.QkvSampleIdeal.Value.final m c).symm
    rw [← e0, ← e1, ← e2]
    rfl

end Cert.QkvSampleClaims

end
-- ==== Proof.PleSampleValue.lean ====
/-
  The VALUE of the gated embedding's program with the final norm at the sample group's shapes: its result array equals,
  over the extended reals, the reference's `rmsnorm(x + sigmoid(x @ w_gate) * rmsnorm(p @ w_proj))`, for every argument.
  One point writes all 32 rows. The entry of one row is the same function `nrm` of the same `gated` row as for the prompt
  group (Proof/PleValue.lean).

    point   the written block is the reference's block;
    final   and the array is the reference's.
-/
module

public import proofs.«01_k».proof.Proof.PleValue
public import proofs.«01_k».proof.Proof.Gen.PleSampleIdeal.Value
public import proofs.«01_k».proof.Proof.Gen.PleSampleReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleSampleReferenceIdeal.Value

open Cert.PleSampleReferenceIdeal Cert.PleSampleReferenceIdeal.Gen

/-- The reference's norm of rows, with a gain. -/
def rNorm (Y : FVec Ideal S32x1x2048 .f32) (G : FVec Ideal S2048 .f32) : FVec Ideal S32x1x2048 .f32 :=
  (mulf (mulf Y (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf Y Y) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x358637BD#32)))))) (broadcastInDim S32x1x2048 ![0, 1, 2] bcast_S1x1x2048_S32x1x2048_0_1_2 (broadcastInDim S1x1x2048 ![2] bcast_S2048_S1x1x2048_2 G)))

/-- The reference's gated sum. -/
def rGate (X : FVec Ideal S32x1x2048 .f32) (P : FVec Ideal S32x1x256 .f32) (WG : FVec Ideal S2x2048x2048 .f32)
    (WP : FVec Ideal S2x256x2048 .f32) (GN : FVec Ideal S2048 .f32) : FVec Ideal S32x1x2048 .f32 :=
  (addf X (mulf (Host.divf (broadcastInDim S32x1x2048 ![] bcast_S_S32x1x2048 (constant S_ .f32 0x3F800000#32)) (addf (broadcastInDim S32x1x2048 ![] bcast_S_S32x1x2048 (constant S_ .f32 0x3F800000#32)) (Host.exp (Host.negf (Host.dotGeneral dot_S32x1x2048_S2048x2048_S32x1x2048_2_0_01_1_n_n none X (shapeCast S2048x2048 (extractStridedSlice S1x2048x2048 ![1, 0, 0] WG slices_S2x2048x2048_S1x2048x2048_1_0_0) shapeCasts_S1x2048x2048_S2048x2048)))))) (rNorm (Host.dotGeneral dot_S32x1x256_S256x2048_S32x1x2048_2_0_01_1_n_n none P (shapeCast S256x2048 (extractStridedSlice S1x256x2048 ![1, 0, 0] WP slices_S2x256x2048_S1x256x2048_1_0_0) shapeCasts_S1x256x2048_S256x2048)) GN)))

/-- The reference's result as one term of its six arguments. -/
def REF (X : FVec Ideal S32x1x2048 .f32) (P : FVec Ideal S32x1x256 .f32) (WG : FVec Ideal S2x2048x2048 .f32)
    (WP : FVec Ideal S2x256x2048 .f32) (GN FN : FVec Ideal S2048 .f32) : FVec Ideal S32x2048 .f32 :=
  shapeCast _ (rNorm (rGate X P WG WP GN) FN) shapeCasts_S32x1x2048_S32x2048

open Cert.PleReferenceIdeal.Value (nrm gated)

/-- The reference's norm at an index. -/
theorem rNorm_at (Y : FVec Ideal S32x1x2048 .f32) (G : FVec Ideal S2048 .f32) (b : Fin 32) (l : Fin 2048) :
    rNorm Y G (ix3 b 0 l) = nrm (fun k => Y (ix3 b 0 k)) (fun k => G (ix1 k)) l := by
  pointwise [rNorm, nrm]

/-- The reference's gated sum at an index. -/
theorem rGate_at (X : FVec Ideal S32x1x2048 .f32) (P : FVec Ideal S32x1x256 .f32) (WG : FVec Ideal S2x2048x2048 .f32)
    (WP : FVec Ideal S2x256x2048 .f32) (GN : FVec Ideal S2048 .f32) (b : Fin 32) (l : Fin 2048) :
    rGate X P WG WP GN (ix3 b 0 l) = gated (fun k => X (ix3 b 0 k)) (fun k => P (ix3 b 0 k)) (fun k n => WG (ix3 1 k n))
      (fun k n => WP (ix3 1 k n)) (fun k => GN (ix1 k)) l := by
  unfold rGate gated
  refine Ideal.add_congr rfl (congrArg₂ (· * ·) ?_ ((rNorm_at _ _ b l).trans ?_))
  · pointwise
    rw [zero_sub]
  · refine congrArg (fun f => nrm f _ l) (funext fun n => ?_)
    pointwise

/-- The reference's result at an index. -/
theorem REF_at (X : FVec Ideal S32x1x2048 .f32) (P : FVec Ideal S32x1x256 .f32) (WG : FVec Ideal S2x2048x2048 .f32)
    (WP : FVec Ideal S2x256x2048 .f32) (GN FN : FVec Ideal S2048 .f32) (n : Fin 32) (l : Fin 2048) :
    REF X P WG WP GN FN (ix2 n l) = nrm (gated (fun k => X (ix3 n 0 k))
      (fun k => P (ix3 n 0 k)) (fun k n => WG (ix3 1 k n))
      (fun k n => WP (ix3 1 k n)) (fun k => GN (ix1 k))) (fun k => FN (ix1 k)) l := by
  have e : REF X P WG WP GN FN (ix2 n l)
      = rNorm (rGate X P WG WP GN) FN (ix3 n 0 l) := by
    unfold REF
    generalize rNorm (rGate X P WG WP GN) FN = Y
    pointwise
  rw [e, rNorm_at]
  exact congrArg (fun f => nrm f _ l) (funext fun k => rGate_at X P WG WP GN _ k)

end Cert.PleSampleReferenceIdeal.Value

namespace Cert.PleSampleIdeal.Value

open Cert.PleSampleIdeal Cert.PleSampleIdeal.Gen

variable (m : (ℓ : Loc nD τ sig) → Buf (Elt Ideal) ℓ)

/-- The windows' block indices: the one row tile; the weights' blocks are the last layer's. -/
theorem idx : ∀ t : Fin cfg0.N, win0_0.index t = ![0, 0] ∧ win0_1.index t = ![0, 0] ∧ win0_2.index t = ![1, 0, 0]
    ∧ win0_3.index t = ![1, 0, 0] ∧ win0_4.index t = ![0, 0] ∧ win0_5.index t = ![0, 0] ∧ win0_6.index t = ![0, 0] :=
  (by decide +kernel : ∀ t : Fin grid0.N, _)

open Cert.PleSampleReferenceIdeal.Value (REF REF_at)
open Cert.PleReferenceIdeal.Value (nrm gated)

/-- The gated sum's payload at an entry. -/
theorem pay2_at (x : FVec Ideal S32x2048 .f32) (p : FVec Ideal S32x256 .f32) (wp : FVec Ideal S1x256x2048 .bf16)
    (wg : FVec Ideal S1x2048x2048 .bf16) (g : FVec Ideal S1x2048 .f32) (r : Fin 32) (l : Fin 2048) :
    k0_pay2 (F := Ideal) x p wp wg g (ix2 r l) = gated (fun k => x (ix2 r k)) (fun k => p (ix2 r k)) (fun k n => wg (ix3 0 k n))
      (fun k n => wp (ix3 0 k n)) (fun k => g (ix2 0 k)) l := by
  pointwise [k0_pay2, gated, nrm]

/-- The normalising payload at an entry. -/
theorem pay1_at (y : FVec Ideal S32x2048 .f32) (g : FVec Ideal S1x2048 .f32) (r : Fin 32) (l : Fin 2048) :
    k0_pay1 (F := Ideal) y g (ix2 r l) = nrm (fun k => y (ix2 r k)) (fun k => g (ix2 0 k)) l := by
  pointwise [k0_pay1, nrm]

/-- The staged rows of `x`. -/
theorem x_at (c : Dev nD) (t : Fin cfg0.N) (r : Fin 32) (k : Fin 2048) :
    (iblk m c 0 t : FVec Ideal S32x2048 .f32) (ix2 r k) = (m ((c : Thread nD τ).loc main_arg0) : FVec Ideal S32x1x2048 .f32)
      (ix3 r 0 k) := by
  have h := idx t
  blk_simp [iblk]; entry_read; pointwise; blk_ext [h]

/-- The staged rows of the layer's embedding. -/
theorem p_at (c : Dev nD) (t : Fin cfg0.N) (r : Fin 32) (k : Fin 256) :
    (iblk m c 1 t : FVec Ideal S32x256 .f32) (ix2 r k) = (m ((c : Thread nD τ).loc main_arg1) : FVec Ideal S32x1x256 .f32)
      (ix3 r 0 k) := by
  have h := idx t
  blk_simp [iblk]; entry_read; pointwise; blk_ext [h]

/-- The staged gate weights are the last layer's. -/
theorem wg_at (c : Dev nD) (t : Fin cfg0.N) (k n : Fin 2048) :
    (iblk m c 2 t : FVec Ideal S1x2048x2048 .bf16) (ix3 0 k n) = (m ((c : Thread nD τ).loc main_arg2) : FVec Ideal S2x2048x2048 .f32) (ix3 1 k n) := by
  have h := idx t
  blk_simp [iblk]; entry_read; pointwise; blk_ext [h]

/-- The staged embedding weights are the last layer's. -/
theorem wp_at (c : Dev nD) (t : Fin cfg0.N) (k : Fin 256) (n : Fin 2048) :
    (iblk m c 3 t : FVec Ideal S1x256x2048 .bf16) (ix3 0 k n) = (m ((c : Thread nD τ).loc main_arg3) : FVec Ideal S2x256x2048 .f32) (ix3 1 k n) := by
  have h := idx t
  blk_simp [iblk]; entry_read; pointwise; blk_ext [h]

/-- The staged gain of the embedding. -/
theorem gn_at (c : Dev nD) (t : Fin cfg0.N) (k : Fin 2048) :
    (iblk m c 4 t : FVec Ideal S1x2048 .f32) (ix2 0 k) = (m ((c : Thread nD τ).loc main_arg4) : FVec Ideal S2048 .f32) (ix1 k) := by
  have h := idx t
  blk_simp [iblk]; entry_read; pointwise; blk_ext [h]

/-- The staged final gain. -/
theorem fn_at (c : Dev nD) (t : Fin cfg0.N) (k : Fin 2048) :
    (iblk m c 5 t : FVec Ideal S1x2048 .f32) (ix2 0 k) = (m ((c : Thread nD τ).loc main_arg5) : FVec Ideal S2048 .f32) (ix1 k) := by
  have h := idx t
  blk_simp [iblk]; entry_read; pointwise; blk_ext [h]

/-- What a point writes at a block index is the reference's value at the array index it sits at. -/
theorem point (c : Dev nD) (t : Fin cfg0.N) (r : Fin 32) (l : Fin 2048) :
    out0_6 (iblk m c 0 t) (iblk m c 1 t) (iblk m c 2 t) (iblk m c 3 t) (iblk m c 4 t) (iblk m c 5 t) (ix2 r l : S32x2048.Idx)
      = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (ix2 r l) := by
  frame_out
  have e3 : (k0_pay3 (iblk m c 5 t) : FVec Ideal S1x2048 .f32) = iblk m c 5 t := by
    funext j; pointwise [k0_pay3]
  rw [REF_at, e3, pay1_at]
  simp only [pay2_at, x_at, p_at, wg_at, wp_at, gn_at, fn_at]

/-- The result array after the run is the reference's term of the six arguments. -/
theorem final (c : Dev nD) : (dats m 0 c).arrAt 6 cfg0.N
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  have h6 := (idx t).2.2.2.2.2.2
  blk_simp
  rw [after0_6]
  refine (congrArg (out0_6 (iblk m c 0 t) (iblk m c 1 t) (iblk m c 2 t) (iblk m c 3 t) (iblk m c 4 t) (iblk m c 5 t)) (eq_ix2 y)).trans
    ((point m c t (y 0) (y 1)).trans ?_)
  refine congrArg _ ?_
  blk_ext [h6]

end Cert.PleSampleIdeal.Value
-- ==== Proof.PleSampleClaims.lean ====
/-
  The claims about the gated embedding with the final norm at the sample group's shapes: the frames of the kernel at both instances and of the reference, the
  idealization, and the equality of the two results over the extended reals (Proof/PleSampleValue.lean has the mathematics).
-/
module

public import proofs.«01_k».proof.Defs
public import proofs.«01_k».proof.Proof.PleSampleValue
public import proofs.«01_k».proof.Proof.Gen.PleSample.Frame
public import Idealize.ShloMosaic.Lib.Claim
public import Idealize.ShloMosaic.Lib.Quiescent
public import Idealize.ShloMosaic.Adequacy

@[expose] public section

set_option maxRecDepth 16384

noncomputable section

namespace Cert.PleSampleClaims

open Idealize.ShloMosaic Idealize.SL.Sem

/-- The reference runs and leaves its arguments unchanged. -/
theorem frame_ri : Cert.quiescent_PleSampleReferenceIdeal (hPleSampleReferenceIdeal := Cert.PleSampleReferenceIdeal.Gen.facts) := by
  intro m g _
  exact (θ_run _ _ _).mono (fun r h => ⟨fun c => (h c).2, sem_eq_zero_of_no_sems (sig := Cert.PleSampleReferenceIdeal.sig) rfl r.2⟩)
    (Cert.PleSampleReferenceIdeal.Value.run m g)

/-- Kernel and reference end with equal results over the extended reals, for every argument. -/
theorem algebraic : Cert.algebraic_PleSampleIdeal_PleSampleReferenceIdeal (hPleSampleIdeal := Cert.PleSampleIdeal.Gen.facts) (hPleSampleReferenceIdeal := Cert.PleSampleReferenceIdeal.Gen.facts) := by
  pair_intro
  · run_from Cert.PleSampleIdeal.Gen.run_main m g
  · run_from Cert.PleSampleReferenceIdeal.Value.run m' g'
    obtain ⟨e0, e1, e2, e3, e4, e5⟩ := hagree c
    refine Eq.trans ?_ (Cert.PleSampleIdeal.Value.final m c).symm
    rw [← e0, ← e1, ← e2, ← e3, ← e4, ← e5]
    rfl

end Cert.PleSampleClaims

end
-- ==== Proof.SoftmaxMath.lean ====
/-
  The arithmetic of a masked softmax over the extended reals, computed in one pass over tiles of keys or at once.

  A logit is a real number, or `⊥` where the key is masked. Of a running pass (greatest logit `m`, sum `l` of the
  exponentials of the logits less `m`, sums `acc` of those exponentials times the values) `Inv` says that `m` is real
  and that `l` and `acc` are the exponentials' unshifted sums `Z` and `N`, times `exp (-κ m)`. The factor cancels in
  `acc / l`, so the result is `N / Z` whatever the tiles were. `κ` is the rate of the exponential: 1 for `exp`, and
  `log 2` for the power of two.
-/
module

public import Mathlib.Analysis.SpecialFunctions.Pow.Real
public import Idealize.ShloMosaic.PureOps.Ideal
public import Idealize.ShloMosaic.PureOps.Ideal.Laws

@[expose] public section

noncomputable section

namespace Cert.Softmax

open Idealize.ShloMosaic

/-- `E` is an exponential of rate `κ`, zero at `⊥`. -/
structure Expo (E : EReal → EReal) (κ : ℝ) : Prop where
  bot : E ⊥ = 0
  coe : ∀ r : ℝ, E (r : EReal) = ((Real.exp (κ * r) : ℝ) : EReal)

/-- The natural exponential has rate 1. -/
theorem expo_exp : Expo Ideal.exp 1 := ⟨rfl, fun r => by rw [one_mul]; rfl⟩

/-- The power of two has rate `log 2`. -/
theorem expo_exp2 : Expo Ideal.exp2 (Real.log 2) := ⟨rfl, fun r => by
  rw [Ideal.exp2_coe, ← Real.rpow_def_of_pos (by norm_num : (0 : ℝ) < 2)]; rfl⟩

/-- A finite sum of real numbers is real. -/
theorem sum_coe {ι : Type} [Fintype ι] (f : ι → ℝ) : ∑ i, (f i : EReal) = ((∑ i, f i : ℝ) : EReal) :=
  (map_sum (⟨⟨Real.toEReal, rfl⟩, EReal.coe_add⟩ : ℝ →+ EReal) f Finset.univ).symm

/-- A finite sum of terms each equal to a real number. -/
theorem sum_eq_coe {ι : Type} [Fintype ι] {F : ι → EReal} {f : ι → ℝ} (h : ∀ i, F i = (f i : EReal)) :
    ∑ i, F i = ((∑ i, f i : ℝ) : EReal) := by
  rw [← sum_coe]; exact Finset.sum_congr rfl fun i _ => h i

/-- The weight of a key: the exponential of its logit, zero where it is masked. -/
def wt (κ : ℝ) (p : Prop) [Decidable p] (x : ℝ) : ℝ := if p then Real.exp (κ * x) else 0

/-- A weight is not negative. -/
theorem wt_nonneg (κ : ℝ) (p : Prop) [Decidable p] (x : ℝ) : 0 ≤ wt κ p x := by
  unfold wt; split
  · exact (Real.exp_pos _).le
  · exact le_rfl

variable {ι : Type} [Fintype ι] {E : EReal → EReal} {κ : ℝ}

/-- The exponential of a logit less a real number. -/
theorem Expo.sub (hE : Expo E κ) (p : Prop) [Decidable p] (x μ : ℝ) :
    E ((if p then (x : EReal) else ⊥) - (μ : EReal)) = ((wt κ p x * Real.exp (-(κ * μ)) : ℝ) : EReal) := by
  unfold wt
  split
  · rw [← EReal.coe_sub, hE.coe, ← Real.exp_add]
    congr 2; ring
  · rw [EReal.bot_sub, hE.bot, zero_mul]; rfl

/-- The sum of the exponentials of a tile's logits less a real number. -/
theorem Expo.sum (hE : Expo E κ) (p : ι → Prop) [∀ k, Decidable (p k)] (x : ι → ℝ) (μ : ℝ) (t : ι → EReal)
    (ht : ∀ k, t k = if p k then (x k : EReal) else ⊥) :
    ∑ k, E (t k - (μ : EReal)) = (((∑ k, wt κ (p k) (x k)) * Real.exp (-(κ * μ)) : ℝ) : EReal) := by
  rw [Finset.sum_mul]
  exact sum_eq_coe fun k => by rw [ht k, hE.sub]

/-- The sum of those exponentials times real values. -/
theorem Expo.sum_mul (hE : Expo E κ) (p : ι → Prop) [∀ k, Decidable (p k)] (x v : ι → ℝ) (μ : ℝ) (t w : ι → EReal)
    (ht : ∀ k, t k = if p k then (x k : EReal) else ⊥) (hw : ∀ k, w k = (v k : EReal)) :
    ∑ k, w k * E (t k - (μ : EReal))
      = (((∑ k, wt κ (p k) (x k) * v k) * Real.exp (-(κ * μ)) : ℝ) : EReal) := by
  rw [Finset.sum_mul]
  exact sum_eq_coe fun k => by
    rw [ht k, hE.sub, hw k, ← EReal.coe_mul]; congr 1; ring

/-- The greatest of finitely many logits is below `⊤`. -/
theorem fold_lt_top (p : ι → Prop) [∀ k, Decidable (p k)] (x : ι → ℝ) (t : ι → EReal)
    (ht : ∀ k, t k = if p k then (x k : EReal) else ⊥) : Finset.univ.fold max (⊥ : EReal) t < ⊤ := by
  rw [Finset.fold_max_lt]
  refine ⟨bot_lt_top, fun k _ => ?_⟩
  rw [ht k]; split
  · exact EReal.coe_lt_top _
  · exact bot_lt_top

/-- An extended real strictly between the ends is real. -/
theorem exists_real {a : EReal} (h1 : ⊥ < a) (h2 : a < ⊤) : ∃ μ : ℝ, a = (μ : EReal) :=
  ⟨a.toReal, (EReal.coe_toReal h2.ne h1.ne').symm⟩

/-- The greatest of finitely many logits, one of them not masked, is real. -/
theorem fold_real (p : ι → Prop) [∀ k, Decidable (p k)] (x : ι → ℝ) (t : ι → EReal)
    (ht : ∀ k, t k = if p k then (x k : EReal) else ⊥) (hp : ∃ k, p k) :
    ∃ μ : ℝ, Finset.univ.fold max (⊥ : EReal) t = (μ : EReal) := by
  refine exists_real ?_ (fold_lt_top p x t ht)
  obtain ⟨k, hk⟩ := hp
  rw [Finset.lt_fold_max]
  exact Or.inr ⟨k, Finset.mem_univ _, by rw [ht k, if_pos hk]; exact EReal.bot_lt_coe _⟩

/-- What a pass holds after some keys: see the head of this file. -/
def Inv {D : Nat} (κ : ℝ) (m l : EReal) (acc : Fin D → EReal) (Z : ℝ) (N : Fin D → ℝ) : Prop :=
  ∃ μ : ℝ, m = (μ : EReal) ∧ l = ((Z * Real.exp (-(κ * μ)) : ℝ) : EReal)
    ∧ ∀ d, acc d = ((N d * Real.exp (-(κ * μ)) : ℝ) : EReal)

/-- The first tile starts the pass, if one of its keys is not masked. -/
theorem Inv.start {D : Nat} (hE : Expo E κ) (p : ι → Prop) [∀ k, Decidable (p k)] (x : ι → ℝ) (v : Fin D → ι → ℝ)
    (t : ι → EReal) (w : Fin D → ι → EReal) (ht : ∀ k, t k = if p k then (x k : EReal) else ⊥)
    (hw : ∀ d k, w d k = (v d k : EReal)) (hp : ∃ k, p k) {m l : EReal} {acc : Fin D → EReal}
    (hm : m = Finset.univ.fold max ⊥ t) (hl : l = ∑ k, E (t k - m)) (ha : ∀ d, acc d = ∑ k, w d k * E (t k - m)) :
    Inv κ m l acc (∑ k, wt κ (p k) (x k)) fun d => ∑ k, wt κ (p k) (x k) * v d k := by
  obtain ⟨μ, hμ⟩ := fold_real p x t ht hp
  have hm' : m = (μ : EReal) := hm.trans hμ
  subst hm'
  exact ⟨μ, rfl, hl.trans (hE.sum p x μ t ht), fun d => (ha d).trans (hE.sum_mul p x (v d) μ t (w d) ht (hw d))⟩

/-- A further tile, masked or not, carries the pass on. -/
theorem Inv.step {D : Nat} (hE : Expo E κ) (p : ι → Prop) [∀ k, Decidable (p k)] (x : ι → ℝ) (v : Fin D → ι → ℝ)
    (t : ι → EReal) (w : Fin D → ι → EReal) (ht : ∀ k, t k = if p k then (x k : EReal) else ⊥)
    (hw : ∀ d k, w d k = (v d k : EReal)) {m l m' l' : EReal} {acc acc' : Fin D → EReal} {Z : ℝ} {N : Fin D → ℝ}
    (H : Inv κ m l acc Z N) (hm : m' = max m (Finset.univ.fold max ⊥ t))
    (hl : l' = E (m - m') * l + ∑ k, E (t k - m'))
    (ha : ∀ d, acc' d = E (m - m') * acc d + ∑ k, w d k * E (t k - m')) :
    Inv κ m' l' acc' (Z + ∑ k, wt κ (p k) (x k)) fun d => N d + ∑ k, wt κ (p k) (x k) * v d k := by
  obtain ⟨μ, rfl, rfl, hN⟩ := H
  obtain ⟨μ', hμ'⟩ : ∃ μ' : ℝ, m' = (μ' : EReal) := by
    refine exists_real ?_ ?_
    · rw [hm]; exact lt_max_of_lt_left (EReal.bot_lt_coe _)
    · rw [hm]; exact max_lt (EReal.coe_lt_top _) (fold_lt_top p x t ht)
  subst hμ'
  have hα : E ((μ : EReal) - (μ' : EReal)) = ((Real.exp (κ * μ) * Real.exp (-(κ * μ')) : ℝ) : EReal) := by
    rw [← EReal.coe_sub, hE.coe, ← Real.exp_add]; congr 2; ring
  have hx : ∀ A : ℝ, Real.exp (κ * μ) * Real.exp (-(κ * μ')) * (A * Real.exp (-(κ * μ))) = A * Real.exp (-(κ * μ')) := by
    intro A
    have h1 : Real.exp (κ * μ) * Real.exp (-(κ * μ)) = 1 := by rw [← Real.exp_add, add_neg_cancel, Real.exp_zero]
    calc _ = (Real.exp (κ * μ) * Real.exp (-(κ * μ))) * (A * Real.exp (-(κ * μ'))) := by ring
      _ = _ := by rw [h1, one_mul]
  refine ⟨μ', rfl, ?_, fun d => ?_⟩
  · rw [hl, hE.sum p x μ' t ht, hα, ← EReal.coe_mul, ← EReal.coe_add, hx, ← add_mul]
  · rw [ha d, hE.sum_mul p x (v d) μ' t (w d) ht (hw d), hα, hN d, ← EReal.coe_mul, ← EReal.coe_add, hx, ← add_mul]

/-- The quotient at the end of a pass is free of the pass. -/
theorem Inv.div {D : Nat} {m l : EReal} {acc : Fin D → EReal} {Z : ℝ} {N : Fin D → ℝ} (H : Inv κ m l acc Z N)
    (hZ : 0 < Z) (d : Fin D) : Ideal.div (acc d) l = ((N d / Z : ℝ) : EReal) := by
  obtain ⟨μ, -, rfl, hN⟩ := H
  have he : Real.exp (-(κ * μ)) ≠ 0 := (Real.exp_pos _).ne'
  rw [hN d, Ideal.div_coe (mul_ne_zero hZ.ne' he), ← EReal.coe_mul, mul_one_div, mul_div_mul_right _ _ he]

/-- The probability that a softmax taken at once gives a key. -/
theorem prob_at (hE : Expo E κ) (p : ι → Prop) [∀ k, Decidable (p k)] (x : ι → ℝ) (t : ι → EReal)
    (ht : ∀ k, t k = if p k then (x k : EReal) else ⊥) (hp : ∃ k, p k) {M : EReal}
    (hM : M = Finset.univ.fold max ⊥ t) (k : ι) :
    Ideal.div (E (t k - M)) (∑ j, E (t j - M)) = ((wt κ (p k) (x k) / ∑ j, wt κ (p j) (x j) : ℝ) : EReal) := by
  obtain ⟨μ, hμ⟩ := fold_real p x t ht hp
  have hM' : M = (μ : EReal) := hM.trans hμ
  subst hM'
  obtain ⟨k0, hk0⟩ := hp
  have hZ : 0 < ∑ j, wt κ (p j) (x j) :=
    Finset.sum_pos' (fun j _ => wt_nonneg _ _ _)
      ⟨k0, Finset.mem_univ _, by unfold wt; rw [if_pos hk0]; exact Real.exp_pos _⟩
  have he : Real.exp (-(κ * μ)) ≠ 0 := (Real.exp_pos _).ne'
  rw [hE.sum p x μ t ht, ht k, hE.sub, Ideal.div_coe (mul_ne_zero hZ.ne' he), ← EReal.coe_mul, mul_one_div, mul_div_mul_right _ _ he]

end Cert.Softmax

end
-- ==== Proof.DiffSpec.lean ====
/-
  The differential attention over the reals, entry by entry, as a function of the projected rows. A row of `A` holds the
  queries of 8 heads (columns 0 to 1023), the keys of 4 key heads (columns 2048 to 2559) and their values (columns 3072 to
  3583); a head is two maps of 64 columns; two heads share the keys and values of a key head. Both programs are compared
  with `spec`.
-/
module

public import proofs.«01_k».proof.Proof.SoftmaxMath

@[expose] public section

noncomputable section

open Idealize.ShloMosaic

namespace Cert.Diff

open Cert.Softmax

/-- The norm of the values `O` of a head, at one of them. -/
def nrmF (O : Fin 128 → EReal) (g : EReal) (d : Fin 128) : EReal :=
  O d * Ideal.rsqrt (Ideal.div (∑ e : Fin 128, O e * O e) (Ideal.ofBits .f32 0x43000000#32) + Ideal.ofBits .f32 0x358637BD#32) * g
    * Ideal.ofBits .f32 0x3F4CCCCD#32

/-- The weight of the second map. -/
def lamF (a b c d : Fin 64 → EReal) : EReal :=
  Ideal.exp (∑ n : Fin 64, a n * b n) - Ideal.exp (∑ n : Fin 64, c n * d n) + Ideal.ofBits .f32 0x3E4CCCCD#32

/-- The weight of the second map is real if the four vectors are. -/
theorem lamF_real (a b c d : Fin 64 → ℝ) :
    ∃ r : ℝ, lamF (fun n => (a n : EReal)) (fun n => (b n : EReal)) (fun n => (c n : EReal)) (fun n => (d n : EReal)) = (r : EReal) := by
  have hs : ∀ x y : Fin 64 → ℝ, ∑ n, (x n : EReal) * (y n : EReal) = ((∑ n, x n * y n : ℝ) : EReal) := fun x y =>
    sum_eq_coe fun n => (EReal.coe_mul _ _).symm
  have he : ∀ x : ℝ, Ideal.exp (x : EReal) = ((Real.exp x : ℝ) : EReal) := fun x => rfl
  have hc : ∃ z : ℝ, (Ideal.ofBits .f32 0x3E4CCCCD#32 : EReal) = (z : EReal) := by
    simp only [Ideal.ofBits, Ideal.ieee]
    exact ⟨_, rfl⟩
  obtain ⟨z, hz⟩ := hc
  unfold lamF
  rw [hs, hs, he, he, hz, ← EReal.coe_sub, ← EReal.coe_add]
  exact ⟨_, rfl⟩

/-- The score of key `k` for query `q`, in map `s` of head `h` of sequence `b`. -/
def score (A : Fin 8192 → Fin 4096 → ℝ) (b : Fin 4) (h : Fin 8) (s : Fin 2) (q k : Fin 2048) : ℝ :=
  (∑ e : Fin 64, A ⟨b.val * 2048 + k.val, by omega⟩ ⟨2048 + (h.val / 2 * 128 + (s.val * 64 + e.val)), by omega⟩
    * A ⟨b.val * 2048 + q.val, by omega⟩ ⟨h.val * 128 + (s.val * 64 + e.val), by omega⟩) * (1 / 8)

/-- The causal weight of a key: the exponential of its score, zero for the keys after the query. -/
def weight (A : Fin 8192 → Fin 4096 → ℝ) (b : Fin 4) (h : Fin 8) (s : Fin 2) (q k : Fin 2048) : ℝ :=
  wt 1 (k.val ≤ q.val) (score A b h s q k)

/-- A value of a key. -/
def value (A : Fin 8192 → Fin 4096 → ℝ) (b : Fin 4) (h : Fin 8) (k : Fin 2048) (e : Fin 128) : ℝ :=
  A ⟨b.val * 2048 + k.val, by omega⟩ ⟨3072 + (h.val / 2 * 128 + e.val), by omega⟩

/-- The softmax average of the values by one map. -/
def avg (A : Fin 8192 → Fin 4096 → ℝ) (b : Fin 4) (h : Fin 8) (s : Fin 2) (q : Fin 2048) (e : Fin 128) : ℝ :=
  (∑ k : Fin 2048, weight A b h s q k * value A b h k e) / ∑ k : Fin 2048, weight A b h s q k

/-- The attention's result: the first map's average less the second's times its weight, normed over the head. -/
def spec (A : Fin 8192 → Fin 4096 → ℝ) (lam : EReal) (g : Fin 128 → EReal) (b : Fin 4) (h : Fin 8) (q : Fin 2048) (e : Fin 128) : EReal :=
  nrmF (fun e => (avg A b h 0 q e : EReal) - lam * (avg A b h 1 q e : EReal)) (g e) e

/-- The same at a column of the 1024, head by head. -/
def cell (A : Fin 8192 → Fin 4096 → ℝ) (lam : EReal) (g : Fin 128 → EReal) (b : Fin 4) (q : Fin 2048) (k : Fin 1024) : EReal :=
  spec A lam g b ⟨k.val / 128, by omega⟩ q ⟨k.val % 128, Nat.mod_lt _ (by decide)⟩

/-- The column of a head's value. -/
theorem cell_at (A : Fin 8192 → Fin 4096 → ℝ) (lam : EReal) (g : Fin 128 → EReal) (b : Fin 4) (h : Fin 8) (q : Fin 2048) (e : Fin 128) :
    cell A lam g b q ⟨h.val * 128 + e.val, by omega⟩ = spec A lam g b h q e := by
  have h1 : (⟨(h.val * 128 + e.val) / 128, by omega⟩ : Fin 8) = h := Fin.ext (by show (h.val * 128 + e.val) / 128 = h.val; omega)
  have h2 : (⟨(h.val * 128 + e.val) % 128, Nat.mod_lt _ (by decide)⟩ : Fin 128) = e :=
    Fin.ext (by show (h.val * 128 + e.val) % 128 = e.val; omega)
  unfold cell
  rw [h1, h2]

end Cert.Diff

end
-- ==== Proof.DiffPay.lean ====
/-
  The body of the differential attention's kernel as vector operations on one tile of keys: the masked scores, the
  running maximum, sum and weighted values of the one-pass softmax, and the norm at the end. The printed values of the
  four cases of the body (one per query tile of a sequence) are these operations; each is read at an index.
-/
module

public import proofs.«01_k».proof.Proof.Gen.KernelIdeal.Value
public import proofs.«01_k».proof.Proof.DiffSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax Cert.Diff

/-! ## The operations on a tile -/

/-- The greatest score of every query over a tile's keys. -/
def mx (s : FVec Ideal S512x1024 .f32) : FVec Ideal S1x1024 .f32 :=
  shapeCast S1x1024 (multiReduction .maximumf [0] S1024 s 0xFF800000#32 reduces_S512x1024_S1024 (.inl rfl) rfl) shapeCasts_S1024_S1x1024

/-- Two to the power of the scores less a number per query. -/
def ex (s : FVec Ideal S512x1024 .f32) (μ : FVec Ideal S1x1024 .f32) : FVec Ideal S512x1024 .f32 :=
  exp2 (subf s (broadcastTo S512x1024 μ broadcasts_S1x1024_S512x1024))

/-- The sum over a tile's keys. -/
def sm (p : FVec Ideal S512x1024 .f32) : FVec Ideal S1x1024 .f32 :=
  shapeCast S1x1024 (multiReduction .add [0] S1024 p 0x00000000#32 reduces_S512x1024_S1024 (.inl rfl) rfl) shapeCasts_S1024_S1x1024

/-- A tile's values weighted. -/
def pv (v : FVec Ideal S128x512 .bf16) (p : FVec Ideal S512x1024 .f32) : FVec Ideal S128x1024 .f32 :=
  matmul dot_S128x512_S512x1024_S128x1024_1_0_0_1_n_n none v (truncf .bf16 p bitsLt_bf16_f32) (constant S128x1024 .f32 0x00000000#32)

/-- The maximum carried over a further tile. -/
def stM (μ : FVec Ideal S1x1024 .f32) (s : FVec Ideal S512x1024 .f32) : FVec Ideal S1x1024 .f32 := maximumf μ (mx s)

/-- The sum carried over a further tile. -/
def stL (μ l : FVec Ideal S1x1024 .f32) (s : FVec Ideal S512x1024 .f32) : FVec Ideal S1x1024 .f32 :=
  addf (mulf (exp2 (subf μ (stM μ s))) l) (sm (ex s (stM μ s)))

/-- The weighted values carried over a further tile. -/
def stA (μ : FVec Ideal S1x1024 .f32) (a : FVec Ideal S128x1024 .f32) (s : FVec Ideal S512x1024 .f32)
    (v : FVec Ideal S128x512 .bf16) : FVec Ideal S128x1024 .f32 :=
  addf (mulf (broadcastTo S128x1024 (exp2 (subf μ (stM μ s))) broadcasts_S1x1024_S128x1024) a) (pv v (ex s (stM μ s)))

/-- A value tile without its leading axis. -/
def vt (v : FVec Ideal S1x128x512 .bf16) : FVec Ideal S128x512 .bf16 := shapeCast S128x512 v shapeCasts_S1x128x512_S128x512

/-- The scores of a tile, not masked. -/
def sc (qq : FVec Ideal S1024x128 .bf16) (k : FVec Ideal S512x128 .bf16) : FVec Ideal S512x1024 .f32 :=
  matmul dot_S512x128_S1024x128_S512x1024_1_1_0_0_n_n none k qq (constant S512x1024 .f32 0x00000000#32)

/-- The position in its query tile of every column, whatever the softmax map the column is for. -/
def qpos : IVec S512x1024 32 :=
  let n : BitVec 32 := Scalar.select (Scalar.cmpi .eq 512#32 0#32) 1#32 512#32
  let r : IVec S512x1024 32 := remsi (iota .tc S512x1024 32 [1] iota_S512x1024_d1_w32) (broadcast S512x1024 n)
  select (andi (xori (cmpi .slt r (broadcast S512x1024 0#32))
      (broadcastTo S512x1024 (broadcast S512x1024 (Scalar.cmpi .slt n 0#32)) broadcasts_S512x1024_S512x1024))
    (cmpi .ne r (broadcast S512x1024 0#32))) (addi r (broadcast S512x1024 n)) r

/-- The scores of a query tile's own keys, minus infinity at the keys after the query. -/
def msk (s : FVec Ideal S512x1024 .f32) : FVec Ideal S512x1024 .f32 :=
  select (cmpi .sle (iota .tc S512x1024 32 [0] iota_S512x1024_d0_w32) qpos) s
    (broadcast S512x1024 (Scalar.ofBits .f32 0xFF800000#32))

/-- The weight of the second softmax map. -/
def lamv (a b c d : FVec Ideal S1x64 .f32) : FVec Ideal S1x1 .f32 :=
  let e (x y : FVec Ideal S1x64 .f32) : FVec Ideal S1x1 .f32 :=
    exp (shapeCast S1x1 (multiReduction .add [1] S1 (mulf (shapeCast S1x64 x shapeCasts_S1x64_S1x64)
      (shapeCast S1x64 y shapeCasts_S1x64_S1x64)) 0x00000000#32 reduces_S1x64_S1 (.inl rfl) rfl) shapeCasts_S1_S1x1)
  addf (subf (e a b) (e c d)) (broadcast S1x1 (Scalar.ofBits .f32 0x3E4CCCCD#32))

/-- The first map's weighted values less the weighted values of the second. -/
def comb (l : FVec Ideal S1x1024 .f32) (x : FVec Ideal S128x1024 .f32) (lam : FVec Ideal S1x1 .f32) : FVec Ideal S128x512 .f32 :=
  let o : FVec Ideal S128x1024 .f32 := divf x (broadcastTo S128x1024 l broadcasts_S1x1024_S128x1024)
  subf (extractStridedSlice S128x512 ![0, 0] o slices_S128x1024_o0_0_S128x512)
    (mulf (broadcastTo S128x512 lam broadcasts_S1x1_S128x512)
      (extractStridedSlice S128x512 ![0, 512] o slices_S128x1024_o0_512_S128x512))

/-- The norm over a head's values, its gain and its constant factor. -/
def nrm (o : FVec Ideal S128x512 .f32) (g : FVec Ideal S128x1 .f32) : FVec Ideal S1x512x128 .bf16 :=
  k0_pay4 o (multiReduction .add [0] S512 (mulf o o) 0x00000000#32 reduces_S128x512_S512 (.inl rfl) rfl) g

/-! ## The printed values -/

section printed

variable (qq : FVec Ideal S1024x128 .bf16) (k0 k1 k2 k3 : FVec Ideal S512x128 .bf16) (v0 v1 v2 v3 : FVec Ideal S1x128x512 .bf16)
  (a b c d : FVec Ideal S1x64 .f32) (g : FVec Ideal S128x1 .f32)

/-- Maximum, sum and weighted values over the first tile. -/
def st0 (s : FVec Ideal S512x1024 .f32) (v : FVec Ideal S1x128x512 .bf16) :
    FVec Ideal S1x1024 .f32 × FVec Ideal S1x1024 .f32 × FVec Ideal S128x1024 .f32 :=
  (mx s, sm (ex s (mx s)), pv (vt v) (ex s (mx s)))

/-- The three carried over a further tile. -/
def st1 (x : FVec Ideal S1x1024 .f32 × FVec Ideal S1x1024 .f32 × FVec Ideal S128x1024 .f32)
    (s : FVec Ideal S512x1024 .f32) (v : FVec Ideal S1x128x512 .bf16) :
    FVec Ideal S1x1024 .f32 × FVec Ideal S1x1024 .f32 × FVec Ideal S128x1024 .f32 :=
  (stM x.1 s, stL x.1 x.2.1 s, stA x.1 x.2.2 s (vt v))

/-- The first step keeps the tile's column maximum. -/
theorem st0_m (s : FVec Ideal S512x1024 .f32) (v : FVec Ideal S1x128x512 .bf16) : (st0 s v).1 = mx s := by simp only [st0]
/-- The first step keeps the column sums of the tile's exponentials. -/
theorem st0_l (s : FVec Ideal S512x1024 .f32) (v : FVec Ideal S1x128x512 .bf16) : (st0 s v).2.1 = sm (ex s (mx s)) := rfl
/-- The first step keeps the tile's weighted values. -/
theorem st0_a (s : FVec Ideal S512x1024 .f32) (v : FVec Ideal S1x128x512 .bf16) :
    (st0 s v).2.2 = pv (vt v) (ex s (mx s)) := rfl

/-- The block from the three. -/
def fin (x : FVec Ideal S1x1024 .f32 × FVec Ideal S1x1024 .f32 × FVec Ideal S128x1024 .f32)
    (a b c d : FVec Ideal S1x64 .f32) (g : FVec Ideal S128x1 .f32) : FVec Ideal S1x512x128 .bf16 :=
  nrm (comb x.2.1 x.2.2 (lamv a b c d)) g

/-- The first query tile's block. -/
theorem blockA : k0_pay3 (k0_pay12 qq k0) (k0_pay13 qq k0 v0) (k0_pay14 a b) c d g
    = fin (st0 (msk (sc qq k0)) v0) a b c d g := rfl

/-- A tile of scores, before any mask. -/
theorem e15 : k0_pay15 qq k0 = sc qq k0 := rfl
/-- The maxima after the first key tile. -/
theorem e16 : k0_pay16 qq k0 = (st0 (sc qq k0) v0).1 := by
  show mx (k0_pay15 qq k0) = _
  rw [e15, st0_m]
/-- The sums after the first key tile. -/
theorem e18 : k0_pay18 qq k0 = (st0 (sc qq k0) v0).2.1 := by
  show sm (ex (k0_pay15 qq k0) (k0_pay16 qq k0)) = _
  rw [e16 qq k0 v0, e15, st0_m, st0_l]
/-- The weighted values after the first key tile. -/
theorem e19 : k0_pay19 qq k0 v0 = (st0 (sc qq k0) v0).2.2 := by
  show pv (vt v0) (ex (k0_pay15 qq k0) (k0_pay16 qq k0)) = _
  rw [e16 qq k0 v0, e15, st0_m, st0_a]
/-- The tile of scores on the diagonal, masked. -/
theorem e20 : k0_pay20 qq k1 = msk (sc qq k1) := rfl
/-- The payload with this number, in terms of the steps and of what is carried into it. -/
theorem e22 (μ l : FVec Ideal S1x1024 .f32) (x : FVec Ideal S128x1024 .f32) (s : FVec Ideal S512x1024 .f32) :
    k0_pay22 μ l x s (k0_pay21 v1) a b c d
      = comb (st1 (μ, l, x) s v1).2.1 (st1 (μ, l, x) s v1).2.2 (lamv a b c d) := rfl

/-- The second query tile's block. -/
theorem blockB : k0_pay4 (k0_pay22 (k0_pay16 qq k0) (k0_pay18 qq k0) (k0_pay19 qq k0 v0) (k0_pay20 qq k1) (k0_pay21 v1) a b c d)
      (k0_pay23 (k0_pay16 qq k0) (k0_pay18 qq k0) (k0_pay19 qq k0 v0) (k0_pay20 qq k1) (k0_pay21 v1) a b c d) g
    = fin (st1 (st0 (sc qq k0) v0) (msk (sc qq k1)) v1) a b c d g := by
  unfold k0_pay23
  rw [e22, e16 qq k0 v0, e18 qq k0 v0, e19, e20, fin, nrm]

/-- A tile of scores, before any mask. -/
theorem e24 : k0_pay24 qq k0 = sc qq k0 := rfl
/-- A tile of scores, before any mask. -/
theorem e27 : k0_pay27 qq k1 = sc qq k1 := rfl
/-- The maxima after the first key tile. -/
theorem e25 : k0_pay25 qq k0 = (st0 (sc qq k0) v0).1 := by
  show mx (k0_pay24 qq k0) = _
  rw [e24, st0_m]
/-- The sums and the weighted values after the first key tile, both from its exponentials. -/
theorem e26 : sm (k0_pay26 qq k0) = (st0 (sc qq k0) v0).2.1 ∧ pv (vt v0) (k0_pay26 qq k0) = (st0 (sc qq k0) v0).2.2 := by
  have h : k0_pay26 qq k0 = ex (sc qq k0) (st0 (sc qq k0) v0).1 := by
    show ex (k0_pay24 qq k0) (k0_pay25 qq k0) = _
    rw [e25 qq k0 v0, e24]
  rw [h, st0_m, st0_l, st0_a]; exact ⟨rfl, rfl⟩
/-- The maxima after the second key tile. -/
theorem e28 : k0_pay28 qq k0 k1 = (st1 (st0 (sc qq k0) v0) (sc qq k1) v1).1 := by
  show stM (k0_pay25 qq k0) (k0_pay27 qq k1) = _
  rw [e25 qq k0 v0, e27]; rfl
/-- The sums after the second key tile. -/
theorem e31 : k0_pay31 qq k0 k1 = (st1 (st0 (sc qq k0) v0) (sc qq k1) v1).2.1 := by
  show stL (k0_pay25 qq k0) (sm (k0_pay26 qq k0)) (k0_pay27 qq k1) = _
  rw [(e26 qq k0 v0).1, e25 qq k0 v0, e27]; rfl
/-- The weighted values after the second key tile. -/
theorem e32 : k0_pay32 qq k0 v0 k1 v1 = (st1 (st0 (sc qq k0) v0) (sc qq k1) v1).2.2 := by
  show stA (k0_pay25 qq k0) (pv (vt v0) (k0_pay26 qq k0)) (k0_pay27 qq k1) (vt v1) = _
  rw [(e26 qq k0 v0).2, e25 qq k0 v0, e27]; rfl
/-- The payload with this number, in terms of the steps and of what is carried into it. -/
theorem e38 (μ l : FVec Ideal S1x1024 .f32) (x : FVec Ideal S128x1024 .f32) :
    k0_pay38 μ l (k0_pay33 qq k2) (iota .tc S512x1024 32 [0] iota_S512x1024_d0_w32) (iota .tc S512x1024 32 [1] iota_S512x1024_d1_w32) 512#32
      = (st1 (μ, l, x) (msk (sc qq k2)) v2).2.1 := rfl
/-- The payload with this number, in terms of the steps and of what is carried into it. -/
theorem e39 (μ l : FVec Ideal S1x1024 .f32) (x : FVec Ideal S128x1024 .f32) :
    k0_pay39 μ x (k0_pay33 qq k2) (iota .tc S512x1024 32 [0] iota_S512x1024_d0_w32) (iota .tc S512x1024 32 [1] iota_S512x1024_d1_w32) 512#32 v2
      = (st1 (μ, l, x) (msk (sc qq k2)) v2).2.2 := rfl
/-- The payload with this number, in terms of the steps and of what is carried into it. -/
theorem e41 (l : FVec Ideal S1x1024 .f32) (x : FVec Ideal S128x1024 .f32) :
    k0_pay41 l x (k0_pay40 a b) c d g = nrm (comb l x (lamv a b c d)) g := rfl

/-- The third query tile's block. -/
theorem blockC : k0_pay41
      (k0_pay38 (k0_pay28 qq k0 k1) (k0_pay31 qq k0 k1) (k0_pay33 qq k2) (iota .tc S512x1024 32 [0] iota_S512x1024_d0_w32)
        (iota .tc S512x1024 32 [1] iota_S512x1024_d1_w32) 512#32)
      (k0_pay39 (k0_pay28 qq k0 k1) (k0_pay32 qq k0 v0 k1 v1) (k0_pay33 qq k2) (iota .tc S512x1024 32 [0] iota_S512x1024_d0_w32)
        (iota .tc S512x1024 32 [1] iota_S512x1024_d1_w32) 512#32 v2)
      (k0_pay40 a b) c d g
    = fin (st1 (st1 (st0 (sc qq k0) v0) (sc qq k1) v1) (msk (sc qq k2)) v2) a b c d g := by
  rw [e41, e38 qq k2 v2 _ _ (k0_pay32 qq k0 v0 k1 v1), e39 qq k2 v2 _ (k0_pay31 qq k0 k1), e28 qq k0 k1 v0 v1, e31 qq k0 k1 v0 v1, e32]
  rfl

/-- A tile of scores, before any mask. -/
theorem e42 : k0_pay42 qq k0 = sc qq k0 := rfl
/-- A tile of scores, before any mask. -/
theorem e45 : k0_pay45 qq k1 = sc qq k1 := rfl
/-- The maxima after the first key tile. -/
theorem e43 : k0_pay43 qq k0 = (st0 (sc qq k0) v0).1 := by
  show mx (k0_pay42 qq k0) = _
  rw [e42, st0_m]
/-- The sums and the weighted values after the first key tile, both from its exponentials. -/
theorem e44 : sm (k0_pay44 qq k0) = (st0 (sc qq k0) v0).2.1 ∧ pv (vt v0) (k0_pay44 qq k0) = (st0 (sc qq k0) v0).2.2 := by
  have h : k0_pay44 qq k0 = ex (sc qq k0) (st0 (sc qq k0) v0).1 := by
    show ex (k0_pay42 qq k0) (k0_pay43 qq k0) = _
    rw [e43 qq k0 v0, e42]
  rw [h, st0_m, st0_l, st0_a]; exact ⟨rfl, rfl⟩
/-- The maxima after the second key tile. -/
theorem e46 : k0_pay46 qq k0 k1 = (st1 (st0 (sc qq k0) v0) (sc qq k1) v1).1 := by
  show stM (k0_pay43 qq k0) (k0_pay45 qq k1) = _
  rw [e43 qq k0 v0, e45]; rfl
/-- The sums after the second key tile. -/
theorem e49 : k0_pay49 qq k0 k1 = (st1 (st0 (sc qq k0) v0) (sc qq k1) v1).2.1 := by
  show stL (k0_pay43 qq k0) (sm (k0_pay44 qq k0)) (k0_pay45 qq k1) = _
  rw [(e44 qq k0 v0).1, e43 qq k0 v0, e45]; rfl
/-- The weighted values after the second key tile. -/
theorem e50 : k0_pay50 qq k0 v0 k1 v1 = (st1 (st0 (sc qq k0) v0) (sc qq k1) v1).2.2 := by
  show stA (k0_pay43 qq k0) (pv (vt v0) (k0_pay44 qq k0)) (k0_pay45 qq k1) (vt v1) = _
  rw [(e44 qq k0 v0).2, e43 qq k0 v0, e45]; rfl
/-- The payload with this number, in terms of the steps and of what is carried into it. -/
theorem e52 (μ l : FVec Ideal S1x1024 .f32) (x : FVec Ideal S128x1024 .f32) :
    k0_pay52 μ (k0_pay51 qq k2) = (st1 (μ, l, x) (sc qq k2) v2).1 := rfl
/-- The payload with this number, in terms of the steps and of what is carried into it. -/
theorem e55 (μ l : FVec Ideal S1x1024 .f32) (x : FVec Ideal S128x1024 .f32) :
    k0_pay55 μ l (k0_pay51 qq k2) = (st1 (μ, l, x) (sc qq k2) v2).2.1 := rfl
/-- The payload with this number, in terms of the steps and of what is carried into it. -/
theorem e56 (μ l : FVec Ideal S1x1024 .f32) (x : FVec Ideal S128x1024 .f32) :
    k0_pay56 μ x (k0_pay51 qq k2) v2 = (st1 (μ, l, x) (sc qq k2) v2).2.2 := rfl
/-- The tile of scores on the diagonal, masked. -/
theorem e57 : k0_pay57 qq k3 = msk (sc qq k3) := rfl
/-- The payload with this number, in terms of the steps and of what is carried into it. -/
theorem e59 (μ l : FVec Ideal S1x1024 .f32) (x : FVec Ideal S128x1024 .f32) (s : FVec Ideal S512x1024 .f32) :
    k0_pay59 μ l x s (k0_pay58 v3) a b c d
      = comb (st1 (μ, l, x) s v3).2.1 (st1 (μ, l, x) s v3).2.2 (lamv a b c d) := rfl
/-- The written block: the normalised difference, transposed. -/
theorem e5 (o : FVec Ideal S128x512 .f32) :
    k0_pay5 o (multiReduction .add [0] S512 (mulf o o) 0x00000000#32 reduces_S128x512_S512 (.inl rfl) rfl) g = nrm o g := rfl

/-- The last query tile's block. -/
theorem blockD : k0_pay5
      (k0_pay59 (k0_pay52 (k0_pay46 qq k0 k1) (k0_pay51 qq k2)) (k0_pay55 (k0_pay46 qq k0 k1) (k0_pay49 qq k0 k1) (k0_pay51 qq k2))
        (k0_pay56 (k0_pay46 qq k0 k1) (k0_pay50 qq k0 v0 k1 v1) (k0_pay51 qq k2) v2) (k0_pay57 qq k3) (k0_pay58 v3) a b c d)
      (k0_pay60 (k0_pay52 (k0_pay46 qq k0 k1) (k0_pay51 qq k2)) (k0_pay55 (k0_pay46 qq k0 k1) (k0_pay49 qq k0 k1) (k0_pay51 qq k2))
        (k0_pay56 (k0_pay46 qq k0 k1) (k0_pay50 qq k0 v0 k1 v1) (k0_pay51 qq k2) v2) (k0_pay57 qq k3) (k0_pay58 v3) a b c d) g
    = fin (st1 (st1 (st1 (st0 (sc qq k0) v0) (sc qq k1) v1) (sc qq k2) v2) (msk (sc qq k3)) v3) a b c d g := by
  unfold k0_pay60
  rw [e5, e59, e52 qq k2 v2 _ (k0_pay49 qq k0 k1) (k0_pay50 qq k0 v0 k1 v1), e55 qq k2 v2 _ _ (k0_pay50 qq k0 v0 k1 v1),
    e56 qq k2 v2 _ (k0_pay49 qq k0 k1), e46 qq k0 k1 v0 v1, e49 qq k0 k1 v0 v1, e50, e57]
  rfl

end printed

/-! ## Read at an index -/

/-- The float pattern of minus infinity is the least extended real. -/
theorem ofBits_neg_inf : (Ideal.ofBits .f32 0xFF800000#32 : EReal) = ⊥ := by simp [Ideal.ofBits, Ideal.ieee]

/-- The column maximum at a column. -/
theorem mx_at (s : FVec Ideal S512x1024 .f32) (j : Fin 1024) :
    mx s (ix2 0 j) = Finset.univ.fold max (⊥ : EReal) fun k : Fin 512 => s (ix2 k j) := by
  pointwise [mx]
  rw [ofBits_neg_inf]

/-- The shifted exponential at an entry. -/
theorem ex_at (s : FVec Ideal S512x1024 .f32) (μ : FVec Ideal S1x1024 .f32) (k : Fin 512) (j : Fin 1024) :
    ex s μ (ix2 k j) = Ideal.exp2 (s (ix2 k j) - μ (ix2 0 j)) := by
  pointwise [ex]
  rfl

/-- The column sum at a column. -/
theorem sm_at (p : FVec Ideal S512x1024 .f32) (j : Fin 1024) : sm p (ix2 0 j) = ∑ k : Fin 512, p (ix2 k j) := by
  pointwise [sm]

/-- The weighted values at an entry. -/
theorem pv_at (v : FVec Ideal S128x512 .bf16) (p : FVec Ideal S512x1024 .f32) (d : Fin 128) (j : Fin 1024) :
    pv v p (ix2 d j) = ∑ k : Fin 512, v (ix2 d k) * p (ix2 k j) := by
  pointwise [pv]

/-- The scores at an entry. -/
theorem sc_at (qq : FVec Ideal S1024x128 .bf16) (k : FVec Ideal S512x128 .bf16) (i : Fin 512) (j : Fin 1024) :
    sc qq k (ix2 i j) = ∑ d : Fin 128, k (ix2 i d) * qq (ix2 j d) := by
  pointwise [sc]

/-- The query position of a column inside its tile. -/
theorem qpos_at (i : Fin 512) (j : Fin 1024) : qpos (ix2 i j) = BitVec.ofNat 32 (j.val % 512) := by
  have h : ∀ j : Fin 1024, (Scalar.select
      (IntOp.andi (IntOp.xori (IntOp.cmpi CmpIPredicate.slt
        (IntOp.remsi ArithUnit.vector (BitVec.ofNat 32 j.val) 512#32) 0#32) 0#1)
        (IntOp.cmpi CmpIPredicate.ne (IntOp.remsi ArithUnit.vector (BitVec.ofNat 32 j.val) 512#32) 0#32))
      (IntOp.addi (IntOp.remsi ArithUnit.vector (BitVec.ofNat 32 j.val) 512#32) 512#32)
      (IntOp.remsi ArithUnit.vector (BitVec.ofNat 32 j.val) 512#32) : BitVec 32) = BitVec.ofNat 32 (j.val % 512) := by
    decide +kernel
  pointwise [qpos]
  exact h j

/-- The masked scores at an entry: keys after the query are minus infinity. -/
theorem msk_at (s : FVec Ideal S512x1024 .f32) (i : Fin 512) (j : Fin 1024) :
    msk s (ix2 i j) = if i.val ≤ j.val % 512 then s (ix2 i j) else ⊥ := by
  pointwise [msk, qpos_at]
  rw [ofBits_neg_inf]
  have h : IntOp.cmpi CmpIPredicate.sle (BitVec.ofNat 32 i.val) (BitVec.ofNat 32 (j.val % 512))
      = if i.val ≤ j.val % 512 then 1#1 else 0#1 := by
    rw [WordCmp.cmpi_sle_ofNat (by omega) (by omega)]
    by_cases h : i.val ≤ j.val % 512 <;> simp [h]
  rw [h]
  by_cases hij : i.val ≤ j.val % 512
  · rw [if_pos hij, if_pos hij]; rfl
  · rw [if_neg hij, if_neg hij]; rfl

/-- The value of lambda. -/
theorem lamv_at (a b c d : FVec Ideal S1x64 .f32) : lamv a b c d (ix2 0 0)
    = Ideal.exp (∑ n : Fin 64, a (ix2 0 n) * b (ix2 0 n)) - Ideal.exp (∑ n : Fin 64, c (ix2 0 n) * d (ix2 0 n))
      + Ideal.ofBits .f32 0x3E4CCCCD#32 := by
  pointwise [lamv]

/-- The difference of the two maps' averages at an entry. -/
theorem comb_at (l : FVec Ideal S1x1024 .f32) (x : FVec Ideal S128x1024 .f32) (lam : FVec Ideal S1x1 .f32)
    (d : Fin 128) (r : Fin 512) : comb l x lam (ix2 d r)
    = Ideal.div (x (ix2 d ⟨r.val, by omega⟩)) (l (ix2 0 ⟨r.val, by omega⟩))
      - lam (ix2 0 0) * Ideal.div (x (ix2 d ⟨512 + r.val, by omega⟩)) (l (ix2 0 ⟨512 + r.val, by omega⟩)) := by
  pointwise [comb]

/-- The normalised difference at an entry. -/
theorem nrm_at (o : FVec Ideal S128x512 .f32) (g : FVec Ideal S128x1 .f32) (r : Fin 512) (d : Fin 128) :
    nrm o g (ix3 0 r d) = o (ix2 d r) * Ideal.rsqrt (Ideal.div (∑ e : Fin 128, o (ix2 e r) * o (ix2 e r))
      (Ideal.ofBits .f32 0x43000000#32) + Ideal.ofBits .f32 0x358637BD#32) * g (ix2 d 0) * Ideal.ofBits .f32 0x3F4CCCCD#32 := by
  pointwise [nrm, k0_pay4]

/-- The named scale is one eighth over the logarithm of two. -/
theorem scale_named : Named.named (F := Ideal) κ "scale_log2e" (φ := .f32) 0x3E38AA3B#32 = (((1 / 8) * (Real.log 2)⁻¹ : ℝ) : EReal) :=
  IdealRules.named_const.ideal_named_scalar _ _ _ _ rfl

/-- The scaled query a column is scored with: the rows twice, the first half of the lanes for the first map, the second
    half for the second. -/
def qmap (q : Fin 512 → Fin 128 → ℝ) (j : Fin 1024) (d : Fin 128) : ℝ :=
  if (j.val < 512 ↔ d.val < 64) then q ⟨j.val % 512, Nat.mod_lt _ (by decide)⟩ d * ((1 / 8) * (Real.log 2)⁻¹) else 0

/-- The staged queries of the two maps at an index. -/
theorem qq_at (q : FVec Ideal S1x512x128 .f32) (x : Fin 512 → Fin 128 → ℝ) (hx : ∀ r d, q (ix3 0 r d) = (x r d : EReal))
    (j : Fin 1024) (d : Fin 128) : k0_pay2 (F := Ideal) q (ix2 j d) = (qmap x j d : EReal) := by
  have hlt : ∀ d : Fin 128, IntOp.cmpi CmpIPredicate.slt (BitVec.ofNat 32 d.val) 64#32 = if d.val < 64 then 1#1 else 0#1 := by
    decide +kernel
  have hge : ∀ d : Fin 128, IntOp.cmpi CmpIPredicate.sge (BitVec.ofNat 32 d.val) 64#32 = if d.val < 64 then 0#1 else 1#1 := by
    decide +kernel
  pointwise [k0_pay2]
  rw [hlt, hge, scale_named]
  unfold qmap
  by_cases hj : j.val < 512
  · have e : (⟨j.val % 512, Nat.mod_lt _ (by decide)⟩ : Fin 512) = ⟨j.val, hj⟩ := Fin.ext (Nat.mod_eq_of_lt hj)
    rw [dif_pos hj, hx]
    by_cases hd : d.val < 64
    · rw [if_pos hd, if_pos (by simp [hj, hd]), e, ← EReal.coe_mul]; rfl
    · rw [if_neg hd, if_neg (by simp [hj, hd])]; rfl
  · have e : (⟨j.val % 512, Nat.mod_lt _ (by decide)⟩ : Fin 512) = ⟨j.val - 512, by omega⟩ := Fin.ext (by simp only; omega)
    rw [dif_neg hj]
    refine (congrArg (fun z : EReal => Scalar.select _ (z * _) 0) (hx ⟨j.val - 512, by omega⟩ d)).trans ?_
    rw [← e]
    by_cases hd : d.val < 64
    · rw [if_pos hd, if_neg fun h => hj (h.mpr hd)]; rfl
    · rw [if_neg hd, if_pos ⟨fun h => absurd h hj, fun h => absurd h hd⟩, EReal.coe_mul]; rfl

/-! ## The pass over the tiles -/

open Cert.Softmax

/-- What the three hold per column: the sums over some keys, free of the maximum. -/
def Good (x : FVec Ideal S1x1024 .f32 × FVec Ideal S1x1024 .f32 × FVec Ideal S128x1024 .f32)
    (Z : Fin 1024 → ℝ) (N : Fin 1024 → Fin 128 → ℝ) : Prop :=
  ∀ j, Inv (Real.log 2) (x.1 (ix2 0 j)) (x.2.1 (ix2 0 j)) (fun d : Fin 128 => x.2.2 (ix2 d j)) (Z j) (N j)

/-- The stored value tile read as a matrix. -/
theorem vt_at (v : FVec Ideal S1x128x512 .bf16) (d : Fin 128) (k : Fin 512) : vt v (ix2 d k) = v (ix3 0 d k) := by
  pointwise [vt]

/-- The first tile. -/
theorem good0 (s : FVec Ideal S512x1024 .f32) (v : FVec Ideal S1x128x512 .bf16) (p : Fin 512 → Fin 1024 → Prop)
    [∀ k j, Decidable (p k j)] (X : Fin 512 → Fin 1024 → ℝ) (V : Fin 128 → Fin 512 → ℝ)
    (hs : ∀ k j, s (ix2 k j) = if p k j then (X k j : EReal) else ⊥) (hv : ∀ d k, v (ix3 0 d k) = (V d k : EReal))
    (hp : ∀ j, ∃ k, p k j) :
    Good (st0 s v) (fun j => ∑ k, wt (Real.log 2) (p k j) (X k j)) fun j d => ∑ k, wt (Real.log 2) (p k j) (X k j) * V d k := by
  intro j
  refine Inv.start expo_exp2 (fun k => p k j) (fun k => X k j) V (fun k => s (ix2 k j)) (fun d k => vt v (ix2 d k))
    (fun k => hs k j) (fun d k => (vt_at v d k).trans (hv d k)) (hp j) ?_ ?_ fun d => ?_
  · rw [st0_m, mx_at]
  · rw [st0_l, st0_m, sm_at]; simp only [ex_at]
  · rw [st0_a, st0_m, pv_at]; simp only [ex_at]

/-- A further tile. -/
theorem good1 (x : FVec Ideal S1x1024 .f32 × FVec Ideal S1x1024 .f32 × FVec Ideal S128x1024 .f32)
    (s : FVec Ideal S512x1024 .f32) (v : FVec Ideal S1x128x512 .bf16) (p : Fin 512 → Fin 1024 → Prop)
    [∀ k j, Decidable (p k j)] (X : Fin 512 → Fin 1024 → ℝ) (V : Fin 128 → Fin 512 → ℝ) (Z : Fin 1024 → ℝ) (N : Fin 1024 → Fin 128 → ℝ)
    (hx : Good x Z N) (hs : ∀ k j, s (ix2 k j) = if p k j then (X k j : EReal) else ⊥) (hv : ∀ d k, v (ix3 0 d k) = (V d k : EReal)) :
    Good (st1 x s v) (fun j => Z j + ∑ k, wt (Real.log 2) (p k j) (X k j))
      fun j d => N j d + ∑ k, wt (Real.log 2) (p k j) (X k j) * V d k := by
  intro j
  have hM : (st1 x s v).1 (ix2 0 j) = max (x.1 (ix2 0 j)) (mx s (ix2 0 j)) := by
    simp only [st1]; pointwise [stM]
  refine Inv.step expo_exp2 (fun k => p k j) (fun k => X k j) V (fun k => s (ix2 k j)) (fun d k => vt v (ix2 d k))
    (fun k => hs k j) (fun d k => (vt_at v d k).trans (hv d k)) (hx j) ?_ ?_ fun d => ?_
  · rw [hM, mx_at]
  · have h : (st1 x s v).2.1 (ix2 0 j) = Ideal.exp2 (x.1 (ix2 0 j) - stM x.1 s (ix2 0 j)) * x.2.1 (ix2 0 j)
        + sm (ex s (stM x.1 s)) (ix2 0 j) := rfl
    rw [h, sm_at]; simp only [ex_at]; simp only [st1]
  · have h : (st1 x s v).2.2 (ix2 d j) = Ideal.exp2 (x.1 (ix2 0 j) - stM x.1 s (ix2 0 j)) * x.2.2 (ix2 d j)
        + pv (vt v) (ex s (stM x.1 s)) (ix2 d j) := by
      simp only [st1]; pointwise [stA]; rfl
    rw [h, pv_at]; simp only [ex_at]; simp only [st1]

/-- The block from a finished pass. -/
theorem fin_at (x : FVec Ideal S1x1024 .f32 × FVec Ideal S1x1024 .f32 × FVec Ideal S128x1024 .f32)
    (a b c d : FVec Ideal S1x64 .f32) (g : FVec Ideal S128x1 .f32) (Z : Fin 1024 → ℝ) (N : Fin 1024 → Fin 128 → ℝ)
    (hx : Good x Z N) (hZ : ∀ j, 0 < Z j) (r : Fin 512) (e : Fin 128) :
    fin x a b c d g (ix3 0 r e)
      = nrmF (fun e => ((N ⟨r.val, by omega⟩ e / Z ⟨r.val, by omega⟩ : ℝ) : EReal)
          - lamF (fun n => a (ix2 0 n)) (fun n => b (ix2 0 n)) (fun n => c (ix2 0 n)) (fun n => d (ix2 0 n))
            * ((N ⟨512 + r.val, by omega⟩ e / Z ⟨512 + r.val, by omega⟩ : ℝ) : EReal)) (g (ix2 e 0)) e := by
  have h : ∀ e, comb x.2.1 x.2.2 (lamv a b c d) (ix2 e r)
      = ((N ⟨r.val, by omega⟩ e / Z ⟨r.val, by omega⟩ : ℝ) : EReal)
          - lamF (fun n => a (ix2 0 n)) (fun n => b (ix2 0 n)) (fun n => c (ix2 0 n)) (fun n => d (ix2 0 n))
            * ((N ⟨512 + r.val, by omega⟩ e / Z ⟨512 + r.val, by omega⟩ : ℝ) : EReal) := by
    intro e
    rw [comb_at, lamv_at, (hx ⟨r.val, by omega⟩).div (hZ _) e, (hx ⟨512 + r.val, by omega⟩).div (hZ _) e]
    rfl
  rw [fin, nrm_at]
  simp only [h]
  rfl

end Cert.KernelIdeal.Value

end
-- ==== Proof.DiffKernel.lean ====
/-
  What the differential attention's kernel leaves at every grid point: a point is a sequence, a head and a query tile; the
  keys and the values of the head are staged into two scratch buffers at the first query tile and stay there for the other
  three; the written block is the normed difference of two causal softmax averages over all the keys.
-/
module

public import proofs.«01_k».proof.Proof.DiffPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-! ## The staged blocks as entries of the arguments -/

/-- The windows' block indices at every point: sequence `t / 32`, head `t / 4 % 8`, query tile `t % 4`. -/
theorem idx : ∀ t : Fin cfg0.N, win0_0.index t = ![0, 0] ∧ win0_1.index t = ![0, 0] ∧ win0_2.index t = ![0, 0]
    ∧ win0_3.index t = ![0, 0] ∧ win0_4.index t = ![0, 0]
    ∧ win0_5.index t = ![t.val / 32, t.val % 4, t.val / 4 % 8]
    ∧ win0_6.index t = ![t.val / 32, 0, 16 + t.val / 4 % 8 / 2] ∧ win0_7.index t = ![t.val / 32, 0, 24 + t.val / 4 % 8 / 2]
    ∧ win0_8.index t = ![t.val / 32, t.val % 4, t.val / 4 % 8] ∧ t.val / 32 < 4 :=
  (by decide +kernel : ∀ t : Fin grid0.N, _)

/-- The staged queries. -/
theorem q_at (c : Dev nD) (t : Fin cfg0.N) (r : Fin 512) (d : Fin 128) :
    (iblk m c 5 t : FVec Ideal S1x512x128 .f32) (ix3 0 r d)
      = (m ((c : Thread nD τ).loc main_arg0) : FVec Ideal S8192x4096 .f32)
        (ix2 ⟨t.val / 32 * 2048 + (t.val % 4 * 512 + r.val), by have := (idx t).2.2.2.2.2.2.2.2.2; omega⟩
          ⟨t.val / 4 % 8 * 128 + d.val, by omega⟩) := by
  have h0 := (idx t).2.2.2.2.2.1
  have hb := (idx t).2.2.2.2.2.2.2.2.2
  blk_simp [iblk]
  entry_read
  pointwise
  blk_ext [h0]

/-- The staged keys. -/
theorem k_at (c : Dev nD) (t : Fin cfg0.N) (r : Fin 2048) (d : Fin 128) :
    (iblk m c 6 t : FVec Ideal S1x2048x128 .f32) (ix3 0 r d)
      = (m ((c : Thread nD τ).loc main_arg0) : FVec Ideal S8192x4096 .f32)
        (ix2 ⟨t.val / 32 * 2048 + r.val, by have := (idx t).2.2.2.2.2.2.2.2.2; omega⟩
          ⟨2048 + (t.val / 4 % 8 / 2 * 128 + d.val), by omega⟩) := by
  have h0 := (idx t).2.2.2.2.2.2.1
  have hb := (idx t).2.2.2.2.2.2.2.2.2
  blk_simp [iblk]
  entry_read
  pointwise
  blk_ext [h0]

/-- The staged values. -/
theorem v_at (c : Dev nD) (t : Fin cfg0.N) (r : Fin 2048) (d : Fin 128) :
    (iblk m c 7 t : FVec Ideal S1x2048x128 .f32) (ix3 0 r d)
      = (m ((c : Thread nD τ).loc main_arg0) : FVec Ideal S8192x4096 .f32)
        (ix2 ⟨t.val / 32 * 2048 + r.val, by have := (idx t).2.2.2.2.2.2.2.2.2; omega⟩
          ⟨3072 + (t.val / 4 % 8 / 2 * 128 + d.val), by omega⟩) := by
  have h0 := (idx t).2.2.2.2.2.2.2.1
  have hb := (idx t).2.2.2.2.2.2.2.2.2
  blk_simp [iblk]
  entry_read
  pointwise
  blk_ext [h0]

/-- The first query vector of the second map's weight. -/
theorem l0_at (c : Dev nD) (t : Fin cfg0.N) (n : Fin 64) :
    (iblk m c 0 t : FVec Ideal S1x64 .f32) (ix2 0 n) = (m ((c : Thread nD τ).loc main_arg1) : FVec Ideal S64 .f32) (ix1 n) := by
  have h0 := (idx t).1
  blk_simp [iblk]
  entry_read
  pointwise
  blk_ext [h0]

/-- The first key vector of the second map's weight. -/
theorem l1_at (c : Dev nD) (t : Fin cfg0.N) (n : Fin 64) :
    (iblk m c 1 t : FVec Ideal S1x64 .f32) (ix2 0 n) = (m ((c : Thread nD τ).loc main_arg2) : FVec Ideal S64 .f32) (ix1 n) := by
  have h0 := (idx t).2.1
  blk_simp [iblk]
  entry_read
  pointwise
  blk_ext [h0]

/-- The second query vector of the second map's weight. -/
theorem l2_at (c : Dev nD) (t : Fin cfg0.N) (n : Fin 64) :
    (iblk m c 2 t : FVec Ideal S1x64 .f32) (ix2 0 n) = (m ((c : Thread nD τ).loc main_arg3) : FVec Ideal S64 .f32) (ix1 n) := by
  have h0 := (idx t).2.2.1
  blk_simp [iblk]
  entry_read
  pointwise
  blk_ext [h0]

/-- The second key vector of the second map's weight. -/
theorem l3_at (c : Dev nD) (t : Fin cfg0.N) (n : Fin 64) :
    (iblk m c 3 t : FVec Ideal S1x64 .f32) (ix2 0 n) = (m ((c : Thread nD τ).loc main_arg4) : FVec Ideal S64 .f32) (ix1 n) := by
  have h0 := (idx t).2.2.2.1
  blk_simp [iblk]
  entry_read
  pointwise
  blk_ext [h0]

/-- The staged gain. -/
theorem g_at (c : Dev nD) (t : Fin cfg0.N) (d : Fin 128) :
    (iblk m c 4 t : FVec Ideal S128x1 .f32) (ix2 d 0) = (m ((c : Thread nD τ).loc main_arg5) : FVec Ideal S128 .f32) (ix1 d) := by
  have h0 := (idx t).2.2.2.2.1
  blk_simp [iblk]
  entry_read
  pointwise
  blk_ext [h0]

/-! ## The written block and the scratch buffers, case by case -/

/-- Tile 0 of the held keys. -/
def kt0 (K : Vec Ideal S2048x128 .bf16) : Vec Ideal S512x128 .bf16 :=
  View.ld (Val := Elt Ideal) (e' := .bf16) K (Rect.unit ![0, 0] ![512, 128] inb_S2048x128_S512x128_0_0)

/-- Tile 0 of the held values. -/
def vv0 (V : Vec Ideal S4x128x512 .bf16) : Vec Ideal S1x128x512 .bf16 :=
  View.ld (Val := Elt Ideal) (e' := .bf16) V (Rect.unit ![0, 0, 0] ![1, 128, 512] inb_S4x128x512_S1x128x512_0_0_0)

/-- Tile 1 of the held keys. -/
def kt1 (K : Vec Ideal S2048x128 .bf16) : Vec Ideal S512x128 .bf16 :=
  View.ld (Val := Elt Ideal) (e' := .bf16) K (Rect.unit ![512, 0] ![512, 128] inb_S2048x128_S512x128_512_0)

/-- Tile 1 of the held values. -/
def vv1 (V : Vec Ideal S4x128x512 .bf16) : Vec Ideal S1x128x512 .bf16 :=
  View.ld (Val := Elt Ideal) (e' := .bf16) V (Rect.unit ![1, 0, 0] ![1, 128, 512] inb_S4x128x512_S1x128x512_1_0_0)

/-- Tile 2 of the held keys. -/
def kt2 (K : Vec Ideal S2048x128 .bf16) : Vec Ideal S512x128 .bf16 :=
  View.ld (Val := Elt Ideal) (e' := .bf16) K (Rect.unit ![1024, 0] ![512, 128] inb_S2048x128_S512x128_1024_0)

/-- Tile 2 of the held values. -/
def vv2 (V : Vec Ideal S4x128x512 .bf16) : Vec Ideal S1x128x512 .bf16 :=
  View.ld (Val := Elt Ideal) (e' := .bf16) V (Rect.unit ![2, 0, 0] ![1, 128, 512] inb_S4x128x512_S1x128x512_2_0_0)

/-- Tile 3 of the held keys. -/
def kt3 (K : Vec Ideal S2048x128 .bf16) : Vec Ideal S512x128 .bf16 :=
  View.ld (Val := Elt Ideal) (e' := .bf16) K (Rect.unit ![1536, 0] ![512, 128] inb_S2048x128_S512x128_1536_0)

/-- Tile 3 of the held values. -/
def vv3 (V : Vec Ideal S4x128x512 .bf16) : Vec Ideal S1x128x512 .bf16 :=
  View.ld (Val := Elt Ideal) (e' := .bf16) V (Rect.unit ![3, 0, 0] ![1, 128, 512] inb_S4x128x512_S1x128x512_3_0_0)

/-- The first query tile. -/
theorem outA (c : Fin nD) (t : Fin cfg0.N) (h0 : t.val % 4 = 0) (h1 : t.val % 4 = 0) (h2 : ¬t.val % 4 = 1) (h3 : ¬t.val % 4 = 2)
    (h4 : ¬t.val % 4 = 3) (qq : FVec Ideal S1024x128 .bf16) (hq : k0_pay2 (iblk m c 5 t) = qq) :
    (outsAt0 m c t.val t.isLt).1 = fin (st0 (msk (sc qq (kt0 (k0_pay6 (iblk m c 6 t)))))
        (k0_pay7 (View.ld (Val := Elt Ideal) (e' := .f32) (iblk m c 7 t) (Rect.unit ![0, 0, 0] ![1, 512, 128] inb_S1x2048x128_S1x512x128_0_0_0))))
      (iblk m c 0 t) (iblk m c 1 t) (iblk m c 2 t) (iblk m c 3 t) (iblk m c 4 t) := by
  rw [outsAt0_A m c t h0 h1 h2 h3 h4]
  frame_open
  simp (disch := decide) only [↓ View.readCov_skip, ↓ View.readCov_cons_toLoadRect, ↓ View.readCov_fill]
  simp (disch := decide) only [View.read_writes_junk_eq_canon, View.canon_cons_unit_lit',
    View.ld_unit_lit', View.readAt_eq_ld, Memref.IsWhole.read_unread, read_unread_whole, hq, View.readCov_unit_lit', View.readCov_cons_unit_lit']
  rw [blockA]
  rfl

/-- The second query tile. -/
theorem outB (c : Fin nD) (t : Fin cfg0.N) (h0 : ¬t.val % 4 = 0) (h1 : ¬t.val % 4 = 0) (h2 : t.val % 4 = 1) (h3 : ¬t.val % 4 = 2) (h4 : ¬t.val % 4 = 3) (K : Vec Ideal S2048x128 .bf16) (V : Vec Ideal S4x128x512 .bf16)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2 = V)
    (qq : FVec Ideal S1024x128 .bf16) (hq : k0_pay2 (iblk m c 5 t) = qq) :
    (outsAt0 m c t.val t.isLt).1 = fin (st1 (st0 (sc qq (kt0 K)) (vv0 V)) (msk (sc qq (kt1 K))) (vv1 V))
      (iblk m c 0 t) (iblk m c 1 t) (iblk m c 2 t) (iblk m c 3 t) (iblk m c 4 t) := by
  rw [outsAt0_B m c t h0 h1 h2 h3 h4]
  frame_open
  simp (disch := decide) only [View.read_writes_junk_eq_canon, View.canon_cons_unit_lit',
    View.ld_unit_lit', View.readAt_eq_ld, Memref.IsWhole.read_unread, read_unread_whole, hK, hV, hq]
  rw [blockB]
  rfl

/-- The third query tile. -/
theorem outC (c : Fin nD) (t : Fin cfg0.N) (h0 : ¬t.val % 4 = 0) (h1 : ¬t.val % 4 = 0) (h2 : ¬t.val % 4 = 1) (h3 : t.val % 4 = 2) (h4 : ¬t.val % 4 = 3) (K : Vec Ideal S2048x128 .bf16) (V : Vec Ideal S4x128x512 .bf16)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2 = V)
    (qq : FVec Ideal S1024x128 .bf16) (hq : k0_pay2 (iblk m c 5 t) = qq) :
    (outsAt0 m c t.val t.isLt).1 = fin (st1 (st1 (st0 (sc qq (kt0 K)) (vv0 V)) (sc qq (kt1 K)) (vv1 V)) (msk (sc qq (kt2 K))) (vv2 V))
      (iblk m c 0 t) (iblk m c 1 t) (iblk m c 2 t) (iblk m c 3 t) (iblk m c 4 t) := by
  rw [outsAt0_C m c t h0 h1 h2 h3 h4]
  frame_open
  simp (disch := decide) only [View.read_writes_junk_eq_canon, View.canon_cons_unit_lit',
    View.ld_unit_lit', View.readAt_eq_ld, Memref.IsWhole.read_unread, read_unread_whole, hK, hV, hq]
  rw [← blockC]
  simp (disch := decide) only [k0_pay24, k0_pay25, k0_pay26, k0_pay27, k0_pay28, k0_pay29, k0_pay30, k0_pay31, k0_pay32, k0_pay33, k0_pay34,
    k0_pay35, k0_pay36, k0_pay37, k0_pay38, k0_pay39, k0_pay40, kt0, kt1, kt2, vv0, vv1, vv2,
    show Scalar.cmpi .eq (512#32 : BitVec 32) 0#32 = 0#1 from rfl, show Scalar.select 0#1 (1#32 : BitVec 32) 512#32 = 512#32 from rfl,
    show Scalar.cmpi .slt (512#32 : BitVec 32) 0#32 = 0#1 from rfl]

/-- The last query tile. -/
theorem outD (c : Fin nD) (t : Fin cfg0.N) (h0 : ¬t.val % 4 = 0) (h1 : ¬t.val % 4 = 0) (h2 : ¬t.val % 4 = 1) (h3 : ¬t.val % 4 = 2) (h4 : t.val % 4 = 3) (K : Vec Ideal S2048x128 .bf16) (V : Vec Ideal S4x128x512 .bf16)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2 = V)
    (qq : FVec Ideal S1024x128 .bf16) (hq : k0_pay2 (iblk m c 5 t) = qq) :
    (outsAt0 m c t.val t.isLt).1 = fin (st1 (st1 (st1 (st0 (sc qq (kt0 K)) (vv0 V)) (sc qq (kt1 K)) (vv1 V)) (sc qq (kt2 K)) (vv2 V)) (msk (sc qq (kt3 K))) (vv3 V))
      (iblk m c 0 t) (iblk m c 1 t) (iblk m c 2 t) (iblk m c 3 t) (iblk m c 4 t) := by
  rw [outsAt0_D m c t h0 h1 h2 h3 h4]
  frame_open
  simp (disch := decide) only [View.read_writes_junk_eq_canon, View.canon_cons_unit_lit',
    View.ld_unit_lit', View.readAt_eq_ld, Memref.IsWhole.read_unread, read_unread_whole, hK, hV, hq]
  rw [blockD]
  rfl

/-- The first query tile stages the keys. -/
theorem keysA (c : Fin nD) (t : Fin cfg0.N) (h0 : t.val % 4 = 0) (h1 : t.val % 4 = 0) (h2 : ¬t.val % 4 = 1) (h3 : ¬t.val % 4 = 2)
    (h4 : ¬t.val % 4 = 3) (r : Fin 2048) (d : Fin 128) :
    (outsAt0 m c t.val t.isLt).2.1 (ix2 r d) = (iblk m c 6 t : FVec Ideal S1x2048x128 .f32) (ix3 0 r d) := by
  rw [outsAt0_A m c t h0 h1 h2 h3 h4]
  frame_out
  pointwise [k0_pay6]

/-- The first stored value tile is its 512 rows transposed. -/
theorem pay1_at (x : FVec Ideal S1x512x128 .f32) (d : Fin 128) (k : Fin 512) :
    k0_pay1 (F := Ideal) (k0_pay10 x) (ix3 0 d k) = x (ix3 0 k d) := by pointwise [k0_pay1, k0_pay10]
/-- The second stored value tile is its 512 rows transposed. -/
theorem pay7_at (x : FVec Ideal S1x512x128 .f32) (d : Fin 128) (k : Fin 512) :
    k0_pay7 (F := Ideal) x (ix3 0 d k) = x (ix3 0 k d) := by pointwise [k0_pay7]
/-- The third stored value tile is its 512 rows transposed. -/
theorem pay8_at (x : FVec Ideal S1x512x128 .f32) (d : Fin 128) (k : Fin 512) :
    k0_pay8 (F := Ideal) x (ix3 0 d k) = x (ix3 0 k d) := by pointwise [k0_pay8]
/-- The fourth stored value tile is its 512 rows transposed. -/
theorem pay9_at (x : FVec Ideal S1x512x128 .f32) (d : Fin 128) (k : Fin 512) :
    k0_pay9 (F := Ideal) x (ix3 0 d k) = x (ix3 0 k d) := by pointwise [k0_pay9]

/-- An index of a value tile by its coordinates. -/
theorem tile_ix (x : S1x128x512.Idx) (d : Fin 128) (k : Fin 512) (h1 : d.val = (x 1).val) (h2 : k.val = (x 2).val) :
    x = ix3 0 d k := by
  funext a
  match a with
  | ⟨0, _⟩ => exact Subsingleton.elim (α := Fin 1) _ _
  | ⟨1, _⟩ => exact Fin.ext h1.symm
  | ⟨2, _⟩ => exact Fin.ext h2.symm

/-- Four loads of rows of a staged block. -/
theorem rows_ld (X : FVec Ideal S1x2048x128 .f32) (k : Fin 512) (d : Fin 128) :
    (View.ld (Val := Elt Ideal) (e' := .f32) X (Rect.unit ![0, 0, 0] ![1, 512, 128] inb_S1x2048x128_S1x512x128_0_0_0) : FVec Ideal S1x512x128 .f32) (ix3 0 k d) = X (ix3 0 ⟨0 * 512 + k.val, by omega⟩ d)
    ∧ (View.ld (Val := Elt Ideal) (e' := .f32) X (Rect.unit ![0, 512, 0] ![1, 512, 128] inb_S1x2048x128_S1x512x128_0_512_0) : FVec Ideal S1x512x128 .f32) (ix3 0 k d) = X (ix3 0 ⟨1 * 512 + k.val, by omega⟩ d)
    ∧ (View.ld (Val := Elt Ideal) (e' := .f32) X (Rect.unit ![0, 1024, 0] ![1, 512, 128] inb_S1x2048x128_S1x512x128_0_1024_0) : FVec Ideal S1x512x128 .f32) (ix3 0 k d) = X (ix3 0 ⟨2 * 512 + k.val, by omega⟩ d)
    ∧ (View.ld (Val := Elt Ideal) (e' := .f32) X (Rect.unit ![0, 1536, 0] ![1, 512, 128] inb_S1x2048x128_S1x512x128_0_1536_0) : FVec Ideal S1x512x128 .f32) (ix3 0 k d) = X (ix3 0 ⟨3 * 512 + k.val, by omega⟩ d) := by
  refine ⟨?_, ?_, ?_, ?_⟩ <;> (pointwise; try rfl)

/-- The first query tile stages the values, transposed tile by tile. -/
theorem valsA (c : Fin nD) (t : Fin cfg0.N) (h0 : t.val % 4 = 0) (h1 : t.val % 4 = 0) (h2 : ¬t.val % 4 = 1) (h3 : ¬t.val % 4 = 2)
    (h4 : ¬t.val % 4 = 3) (n : Fin 4) (d : Fin 128) (k : Fin 512) :
    (outsAt0 m c t.val t.isLt).2.2 (ix3 n d k) = (iblk m c 7 t : FVec Ideal S1x2048x128 .f32) (ix3 0 ⟨n.val * 512 + k.val, by omega⟩ d) := by
  rw [outsAt0_A m c t h0 h1 h2 h3 h4]
  frame_out
  generalize (iblk m c 7 t : FVec Ideal S1x2048x128 .f32) = X
  canon_tiles x h
  · obtain rfl : n = 3 := Fin.ext (by have e : n.val = 3 + (x 0).val := h0; show n.val = 3; omega)
    rw [tile_ix x d k h1 h2, pay1_at]
    exact (rows_ld X k d).2.2.2
  · obtain rfl : n = 2 := Fin.ext (by have e : n.val = 2 + (x 0).val := h0; show n.val = 2; omega)
    rw [tile_ix x d k h1 h2, pay9_at]
    exact (rows_ld X k d).2.2.1
  · obtain rfl : n = 1 := Fin.ext (by have e : n.val = 1 + (x 0).val := h0; show n.val = 1; omega)
    rw [tile_ix x d k h1 h2, pay8_at]
    exact (rows_ld X k d).2.1
  · obtain rfl : n = 0 := Fin.ext (by have e : n.val = (x 0).val := h0; show n.val = 0; omega)
    rw [tile_ix x d k h1 h2, pay7_at]
    exact (rows_ld X k d).1

/-- The later query tiles leave both scratch buffers alone. -/
theorem carried (c : Fin nD) (t : Fin cfg0.N) (h : ¬t.val % 4 = 0) :
    (outsAt0 m c t.val t.isLt).2 = (outsAt0 m c (t.val - 1) (Nat.lt_of_le_of_lt (Nat.sub_le _ _) t.isLt)).2 := by
  have h3 : t.val % 4 = 1 ∨ t.val % 4 = 2 ∨ t.val % 4 = 3 := by omega
  rcases h3 with h3 | h3 | h3
  · rw [outsAt0_B m c t h h h3 (by omega) (by omega)]; rfl
  · rw [outsAt0_C m c t h h (by omega) h3 (by omega)]; rfl
  · rw [outsAt0_D m c t h h (by omega) (by omega) h3]; rfl

/-- At every point both scratch buffers hold the point's head's keys and values. -/
theorem scratch (c : Fin nD) : ∀ (n : ℕ) (h : n < cfg0.N),
    (∀ (r : Fin 2048) (d : Fin 128), (outsAt0 m c n h).2.1 (ix2 r d) = (iblk m c 6 ⟨n, h⟩ : FVec Ideal S1x2048x128 .f32) (ix3 0 r d))
    ∧ ∀ (i : Fin 4) (d : Fin 128) (k : Fin 512), (outsAt0 m c n h).2.2 (ix3 i d k)
      = (iblk m c 7 ⟨n, h⟩ : FVec Ideal S1x2048x128 .f32) (ix3 0 ⟨i.val * 512 + k.val, by omega⟩ d) := by
  intro n
  induction n with
  | zero =>
    intro h
    exact ⟨keysA m c ⟨0, h⟩ rfl rfl (by simp) (by simp) (by simp), valsA m c ⟨0, h⟩ rfl rfl (by simp) (by simp) (by simp)⟩
  | succ n ih =>
    intro h
    by_cases h0 : (n + 1) % 4 = 0
    · exact ⟨keysA m c ⟨n + 1, h⟩ h0 h0 (by simp only; omega) (by simp only; omega) (by simp only; omega),
        valsA m c ⟨n + 1, h⟩ h0 h0 (by simp only; omega) (by simp only; omega) (by simp only; omega)⟩
    · have key := ih (Nat.lt_of_succ_lt h)
      have hc := carried m c ⟨n + 1, h⟩ h0
      have e1 : (n + 1) / 32 = n / 32 := by omega
      have e2 : (n + 1) / 4 % 8 = n / 4 % 8 := by omega
      constructor
      · intro r d
        refine (congrFun (congrArg Prod.fst hc) _).trans ((key.1 r d).trans ?_)
        rw [k_at, k_at]; simp only [e1, e2]
      · intro i d k
        refine (congrFun (congrArg Prod.snd hc) _).trans ((key.2 i d k).trans ?_)
        rw [v_at, v_at]; simp only [e1, e2]

end Cert.KernelIdeal.Value

end
-- ==== Proof.DiffPoint.lean ====
/-
  The block the differential attention's kernel writes at a grid point, as the specification's entries. The tiles of keys
  before the query tile are scored unmasked, the tile of the query itself is masked, those after it are not visited: the
  three agree with the causal mask over all the keys, whose weights are zero after the query.
-/
module

public import proofs.«01_k».proof.Proof.DiffKernel

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax Cert.Diff

/-! ## Scores of a tile -/

/-- The scaled score of key `k` in column `j`. -/
def X (K : Fin 2048 → Fin 128 → ℝ) (Q : Fin 512 → Fin 128 → ℝ) (k : Fin 2048) (j : Fin 1024) : ℝ := ∑ d : Fin 128, K k d * qmap Q j d

/-- The key at position `k` of tile `n`. -/
def key (n : Fin 4) (k : Fin 512) : Fin 2048 := ⟨n.val * 512 + k.val, by omega⟩

variable (K : Fin 2048 → Fin 128 → ℝ) (Q : Fin 512 → Fin 128 → ℝ) (V : Fin 2048 → Fin 128 → ℝ)

/-- A tile's scores are real. -/
theorem sc_real (qq : FVec Ideal S1024x128 .bf16) (kt : FVec Ideal S512x128 .bf16) (n : Fin 4)
    (hq : ∀ j d, qq (ix2 j d) = (qmap Q j d : EReal)) (hk : ∀ i d, kt (ix2 i d) = (K (key n i) d : EReal)) (i : Fin 512) (j : Fin 1024) :
    sc qq kt (ix2 i j) = (X K Q (key n i) j : EReal) := by
  rw [sc_at]
  exact sum_eq_coe fun d => by rw [hq, hk, EReal.coe_mul]

/-- A tile before the query tile `c`: no key is masked. -/
theorem sc_before (qq : FVec Ideal S1024x128 .bf16) (kt : FVec Ideal S512x128 .bf16) (n : Fin 4) (c : ℕ) (hc : n.val < c)
    (hq : ∀ j d, qq (ix2 j d) = (qmap Q j d : EReal)) (hk : ∀ i d, kt (ix2 i d) = (K (key n i) d : EReal)) (i : Fin 512) (j : Fin 1024) :
    sc qq kt (ix2 i j) = if (key n i).val ≤ c * 512 + j.val % 512 then (X K Q (key n i) j : EReal) else ⊥ := by
  rw [sc_real K Q qq kt n hq hk]
  exact (if_pos (show n.val * 512 + i.val ≤ _ by have := i.isLt; omega)).symm

/-- The query's own tile: the keys after the query are masked. -/
theorem sc_own (qq : FVec Ideal S1024x128 .bf16) (kt : FVec Ideal S512x128 .bf16) (n : Fin 4) (c : ℕ) (hc : n.val = c)
    (hq : ∀ j d, qq (ix2 j d) = (qmap Q j d : EReal)) (hk : ∀ i d, kt (ix2 i d) = (K (key n i) d : EReal)) (i : Fin 512) (j : Fin 1024) :
    msk (sc qq kt) (ix2 i j) = if (key n i).val ≤ c * 512 + j.val % 512 then (X K Q (key n i) j : EReal) else ⊥ := by
  rw [msk_at, sc_real K Q qq kt n hq hk]
  subst hc
  exact if_congr (show i.val ≤ j.val % 512 ↔ n.val * 512 + i.val ≤ _ by omega) rfl rfl

/-- The weight of key `k` in column `j` of query tile `c`. -/
def w (c : ℕ) (j : Fin 1024) (k : Fin 2048) : ℝ := wt (Real.log 2) (k.val ≤ c * 512 + j.val % 512) (X K Q k j)

/-- A key tile after the query tile has weight zero. -/
theorem w_after (c : ℕ) (j : Fin 1024) (n : Fin 4) (hc : c < n.val) (i : Fin 512) : w K Q c j (key n i) = 0 := by
  unfold w wt
  exact if_neg (show ¬ n.val * 512 + i.val ≤ _ by omega)

/-- A sum over all the keys, tile by tile. -/
theorem sum_keys (f : Fin 2048 → ℝ) : ∑ k, f k = ∑ i, f (key 0 i) + ∑ i, f (key 1 i) + ∑ i, f (key 2 i) + ∑ i, f (key 3 i) := by
  rw [Fin.sum_univ_tiles 4 512 rfl f, Fin.sum_univ_four]; rfl

/-- A finished pass. -/
def Done (x : FVec Ideal S1x1024 .f32 × FVec Ideal S1x1024 .f32 × FVec Ideal S128x1024 .f32) (c : ℕ) : Prop :=
  Good x (fun j => ∑ k, w K Q c j k) fun j d => ∑ k, w K Q c j k * V k d

section
variable (qq : FVec Ideal S1024x128 .bf16) (k0 k1 k2 k3 : FVec Ideal S512x128 .bf16) (v0 v1 v2 v3 : FVec Ideal S1x128x512 .bf16)
  (hq : ∀ j d, qq (ix2 j d) = (qmap Q j d : EReal))
  (hk0 : ∀ i d, k0 (ix2 i d) = (K (key 0 i) d : EReal)) (hk1 : ∀ i d, k1 (ix2 i d) = (K (key 1 i) d : EReal))
  (hk2 : ∀ i d, k2 (ix2 i d) = (K (key 2 i) d : EReal)) (hk3 : ∀ i d, k3 (ix2 i d) = (K (key 3 i) d : EReal))
  (hv0 : ∀ d i, v0 (ix3 0 d i) = (V (key 0 i) d : EReal)) (hv1 : ∀ d i, v1 (ix3 0 d i) = (V (key 1 i) d : EReal))
  (hv2 : ∀ d i, v2 (ix3 0 d i) = (V (key 2 i) d : EReal)) (hv3 : ∀ d i, v3 (ix3 0 d i) = (V (key 3 i) d : EReal))
include hq hk0 hv0

/-- The pass of the first query tile. -/
theorem doneA : Done K Q V (st0 (msk (sc qq k0)) v0) 0 := by
  have h := good0 (msk (sc qq k0)) v0 (fun i j => (key 0 i).val ≤ 0 * 512 + j.val % 512) (fun i j => X K Q (key 0 i) j)
    (fun d i => V (key 0 i) d) (sc_own K Q qq k0 0 0 rfl hq hk0) hv0 (fun j => ⟨0, by show 0 * 512 + 0 ≤ _; omega⟩)
  unfold Done
  have hz : ∀ j, ∑ k, w K Q 0 j k = ∑ i, w K Q 0 j (key 0 i) := fun j => by
    rw [sum_keys]; simp [w_after]
  have hn : ∀ j d, ∑ k, w K Q 0 j k * V k d = ∑ i, w K Q 0 j (key 0 i) * V (key 0 i) d := fun j d => by
    rw [sum_keys]; simp [w_after]
  simp only [hz, hn]
  exact h

include hk1 hv1

/-- The pass of the second query tile. -/
theorem doneB : Done K Q V (st1 (st0 (sc qq k0) v0) (msk (sc qq k1)) v1) 1 := by
  have h0 := good0 (sc qq k0) v0 (fun i j => (key 0 i).val ≤ 1 * 512 + j.val % 512) (fun i j => X K Q (key 0 i) j)
    (fun d i => V (key 0 i) d) (sc_before K Q qq k0 0 1 (by decide) hq hk0) hv0 (fun j => ⟨0, by show 0 * 512 + 0 ≤ _; omega⟩)
  have h := good1 _ (msk (sc qq k1)) v1 (fun i j => (key 1 i).val ≤ 1 * 512 + j.val % 512) (fun i j => X K Q (key 1 i) j)
    (fun d i => V (key 1 i) d) _ _ h0 (sc_own K Q qq k1 1 1 rfl hq hk1) hv1
  unfold Done
  have hz : ∀ j, ∑ k, w K Q 1 j k = ∑ i, w K Q 1 j (key 0 i) + ∑ i, w K Q 1 j (key 1 i) := fun j => by
    rw [sum_keys]; simp [w_after]
  have hn : ∀ j d, ∑ k, w K Q 1 j k * V k d
      = ∑ i, w K Q 1 j (key 0 i) * V (key 0 i) d + ∑ i, w K Q 1 j (key 1 i) * V (key 1 i) d := fun j d => by
    rw [sum_keys]; simp [w_after]
  simp only [hz, hn]
  exact h

include hk2 hv2

/-- The pass of the third query tile. -/
theorem doneC : Done K Q V (st1 (st1 (st0 (sc qq k0) v0) (sc qq k1) v1) (msk (sc qq k2)) v2) 2 := by
  have h0 := good0 (sc qq k0) v0 (fun i j => (key 0 i).val ≤ 2 * 512 + j.val % 512) (fun i j => X K Q (key 0 i) j)
    (fun d i => V (key 0 i) d) (sc_before K Q qq k0 0 2 (by decide) hq hk0) hv0 (fun j => ⟨0, by show 0 * 512 + 0 ≤ _; omega⟩)
  have h1 := good1 _ (sc qq k1) v1 (fun i j => (key 1 i).val ≤ 2 * 512 + j.val % 512) (fun i j => X K Q (key 1 i) j)
    (fun d i => V (key 1 i) d) _ _ h0 (sc_before K Q qq k1 1 2 (by decide) hq hk1) hv1
  have h := good1 _ (msk (sc qq k2)) v2 (fun i j => (key 2 i).val ≤ 2 * 512 + j.val % 512) (fun i j => X K Q (key 2 i) j)
    (fun d i => V (key 2 i) d) _ _ h1 (sc_own K Q qq k2 2 2 rfl hq hk2) hv2
  unfold Done
  have hz : ∀ j, ∑ k, w K Q 2 j k = ∑ i, w K Q 2 j (key 0 i) + ∑ i, w K Q 2 j (key 1 i) + ∑ i, w K Q 2 j (key 2 i) := fun j => by
    rw [sum_keys]; simp [w_after]
  have hn : ∀ j d, ∑ k, w K Q 2 j k * V k d
      = ∑ i, w K Q 2 j (key 0 i) * V (key 0 i) d + ∑ i, w K Q 2 j (key 1 i) * V (key 1 i) d
        + ∑ i, w K Q 2 j (key 2 i) * V (key 2 i) d := fun j d => by
    rw [sum_keys]; simp [w_after]
  simp only [hz, hn]
  exact h

include hk3 hv3

/-- The pass of the last query tile. -/
theorem doneD : Done K Q V (st1 (st1 (st1 (st0 (sc qq k0) v0) (sc qq k1) v1) (sc qq k2) v2) (msk (sc qq k3)) v3) 3 := by
  have h0 := good0 (sc qq k0) v0 (fun i j => (key 0 i).val ≤ 3 * 512 + j.val % 512) (fun i j => X K Q (key 0 i) j)
    (fun d i => V (key 0 i) d) (sc_before K Q qq k0 0 3 (by decide) hq hk0) hv0 (fun j => ⟨0, by show 0 * 512 + 0 ≤ _; omega⟩)
  have h1 := good1 _ (sc qq k1) v1 (fun i j => (key 1 i).val ≤ 3 * 512 + j.val % 512) (fun i j => X K Q (key 1 i) j)
    (fun d i => V (key 1 i) d) _ _ h0 (sc_before K Q qq k1 1 3 (by decide) hq hk1) hv1
  have h2 := good1 _ (sc qq k2) v2 (fun i j => (key 2 i).val ≤ 3 * 512 + j.val % 512) (fun i j => X K Q (key 2 i) j)
    (fun d i => V (key 2 i) d) _ _ h1 (sc_before K Q qq k2 2 3 (by decide) hq hk2) hv2
  have h := good1 _ (msk (sc qq k3)) v3 (fun i j => (key 3 i).val ≤ 3 * 512 + j.val % 512) (fun i j => X K Q (key 3 i) j)
    (fun d i => V (key 3 i) d) _ _ h2 (sc_own K Q qq k3 3 3 rfl hq hk3) hv3
  unfold Done
  have hz : ∀ j, ∑ k, w K Q 3 j k = ∑ i, w K Q 3 j (key 0 i) + ∑ i, w K Q 3 j (key 1 i) + ∑ i, w K Q 3 j (key 2 i)
      + ∑ i, w K Q 3 j (key 3 i) := fun j => by
    rw [sum_keys]
  have hn : ∀ j d, ∑ k, w K Q 3 j k * V k d
      = ∑ i, w K Q 3 j (key 0 i) * V (key 0 i) d + ∑ i, w K Q 3 j (key 1 i) * V (key 1 i) d
        + ∑ i, w K Q 3 j (key 2 i) * V (key 2 i) d + ∑ i, w K Q 3 j (key 3 i) * V (key 3 i) d := fun j d => by
    rw [sum_keys]
  simp only [hz, hn]
  exact h

end

/-! ## The weights are the specification's -/

/-- The scaled score times the logarithm of two: the products over the map's 64 columns, by eight. -/
theorem log_X (k : Fin 2048) (r : Fin 512) (s : Fin 2) :
    Real.log 2 * X K Q k ⟨s.val * 512 + r.val, by omega⟩
      = (∑ e : Fin 64, K k ⟨s.val * 64 + e.val, by omega⟩ * Q r ⟨s.val * 64 + e.val, by omega⟩) * (1 / 8) := by
  have h2 : Real.log 2 ≠ 0 := (Real.log_pos (by norm_num)).ne'
  have hr : ∀ s : Fin 2, (s.val * 512 + r.val) % 512 = r.val := fun s => by omega
  have hm : ∀ (u : Fin 2) (e : Fin 64), qmap Q ⟨s.val * 512 + r.val, by omega⟩ ⟨u.val * 64 + e.val, by omega⟩
      = if u = s then Q r ⟨u.val * 64 + e.val, by omega⟩ * ((1 / 8) * (Real.log 2)⁻¹) else 0 := by
    intro u e
    unfold qmap
    refine if_congr ?_ ?_ rfl
    · show (s.val * 512 + r.val < 512 ↔ u.val * 64 + e.val < 64) ↔ u = s
      rw [Fin.ext_iff]; omega
    · congr 2; exact Fin.ext (hr s)
  unfold X
  rw [Fin.sum_univ_tiles 2 64 rfl, Fin.sum_univ_two]
  simp only [hm]
  fin_cases s
  · simp only [Fin.zero_eta, if_true, Fin.mk_one, show ¬(1 : Fin 2) = 0 by decide, if_false, mul_zero, Finset.sum_const_zero, add_zero]
    rw [Finset.mul_sum, Finset.sum_mul]
    exact Finset.sum_congr rfl fun e _ => by field_simp; rfl
  · simp only [Fin.mk_one, if_true, show ¬(0 : Fin 2) = 1 by decide, if_false, mul_zero, Finset.sum_const_zero, zero_add]
    rw [Finset.mul_sum, Finset.sum_mul]
    exact Finset.sum_congr rfl fun e _ => by field_simp; rfl

/-- Every query has a key: the first one. -/
theorem Z_pos (c : ℕ) (j : Fin 1024) : 0 < ∑ k, w K Q c j k := by
  refine Finset.sum_pos' (fun k _ => wt_nonneg _ _ _) ⟨0, Finset.mem_univ _, ?_⟩
  unfold w wt
  exact (Real.exp_pos _).trans_eq (if_pos (Nat.zero_le _)).symm

/-- The keys of head `h` of sequence `b`. -/
def keysOf (A : Fin 8192 → Fin 4096 → ℝ) (b : Fin 4) (h : Fin 8) (k : Fin 2048) (d : Fin 128) : ℝ :=
  A ⟨b.val * 2048 + k.val, by omega⟩ ⟨2048 + (h.val / 2 * 128 + d.val), by omega⟩

/-- The queries of query tile `c` of the head. -/
def queriesOf (A : Fin 8192 → Fin 4096 → ℝ) (b : Fin 4) (h : Fin 8) (c : Fin 4) (r : Fin 512) (d : Fin 128) : ℝ :=
  A ⟨b.val * 2048 + (c.val * 512 + r.val), by omega⟩ ⟨h.val * 128 + d.val, by omega⟩

/-- The weights of the kernel's columns are the specification's. -/
theorem w_spec (A : Fin 8192 → Fin 4096 → ℝ) (b : Fin 4) (h : Fin 8) (c : Fin 4) (r : Fin 512) (s : Fin 2) (k : Fin 2048) :
    w (keysOf A b h) (queriesOf A b h c) c.val ⟨s.val * 512 + r.val, by omega⟩ k
      = weight A b h s ⟨c.val * 512 + r.val, by omega⟩ k := by
  unfold w weight wt
  refine if_congr ?_ (congrArg Real.exp ?_) rfl
  · show k.val ≤ c.val * 512 + (s.val * 512 + r.val) % 512 ↔ k.val ≤ c.val * 512 + r.val
    omega
  · rw [log_X, one_mul]; rfl

/-- The block of a finished pass is the specification's. -/
theorem fin_spec (A : Fin 8192 → Fin 4096 → ℝ) (b : Fin 4) (h : Fin 8) (c : Fin 4)
    (x : FVec Ideal S1x1024 .f32 × FVec Ideal S1x1024 .f32 × FVec Ideal S128x1024 .f32)
    (hx : Done (keysOf A b h) (queriesOf A b h c) (value A b h) x c.val)
    (l0 l1 l2 l3 : FVec Ideal S1x64 .f32) (g : FVec Ideal S128x1 .f32) (r : Fin 512) (e : Fin 128) :
    fin x l0 l1 l2 l3 g (ix3 0 r e)
      = spec A (lamF (fun n => l0 (ix2 0 n)) (fun n => l1 (ix2 0 n)) (fun n => l2 (ix2 0 n)) (fun n => l3 (ix2 0 n)))
        (fun e => g (ix2 e 0)) b h ⟨c.val * 512 + r.val, by omega⟩ e := by
  have h0 : ∀ k, w (keysOf A b h) (queriesOf A b h c) c.val ⟨r.val, by omega⟩ k = weight A b h 0 ⟨c.val * 512 + r.val, by omega⟩ k :=
    fun k => (congrArg (fun j => w (keysOf A b h) (queriesOf A b h c) c.val j k)
      (Fin.ext (show r.val = 0 * 512 + r.val by omega))).trans (w_spec A b h c r 0 k)
  have h1 : ∀ k, w (keysOf A b h) (queriesOf A b h c) c.val ⟨512 + r.val, by omega⟩ k = weight A b h 1 ⟨c.val * 512 + r.val, by omega⟩ k :=
    fun k => (congrArg (fun j => w (keysOf A b h) (queriesOf A b h c) c.val j k)
      (Fin.ext (show 512 + r.val = 1 * 512 + r.val by omega))).trans (w_spec A b h c r 1 k)
  rw [fin_at x l0 l1 l2 l3 g _ _ hx (fun j => Z_pos _ _ _ _) r e]
  simp only [h0, h1]
  rfl

/-! ## The grid points -/

/-- The tiles of the staged keys. -/
theorem kt_at (K : FVec Ideal S2048x128 .bf16) (i : Fin 512) (d : Fin 128) :
    kt0 K (ix2 i d) = K (ix2 (key 0 i) d) ∧ kt1 K (ix2 i d) = K (ix2 (key 1 i) d) ∧ kt2 K (ix2 i d) = K (ix2 (key 2 i) d)
      ∧ kt3 K (ix2 i d) = K (ix2 (key 3 i) d) := by
  refine ⟨?_, ?_, ?_, ?_⟩
  · pointwise [kt0]; blk_ext [key]
  · pointwise [kt1]; rfl
  · pointwise [kt2]; rfl
  · pointwise [kt3]; rfl

/-- The tiles of the staged values. -/
theorem vv_at (V : FVec Ideal S4x128x512 .bf16) (d : Fin 128) (i : Fin 512) :
    vv0 V (ix3 0 d i) = V (ix3 0 d i) ∧ vv1 V (ix3 0 d i) = V (ix3 1 d i) ∧ vv2 V (ix3 0 d i) = V (ix3 2 d i)
      ∧ vv3 V (ix3 0 d i) = V (ix3 3 d i) := by
  refine ⟨?_, ?_, ?_, ?_⟩
  · pointwise [vv0]
  · pointwise [vv1]
  · pointwise [vv2]
  · pointwise [vv3]

variable (m : (ℓ : Loc nD τ sig) → Buf (Elt Ideal) ℓ)

/-- The second map's weight, from the arguments. -/
def lam (c : Dev nD) : EReal :=
  lamF (fun n => (m ((c : Thread nD τ).loc main_arg1) : FVec Ideal S64 .f32) (ix1 n))
    (fun n => (m ((c : Thread nD τ).loc main_arg2) : FVec Ideal S64 .f32) (ix1 n))
    (fun n => (m ((c : Thread nD τ).loc main_arg3) : FVec Ideal S64 .f32) (ix1 n))
    (fun n => (m ((c : Thread nD τ).loc main_arg4) : FVec Ideal S64 .f32) (ix1 n))

/-- The block written at a grid point is the specification's. -/
theorem point_at (c : Dev nD) (A : Fin 8192 → Fin 4096 → ℝ)
    (hA : ∀ r k, (m ((c : Thread nD τ).loc main_arg0) : FVec Ideal S8192x4096 .f32) (ix2 r k) = (A r k : EReal))
    (t : Fin cfg0.N) (r : Fin 512) (e : Fin 128) :
    ((outsAt0 m c t.val t.isLt).1 : FVec Ideal S1x512x128 .bf16) (ix3 0 r e)
      = spec A (lam m c) (fun e => (m ((c : Thread nD τ).loc main_arg5) : FVec Ideal S128 .f32) (ix1 e))
        ⟨t.val / 32, (idx t).2.2.2.2.2.2.2.2.2⟩ ⟨t.val / 4 % 8, by omega⟩ ⟨t.val % 4 * 512 + r.val, by omega⟩ e := by
  have hb := (idx t).2.2.2.2.2.2.2.2.2
  have hlam : lam m c = lamF (fun n => (iblk m c 0 t : FVec Ideal S1x64 .f32) (ix2 0 n)) (fun n => (iblk m c 1 t : FVec Ideal S1x64 .f32) (ix2 0 n))
      (fun n => (iblk m c 2 t : FVec Ideal S1x64 .f32) (ix2 0 n)) (fun n => (iblk m c 3 t : FVec Ideal S1x64 .f32) (ix2 0 n)) := by
    simp only [l0_at, l1_at, l2_at, l3_at]; rfl
  have hg : (fun e : Fin 128 => (m ((c : Thread nD τ).loc main_arg5) : FVec Ideal S128 .f32) (ix1 e))
      = fun e => (iblk m c 4 t : FVec Ideal S128x1 .f32) (ix2 e 0) := funext fun e => (g_at m c t e).symm
  rw [hlam, hg]
  have hq := qq_at (iblk m c 5 t) (queriesOf A ⟨t.val / 32, hb⟩ ⟨t.val / 4 % 8, by omega⟩ ⟨t.val % 4, by omega⟩)
    (fun r d => (q_at m c t r d).trans (hA _ _))
  have hk : ∀ (i : Fin 2048) (d : Fin 128), (iblk m c 6 t : FVec Ideal S1x2048x128 .f32) (ix3 0 i d)
      = (keysOf A ⟨t.val / 32, hb⟩ ⟨t.val / 4 % 8, by omega⟩ i d : EReal) := fun i d => (k_at m c t i d).trans (hA _ _)
  have hv : ∀ (i : Fin 2048) (d : Fin 128), (iblk m c 7 t : FVec Ideal S1x2048x128 .f32) (ix3 0 i d)
      = (value A ⟨t.val / 32, hb⟩ ⟨t.val / 4 % 8, by omega⟩ i d : EReal) := fun i d => (v_at m c t i d).trans (hA _ _)
  suffices H : ∃ x, (outsAt0 m c t.val t.isLt).1 = fin x (iblk m c 0 t) (iblk m c 1 t) (iblk m c 2 t) (iblk m c 3 t) (iblk m c 4 t)
      ∧ Done (keysOf A ⟨t.val / 32, hb⟩ ⟨t.val / 4 % 8, by omega⟩)
        (queriesOf A ⟨t.val / 32, hb⟩ ⟨t.val / 4 % 8, by omega⟩ ⟨t.val % 4, by omega⟩)
        (value A ⟨t.val / 32, hb⟩ ⟨t.val / 4 % 8, by omega⟩) x (t.val % 4) by
    obtain ⟨x, h1, h2⟩ := H
    rw [h1]
    exact fin_spec A ⟨t.val / 32, hb⟩ ⟨t.val / 4 % 8, by omega⟩ ⟨t.val % 4, by omega⟩ x h2 _ _ _ _ _ r e
  generalize hqs : queriesOf A ⟨t.val / 32, hb⟩ ⟨t.val / 4 % 8, by omega⟩ ⟨t.val % 4, by omega⟩ = Q at hq ⊢
  by_cases h0 : t.val % 4 = 0
  · refine ⟨_, outA m c t h0 h0 (by omega) (by omega) (by omega) _ rfl, ?_⟩
    rw [h0]
    refine doneA _ _ _ _ _ _ hq (fun i d => ?_) fun d i => ?_
    · rw [(kt_at _ i d).1]
      exact Eq.trans (by pointwise [k0_pay6]) (hk (key 0 i) d)
    · rw [pay7_at, (rows_ld _ i d).1]
      exact hv (key 0 i) d
  · have hc := carried m c t h0
    have hs := scratch m c t.val t.isLt
    have hK : ∀ i d, (outsAt0 m c (t.val - 1) (Nat.lt_of_le_of_lt (Nat.sub_le _ _) t.isLt)).2.1 (ix2 i d)
        = (keysOf A ⟨t.val / 32, hb⟩ ⟨t.val / 4 % 8, by omega⟩ i d : EReal) := fun i d =>
      (congrFun (congrArg Prod.fst hc) (ix2 i d)).symm.trans ((hs.1 i d).trans (hk i d))
    have hV : ∀ n d i, (outsAt0 m c (t.val - 1) (Nat.lt_of_le_of_lt (Nat.sub_le _ _) t.isLt)).2.2 (ix3 n d i)
        = (value A ⟨t.val / 32, hb⟩ ⟨t.val / 4 % 8, by omega⟩ (key n i) d : EReal) := fun n d i =>
      (congrFun (congrArg Prod.snd hc) (ix3 n d i)).symm.trans ((hs.2 n d i).trans (hv (key n i) d))
    have h3 : t.val % 4 = 1 ∨ t.val % 4 = 2 ∨ t.val % 4 = 3 := by omega
    rcases h3 with h3 | h3 | h3
    · refine ⟨_, outB m c t h0 h0 h3 (by omega) (by omega) _ _ rfl rfl _ rfl, ?_⟩
      rw [h3]
      exact doneB _ _ _ _ _ _ _ _ hq (fun i d => (kt_at _ i d).1.trans (hK _ d)) (fun i d => (kt_at _ i d).2.1.trans (hK _ d))
        (fun d i => (vv_at _ d i).1.trans (hV 0 d i)) (fun d i => (vv_at _ d i).2.1.trans (hV 1 d i))
    · refine ⟨_, outC m c t h0 h0 (by omega) h3 (by omega) _ _ rfl rfl _ rfl, ?_⟩
      rw [h3]
      exact doneC _ _ _ _ _ _ _ _ _ _ hq (fun i d => (kt_at _ i d).1.trans (hK _ d)) (fun i d => (kt_at _ i d).2.1.trans (hK _ d))
        (fun i d => (kt_at _ i d).2.2.1.trans (hK _ d))
        (fun d i => (vv_at _ d i).1.trans (hV 0 d i)) (fun d i => (vv_at _ d i).2.1.trans (hV 1 d i))
        (fun d i => (vv_at _ d i).2.2.1.trans (hV 2 d i))
    · refine ⟨_, outD m c t h0 h0 (by omega) (by omega) h3 _ _ rfl rfl _ rfl, ?_⟩
      rw [h3]
      exact doneD _ _ _ _ _ _ _ _ _ _ _ _ hq (fun i d => (kt_at _ i d).1.trans (hK _ d)) (fun i d => (kt_at _ i d).2.1.trans (hK _ d))
        (fun i d => (kt_at _ i d).2.2.1.trans (hK _ d)) (fun i d => (kt_at _ i d).2.2.2.trans (hK _ d))
        (fun d i => (vv_at _ d i).1.trans (hV 0 d i)) (fun d i => (vv_at _ d i).2.1.trans (hV 1 d i))
        (fun d i => (vv_at _ d i).2.2.1.trans (hV 2 d i)) (fun d i => (vv_at _ d i).2.2.2.trans (hV 3 d i))

/-! ## The result -/

/-- The specification's array. -/
def whole (A : Fin 8192 → Fin 4096 → ℝ) (l : EReal) (g : Fin 128 → EReal) : FVec Ideal S4x2048x1024 .bf16 :=
  fun y => cell A l g (y 0) (y 1) (y 2)

/-- The kernel's result is the specification's array. -/
theorem final_at (c : Dev nD) (A : Fin 8192 → Fin 4096 → ℝ)
    (hA : ∀ r k, (m ((c : Thread nD τ).loc main_arg0) : FVec Ideal S8192x4096 .f32) (ix2 r k) = (A r k : EReal)) :
    (dats m 0 c).arrAt 8 cfg0.N = whole A (lam m c)
      (fun e => (m ((c : Thread nD τ).loc main_arg5) : FVec Ideal S128 .f32) (ix1 e)) := by
  refine (dats m 0 c).arrAt_eq_of_covers 8 _ (by decide +kernel) fun t hf y => ?_
  have h8 := (idx t).2.2.2.2.2.2.2.2.1
  have hb := (idx t).2.2.2.2.2.2.2.2.2
  blk_simp
  rw [after0_8]
  have hy1 : (y 1).val < 512 := (y 1).isLt
  have hy2 : (y 2).val < 128 := (y 2).isLt
  have hy0 : (y 0).val = 0 := by have h : (y 0).val < 1 := (y 0).isLt; omega
  have ey : y = (ix3 (0 : Fin 1) (y 1) (y 2) : S1x512x128.Idx) :=
    (eq_ix3 y).trans (congrArg (fun z : Fin 1 => (ix3 z (y 1) (y 2) : S1x512x128.Idx)) (Fin.ext hy0))
  refine (congrArg (outsAt0 m c t.val t.isLt).1 ey).trans ((point_at m c A hA t (y 1) (y 2)).trans ?_)
  refine (cell_at A _ _ ⟨t.val / 32, hb⟩ ⟨t.val / 4 % 8, by omega⟩ ⟨t.val % 4 * 512 + (y 1).val, by omega⟩ ⟨(y 2).val, hy2⟩).symm.trans ?_
  show whole A _ _ (ix3 ⟨t.val / 32, hb⟩ ⟨t.val % 4 * 512 + (y 1).val, by omega⟩ ⟨t.val / 4 % 8 * 128 + (y 2).val, by omega⟩) = _
  refine congrArg _ ?_
  blk_ext [h8]

end Cert.KernelIdeal.Value

end
-- ==== Proof.DiffReference.lean ====
/-
  The differential attention's reference at an index. Its operations are grouped by step — queries, keys, values, masked
  scores, softmax, difference of the maps, weighted values, norm — and each step is read at an index; the softmax and the
  weighted values are then averages over all the keys.
-/
module

public import proofs.«01_k».proof.Proof.Gen.ReferenceIdeal.Run
public import proofs.«01_k».proof.Proof.DiffSpec
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Softmax Cert.Diff

/-! ## The steps -/

/-- The queries: sequence, position, key head, head of the pair, map, column. -/
def rQ (a : FVec Ideal S8192x4096 .f32) : FVec Ideal S4x2048x4x2x2x64 .f32 :=
  shapeCast _ (extractStridedSlice S4x2048x1024 ![0, 0, 0] (shapeCast _ a shapeCasts_S8192x4096_S4x2048x4096) slices_S4x2048x4096_S4x2048x1024_0_0_0) shapeCasts_S4x2048x1024_S4x2048x4x2x2x64

/-- The keys: sequence, position, key head, map, column. -/
def rK (a : FVec Ideal S8192x4096 .f32) : FVec Ideal S4x2048x4x2x64 .f32 :=
  shapeCast _ (extractStridedSlice S4x2048x512 ![0, 0, 2048] (shapeCast _ a shapeCasts_S8192x4096_S4x2048x4096) slices_S4x2048x4096_S4x2048x512_0_0_2048) shapeCasts_S4x2048x512_S4x2048x4x2x64

/-- The values: sequence, position, key head, column. -/
def rV (a : FVec Ideal S8192x4096 .f32) : FVec Ideal S4x2048x4x128 .f32 :=
  shapeCast _ (extractStridedSlice S4x2048x512 ![0, 0, 3072] (shapeCast _ a shapeCasts_S8192x4096_S4x2048x4096) slices_S4x2048x4096_S4x2048x512_0_0_3072) shapeCasts_S4x2048x512_S4x2048x4x128

/-- The causal mask: key position at most query position. -/
def rMask : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The scaled scores. -/
def rScore (k : FVec Ideal S4x2048x4x2x64 .f32) (q : FVec Ideal S4x2048x4x2x2x64 .f32) : FVec Ideal S4x4x2x2x2048x2048 .f32 :=
  mulf (transpose S4x4x2x2x2048x2048 [0, 1, 5, 2, 4, 3] (Host.dotGeneral dot_S4x2048x4x2x64_S4x2048x4x2x2x64_S4x4x2x2048x2048x2_4_5_1_13_023_024 none k q) transposes_S4x4x2x2048x2048x2_S4x4x2x2x2048x2048_0_1_5_2_4_3) (broadcastInDim S4x4x2x2x2048x2048 ![] bcast_S_S4x4x2x2x2048x2048 (constant S_ .f32 0x3E000000#32))

/-- The scores with the later keys masked. -/
def rLogit (s : FVec Ideal S4x4x2x2x2048x2048 .f32) : FVec Ideal S4x4x2x2x2048x2048 .f32 :=
  select (broadcastInDim S4x4x2x2x2048x2048 ![4, 5] bcast_S2048x2048_S4x4x2x2x2048x2048_4_5 rMask) s (broadcastInDim S4x4x2x2x2048x2048 ![] bcast_S_S4x4x2x2x2048x2048 (id (constant S_ .f32 0xFF800000#32)))

/-- The greatest score of every query. -/
def rMax (s : FVec Ideal S4x4x2x2x2048x2048 .f32) : FVec Ideal S4x4x2x2x2048 .f32 :=
  maximumf (broadcastInDim S4x4x2x2x2048 ![] bcast_S_S4x4x2x2x2048 (constant S_ .f32 0xFF800000#32)) (Host.reduce FloatOps.maximumf s (constant S_ .f32 0xFF800000#32) reducesTo_S4x4x2x2x2048x2048_S4x4x2x2x2048_d5 h_S_)

/-- A number per query, over the keys. -/
def rOver (x : FVec Ideal S4x4x2x2x2048 .f32) : FVec Ideal S4x4x2x2x2048x2048 .f32 :=
  broadcastInDim S4x4x2x2x2048x2048 ![0, 1, 2, 3, 4, 5] bcast_S4x4x2x2x2048x1_S4x4x2x2x2048x2048_0_1_2_3_4_5 (broadcastInDim S4x4x2x2x2048x1 ![0, 1, 2, 3, 4] bcast_S4x4x2x2x2048_S4x4x2x2x2048x1_0_1_2_3_4 x)

/-- The exponentials of the scores less their greatest. -/
def rExp (s : FVec Ideal S4x4x2x2x2048x2048 .f32) : FVec Ideal S4x4x2x2x2048x2048 .f32 := Host.exp (subf s (rOver (rMax s)))

/-- The sums over the keys. -/
def rSum (s : FVec Ideal S4x4x2x2x2048x2048 .f32) : FVec Ideal S4x4x2x2x2048 .f32 :=
  Host.reduceAdd s (constant S_ .f32 0x00000000#32) reducesTo_S4x4x2x2x2048x2048_S4x4x2x2x2048_d5 h_S_

/-- The softmax. -/
def rProb (s : FVec Ideal S4x4x2x2x2048x2048 .f32) : FVec Ideal S4x4x2x2x2048x2048 .f32 := Host.divf (rExp s) (rOver (rSum (rExp s)))

/-- The second map's weight. -/
def rLam (a b c d : FVec Ideal S64 .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- The difference of the two maps. -/
def rDiff (p : FVec Ideal S4x4x2x2x2048x2048 .f32) (l : FVec Ideal S_ .f32) : FVec Ideal S4x4x2x2048x2048 .f32 :=
  subf (shapeCast _ (extractStridedSlice S4x4x2x1x2048x2048 ![0, 0, 0, 0, 0, 0] p slices_S4x4x2x2x2048x2048_S4x4x2x1x2048x2048_0_0_0_0_0_0) shapeCasts_S4x4x2x1x2048x2048_S4x4x2x2048x2048) (mulf (broadcastInDim S4x4x2x2048x2048 ![] bcast_S_S4x4x2x2048x2048 l) (shapeCast _ (extractStridedSlice S4x4x2x1x2048x2048 ![0, 0, 0, 1, 0, 0] p slices_S4x4x2x2x2048x2048_S4x4x2x1x2048x2048_0_0_0_1_0_0) shapeCasts_S4x4x2x1x2048x2048_S4x4x2x2048x2048))

/-- The weighted values: sequence, position, head, column. -/
def rOut (v : FVec Ideal S4x2048x4x128 .f32) (w : FVec Ideal S4x4x2x2048x2048 .f32) : FVec Ideal S4x2048x8x128 .f32 :=
  shapeCast _ (transpose S4x2048x4x2x128 [0, 4, 1, 3, 2] (Host.dotGeneral dot_S4x2048x4x128_S4x4x2x2048x2048_S4x4x128x2x2048_1_4_3_23_02_01 none v w) transposes_S4x4x128x2x2048_S4x2048x4x2x128_0_4_1_3_2) shapeCasts_S4x2048x4x2x128_S4x2048x8x128

/-- The norm of every head, its gain and its factor. -/
def rNorm (o : FVec Ideal S4x2048x8x128 .f32) (g : FVec Ideal S128 .f32) : FVec Ideal S4x2048x1024 .bf16 :=
  truncf .bf16 (shapeCast _ (mulf (mulf (mulf o (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf o o) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 g))) (broadcastInDim S4x2048x8x128 ![] bcast_S_S4x2048x8x128 (constant S_ .f32 0x3F4CCCCD#32))) shapeCasts_S4x2048x8x128_S4x2048x1024) bitsLt_bf16_f32

/-- The reference's result is the steps one after another. -/
theorem res_steps (m : (ℓ : Loc nD τ sig) → Buf (Elt Ideal) ℓ) (c : Dev nD) :
    res_out0 m c = rNorm (rOut (rV (m ((c : Thread nD τ).loc main_arg0)))
      (rDiff (rProb (rLogit (rScore (rK (m ((c : Thread nD τ).loc main_arg0))) (rQ (m ((c : Thread nD τ).loc main_arg0))))))
        (rLam (m ((c : Thread nD τ).loc main_arg1)) (m ((c : Thread nD τ).loc main_arg2)) (m ((c : Thread nD τ).loc main_arg3))
          (m ((c : Thread nD τ).loc main_arg4))))) (m ((c : Thread nD τ).loc main_arg5)) := by
  show res_main_v63 m c = _
  unfold res_main_v63
  rfl

/-! ## The steps at an index -/

/-- The queries at an index: a column of the projected row. -/
theorem rQ_at (a : FVec Ideal S8192x4096 .f32) (b : Fin 4) (l : Fin 2048) (h : Fin 4) (g s : Fin 2) (e : Fin 64) :
    rQ a (ix6 b l h g s e) = a (ix2 ⟨b.val * 2048 + l.val, by omega⟩ ⟨(h.val * 2 + g.val) * 128 + (s.val * 64 + e.val), by omega⟩) := by
  pointwise [rQ]
  blk_ext

/-- The keys at an index: a column of the projected row. -/
theorem rK_at (a : FVec Ideal S8192x4096 .f32) (b : Fin 4) (l : Fin 2048) (h : Fin 4) (s : Fin 2) (e : Fin 64) :
    rK a (ix5 b l h s e) = a (ix2 ⟨b.val * 2048 + l.val, by omega⟩ ⟨2048 + (h.val * 128 + (s.val * 64 + e.val)), by omega⟩) := by
  pointwise [rK]
  blk_ext

/-- The values at an index: a column of the projected row. -/
theorem rV_at (a : FVec Ideal S8192x4096 .f32) (b : Fin 4) (l : Fin 2048) (h : Fin 4) (e : Fin 128) :
    rV a (ix4 b l h e) = a (ix2 ⟨b.val * 2048 + l.val, by omega⟩ ⟨3072 + (h.val * 128 + e.val), by omega⟩) := by
  pointwise [rV]
  blk_ext

/-- The causal mask at an index. -/
theorem rMask_at (i j : Fin 2048) : rMask (ix2 i j) = if j.val ≤ i.val then 1#1 else 0#1 := by
  pointwise [rMask]
  refine (WordCmp.cmpi_sle_ofNat (by omega) (by omega)).trans ?_
  by_cases h : j.val ≤ i.val
  · rw [if_pos h, decide_eq_true h]; rfl
  · rw [if_neg h, decide_eq_false h]; rfl

/-- The scaled scores at an index. -/
theorem rScore_at (k : FVec Ideal S4x2048x4x2x64 .f32) (q : FVec Ideal S4x2048x4x2x2x64 .f32) (b : Fin 4) (h : Fin 4) (g s : Fin 2)
    (i j : Fin 2048) : rScore k q (ix6 b h g s i j)
      = (∑ e : Fin 64, k (ix5 b j h s e) * q (ix6 b i h g s e)) * Ideal.ofBits .f32 0x3E000000#32 := by
  pointwise [rScore]

/-- The masked scores at an index. -/
theorem rLogit_at (x : FVec Ideal S4x4x2x2x2048x2048 .f32) (b : Fin 4) (h : Fin 4) (g s : Fin 2)
    (i j : Fin 2048) : rLogit x (ix6 b h g s i j) = if j.val ≤ i.val then x (ix6 b h g s i j) else ⊥ := by
  pointwise [rLogit]
  rw [rMask_at]
  split
  · rfl
  · show (Ideal.ofBits .f32 0xFF800000#32 : EReal) = ⊥
    simp [Ideal.ofBits, Ideal.ieee]

/-- A row quantity spread over the keys. -/
theorem rOver_at (x : FVec Ideal S4x4x2x2x2048 .f32) (b : Fin 4) (h : Fin 4) (g s : Fin 2)
    (i j : Fin 2048) : rOver x (ix6 b h g s i j) = x (ix5 b h g s i) := by
  pointwise [rOver]

section
variable {n0 n1 n2 n3 n4 n5 : ℕ}

/-- The indices a reduction over the last of six axes gathers. -/
theorem fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (y : (⟨6, ![n0, n1, n2, n3, n4, n5]⟩ : Shape).Idx) :
    h.drop y = ix5 a b c d e ↔ ∃ k : Fin n5, ix6 a b c d e k = y := by
  constructor
  · intro e
    refine ⟨y 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- A sum over the last of six axes. -/
theorem sum_last (h : (⟨6, ![n0, n1, n2, n3, n4, n5]⟩ : Shape).ReducesTo [5] ⟨5, ![n0, n1, n2, n3, n4]⟩)
    (x : (⟨6, ![n0, n1, n2, n3, n4, n5]⟩ : Shape).Idx → EReal) (z : EReal)
    (a : Fin n0) (b : Fin n1) (c : Fin n2) (d : Fin n3) (e : Fin n4) :
    Ideal.hostReduceAdd h x z (ix5 a b c d e) = z + ∑ k : Fin n5, x (ix6 a b c d e k) :=
  congrArg (z + ·) (Finset.sum_filter_eq_sum_of_fiber _ (fun k : Fin n5 => ix6 a b c d e k) (fun _ _ e => congrFun e 5) (fiber h a b c d e) x)

/-- A greatest over the last of six axes. -/
theorem max_last (h : (⟨6, ![n0, n1, n2, n3, n4, n5]⟩ : Shape).ReducesTo [5] ⟨5, ![n0, n1, n2, n3, n4]⟩)
    (x : (⟨6, ![n0, n1, n2, n3, n4, n5]⟩ : Shape).Idx → Ideal .f32) {u : Shape} (z : u.Idx → Ideal .f32) (hu : 0 < u.numel)
    (a : Fin n0) (b : Fin n1) (c : Fin n2) (d : Fin n3) (e : Fin n4) :
    Host.reduce (FloatOps.maximumf (F := Ideal) (φ := .f32)) x z h hu (ix5 a b c d e)
      = Finset.univ.fold (max : EReal → EReal → EReal) (z (Shape.Idx.first hu)) fun k : Fin n5 => x (ix6 a b c d e k) := by
  have hm : (FloatOps.maximumf (F := Ideal) (φ := .f32)) = (max : EReal → EReal → EReal) := rfl
  rw [hm, Host.reduce_eq_fold]
  exact Finset.fold_filter_eq_fold_of_fiber _ _ (fun k : Fin n5 => ix6 a b c d e k) (fun _ _ e => congrFun e 5) (fiber h a b c d e) _ x

end

/-- The entrywise greater, at an index. -/
theorem max_at {s : Shape} (x y : FVec Ideal s .f32) (i : s.Idx) : maximumf x y i = max (x i : EReal) (y i) := rfl

/-- The initial value of a greatest. -/
theorem bot_at {s : Shape} (i : s.Idx) : (constant s .f32 0xFF800000#32 : FVec Ideal s .f32) i = (⊥ : EReal) := by
  show (Ideal.ofBits .f32 0xFF800000#32 : EReal) = ⊥
  simp [Ideal.ofBits, Ideal.ieee]

/-- The sum over the keys at an index. -/
theorem rSum_at (x : FVec Ideal S4x4x2x2x2048x2048 .f32) (b : Fin 4) (h : Fin 4) (g s : Fin 2)
    (i : Fin 2048) : rSum x (ix5 b h g s i) = ∑ j : Fin 2048, x (ix6 b h g s i j) := by
  unfold rSum
  refine (sum_last reducesTo_S4x4x2x2x2048x2048_S4x4x2x2x2048_d5 x _ b h g s i).trans ?_
  rw [show (constant S_ .f32 0x00000000#32 : FVec Ideal S_ .f32) (Shape.Idx.first h_S_) = (0 : EReal) from by pointwise, zero_add]

/-- The maximum over the keys at an index. -/
theorem rMax_at (x : FVec Ideal S4x4x2x2x2048x2048 .f32) (b : Fin 4) (h : Fin 4) (g s : Fin 2)
    (i : Fin 2048) : rMax x (ix5 b h g s i) = Finset.univ.fold max (⊥ : EReal) fun j : Fin 2048 => x (ix6 b h g s i j) := by
  unfold rMax
  have hb : ∀ z : FVec Ideal S_ .f32, broadcastInDim S4x4x2x2x2048 ![] bcast_S_S4x4x2x2x2048 z (ix5 b h g s i) = z ix0 := fun z => by pointwise
  rw [max_at, max_last, hb, bot_at, bot_at, max_eq_right bot_le]

/-- The value of lambda. -/
theorem rLam_at (a b c d : FVec Ideal S64 .f32) : rLam a b c d ix0
    = lamF (fun n => a (ix1 n)) (fun n => b (ix1 n)) (fun n => c (ix1 n)) (fun n => d (ix1 n)) := by
  unfold lamF
  pointwise [rLam]

/-- The difference of the two maps' weights at an index. -/
theorem rDiff_at (p : FVec Ideal S4x4x2x2x2048x2048 .f32) (l : FVec Ideal S_ .f32) (b : Fin 4) (h : Fin 4) (g : Fin 2)
    (i j : Fin 2048) : rDiff p l (ix5 b h g i j) = p (ix6 b h g 0 i j) - l ix0 * p (ix6 b h g 1 i j) := by
  pointwise [rDiff]
  blk_ext

/-- The weighted values at an index. -/
theorem rOut_at (v : FVec Ideal S4x2048x4x128 .f32) (w : FVec Ideal S4x4x2x2048x2048 .f32) (b : Fin 4) (l : Fin 2048) (h : Fin 8) (e : Fin 128) :
    rOut v w (ix4 b l h e) = ∑ j : Fin 2048, v (ix4 b j ⟨h.val / 2, by omega⟩ e)
      * w (ix5 b ⟨h.val / 2, by omega⟩ ⟨h.val % 2, by omega⟩ l j) := by
  pointwise [rOut]

/-- The normalised output at an index. -/
theorem rNorm_at (o : FVec Ideal S4x2048x8x128 .f32) (g : FVec Ideal S128 .f32) (b : Fin 4) (l : Fin 2048) (k : Fin 1024) :
    rNorm o g (ix3 b l k) = nrmF (fun e => o (ix4 b l ⟨k.val / 128, by omega⟩ e)) (g (ix1 ⟨k.val % 128, Nat.mod_lt _ (by decide)⟩))
      ⟨k.val % 128, Nat.mod_lt _ (by decide)⟩ := by
  unfold nrmF
  pointwise [rNorm]

/-! ## The result -/

/-- The softmax at an index. -/
theorem rProb_at (x : FVec Ideal S4x4x2x2x2048x2048 .f32) (b : Fin 4) (h : Fin 4) (g s : Fin 2) (i j : Fin 2048) :
    rProb x (ix6 b h g s i j) = Ideal.div (Ideal.exp (x (ix6 b h g s i j) - rMax x (ix5 b h g s i)))
      (∑ l : Fin 2048, Ideal.exp (x (ix6 b h g s i l) - rMax x (ix5 b h g s i))) := by
  have he : ∀ l, rExp x (ix6 b h g s i l) = Ideal.exp (x (ix6 b h g s i l) - rMax x (ix5 b h g s i)) := fun l => by
    pointwise [rExp]
    rw [rOver_at]
  pointwise [rProb]
  rw [rOver_at, rSum_at]
  simp only [he]

/-- One over eight. -/
theorem eighth : (Ideal.ofBits .f32 0x3E000000#32 : EReal) = ((1 / 8 : ℝ) : EReal) := by
  simp [Ideal.ofBits, Ideal.ieee]
  rw [← EReal.coe_mul]
  norm_num

/-- The key head of a head and its place in the pair. -/
theorem head_split (h : Fin 8) : h.val / 2 * 2 + h.val % 2 = h.val := by omega

/-- The softmax of the arguments' scores: the weight of a key over the sum of the weights. -/
theorem prob_spec (a : FVec Ideal S8192x4096 .f32) (A : Fin 8192 → Fin 4096 → ℝ) (hA : ∀ r k, a (ix2 r k) = (A r k : EReal))
    (b : Fin 4) (h : Fin 8) (s : Fin 2) (i j : Fin 2048) :
    rProb (rLogit (rScore (rK a) (rQ a))) (ix6 b ⟨h.val / 2, by omega⟩ ⟨h.val % 2, by omega⟩ s i j)
      = ((weight A b h s i j / ∑ l, weight A b h s i l : ℝ) : EReal) := by
  have ht : ∀ l : Fin 2048, rLogit (rScore (rK a) (rQ a)) (ix6 b ⟨h.val / 2, by omega⟩ ⟨h.val % 2, by omega⟩ s i l)
      = if l.val ≤ i.val then (score A b h s i l : EReal) else ⊥ := fun l => by
    rw [rLogit_at, rScore_at, eighth]
    refine if_congr Iff.rfl ?_ rfl
    unfold score
    rw [EReal.coe_mul]
    congr 1
    refine sum_eq_coe fun e => ?_
    rw [rK_at, rQ_at, hA, hA, EReal.coe_mul]
    simp only [head_split]
  rw [rProb_at]
  exact prob_at expo_exp (fun l : Fin 2048 => l.val ≤ i.val) (score A b h s i) _ ht ⟨i, le_rfl⟩ (rMax_at _ _ _ _ _ _) j

/-- The weighted values of the arguments: the difference of the two maps' averages. -/
theorem out_spec (a : FVec Ideal S8192x4096 .f32) (A : Fin 8192 → Fin 4096 → ℝ) (hA : ∀ r k, a (ix2 r k) = (A r k : EReal))
    (l : FVec Ideal S_ .f32) (r : ℝ) (hl : l ix0 = (r : EReal)) (b : Fin 4) (h : Fin 8) (i : Fin 2048) (e : Fin 128) :
    rOut (rV a) (rDiff (rProb (rLogit (rScore (rK a) (rQ a)))) l) (ix4 b i h e)
      = (avg A b h 0 i e : EReal) - (r : EReal) * (avg A b h 1 i e : EReal) := by
  rw [rOut_at, ← EReal.coe_mul, ← EReal.coe_sub]
  have hreal : avg A b h 0 i e - r * avg A b h 1 i e
      = ∑ j : Fin 2048, value A b h j e * (weight A b h 0 i j / (∑ l, weight A b h 0 i l)
        - r * (weight A b h 1 i j / ∑ l, weight A b h 1 i l)) := by
    unfold avg
    rw [Finset.sum_div, Finset.sum_div, Finset.mul_sum, ← Finset.sum_sub_distrib]
    exact Finset.sum_congr rfl fun j _ => by ring
  rw [hreal]
  refine sum_eq_coe fun j => ?_
  rw [rV_at, rDiff_at, prob_spec a A hA, prob_spec a A hA, hl, hA, EReal.coe_mul, EReal.coe_sub, EReal.coe_mul]
  rfl

/-- The reference's result is the specification's array. -/
theorem final_at (m : (ℓ : Loc nD τ sig) → Buf (Elt Ideal) ℓ) (c : Dev nD) (A : Fin 8192 → Fin 4096 → ℝ)
    (hA : ∀ r k, (m ((c : Thread nD τ).loc main_arg0) : FVec Ideal S8192x4096 .f32) (ix2 r k) = (A r k : EReal)) (r : ℝ)
    (hr : lamF (fun n => (m ((c : Thread nD τ).loc main_arg1) : FVec Ideal S64 .f32) (ix1 n))
      (fun n => (m ((c : Thread nD τ).loc main_arg2) : FVec Ideal S64 .f32) (ix1 n))
      (fun n => (m ((c : Thread nD τ).loc main_arg3) : FVec Ideal S64 .f32) (ix1 n))
      (fun n => (m ((c : Thread nD τ).loc main_arg4) : FVec Ideal S64 .f32) (ix1 n)) = (r : EReal)) :
    res_out0 m c = fun y : S4x2048x1024.Idx => cell A (r : EReal)
      (fun e => (m ((c : Thread nD τ).loc main_arg5) : FVec Ideal S128 .f32) (ix1 e)) (y 0) (y 1) (y 2) := by
  rw [res_steps]
  funext y
  refine (congrArg _ (eq_ix3 y)).trans ((rNorm_at _ _ (y 0) (y 1) (y 2)).trans ?_)
  have ho := out_spec _ A hA _ r ((rLam_at _ _ _ _).trans hr) (y 0) ⟨(y 2).val / 128, by have h : (y 2).val < 1024 := (y 2).isLt; omega⟩ (y 1)
  unfold cell spec
  simp only [ho]

end Cert.ReferenceIdeal.Value

end
-- ==== Proof.DiffClaims.lean ====
/-
  The claims about the differential attention: the reference's frame, the named constant, and the equality of kernel and
  reference over the extended reals where the projected rows and the four vectors of lambda are finite.
-/
module

public import proofs.«01_k».proof.Defs
public import proofs.«01_k».proof.Proof.Gen.KernelIdeal
public import proofs.«01_k».proof.Proof.Gen.ReferenceIdeal.Run
public import proofs.«01_k».proof.Proof.DiffPoint
public import proofs.«01_k».proof.Proof.DiffReference
public import Idealize.ShloMosaic.Lib.Claim
public import Idealize.ShloMosaic.Lib.Quiescent
public import Idealize.ShloMosaic.Adequacy

@[expose] public section

set_option maxRecDepth 16384

noncomputable section

namespace Cert.DiffClaims

open Idealize.ShloMosaic Idealize.SL.Sem

/-- The reference runs and leaves its arguments unchanged. -/
theorem frame_ri : Cert.quiescent_ReferenceIdeal (hReferenceIdeal := Cert.ReferenceIdeal.Gen.facts) := by
  intro m g _
  exact (θ_run _ _ _).mono (fun r h => ⟨fun c => (h c).2, sem_eq_zero_of_no_sems (sig := Cert.ReferenceIdeal.sig) rfl r.2⟩)
    (Cert.ReferenceIdeal.Value.run m g)

/-- The float that the version folds `1/8 · log2 e` to is the float of that real number. -/
theorem preserves : Cert.preserves_Kernel_KernelIdeal :=
  IdealRules.named_const.statement Cert.KernelIdeal.κ "scale_log2e" .f32 0x3E38AA3B#32 (((1 / 8) * (Real.log 2)⁻¹ : ℝ) : EReal) rfl

/-- The side conditions of the precondition. -/
theorem facts_finite : Cert.Pre_finite.Facts where
  bcast_S_S8192x4096 := ⟨fun a => a.elim0, fun a => a.elim0⟩
  bcast_S_S64 := ⟨fun a => a.elim0, fun a => a.elim0⟩

/-- An array whose absolute values are below infinity has real entries. -/
theorem real_of {S : Shape} (h : (⟨0, ![]⟩ : Shape).BroadcastsInDim S ![]) (x : FVec Ideal S .f32)
    (e : cmpf .olt (Host.absf x) (broadcastInDim S ![] h (constant ⟨0, ![]⟩ .f32 0x7F800000#32 : FVec Ideal _ .f32)) = fun _ => 1#1) (i : S.Idx) :
    ∃ r : ℝ, x i = (r : EReal) := by
  have hi := congrFun e i
  have ht : (Ideal.ofBits .f32 0x7F800000#32 : EReal) = ⊤ := by simp [Ideal.ofBits, Ideal.ieee]
  have hx : Ideal.cmp .olt (max (x i : EReal) (-(x i : EReal))) (⊤ : EReal) = 1#1 := by
    rw [← ht]; exact hi
  have hlt : max (x i : EReal) (-(x i : EReal)) < ⊤ := by
    by_contra hn
    have h0 : Ideal.cmp .olt (max (x i : EReal) (-(x i : EReal))) (⊤ : EReal) = 0#1 := by
      show BitVec.ofBool (decide (max (x i : EReal) (-(x i : EReal)) < ⊤)) = 0#1
      rw [decide_eq_false hn]; rfl
    rw [h0] at hx
    exact absurd hx (by decide)
  have h1 : (x i : EReal) ≠ ⊤ := ((le_max_left _ _).trans_lt hlt).ne
  have h2 : (x i : EReal) ≠ ⊥ := fun hb => by
    have h3 := (le_max_right (x i : EReal) (-(x i : EReal))).trans_lt hlt
    rw [hb, EReal.neg_bot] at h3
    exact lt_irrefl _ h3
  exact ⟨(x i : EReal).toReal, (EReal.coe_toReal h1 h2).symm⟩

/-- Kernel and reference end with equal results over the extended reals, where the arguments are finite. -/
theorem algebraic : Cert.algebraic_KernelIdeal_ReferenceIdeal_pre_finite (hKernelIdeal := Cert.KernelIdeal.Gen.facts)
    (hReferenceIdeal := Cert.ReferenceIdeal.Gen.facts) (hPre_finite := facts_finite) := by
  pair_intro
  · run_from Cert.KernelIdeal.Gen.run_main m g
  · run_from Cert.ReferenceIdeal.Value.run m' g'
    obtain ⟨e0, e1, e2, e3, e4, e5⟩ := hagree c
    obtain ⟨p0, p1, p2, p3, p4⟩ := hpre c
    have r0 := real_of facts_finite.bcast_S_S8192x4096 _ p0
    have r1 := real_of facts_finite.bcast_S_S64 _ p1
    have r2 := real_of facts_finite.bcast_S_S64 _ p2
    have r3 := real_of facts_finite.bcast_S_S64 _ p3
    have r4 := real_of facts_finite.bcast_S_S64 _ p4
    choose A hA using fun (r : Fin 8192) (k : Fin 4096) => r0 (ix2 r k)
    choose l1 h1 using fun n : Fin 64 => r1 (ix1 n)
    choose l2 h2 using fun n : Fin 64 => r2 (ix1 n)
    choose l3 h3 using fun n : Fin 64 => r3 (ix1 n)
    choose l4 h4 using fun n : Fin 64 => r4 (ix1 n)
    obtain ⟨r, hr⟩ := Cert.Diff.lamF_real l1 l2 l3 l4
    have hlam : Cert.KernelIdeal.Value.lam m c = (r : EReal) := by
      unfold Cert.KernelIdeal.Value.lam
      rw [← hr]
      exact congr (congr (congr (congrArg Cert.Diff.lamF (funext h1)) (funext h2)) (funext h3)) (funext h4)
    refine (Cert.ReferenceIdeal.Value.final_at m' c A (fun i k => ?_) r ?_).trans ((Cert.KernelIdeal.Value.final_at m c A hA).trans ?_).symm
    · rw [e0]; exact hA i k
    · rw [e1, e2, e3, e4]; exact hlam
    · rw [hlam, e5]; rfl

end Cert.DiffClaims

end
-- ==== Proof.MobaSpec.lean ====
/-
  The block-sparse attention of one query head as sums over real numbers. The keys of a sequence lie in eight blocks of 256.
  A query of block `c` sees its own block up to itself, and of the earlier blocks the three of greatest gate (of equal gates
  the earlier block); the gate of a block is the query times the mean of the block's keys. `sum_seen` says that the four
  places a stable descending sort of the masked gates chooses (its first three, and the own block) carry the same sum as
  the blocks seen.
-/
module

public import proofs.«01_k».proof.Proof.SoftmaxMath
public import Idealize.ShloMosaic.Lib.SortPrefix

@[expose] public section

noncomputable section

namespace Cert.Moba

open Idealize.ShloMosaic Cert.Softmax
open scoped Classical

/-- Block `m` is preferred to block `n`: its gate is greater, or equal and the block earlier. -/
def Before (G : Fin 8 → ℝ) (m n : Fin 8) : Prop := G n < G m ∨ (G m = G n ∧ m < n)

/-- How many blocks before block `c` are preferred to block `n`. -/
def rank (G : Fin 8 → ℝ) (c n : Fin 8) : ℕ := (Finset.univ.filter fun m : Fin 8 => m < c ∧ Before G m n).card

/-- A query of block `c` chooses the earlier block `n`. -/
def Chosen (G : Fin 8 → ℝ) (c n : Fin 8) : Prop := n < c ∧ rank G c n < 3

/-- A query of block `c` sees block `n`. -/
def Seen (G : Fin 8 → ℝ) (c n : Fin 8) : Prop := n = c ∨ Chosen G c n

/-- The masked gate. -/
def gateM (G : Fin 8 → ℝ) (c n : Fin 8) : EReal := if n < c then (G n : EReal) else ⊥

/-- The comparator of a descending sort. -/
def gtB (x : Fin 8 → EReal) (k k' : Fin 8) : Bool := decide (x k' < x k)

/-- The comparator with ties broken by the position. -/
def gtP (x : Fin 8 → EReal) (k k' : Fin 8) : Bool := decide (x k' < x k ∨ (x k = x k' ∧ k < k'))

/-- The comparator with the positions is a strict total order. -/
theorem gtP_total (x : Fin 8 → EReal) : StrictTotalBefore (gtP x) where
  irrefl a := by simp [gtP]
  trans a b c h1 h2 := by
    simp only [gtP, decide_eq_true_eq] at h1 h2 ⊢
    rcases h1 with h1 | ⟨e1, l1⟩ <;> rcases h2 with h2 | ⟨e2, l2⟩
    · exact Or.inl (h2.trans h1)
    · exact Or.inl (e2 ▸ h1)
    · exact Or.inl (e1 ▸ h2)
    · exact Or.inr ⟨e1.trans e2, l1.trans l2⟩
  total a b h := by
    simp only [gtP, decide_eq_true_eq]
    rcases lt_trichotomy (x a) (x b) with h1 | h1 | h1
    · exact Or.inr (Or.inl h1)
    · rcases lt_or_gt_of_ne h with h2 | h2
      · exact Or.inl (Or.inr ⟨h1, h2⟩)
      · exact Or.inr (Or.inr ⟨h1.symm, h2⟩)
    · exact Or.inl (Or.inl h1)

/-- The stable sort of increasing positions breaks ties by the position. -/
theorem stable_eq (x : Fin 8 → EReal) (l : List (Fin 8)) (hl : l.Pairwise (· < ·)) :
    stableSort (gtB x) l = stableSort (gtP x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp only [gtB, gtP]
    congr 1
    exact propext ⟨Or.inl, fun h => h.resolve_right fun h => absurd h.2 (not_lt.mpr hab.le)⟩

/-- Where the stable descending sort of the masked gates takes its entries from. -/
def src (G : Fin 8 → ℝ) (c : Fin 8) : Fin 8 → Fin 8 := sortedFrom (gtB (gateM G c))

/-- The sort's sources, with ties broken by the position. -/
theorem src_eq (G : Fin 8 → ℝ) (c : Fin 8) : src G c = sortedFrom (gtP (gateM G c)) := by
  funext k
  unfold src sortedFrom
  rw [List.get_of_eq (show sortPositions 8 (gtB (gateM G c)) = sortPositions 8 (gtP (gateM G c)) from
    stable_eq _ _ (List.pairwise_lt_finRange 8))]
  rfl

/-- The sources are a permutation. -/
theorem src_bij (G : Fin 8 → ℝ) (c : Fin 8) : Function.Bijective (src G c) :=
  ⟨sortedFrom_injective _, sortedFrom_surjective _⟩

/-- The sources are ordered. -/
theorem src_lt (G : Fin 8 → ℝ) (c : Fin 8) (p q : Fin 8) :
    gtP (gateM G c) (src G c p) (src G c q) = true ↔ p < q := by
  have hB := gtP_total (gateM G c)
  have key : ∀ i j : Fin 8, i < j → gtP (gateM G c) (src G c j) (src G c i) = false := fun i j hij => by
    rw [src_eq]
    exact sortedFrom_noInversion _ _ (fun a b h => hB.asymm a b h) (fun _ _ h => h) hB.negTrans i j hij
  constructor
  · intro h
    rcases lt_trichotomy p q with h1 | h1 | h1
    · exact h1
    · rw [h1, hB.irrefl] at h; exact absurd h (by decide)
    · rw [key q p h1] at h; exact absurd h (by decide)
  · intro h
    rcases hB.total (src G c p) (src G c q) fun e => h.ne ((src_bij G c).1 e) with h1 | h1
    · exact h1
    · rw [key p q h] at h1; exact absurd h1 (by decide)

/-- The rank of the block the sort puts at a place is the place. -/
theorem rank_src (G : Fin 8 → ℝ) (c p : Fin 8) (hp : src G c p < c) : rank G c (src G c p) = p.val := by
  have h : (Finset.univ.filter fun m : Fin 8 => m < c ∧ Before G m (src G c p))
      = (Finset.univ.filter fun q : Fin 8 => q < p).map ⟨src G c, (src_bij G c).1⟩ := by
    ext m
    simp only [Finset.mem_filter, Finset.mem_univ, true_and, Finset.mem_map, Function.Embedding.coeFn_mk]
    have hm : (m < c ∧ Before G m (src G c p)) ↔ gtP (gateM G c) m (src G c p) = true := by
      simp only [gtP, decide_eq_true_eq, gateM, if_pos hp, Before]
      by_cases hmc : m < c
      · simp only [hmc, if_true, EReal.coe_lt_coe_iff, EReal.coe_eq_coe_iff, true_and]
      · simp [hmc]
    rw [hm]
    constructor
    · intro h
      obtain ⟨q, rfl⟩ := (src_bij G c).2 m
      exact ⟨q, (src_lt G c q p).mp h, rfl⟩
    · rintro ⟨q, hq, rfl⟩
      exact (src_lt G c q p).mpr hq
  rw [rank, h, Finset.card_map]
  have : ∀ p : Fin 8, (Finset.univ.filter fun q : Fin 8 => q < p).card = p.val := by decide
  exact this p

/-- The first three places of the sort carry the chosen blocks. -/
theorem sum_chosen (G : Fin 8 → ℝ) (c : Fin 8) (F : Fin 8 → ℝ) :
    ∑ s : Fin 3, (if src G c ⟨s.val, by omega⟩ < c then F (src G c ⟨s.val, by omega⟩) else 0)
      = ∑ n, if Chosen G c n then F n else 0 := by
  rw [← (Equiv.ofBijective _ (src_bij G c)).sum_comp fun n => if Chosen G c n then F n else 0]
  have h : ∀ p : Fin 8, (if Chosen G c (src G c p) then F (src G c p) else 0)
      = if p.val < 3 then (if src G c p < c then F (src G c p) else 0) else 0 := by
    intro p
    unfold Chosen
    by_cases hp : src G c p < c
    · rw [rank_src G c p hp]; simp [hp]
    · simp [hp]
  simp only [Equiv.ofBijective_apply, h]
  rw [Fin.sum_univ_eight, Fin.sum_univ_three]
  simp

/-- The first three places of the sort and the own block carry the blocks seen. -/
theorem sum_seen (G : Fin 8 → ℝ) (c : Fin 8) (F : Fin 8 → ℝ) :
    ∑ s : Fin 3, (if src G c ⟨s.val, by omega⟩ < c then F (src G c ⟨s.val, by omega⟩) else 0) + F c
      = ∑ n, if Seen G c n then F n else 0 := by
  rw [sum_chosen]
  have h : ∀ n, (if Seen G c n then F n else 0) = (if Chosen G c n then F n else 0) + if n = c then F n else 0 := by
    intro n
    unfold Seen
    by_cases hn : n = c
    · have : ¬ Chosen G c n := fun h => absurd h.1 (by simp [hn])
      simp [hn, hn ▸ this]
    · simp [hn]
  simp only [h, Finset.sum_add_distrib]
  simp

/-- Key `r` of block `n`. -/
def key (n : Fin 8) (r : Fin 256) : Fin 2048 := ⟨n.val * 256 + r.val, by omega⟩

/-- The block of a position. -/
def blk (i : Fin 2048) : Fin 8 := ⟨i.val / 256, by omega⟩

/-- The mean of a block's keys. -/
def meanK (K : Fin 2048 → Fin 128 → ℝ) (n : Fin 8) (d : Fin 128) : ℝ := (∑ r : Fin 256, K (key n r) d) / 256

/-- The gate of a block. -/
def gate (K : Fin 2048 → Fin 128 → ℝ) (q : Fin 128 → ℝ) (n : Fin 8) : ℝ := ∑ d, meanK K n d * q d

/-- The score of a key, with the scale as the float the program takes it to be. -/
def score (K : Fin 2048 → Fin 128 → ℝ) (q : Fin 128 → ℝ) (k : Fin 2048) : ℝ := (∑ d, q d * K k d) * (11863283 / 134217728)

/-- The weight of key `r` of block `n`, were the block seen. -/
def wgt (K : Fin 2048 → Fin 128 → ℝ) (q : Fin 128 → ℝ) (i : Fin 2048) (n : Fin 8) (r : Fin 256) : ℝ :=
  wt 1 (n.val * 256 + r.val ≤ i.val) (score K q (key n r))

/-- The sum of the weights of the keys seen. -/
def den (K : Fin 2048 → Fin 128 → ℝ) (q : Fin 128 → ℝ) (i : Fin 2048) : ℝ :=
  ∑ n, if Seen (gate K q) (blk i) n then ∑ r, wgt K q i n r else 0

/-- The weighted sum of the values of the keys seen. -/
def num (K V : Fin 2048 → Fin 128 → ℝ) (q : Fin 128 → ℝ) (i : Fin 2048) (e : Fin 128) : ℝ :=
  ∑ n, if Seen (gate K q) (blk i) n then ∑ r, wgt K q i n r * V (key n r) e else 0

/-- The attention of a query. -/
def attn (K V : Fin 2048 → Fin 128 → ℝ) (q : Fin 128 → ℝ) (i : Fin 2048) (e : Fin 128) : ℝ := num K V q i e / den K q i

/-! ## The whole result -/

/-- The keys of key head `h` of sequence `b`. -/
def keysM (A : Fin 8192 → Fin 4096 → ℝ) (b h : Fin 4) (k : Fin 2048) (d : Fin 128) : ℝ :=
  A ⟨b.val * 2048 + k.val, by omega⟩ ⟨2560 + (h.val * 128 + d.val), by omega⟩

/-- The values of key head `h` of sequence `b`. -/
def valsM (A : Fin 8192 → Fin 4096 → ℝ) (b h : Fin 4) (k : Fin 2048) (d : Fin 128) : ℝ :=
  A ⟨b.val * 2048 + k.val, by omega⟩ ⟨3584 + (h.val * 128 + d.val), by omega⟩

/-- The query of position `i` of sequence `b` in head `g` of the two heads that share key head `h`. -/
def queryM (A : Fin 8192 → Fin 4096 → ℝ) (b h : Fin 4) (g : Fin 2) (i : Fin 2048) (d : Fin 128) : ℝ :=
  A ⟨b.val * 2048 + i.val, by omega⟩ ⟨1024 + (h.val * 256 + (g.val * 128 + d.val)), by omega⟩

/-- The attention of position `i` of sequence `b` in head `g` of key head `h`. -/
def spec (A : Fin 8192 → Fin 4096 → ℝ) (b h : Fin 4) (g : Fin 2) (i : Fin 2048) (e : Fin 128) : ℝ :=
  attn (keysM A b h) (valsM A b h) (queryM A b h g i) i e

/-- An entry of the result by its column. -/
def cell (A : Fin 8192 → Fin 4096 → ℝ) (b : Fin 4) (i : Fin 2048) (e : Fin 1024) : ℝ :=
  spec A b ⟨e.val / 256, by omega⟩ ⟨e.val / 128 % 2, by omega⟩ i ⟨e.val % 128, by omega⟩

/-- The entry at a head's column. -/
theorem cell_at (A : Fin 8192 → Fin 4096 → ℝ) (b h : Fin 4) (g : Fin 2) (i : Fin 2048) (e : Fin 128) :
    cell A b i ⟨h.val * 256 + (g.val * 128 + e.val), by omega⟩ = spec A b h g i e := by
  have e1 : (⟨(h.val * 256 + (g.val * 128 + e.val)) / 256, by omega⟩ : Fin 4) = h := Fin.ext (by simp only; omega)
  have e2 : (⟨(h.val * 256 + (g.val * 128 + e.val)) / 128 % 2, by omega⟩ : Fin 2) = g := Fin.ext (by simp only; omega)
  have e3 : (⟨(h.val * 256 + (g.val * 128 + e.val)) % 128, by omega⟩ : Fin 128) = e := Fin.ext (by simp only; omega)
  show spec A b ⟨(h.val * 256 + (g.val * 128 + e.val)) / 256, _⟩ ⟨(h.val * 256 + (g.val * 128 + e.val)) / 128 % 2, _⟩ i
    ⟨(h.val * 256 + (g.val * 128 + e.val)) % 128, _⟩ = _
  rw [e1, e2, e3]

end Cert.Moba

end
-- ==== Proof.MobaPay.lean ====
/-
  The body of the block-sparse attention's kernel as vector operations. Columns are the 512 queries of a tile (two heads of
  256), rows are keys: the scores of one or two key blocks, the own block's causal mask, the choice of earlier blocks by
  the rank of their gates, and the running maximum, sum and weighted values of the one-pass softmax. Each operation is
  read at an index.
-/
module

public import proofs.«01_k».proof.Proof.Gen.MobaIdeal.Value
public import proofs.«01_k».proof.Proof.MobaSpec
public import Idealize.ShloMosaic.Lib.Pipeline.ValueKit
public import Idealize.ShloMosaic.Lib.Pointwise
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MobaIdeal.Value

open Cert.MobaIdeal Cert.MobaIdeal.Gen Cert.Softmax Cert.Moba

/-! ## The operations -/

/-- The maximum, the sum and the weighted values of a pass, per column. -/
abbrev Pass : Type := FVec Ideal S1x512 .f32 × FVec Ideal S1x512 .f32 × FVec Ideal S128x512 .f32

/-- The greatest score of every column over one block. -/
def mx1 (s : FVec Ideal S256x512 .f32) : FVec Ideal S1x512 .f32 :=
  shapeCast S1x512 (multiReduction .maximumf [0] S512 s 0xFF800000#32 reduces_S256x512_S512 (.inl rfl) rfl) shapeCasts_S512_S1x512

/-- Two to the power of a block's scores less a number per column. -/
def ex1 (s : FVec Ideal S256x512 .f32) (μ : FVec Ideal S1x512 .f32) : FVec Ideal S256x512 .f32 :=
  exp2 (subf s (broadcastTo S256x512 μ broadcasts_S1x512_S256x512))

/-- The sum over a block's keys. -/
def sm1 (p : FVec Ideal S256x512 .f32) : FVec Ideal S1x512 .f32 :=
  shapeCast S1x512 (multiReduction .add [0] S512 p 0x00000000#32 reduces_S256x512_S512 (.inl rfl) rfl) shapeCasts_S512_S1x512

/-- The greatest score of every column over two blocks. -/
def mx2 (s : FVec Ideal S512x512 .f32) : FVec Ideal S1x512 .f32 :=
  shapeCast S1x512 (multiReduction .maximumf [0] S512 s 0xFF800000#32 reduces_S512x512_S512 (.inl rfl) rfl) shapeCasts_S512_S1x512

/-- Two to the power of two blocks' scores less a number per column. -/
def ex2 (s : FVec Ideal S512x512 .f32) (μ : FVec Ideal S1x512 .f32) : FVec Ideal S512x512 .f32 :=
  exp2 (subf s (broadcastTo S512x512 μ broadcasts_S1x512_S512x512))

/-- The sum over two blocks' keys. -/
def sm2 (p : FVec Ideal S512x512 .f32) : FVec Ideal S1x512 .f32 :=
  shapeCast S1x512 (multiReduction .add [0] S512 p 0x00000000#32 reduces_S512x512_S512 (.inl rfl) rfl) shapeCasts_S512_S1x512

/-- A stored value block as a matrix. -/
def vt (v : FVec Ideal S1x128x256 .bf16) : FVec Ideal S128x256 .bf16 := shapeCast S128x256 v shapeCasts_S1x128x256_S128x256

/-- A block's values weighted. -/
def pv (v : FVec Ideal S1x128x256 .bf16) (p : FVec Ideal S256x512 .f32) : FVec Ideal S128x512 .f32 :=
  matmul dot_S128x256_S256x512_S128x512_1_0_0_1_n_n none (vt v) (truncf .bf16 p bitsLt_bf16_f32) (constant S128x512 .f32 0x00000000#32)

/-- The first of two blocks. -/
def lo (p : FVec Ideal S512x512 .f32) : FVec Ideal S256x512 .f32 :=
  extractStridedSlice S256x512 ![0, 0] p slices_S512x512_o0_0_S256x512

/-- The second of two blocks. -/
def hi (p : FVec Ideal S512x512 .f32) : FVec Ideal S256x512 .f32 :=
  extractStridedSlice S256x512 ![256, 0] p slices_S512x512_o256_0_S256x512

/-- The pass over its first block. -/
def st0 (s : FVec Ideal S256x512 .f32) (v : FVec Ideal S1x128x256 .bf16) : Pass :=
  (mx1 s, sm1 (ex1 s (mx1 s)), pv v (ex1 s (mx1 s)))

/-- The pass carried over one more block. -/
def st1 (x : Pass) (s : FVec Ideal S256x512 .f32) (v : FVec Ideal S1x128x256 .bf16) : Pass :=
  (maximumf x.1 (mx1 s),
    addf (mulf (exp2 (subf x.1 (maximumf x.1 (mx1 s)))) x.2.1) (sm1 (ex1 s (maximumf x.1 (mx1 s)))),
    addf (mulf (broadcastTo S128x512 (exp2 (subf x.1 (maximumf x.1 (mx1 s)))) broadcasts_S1x512_S128x512) x.2.2)
      (pv v (ex1 s (maximumf x.1 (mx1 s)))))

/-- The pass carried over two more blocks. -/
def st2 (x : Pass) (s : FVec Ideal S512x512 .f32) (v w : FVec Ideal S1x128x256 .bf16) : Pass :=
  (maximumf x.1 (mx2 s),
    addf (mulf (exp2 (subf x.1 (maximumf x.1 (mx2 s)))) x.2.1) (sm2 (ex2 s (maximumf x.1 (mx2 s)))),
    addf (addf (mulf (broadcastTo S128x512 (exp2 (subf x.1 (maximumf x.1 (mx2 s)))) broadcasts_S1x512_S128x512) x.2.2)
      (pv v (lo (ex2 s (maximumf x.1 (mx2 s)))))) (pv w (hi (ex2 s (maximumf x.1 (mx2 s))))))

/-- The weighted means. -/
def fin (x : Pass) : FVec Ideal S128x512 .f32 := divf x.2.2 (broadcastTo S128x512 x.2.1 broadcasts_S1x512_S128x512)

/-- What is written for the first head. -/
def half0 (o : FVec Ideal S128x512 .f32) : FVec Ideal S1x256x128 .bf16 :=
  shapeCast S1x256x128 (truncf .bf16 (transpose S256x128 [1, 0] (extractStridedSlice S128x256 ![0, 0] o slices_S128x512_o0_0_S128x256)
    transposes_S128x256_p1_0_S256x128) bitsLt_bf16_f32) shapeCasts_S256x128_S1x256x128

/-- What is written for the second head. -/
def half1 (o : FVec Ideal S128x512 .f32) : FVec Ideal S1x256x128 .bf16 :=
  shapeCast S1x256x128 (truncf .bf16 (transpose S256x128 [1, 0] (extractStridedSlice S128x256 ![0, 256] o slices_S128x512_o0_256_S128x256)
    transposes_S128x256_p1_0_S256x128) bitsLt_bf16_f32) shapeCasts_S256x128_S1x256x128

/-- The scores of one block. -/
def sc1 (qb : FVec Ideal S512x128 .bf16) (k : FVec Ideal S256x128 .bf16) : FVec Ideal S256x512 .f32 :=
  mulf (matmul dot_S256x128_S512x128_S256x512_1_1_0_0_n_n none k qb (constant S256x512 .f32 0x00000000#32))
    (broadcast S256x512 (Named.named (F := Ideal) κ "moba_scale_log2e" (φ := .f32) 0x3E0293EE#32))

/-- The scores of two blocks. -/
def sc2 (qb : FVec Ideal S512x128 .bf16) (k : FVec Ideal S512x128 .bf16) : FVec Ideal S512x512 .f32 :=
  mulf (matmul dot_S512x128_S512x128_S512x512_1_1_0_0_n_n none k qb (constant S512x512 .f32 0x00000000#32))
    (broadcast S512x512 (Named.named (F := Ideal) κ "moba_scale_log2e" (φ := .f32) 0x3E0293EE#32))

/-- The position inside its block of every column's query. -/
def qpos : IVec S256x512 32 :=
  let n : BitVec 32 := Scalar.select (Scalar.cmpi .eq 256#32 0#32) 1#32 256#32
  let r : IVec S256x512 32 := remsi (iota .tc S256x512 32 [1] iota_S256x512_d1_w32) (broadcast S256x512 n)
  select (andi (xori (cmpi .slt r (broadcast S256x512 0#32))
      (broadcastTo S256x512 (broadcast S256x512 (Scalar.cmpi .slt n 0#32)) broadcasts_S256x512_S256x512))
    (cmpi .ne r (broadcast S256x512 0#32))) (addi r (broadcast S256x512 n)) r

/-- The scores of the own block, minus infinity at the keys after the query. -/
def own (s : FVec Ideal S256x512 .f32) : FVec Ideal S256x512 .f32 :=
  select (cmpi .sle (iota .tc S256x512 32 [0] iota_S256x512_d0_w32) qpos) s
    (broadcast S256x512 (Scalar.ofBits .f32 0xFF800000#32))

/-- The blocks before block `c`. -/
def early (c : BitVec 32) : IVec S8x512 1 := cmpi .slt (iota .tc S8x512 32 [0] iota_S8x512_d0_w32) (broadcast S8x512 c)

/-- The gates of the blocks before block `c`, minus infinity elsewhere. -/
def gts (c : BitVec 32) (G : FVec Ideal S128x128 .f32) (qf : FVec Ideal S512x128 .f32) : FVec Ideal S8x512 .f32 :=
  select (early c) (extractStridedSlice S8x512 ![0, 0] (matmul dot_S128x128_S512x128_S128x512_1_1_0_0_n_n (some .fp32) G qf
    (constant S128x512 .f32 0x00000000#32)) slices_S128x512_o0_0_S8x512) (broadcast S8x512 (Scalar.ofBits .f32 0xFF800000#32))

/-- One at every block that the block `r` places before it (around the end) is preferred to. -/
def cnt (g : FVec Ideal S8x512 .f32) (r : BitVec 32) : IVec S8x512 32 :=
  select (ori (cmpf .ogt (dynamicRotate 0 r none g rotates_S8x512_d0) g)
    (andi (cmpi .sge (iota .tc S8x512 32 [0] iota_S8x512_d0_w32) (broadcast S8x512 r))
      (cmpf .oeq (dynamicRotate 0 r none g rotates_S8x512_d0) g))) (broadcast S8x512 1#32) (broadcast S8x512 0#32)

/-- How many blocks are preferred to a block. -/
def rk (g : FVec Ideal S8x512 .f32) : IVec S8x512 32 :=
  addi (addi (addi (addi (addi (addi (addi (broadcast S8x512 0#32) (cnt g 1#32)) (cnt g 2#32)) (cnt g 3#32)) (cnt g 4#32))
    (cnt g 5#32)) (cnt g 6#32)) (cnt g 7#32)

/-- Zero at the chosen blocks, minus infinity elsewhere. -/
def bia (c : BitVec 32) (G : FVec Ideal S128x128 .f32) (qf : FVec Ideal S512x128 .f32) : FVec Ideal S8x512 .f32 :=
  select (andi (early c) (cmpi .slt (rk (gts c G qf)) (broadcast S8x512 3#32)))
    (broadcast S8x512 (Scalar.ofBits .f32 0x00000000#32)) (broadcast S8x512 (Scalar.ofBits .f32 0xFF800000#32))

/-- A block's scores, minus infinity where the block is not chosen. -/
def sel1 (s : FVec Ideal S256x512 .f32) (b : FVec Ideal S1x512 .f32) : FVec Ideal S256x512 .f32 :=
  addf s (broadcastTo S256x512 b broadcasts_S1x512_S256x512)

/-- Two blocks' scores, minus infinity where a block is not chosen. -/
def sel2 (s : FVec Ideal S512x512 .f32) (b b' : FVec Ideal S1x512 .f32) : FVec Ideal S512x512 .f32 :=
  concatenate S512x512 0 [⟨S256x512, sel1 (lo s) b⟩, ⟨S256x512, sel1 (hi s) b'⟩] concatenates_S256x512_S256x512_S512x512_d0

/-- The bias of block 0. -/
def row0 (b : FVec Ideal S8x512 .f32) : FVec Ideal S1x512 .f32 := extractStridedSlice S1x512 ![0, 0] b slices_S8x512_o0_0_S1x512
/-- The bias of block 1. -/
def row1 (b : FVec Ideal S8x512 .f32) : FVec Ideal S1x512 .f32 := extractStridedSlice S1x512 ![1, 0] b slices_S8x512_o1_0_S1x512
/-- The bias of block 2. -/
def row2 (b : FVec Ideal S8x512 .f32) : FVec Ideal S1x512 .f32 := extractStridedSlice S1x512 ![2, 0] b slices_S8x512_o2_0_S1x512
/-- The bias of block 3. -/
def row3 (b : FVec Ideal S8x512 .f32) : FVec Ideal S1x512 .f32 := extractStridedSlice S1x512 ![3, 0] b slices_S8x512_o3_0_S1x512
/-- The bias of block 4. -/
def row4 (b : FVec Ideal S8x512 .f32) : FVec Ideal S1x512 .f32 := extractStridedSlice S1x512 ![4, 0] b slices_S8x512_o4_0_S1x512
/-- The bias of block 5. -/
def row5 (b : FVec Ideal S8x512 .f32) : FVec Ideal S1x512 .f32 := extractStridedSlice S1x512 ![5, 0] b slices_S8x512_o5_0_S1x512
/-- The bias of block 6. -/
def row6 (b : FVec Ideal S8x512 .f32) : FVec Ideal S1x512 .f32 := extractStridedSlice S1x512 ![6, 0] b slices_S8x512_o6_0_S1x512

/-! ## Read at an index -/

/-- The float pattern of minus infinity is the least extended real. -/
theorem ofBits_neg_inf : (Ideal.ofBits .f32 0xFF800000#32 : EReal) = ⊥ := by simp [Ideal.ofBits, Ideal.ieee]

/-- The block maximum at a column. -/
theorem mx1_at (s : FVec Ideal S256x512 .f32) (j : Fin 512) :
    mx1 s (ix2 0 j) = Finset.univ.fold max (⊥ : EReal) fun k : Fin 256 => s (ix2 k j) := by
  pointwise [mx1]
  rw [ofBits_neg_inf]

/-- The maximum of two blocks at a column. -/
theorem mx2_at (s : FVec Ideal S512x512 .f32) (j : Fin 512) :
    mx2 s (ix2 0 j) = Finset.univ.fold max (⊥ : EReal) fun k : Fin 512 => s (ix2 k j) := by
  pointwise [mx2]
  rw [ofBits_neg_inf]

/-- The shifted exponential of a block at an entry. -/
theorem ex1_at (s : FVec Ideal S256x512 .f32) (μ : FVec Ideal S1x512 .f32) (k : Fin 256) (j : Fin 512) :
    ex1 s μ (ix2 k j) = Ideal.exp2 (s (ix2 k j) - μ (ix2 0 j)) := by
  pointwise [ex1]
  rfl

/-- The shifted exponential of two blocks at an entry. -/
theorem ex2_at (s : FVec Ideal S512x512 .f32) (μ : FVec Ideal S1x512 .f32) (k : Fin 512) (j : Fin 512) :
    ex2 s μ (ix2 k j) = Ideal.exp2 (s (ix2 k j) - μ (ix2 0 j)) := by
  pointwise [ex2]
  rfl

/-- The block sum at a column. -/
theorem sm1_at (p : FVec Ideal S256x512 .f32) (j : Fin 512) : sm1 p (ix2 0 j) = ∑ k : Fin 256, p (ix2 k j) := by
  pointwise [sm1]

/-- The sum of two blocks at a column. -/
theorem sm2_at (p : FVec Ideal S512x512 .f32) (j : Fin 512) : sm2 p (ix2 0 j) = ∑ k : Fin 512, p (ix2 k j) := by
  pointwise [sm2]

/-- The weighted values at an entry. -/
theorem pv_at (v : FVec Ideal S1x128x256 .bf16) (p : FVec Ideal S256x512 .f32) (d : Fin 128) (j : Fin 512) :
    pv v p (ix2 d j) = ∑ k : Fin 256, v (ix3 0 d k) * p (ix2 k j) := by
  pointwise [pv, vt]

/-- The first of two blocks at an entry. -/
theorem lo_at (p : FVec Ideal S512x512 .f32) (k : Fin 256) (j : Fin 512) : lo p (ix2 k j) = p (ix2 ⟨k.val, by omega⟩ j) := by
  pointwise [lo]

/-- The second of two blocks at an entry. -/
theorem hi_at (p : FVec Ideal S512x512 .f32) (k : Fin 256) (j : Fin 512) : hi p (ix2 k j) = p (ix2 ⟨256 + k.val, by omega⟩ j) := by
  pointwise [hi]

/-- The named scale is the float of the scale over the logarithm of two. -/
theorem scale_named : Named.named (F := Ideal) κ "moba_scale_log2e" (φ := .f32) 0x3E0293EE#32
    = (((11863283 / 134217728) * (Real.log 2)⁻¹ : ℝ) : EReal) :=
  IdealRules.named_const.ideal_named_scalar _ _ _ _ rfl

/-- A block's scores at an entry. -/
theorem sc1_at (qb : FVec Ideal S512x128 .bf16) (k : FVec Ideal S256x128 .bf16) (i : Fin 256) (j : Fin 512) :
    sc1 qb k (ix2 i j) = (∑ d : Fin 128, k (ix2 i d) * qb (ix2 j d)) * (((11863283 / 134217728) * (Real.log 2)⁻¹ : ℝ) : EReal) := by
  pointwise [sc1]
  rw [scale_named]

/-- Two blocks' scores at an entry. -/
theorem sc2_at (qb : FVec Ideal S512x128 .bf16) (k : FVec Ideal S512x128 .bf16) (i : Fin 512) (j : Fin 512) :
    sc2 qb k (ix2 i j) = (∑ d : Fin 128, k (ix2 i d) * qb (ix2 j d)) * (((11863283 / 134217728) * (Real.log 2)⁻¹ : ℝ) : EReal) := by
  pointwise [sc2]
  rw [scale_named]

/-- The query position of a column inside its block. -/
theorem qpos_at (i : Fin 256) (j : Fin 512) : qpos (ix2 i j) = BitVec.ofNat 32 (j.val % 256) := by
  have h : ∀ j : Fin 512, (Scalar.select
      (IntOp.andi (IntOp.xori (IntOp.cmpi CmpIPredicate.slt
        (IntOp.remsi ArithUnit.vector (BitVec.ofNat 32 j.val) 256#32) 0#32) 0#1)
        (IntOp.cmpi CmpIPredicate.ne (IntOp.remsi ArithUnit.vector (BitVec.ofNat 32 j.val) 256#32) 0#32))
      (IntOp.addi (IntOp.remsi ArithUnit.vector (BitVec.ofNat 32 j.val) 256#32) 256#32)
      (IntOp.remsi ArithUnit.vector (BitVec.ofNat 32 j.val) 256#32) : BitVec 32) = BitVec.ofNat 32 (j.val % 256) := by
    decide +kernel
  pointwise [qpos]
  exact h j

/-- The own block's masked scores at an entry. -/
theorem own_at (s : FVec Ideal S256x512 .f32) (i : Fin 256) (j : Fin 512) :
    own s (ix2 i j) = if i.val ≤ j.val % 256 then s (ix2 i j) else ⊥ := by
  pointwise [own, qpos_at]
  rw [ofBits_neg_inf]
  have h : IntOp.cmpi CmpIPredicate.sle (BitVec.ofNat 32 i.val) (BitVec.ofNat 32 (j.val % 256))
      = if i.val ≤ j.val % 256 then 1#1 else 0#1 := by
    rw [WordCmp.cmpi_sle_ofNat (by omega) (by omega)]
    by_cases h : i.val ≤ j.val % 256 <;> simp [h]
  rw [h]
  by_cases hij : i.val ≤ j.val % 256
  · rw [if_pos hij, if_pos hij]; rfl
  · rw [if_neg hij, if_neg hij]; rfl

/-- The weighted means at an entry. -/
theorem fin_at (x : Pass) (d : Fin 128) (j : Fin 512) : fin x (ix2 d j) = Ideal.div (x.2.2 (ix2 d j)) (x.2.1 (ix2 0 j)) := by
  pointwise [fin]

/-- The first head's written entry. -/
theorem half0_at (o : FVec Ideal S128x512 .f32) (r : Fin 256) (d : Fin 128) :
    half0 o (ix3 0 r d) = o (ix2 d ⟨r.val, by omega⟩) := by
  pointwise [half0]

/-- The second head's written entry. -/
theorem half1_at (o : FVec Ideal S128x512 .f32) (r : Fin 256) (d : Fin 128) :
    half1 o (ix3 0 r d) = o (ix2 d ⟨256 + r.val, by omega⟩) := by
  pointwise [half1]

/-- A block's scores with the bias of its choice. -/
theorem sel1_at (s : FVec Ideal S256x512 .f32) (b : FVec Ideal S1x512 .f32) (k : Fin 256) (j : Fin 512) :
    sel1 s b (ix2 k j) = s (ix2 k j) + b (ix2 0 j) := by
  pointwise [sel1]

/-- The first of two blocks' scores with the bias of its choice. -/
theorem sel2_lo (s : FVec Ideal S512x512 .f32) (b b' : FVec Ideal S1x512 .f32) (k : Fin 256) (j : Fin 512) :
    sel2 s b b' (ix2 ⟨k.val, by omega⟩ j) = s (ix2 ⟨k.val, by omega⟩ j) + b (ix2 0 j) := by
  pointwise [sel2, sel1_at, lo_at, hi_at]

/-- The second of two blocks' scores with the bias of its choice. -/
theorem sel2_hi (s : FVec Ideal S512x512 .f32) (b b' : FVec Ideal S1x512 .f32) (k : Fin 256) (j : Fin 512) :
    sel2 s b b' (ix2 ⟨256 + k.val, by omega⟩ j) = s (ix2 ⟨256 + k.val, by omega⟩ j) + b' (ix2 0 j) := by
  pointwise [sel2, sel1_at, lo_at, hi_at]

/-! ## The pass over the blocks -/

/-- What a pass holds per column: the sums over some keys, free of the maximum. -/
def Good (x : Pass) (Z : Fin 512 → ℝ) (N : Fin 512 → Fin 128 → ℝ) : Prop :=
  ∀ j, Inv (Real.log 2) (x.1 (ix2 0 j)) (x.2.1 (ix2 0 j)) (fun d : Fin 128 => x.2.2 (ix2 d j)) (Z j) (N j)

/-- The first block. -/
theorem good0 (s : FVec Ideal S256x512 .f32) (v : FVec Ideal S1x128x256 .bf16) (p : Fin 256 → Fin 512 → Prop)
    [∀ k j, Decidable (p k j)] (X : Fin 256 → Fin 512 → ℝ) (V : Fin 128 → Fin 256 → ℝ)
    (hs : ∀ k j, s (ix2 k j) = if p k j then (X k j : EReal) else ⊥) (hv : ∀ d k, v (ix3 0 d k) = (V d k : EReal))
    (hp : ∀ j, ∃ k, p k j) :
    Good (st0 s v) (fun j => ∑ k, wt (Real.log 2) (p k j) (X k j)) fun j d => ∑ k, wt (Real.log 2) (p k j) (X k j) * V d k := by
  intro j
  refine Inv.start expo_exp2 (fun k => p k j) (fun k => X k j) V (fun k => s (ix2 k j)) (fun d k => v (ix3 0 d k))
    (fun k => hs k j) hv (hp j) ?_ ?_ fun d => ?_
  · simp only [st0]; rw [mx1_at]
  · simp only [st0]; rw [sm1_at]; simp only [ex1_at]
  · simp only [st0]; rw [pv_at]; simp only [ex1_at]

/-- One more block. -/
theorem good1 (x : Pass) (s : FVec Ideal S256x512 .f32) (v : FVec Ideal S1x128x256 .bf16) (p : Fin 512 → Prop)
    [∀ j, Decidable (p j)] (X : Fin 256 → Fin 512 → ℝ) (V : Fin 128 → Fin 256 → ℝ) (Z : Fin 512 → ℝ) (N : Fin 512 → Fin 128 → ℝ)
    (hx : Good x Z N) (hs : ∀ k j, s (ix2 k j) = if p j then (X k j : EReal) else ⊥) (hv : ∀ d k, v (ix3 0 d k) = (V d k : EReal)) :
    Good (st1 x s v) (fun j => Z j + ∑ k, wt (Real.log 2) (p j) (X k j))
      fun j d => N j d + ∑ k, wt (Real.log 2) (p j) (X k j) * V d k := by
  intro j
  have hM : (st1 x s v).1 (ix2 0 j) = max (x.1 (ix2 0 j)) (mx1 s (ix2 0 j)) := by
    simp only [st1]; pointwise
  refine Inv.step expo_exp2 (fun k => p j) (fun k => X k j) V (fun k => s (ix2 k j)) (fun d k => v (ix3 0 d k))
    (fun k => hs k j) hv (hx j) ?_ ?_ fun d => ?_
  · rw [hM, mx1_at]
  · have h : (st1 x s v).2.1 (ix2 0 j) = Ideal.exp2 (x.1 (ix2 0 j) - (st1 x s v).1 (ix2 0 j)) * x.2.1 (ix2 0 j)
        + sm1 (ex1 s (st1 x s v).1) (ix2 0 j) := rfl
    rw [h, sm1_at]; simp only [ex1_at]
  · have h : (st1 x s v).2.2 (ix2 d j) = Ideal.exp2 (x.1 (ix2 0 j) - (st1 x s v).1 (ix2 0 j)) * x.2.2 (ix2 d j)
        + pv v (ex1 s (st1 x s v).1) (ix2 d j) := by
      simp only [st1]; pointwise; rfl
    rw [h, pv_at]; simp only [ex1_at]

/-- A sum over two blocks. -/
theorem sum_two {M : Type} [AddCommMonoid M] (f : Fin 512 → M) :
    ∑ k, f k = ∑ k : Fin 256, f ⟨k.val, by omega⟩ + ∑ k : Fin 256, f ⟨256 + k.val, by omega⟩ :=
  Fin.sum_univ_add (a := 256) (b := 256) f

/-- Two more blocks. -/
theorem good2 (x : Pass) (s : FVec Ideal S512x512 .f32) (v w : FVec Ideal S1x128x256 .bf16) (p p' : Fin 512 → Prop)
    [∀ j, Decidable (p j)] [∀ j, Decidable (p' j)] (X X' : Fin 256 → Fin 512 → ℝ) (V V' : Fin 128 → Fin 256 → ℝ)
    (Z : Fin 512 → ℝ) (N : Fin 512 → Fin 128 → ℝ) (hx : Good x Z N)
    (hs : ∀ (k : Fin 256) j, s (ix2 ⟨k.val, by omega⟩ j) = if p j then (X k j : EReal) else ⊥)
    (hs' : ∀ (k : Fin 256) j, s (ix2 ⟨256 + k.val, by omega⟩ j) = if p' j then (X' k j : EReal) else ⊥)
    (hv : ∀ d k, v (ix3 0 d k) = (V d k : EReal)) (hw : ∀ d k, w (ix3 0 d k) = (V' d k : EReal)) :
    Good (st2 x s v w)
      (fun j => Z j + (∑ k, wt (Real.log 2) (p j) (X k j) + ∑ k, wt (Real.log 2) (p' j) (X' k j)))
      fun j d => N j d + (∑ k, wt (Real.log 2) (p j) (X k j) * V d k + ∑ k, wt (Real.log 2) (p' j) (X' k j) * V' d k) := by
  intro j
  have hM : (st2 x s v w).1 (ix2 0 j) = max (x.1 (ix2 0 j)) (mx2 s (ix2 0 j)) := by
    simp only [st2]; pointwise
  have hlo : ∀ k : Fin 256, ¬ 256 + k.val < 256 := fun k => by omega
  have key := Inv.step (κ := Real.log 2) (D := 128) expo_exp2 (fun k : Fin 512 => if k.val < 256 then p j else p' j)
    (fun k => if h : k.val < 256 then X ⟨k.val, h⟩ j else X' ⟨k.val - 256, by omega⟩ j)
    (fun d k => if h : k.val < 256 then V d ⟨k.val, h⟩ else V' d ⟨k.val - 256, by omega⟩)
    (fun k => s (ix2 k j))
    (fun d k => if h : k.val < 256 then v (ix3 0 d ⟨k.val, h⟩) else w (ix3 0 d ⟨k.val - 256, by omega⟩)) ?_ ?_ (hx j)
    (m' := (st2 x s v w).1 (ix2 0 j)) (l' := (st2 x s v w).2.1 (ix2 0 j)) (acc' := fun d => (st2 x s v w).2.2 (ix2 d j)) ?_ ?_ ?_
  · simp only [sum_two, Fin.is_lt, hlo, if_true, if_false, dif_pos, dif_neg, not_false_eq_true, Nat.add_sub_cancel_left, Fin.eta] at key
    exact key
  · intro k
    by_cases h : k.val < 256
    · simp only [h, if_true, dif_pos]; exact hs ⟨k.val, h⟩ j
    · simp only [h, if_false, dif_neg, not_false_eq_true]
      rw [← hs' ⟨k.val - 256, by omega⟩ j]
      congr 2; exact Fin.ext (by simp only; omega)
  · intro d k
    by_cases h : k.val < 256
    · simp only [h, dif_pos]; exact hv d _
    · simp only [h, dif_neg, not_false_eq_true]; exact hw d _
  · rw [hM, mx2_at]
  · have h : (st2 x s v w).2.1 (ix2 0 j) = Ideal.exp2 (x.1 (ix2 0 j) - (st2 x s v w).1 (ix2 0 j)) * x.2.1 (ix2 0 j)
        + sm2 (ex2 s (st2 x s v w).1) (ix2 0 j) := rfl
    rw [h, sm2_at]; simp only [ex2_at]
  · intro d
    have h : (st2 x s v w).2.2 (ix2 d j) = Ideal.exp2 (x.1 (ix2 0 j) - (st2 x s v w).1 (ix2 0 j)) * x.2.2 (ix2 d j)
        + pv v (lo (ex2 s (st2 x s v w).1)) (ix2 d j) + pv w (hi (ex2 s (st2 x s v w).1)) (ix2 d j) := by
      simp only [st2]; pointwise; rfl
    rw [h, pv_at, pv_at, sum_two, add_assoc]
    simp only [lo_at, hi_at, ex2_at, Fin.is_lt, hlo, dif_pos, dif_neg, not_false_eq_true, Nat.add_sub_cancel_left, Fin.eta]

end Cert.MobaIdeal.Value

end
-- ==== Proof.MobaSel.lean ====
/-
  The choice of earlier blocks, and the pass over the blocks a query sees, as the specification's sums. A block's rank is
  counted as the number of blocks preferred to it, by comparing the gates with themselves rotated one to seven places.
-/
module

public import proofs.«01_k».proof.Proof.MobaPay

@[expose] public section

set_option maxRecDepth 16384

noncomputable section

open Idealize.ShloMosaic Idealize.ShloMosaic.TcCoe Idealize.SL.Sem
open Idealize.ShloMosaic.Pipeline (Dat)

namespace Cert.MobaIdeal.Value

open Cert.MobaIdeal Cert.MobaIdeal.Gen Cert.Softmax Cert.Moba
open scoped Classical

/-! ## The choice -/

/-- A block's row among the held means. -/
def wide (n : Fin 8) : Fin 128 := ⟨n.val, by omega⟩

/-- The mask of the earlier blocks at an entry. -/
theorem early_at (c n : Fin 8) (j : Fin 512) :
    early (BitVec.ofNat 32 c.val) (ix2 n j) = if n < c then 1#1 else 0#1 := by
  pointwise [early]
  rw [WordCmp.cmpi_slt_ofNat (by omega) (by omega)]
  by_cases h : n < c
  · rw [if_pos h, decide_eq_true (show n.val < c.val from h)]; rfl
  · rw [if_neg h, decide_eq_false (show ¬ n.val < c.val from h)]; rfl

section
variable (G : FVec Ideal S128x128 .f32) (qx : FVec Ideal S512x128 .f32) (M : Fin 8 → Fin 128 → ℝ) (Q : Fin 512 → Fin 128 → ℝ)
  (hG : ∀ (n : Fin 8) d, G (ix2 (wide n) d) = (M n d : EReal)) (hq : ∀ j d, qx (ix2 j d) = (Q j d : EReal))
include hG hq

/-- The masked gates at an entry. -/
theorem gts_at (c n : Fin 8) (j : Fin 512) :
    gts (BitVec.ofNat 32 c.val) G qx (ix2 n j) = gateM (fun n => ∑ d, M n d * Q j d) c n := by
  have h : ∑ d : Fin 128, G (ix2 (wide n) d) * qx (ix2 j d) = ((∑ d, M n d * Q j d : ℝ) : EReal) :=
    sum_eq_coe fun d => by rw [hG, hq, EReal.coe_mul]
  pointwise [gts, early_at]
  rw [ofBits_neg_inf]
  unfold gateM
  by_cases hn : n < c
  · rw [if_pos hn, if_pos hn]; exact h
  · rw [if_neg hn, if_neg hn]; rfl

end

/-- The row that a rotation by `r` places reads. -/
theorem rot_row (r n : Fin 8) : (⟨(n.val + 8 - (BitVec.ofNat 32 r.val).toNat % 8) % 8, by omega⟩ : Fin 8) = n - r := by
  have hr : (BitVec.ofNat 32 r.val).toNat = r.val := by rw [BitVec.toNat_ofNat]; omega
  refine Fin.ext ?_
  show (n.val + 8 - (BitVec.ofNat 32 r.val).toNat % 8) % 8 = (n - r).val
  rw [hr, Fin.sub_def]; simp only; omega

/-- A bit by its condition. -/
theorem bit_ite (p : Prop) [Decidable p] : BitVec.ofBool (decide p) = if p then 1#1 else 0#1 := by
  by_cases h : p
  · rw [if_pos h, decide_eq_true h]; rfl
  · rw [if_neg h, decide_eq_false h]; rfl

/-- A choice by three conditions. -/
theorem pick (p q r : Prop) [Decidable p] [Decidable q] [Decidable r] :
    Scalar.select (IntOp.ori (if p then 1#1 else 0#1) (IntOp.andi (if q then 1#1 else 0#1) (if r then 1#1 else 0#1))) 1#32 0#32
      = if p ∨ (q ∧ r) then 1#32 else 0#32 := by
  by_cases a : p <;> by_cases b : q <;> by_cases e : r <;>
    simp only [a, b, e, if_true, if_false, true_or, false_or, and_true, and_false, true_and] <;> rfl

/-- One where a block is preferred to the block `r` places after it. -/
theorem cnt_at (g : FVec Ideal S8x512 .f32) (r n : Fin 8) (j : Fin 512) :
    cnt g (BitVec.ofNat 32 r.val) (ix2 n j)
      = if g (ix2 n j) < g (ix2 (n - r) j) ∨ (r ≤ n ∧ g (ix2 (n - r) j) = g (ix2 n j)) then 1#32 else 0#32 := by
  have h1 : IntOp.cmpi CmpIPredicate.sge (BitVec.ofNat 32 n.val) (BitVec.ofNat 32 r.val) = BitVec.ofBool (decide (r ≤ n)) :=
    (by decide : ∀ n r : Fin 8, IntOp.cmpi CmpIPredicate.sge (BitVec.ofNat 32 n.val) (BitVec.ofNat 32 r.val)
      = BitVec.ofBool (decide (r ≤ n))) n r
  have h2 : ∀ x y : EReal, (FloatOps.cmpf (F := Ideal) (φ := .f32) CmpFPredicate.ogt x y) = BitVec.ofBool (decide (y < x)) := fun _ _ => rfl
  have h3 : ∀ x y : EReal, (FloatOps.cmpf (F := Ideal) (φ := .f32) CmpFPredicate.oeq x y) = BitVec.ofBool (decide (x = y)) := fun _ _ => rfl
  pointwise [cnt]
  simp only [rot_row]
  rw [h1]
  simp only [h2, h3, bit_ite]
  exact pick _ _ _

/-- Among the masked gates the count is of the earlier blocks preferred. -/
theorem pref_iff (Γ : Fin 8 → ℝ) (c n r : Fin 8) (hn : n < c) (hr : r ≠ 0) :
    (gateM Γ c n < gateM Γ c (n - r) ∨ (r ≤ n ∧ gateM Γ c (n - r) = gateM Γ c n)) ↔ (n - r < c ∧ Before Γ (n - r) n) := by
  have hrn : r ≤ n ↔ n - r < n := (by decide : ∀ n r : Fin 8, r ≠ 0 → (r ≤ n ↔ n - r < n)) n r hr
  unfold gateM Before
  rw [if_pos hn, hrn]
  by_cases hm : n - r < c
  · simp only [hm, if_true, EReal.coe_lt_coe_iff, EReal.coe_eq_coe_iff, true_and]
    tauto
  · simp [hm]

/-- The rank, place by place of the rotation. -/
theorem rank_rot (Γ : Fin 8 → ℝ) (c n : Fin 8) :
    rank Γ c n = (if n - 1 < c ∧ Before Γ (n - 1) n then 1 else 0) + (if n - 2 < c ∧ Before Γ (n - 2) n then 1 else 0)
      + (if n - 3 < c ∧ Before Γ (n - 3) n then 1 else 0) + (if n - 4 < c ∧ Before Γ (n - 4) n then 1 else 0)
      + (if n - 5 < c ∧ Before Γ (n - 5) n then 1 else 0) + (if n - 6 < c ∧ Before Γ (n - 6) n then 1 else 0)
      + (if n - 7 < c ∧ Before Γ (n - 7) n then 1 else 0) := by
  unfold rank
  rw [Finset.card_filter, ← (Equiv.subLeft n).sum_comp fun m => if m < c ∧ Before Γ m n then 1 else 0]
  simp only [Equiv.subLeft_apply]
  rw [Fin.sum_univ_eight]
  have h0 : ¬ Before Γ (n - 0) n := by rw [sub_zero]; unfold Before; simp
  rw [if_neg fun h => h0 h.2, zero_add]

/-- A word counting seven conditions compared with three. -/
theorem word_lt : ∀ b1 b2 b3 b4 b5 b6 b7 : Bool,
    IntOp.cmpi CmpIPredicate.slt (IntOp.addi (IntOp.addi (IntOp.addi (IntOp.addi (IntOp.addi (IntOp.addi (IntOp.addi 0#32
      (if b1 = true then 1#32 else 0#32)) (if b2 = true then 1#32 else 0#32)) (if b3 = true then 1#32 else 0#32))
      (if b4 = true then 1#32 else 0#32)) (if b5 = true then 1#32 else 0#32)) (if b6 = true then 1#32 else 0#32))
      (if b7 = true then 1#32 else 0#32)) 3#32
    = if (if b1 = true then 1 else 0) + (if b2 = true then 1 else 0) + (if b3 = true then 1 else 0) + (if b4 = true then 1 else 0)
      + (if b5 = true then 1 else 0) + (if b6 = true then 1 else 0) + (if b7 = true then 1 else 0) < 3 then 1#1 else 0#1 := by
  decide +kernel

/-- Whether fewer than three earlier blocks are preferred. -/
theorem rk_lt (g : FVec Ideal S8x512 .f32) (Γ : Fin 8 → ℝ) (c n : Fin 8) (j : Fin 512)
    (hg : ∀ n, g (ix2 n j) = gateM Γ c n) (hn : n < c) :
    IntOp.cmpi CmpIPredicate.slt (rk g (ix2 n j)) 3#32 = if rank Γ c n < 3 then 1#1 else 0#1 := by
  have hc : ∀ r : Fin 8, r ≠ 0 → cnt g (BitVec.ofNat 32 r.val) (ix2 n j)
      = if decide (n - r < c ∧ Before Γ (n - r) n) = true then 1#32 else 0#32 := by
    intro r hr
    rw [cnt_at, hg, hg]
    exact if_congr ((pref_iff Γ c n r hn hr).trans decide_eq_true_iff.symm) rfl rfl
  have h : rk g (ix2 n j) = IntOp.addi (IntOp.addi (IntOp.addi (IntOp.addi (IntOp.addi (IntOp.addi (IntOp.addi 0#32
      (cnt g (BitVec.ofNat 32 (1 : Fin 8).val) (ix2 n j))) (cnt g (BitVec.ofNat 32 (2 : Fin 8).val) (ix2 n j)))
      (cnt g (BitVec.ofNat 32 (3 : Fin 8).val) (ix2 n j))) (cnt g (BitVec.ofNat 32 (4 : Fin 8).val) (ix2 n j)))
      (cnt g (BitVec.ofNat 32 (5 : Fin 8).val) (ix2 n j))) (cnt g (BitVec.ofNat 32 (6 : Fin 8).val) (ix2 n j)))
      (cnt g (BitVec.ofNat 32 (7 : Fin 8).val) (ix2 n j)) := rfl
  rw [h, hc 1 (by decide), hc 2 (by decide), hc 3 (by decide), hc 4 (by decide), hc 5 (by decide), hc 6 (by decide), hc 7 (by decide),
    word_lt, rank_rot]
  simp only [decide_eq_true_eq]

/-- The bias of a block at an entry. -/
theorem bia_at (G : FVec Ideal S128x128 .f32) (qx : FVec Ideal S512x128 .f32) (M : Fin 8 → Fin 128 → ℝ) (Q : Fin 512 → Fin 128 → ℝ)
    (hG : ∀ (n : Fin 8) d, G (ix2 (wide n) d) = (M n d : EReal)) (hq : ∀ j d, qx (ix2 j d) = (Q j d : EReal))
    (c n : Fin 8) (j : Fin 512) :
    bia (BitVec.ofNat 32 c.val) G qx (ix2 n j) = if Chosen (fun n => ∑ d, M n d * Q j d) c n then (0 : EReal) else ⊥ := by
  pointwise [bia, early_at]
  rw [ofBits_neg_inf]
  unfold Chosen
  by_cases hn : n < c
  · rw [if_pos hn, rk_lt _ (fun n => ∑ d, M n d * Q j d) c n j (fun n => gts_at G qx M Q hG hq c n j) hn]
    by_cases hr : rank (fun n => ∑ d, M n d * Q j d) c n < 3
    · rw [if_pos hr, if_pos ⟨hn, hr⟩]; first | rfl | simp [Ideal.ofBits, Ideal.ieee, Scalar.select, IntOp.andi]
    · rw [if_neg hr, if_neg fun h => hr h.2]; rfl
  · rw [if_neg hn, if_neg fun h => hn h.1]
    have h0 : ∀ x : BitVec 1, IntOp.andi 0#1 x = 0#1 := by decide
    rw [h0]; rfl

/-- Of at most three earlier blocks all are chosen. -/
theorem chosen_all (Γ : Fin 8 → ℝ) (c n : Fin 8) (hc : c.val ≤ 3) (hn : n < c) : Chosen Γ c n := by
  refine ⟨hn, ?_⟩
  have hsub : (Finset.univ.filter fun m : Fin 8 => m < c ∧ Before Γ m n) ⊆ (Finset.univ.filter fun m : Fin 8 => m < c ∧ m ≠ n) := by
    intro m hm
    simp only [Finset.mem_filter, Finset.mem_univ, true_and] at hm ⊢
    refine ⟨hm.1, fun e => ?_⟩
    subst e
    exact (show ¬ Before Γ m m by unfold Before; simp) hm.2
  refine lt_of_le_of_lt (Finset.card_le_card hsub) ?_
  exact (by decide : ∀ c n : Fin 8, c.val ≤ 3 → n < c → (Finset.univ.filter fun m : Fin 8 => m < c ∧ m ≠ n).card < 3) c n hc hn

/-! ## The pass as the specification's sums -/

/-- A score with the bias of its block. -/
theorem biased (p : Prop) [Decidable p] (x : ℝ) : (x : EReal) + (if p then (0 : EReal) else ⊥) = if p then (x : EReal) else ⊥ := by
  by_cases h : p
  · rw [if_pos h, if_pos h, add_zero]
  · rw [if_neg h, if_neg h, EReal.add_bot]

variable (K V : Fin 2048 → Fin 128 → ℝ) (Q : Fin 512 → Fin 128 → ℝ)

/-- A query sees its own block. -/
theorem seen_self (Γ : Fin 8 → ℝ) (c : Fin 8) : Seen Γ c c := Or.inl rfl

/-- The scaled score of key `k` of block `n` in column `j`. -/
def X (n : Fin 8) (k : Fin 256) (j : Fin 512) : ℝ :=
  (∑ d : Fin 128, K (key n k) d * Q j d) * ((11863283 / 134217728) * (Real.log 2)⁻¹)

/-- The position of column `j`'s query. -/
def pos (c : Fin 8) (j : Fin 512) : Fin 2048 := ⟨c.val * 256 + j.val % 256, by omega⟩

/-- The weight of key `k` of block `n` in column `j` of query block `c`. -/
def w (c : Fin 8) (j : Fin 512) (n : Fin 8) (k : Fin 256) : ℝ :=
  if Seen (gate K (Q j)) c n then wgt K (Q j) (pos c j) n k else 0

/-- The weights of a block. -/
def S (c : Fin 8) (j : Fin 512) (n : Fin 8) : ℝ := ∑ k, w K Q c j n k

/-- The weighted values of a block. -/
def N (c : Fin 8) (j : Fin 512) (d : Fin 128) (n : Fin 8) : ℝ := ∑ k, w K Q c j n k * V (key n k) d

/-- A later block has weight zero. -/
theorem w_late (c : Fin 8) (j : Fin 512) (n : Fin 8) (k : Fin 256) (h : c < n) : w K Q c j n k = 0 := by
  unfold w Seen Chosen
  exact if_neg fun hs => hs.elim (fun e => absurd h (by simp [e])) fun e => absurd (h.trans e.1) (lt_irrefl _)

/-- A later block's weights sum to zero. -/
theorem S_late (c : Fin 8) (j : Fin 512) (n : Fin 8) (h : c < n) : S K Q c j n = 0 :=
  Finset.sum_eq_zero fun k _ => w_late K Q c j n k h

/-- A later block's weighted values sum to zero. -/
theorem N_late (c : Fin 8) (j : Fin 512) (d : Fin 128) (n : Fin 8) (h : c < n) : N K V Q c j d n = 0 :=
  Finset.sum_eq_zero fun k _ => by rw [w_late K Q c j n k h, zero_mul]

/-- Powers of two of the kernel's scores are exponentials of the specification's. -/
theorem log_X (n : Fin 8) (k : Fin 256) (j : Fin 512) : Real.log 2 * X K Q n k j = 1 * score K (Q j) (key n k) := by
  have h2 : Real.log 2 ≠ 0 := (Real.log_pos (by norm_num)).ne'
  unfold X score
  rw [Finset.sum_congr rfl fun d (_ : d ∈ Finset.univ) => mul_comm (Q j d) (K (key n k) d)]
  field_simp

/-- The weights of the own block. -/
theorem w_own (c : Fin 8) (j : Fin 512) (k : Fin 256) :
    wt (Real.log 2) (k.val ≤ j.val % 256) (X K Q c k j) = w K Q c j c k := by
  unfold w wgt wt
  rw [if_pos (seen_self (gate K (Q j)) c), log_X]
  refine if_congr ?_ rfl rfl
  show _ ↔ c.val * 256 + k.val ≤ c.val * 256 + j.val % 256
  omega

/-- The weights of an earlier block. -/
theorem w_early (c : Fin 8) (j : Fin 512) (n : Fin 8) (k : Fin 256) (h : n < c) :
    wt (Real.log 2) (Chosen (gate K (Q j)) c n) (X K Q n k j) = w K Q c j n k := by
  unfold w wgt wt
  have hk : n.val * 256 + k.val ≤ (pos c j).val := by
    show _ ≤ c.val * 256 + j.val % 256
    have h' : n.val < c.val := h
    have := k.isLt
    omega
  rw [if_pos hk, log_X]
  refine if_congr ⟨Or.inr, fun hs => hs.resolve_left fun e => absurd h (by simp [e])⟩ rfl rfl

section
variable (qx : FVec Ideal S512x128 .bf16) (hq : ∀ j d, qx (ix2 j d) = (Q j d : EReal))
include hq

/-- A block's scores are real. -/
theorem sc1_real (n : Fin 8) (kt : FVec Ideal S256x128 .bf16) (hk : ∀ i d, kt (ix2 i d) = (K (key n i) d : EReal)) (i : Fin 256) (j : Fin 512) :
    sc1 qx kt (ix2 i j) = (X K Q n i j : EReal) := by
  rw [sc1_at, sum_eq_coe (f := fun d => K (key n i) d * Q j d) fun d => by rw [hk, hq, EReal.coe_mul], ← EReal.coe_mul]
  rfl

/-- Two blocks' scores are real. -/
theorem sc2_real (n n' : Fin 8) (kt : FVec Ideal S512x128 .bf16) (hk : ∀ (i : Fin 256) d, kt (ix2 ⟨i.val, by omega⟩ d) = (K (key n i) d : EReal))
    (hk' : ∀ (i : Fin 256) d, kt (ix2 ⟨256 + i.val, by omega⟩ d) = (K (key n' i) d : EReal)) (i : Fin 256) (j : Fin 512) :
    sc2 qx kt (ix2 ⟨i.val, by omega⟩ j) = (X K Q n i j : EReal) ∧ sc2 qx kt (ix2 ⟨256 + i.val, by omega⟩ j) = (X K Q n' i j : EReal) := by
  constructor
  · rw [sc2_at, sum_eq_coe (f := fun d => K (key n i) d * Q j d) fun d => by rw [hk, hq, EReal.coe_mul], ← EReal.coe_mul]
    rfl
  · rw [sc2_at, sum_eq_coe (f := fun d => K (key n' i) d * Q j d) fun d => by rw [hk', hq, EReal.coe_mul], ← EReal.coe_mul]
    rfl

/-- The pass over the own block. -/
theorem g0 (c : Fin 8) (kt : FVec Ideal S256x128 .bf16) (v : FVec Ideal S1x128x256 .bf16)
    (hk : ∀ i d, kt (ix2 i d) = (K (key c i) d : EReal)) (hv : ∀ d i, v (ix3 0 d i) = (V (key c i) d : EReal)) :
    Good (st0 (own (sc1 qx kt)) v) (fun j => S K Q c j c) fun j d => N K V Q c j d c := by
  have h := good0 (own (sc1 qx kt)) v (fun k j => k.val ≤ j.val % 256) (fun k j => X K Q c k j) (fun d k => V (key c k) d)
    (fun k j => by rw [own_at, sc1_real K Q qx hq c kt hk]) hv (fun j => ⟨0, Nat.zero_le _⟩)
  simp only [w_own] at h
  exact h

/-- The pass over one earlier block of at most three. -/
theorem g1p (c n : Fin 8) (hc : c.val ≤ 3) (hn : n < c) (x : Pass) (Z : Fin 512 → ℝ) (M : Fin 512 → Fin 128 → ℝ) (hx : Good x Z M)
    (kt : FVec Ideal S256x128 .bf16) (v : FVec Ideal S1x128x256 .bf16)
    (hk : ∀ i d, kt (ix2 i d) = (K (key n i) d : EReal)) (hv : ∀ d i, v (ix3 0 d i) = (V (key n i) d : EReal)) :
    Good (st1 x (sc1 qx kt) v) (fun j => Z j + S K Q c j n) fun j d => M j d + N K V Q c j d n := by
  have h := good1 x (sc1 qx kt) v (fun j => Chosen (gate K (Q j)) c n) (fun k j => X K Q n k j) (fun d k => V (key n k) d) Z M hx
    (fun k j => by rw [sc1_real K Q qx hq n kt hk, if_pos (chosen_all _ c n hc hn)]) hv
  simp only [fun j k => w_early K Q c j n k hn] at h
  exact h

/-- The pass over two earlier blocks of at most three. -/
theorem g2p (c n n' : Fin 8) (hc : c.val ≤ 3) (hn : n < c) (hn' : n' < c) (x : Pass) (Z : Fin 512 → ℝ) (M : Fin 512 → Fin 128 → ℝ) (hx : Good x Z M)
    (kt : FVec Ideal S512x128 .bf16) (v v' : FVec Ideal S1x128x256 .bf16)
    (hk : ∀ (i : Fin 256) d, kt (ix2 ⟨i.val, by omega⟩ d) = (K (key n i) d : EReal))
    (hk' : ∀ (i : Fin 256) d, kt (ix2 ⟨256 + i.val, by omega⟩ d) = (K (key n' i) d : EReal))
    (hv : ∀ d i, v (ix3 0 d i) = (V (key n i) d : EReal)) (hv' : ∀ d i, v' (ix3 0 d i) = (V (key n' i) d : EReal)) :
    Good (st2 x (sc2 qx kt) v v') (fun j => Z j + (S K Q c j n + S K Q c j n')) fun j d => M j d + (N K V Q c j d n + N K V Q c j d n') := by
  have h := good2 x (sc2 qx kt) v v' (fun j => Chosen (gate K (Q j)) c n) (fun j => Chosen (gate K (Q j)) c n')
    (fun k j => X K Q n k j) (fun k j => X K Q n' k j) (fun d k => V (key n k) d) (fun d k => V (key n' k) d) Z M hx
    (fun k j => by rw [(sc2_real K Q qx hq n n' kt hk hk' k j).1, if_pos (chosen_all _ c n hc hn)])
    (fun k j => by rw [(sc2_real K Q qx hq n n' kt hk hk' k j).2, if_pos (chosen_all _ c n' hc hn')]) hv hv'
  simp only [fun j k => w_early K Q c j n k hn, fun j k => w_early K Q c j n' k hn'] at h
  exact h

/-- The pass over one earlier block, were it chosen. -/
theorem g1s (c n : Fin 8) (hn : n < c) (x : Pass) (Z : Fin 512 → ℝ) (M : Fin 512 → Fin 128 → ℝ) (hx : Good x Z M)
    (kt : FVec Ideal S256x128 .bf16) (v : FVec Ideal S1x128x256 .bf16) (b : FVec Ideal S1x512 .f32)
    (hk : ∀ i d, kt (ix2 i d) = (K (key n i) d : EReal)) (hv : ∀ d i, v (ix3 0 d i) = (V (key n i) d : EReal))
    (hb : ∀ j, b (ix2 0 j) = if Chosen (gate K (Q j)) c n then (0 : EReal) else ⊥) :
    Good (st1 x (sel1 (sc1 qx kt) b) v) (fun j => Z j + S K Q c j n) fun j d => M j d + N K V Q c j d n := by
  have h := good1 x (sel1 (sc1 qx kt) b) v (fun j => Chosen (gate K (Q j)) c n) (fun k j => X K Q n k j) (fun d k => V (key n k) d) Z M hx
    (fun k j => by rw [sel1_at, sc1_real K Q qx hq n kt hk, hb, biased]) hv
  simp only [fun j k => w_early K Q c j n k hn] at h
  exact h

/-- The pass over two earlier blocks, were they chosen. -/
theorem g2s (c n n' : Fin 8) (hn : n < c) (hn' : n' < c) (x : Pass) (Z : Fin 512 → ℝ) (M : Fin 512 → Fin 128 → ℝ) (hx : Good x Z M)
    (kt : FVec Ideal S512x128 .bf16) (v v' : FVec Ideal S1x128x256 .bf16) (b b' : FVec Ideal S1x512 .f32)
    (hk : ∀ (i : Fin 256) d, kt (ix2 ⟨i.val, by omega⟩ d) = (K (key n i) d : EReal))
    (hk' : ∀ (i : Fin 256) d, kt (ix2 ⟨256 + i.val, by omega⟩ d) = (K (key n' i) d : EReal))
    (hv : ∀ d i, v (ix3 0 d i) = (V (key n i) d : EReal)) (hv' : ∀ d i, v' (ix3 0 d i) = (V (key n' i) d : EReal))
    (hb : ∀ j, b (ix2 0 j) = if Chosen (gate K (Q j)) c n then (0 : EReal) else ⊥)
    (hb' : ∀ j, b' (ix2 0 j) = if Chosen (gate K (Q j)) c n' then (0 : EReal) else ⊥) :
    Good (st2 x (sel2 (sc2 qx kt) b b') v v') (fun j => Z j + (S K Q c j n + S K Q c j n'))
      fun j d => M j d + (N K V Q c j d n + N K V Q c j d n') := by
  have h := good2 x (sel2 (sc2 qx kt) b b') v v' (fun j => Chosen (gate K (Q j)) c n) (fun j => Chosen (gate K (Q j)) c n')
    (fun k j => X K Q n k j) (fun k j => X K Q n' k j) (fun d k => V (key n k) d) (fun d k => V (key n' k) d) Z M hx
    (fun k j => by rw [sel2_lo, (sc2_real K Q qx hq n n' kt hk hk' k j).1, hb, biased])
    (fun k j => by rw [sel2_hi, (sc2_real K Q qx hq n n' kt hk hk' k j).2, hb', biased]) hv hv'
  simp only [fun j k => w_early K Q c j n k hn, fun j k => w_early K Q c j n' k hn'] at h
  exact h

end

/-- A finished pass. -/
def Done (x : Pass) (c : Fin 8) : Prop := Good x (fun j => ∑ n, S K Q c j n) fun j d => ∑ n, N K V Q c j d n

/-- A pass with its sums rewritten. -/
theorem Good.cast {x : Pass} {Z Z' : Fin 512 → ℝ} {M M' : Fin 512 → Fin 128 → ℝ} (h : Good x Z M) (hz : ∀ j, Z j = Z' j)
    (hm : ∀ j d, M j d = M' j d) : Good x Z' M' := by
  rwa [funext hz, funext fun j => funext (hm j)] at h

/-- The weights sum to the specification's denominator. -/
theorem sum_S (c : Fin 8) (j : Fin 512) : ∑ n, S K Q c j n = den K (Q j) (pos c j) := by
  have hb : blk (pos c j) = c := Fin.ext (show (c.val * 256 + j.val % 256) / 256 = c.val by omega)
  unfold den S w
  rw [hb]
  refine Finset.sum_congr rfl fun n _ => ?_
  by_cases h : Seen (gate K (Q j)) c n <;> simp [h]

/-- The weighted values sum to the specification's numerator. -/
theorem sum_N (c : Fin 8) (j : Fin 512) (d : Fin 128) : ∑ n, N K V Q c j d n = num K V (Q j) (pos c j) d := by
  have hb : blk (pos c j) = c := Fin.ext (show (c.val * 256 + j.val % 256) / 256 = c.val by omega)
  unfold num N w
  rw [hb]
  refine Finset.sum_congr rfl fun n _ => ?_
  by_cases h : Seen (gate K (Q j)) c n <;> simp [h]

/-- Every query sees a key: the first one of its block. -/
theorem den_pos (q : Fin 128 → ℝ) (i : Fin 2048) : 0 < den K q i := by
  unfold den
  have hn : ∀ n, 0 ≤ if Seen (gate K q) (blk i) n then ∑ r, wgt K q i n r else 0 := fun n => by
    by_cases h : Seen (gate K q) (blk i) n
    · rw [if_pos h]; exact Finset.sum_nonneg fun r _ => wt_nonneg _ _ _
    · rw [if_neg h]
  refine Finset.sum_pos' (fun n _ => hn n) ⟨blk i, Finset.mem_univ _, ?_⟩
  rw [if_pos (seen_self (gate K q) (blk i))]
  refine Finset.sum_pos' (fun r _ => wt_nonneg _ _ _) ⟨0, Finset.mem_univ _, ?_⟩
  unfold wgt wt
  refine (Real.exp_pos _).trans_eq (if_pos ?_).symm
  show i.val / 256 * 256 + 0 ≤ i.val
  omega

/-- The weighted means of a finished pass. -/
theorem fin_done (x : Pass) (c : Fin 8) (h : Done K V Q x c) (d : Fin 128) (j : Fin 512) :
    fin x (ix2 d j) = (attn K V (Q j) (pos c j) d : EReal) := by
  have hj := h j
  simp only [sum_S, sum_N] at hj
  rw [fin_at]
  exact hj.div (den_pos K (Q j) (pos c j)) d

end Cert.MobaIdeal.Value

end
-- ==== Proof.MobaKernel.lean ====
/-
  What the block-sparse attention's kernel leaves at every grid point. A point is a sequence, a key head and a block of
  queries; the keys, the transposed values and the means of the key blocks are staged into scratch buffers at the first
  query block and stay there for the other seven.
-/
module

public import proofs.«01_k».proof.Proof.MobaPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MobaIdeal.Value

open Cert.MobaIdeal Cert.MobaIdeal.Gen

variable (m : (ℓ : Loc nD τ sig) → Buf (Elt Ideal) ℓ)

/-! ## The staged blocks as entries of the argument -/

/-- The windows' block indices at every point: sequence `t / 32`, key head `t / 8 % 4`, query block `t % 8`. -/
theorem idx : ∀ t : Fin cfg0.N, win0_0.index t = ![t.val / 32, t.val % 8, 4 + t.val / 8 % 4]
    ∧ win0_1.index t = ![t.val / 32, 0, 20 + t.val / 8 % 4] ∧ win0_2.index t = ![t.val / 32, 0, 28 + t.val / 8 % 4]
    ∧ win0_3.index t = ![t.val / 32, t.val % 8, t.val / 8 % 4] ∧ t.val / 32 < 4 :=
  (by decide +kernel : ∀ t : Fin grid0.N, _)

/-- The staged queries. -/
theorem q_at (c : Dev nD) (t : Fin cfg0.N) (r : Fin 256) (d : Fin 256) :
    (iblk m c 0 t : FVec Ideal S1x256x256 .f32) (ix3 0 r d)
      = (m ((c : Thread nD τ).loc main_arg0) : FVec Ideal S8192x4096 .f32)
        (ix2 ⟨t.val / 32 * 2048 + (t.val % 8 * 256 + r.val), by have := (idx t).2.2.2.2; omega⟩
          ⟨1024 + (t.val / 8 % 4 * 256 + d.val), by omega⟩) := by
  have h0 := (idx t).1
  have hb := (idx t).2.2.2.2
  blk_simp [iblk]
  entry_read
  pointwise
  blk_ext [h0]

/-- The staged keys. -/
theorem k_at (c : Dev nD) (t : Fin cfg0.N) (r : Fin 2048) (d : Fin 128) :
    (iblk m c 1 t : FVec Ideal S1x2048x128 .f32) (ix3 0 r d)
      = (m ((c : Thread nD τ).loc main_arg0) : FVec Ideal S8192x4096 .f32)
        (ix2 ⟨t.val / 32 * 2048 + r.val, by have := (idx t).2.2.2.2; omega⟩
          ⟨2560 + (t.val / 8 % 4 * 128 + d.val), by omega⟩) := by
  have h0 := (idx t).2.1
  have hb := (idx t).2.2.2.2
  blk_simp [iblk]
  entry_read
  pointwise
  blk_ext [h0]

/-- The staged values. -/
theorem v_at (c : Dev nD) (t : Fin cfg0.N) (r : Fin 2048) (d : Fin 128) :
    (iblk m c 2 t : FVec Ideal S1x2048x128 .f32) (ix3 0 r d)
      = (m ((c : Thread nD τ).loc main_arg0) : FVec Ideal S8192x4096 .f32)
        (ix2 ⟨t.val / 32 * 2048 + r.val, by have := (idx t).2.2.2.2; omega⟩
          ⟨3584 + (t.val / 8 % 4 * 128 + d.val), by omega⟩) := by
  have h0 := (idx t).2.2.1
  have hb := (idx t).2.2.2.2
  blk_simp [iblk]
  entry_read
  pointwise
  blk_ext [h0]

/-! ## The written block and the scratch buffers, case by case -/

/-- The block written from the weighted means of the two heads. -/
def outBlk (o : FVec Ideal S128x512 .f32) : FVec Ideal S1x256x256 .bf16 :=
  View.canon (Val := Elt Ideal) (e := .bf16)
    [⟨Rect.unit ![0, 0, 128] ![1, 256, 128] inb_S1x256x256_S1x256x128_0_0_128, half1 o⟩,
      ⟨Rect.unit ![0, 0, 0] ![1, 256, 128] inb_S1x256x256_S1x256x128_0_0_0, half0 o⟩]

/-- The queries of a point, the two heads one after the other. -/
def qf (X : FVec Ideal S1x256x256 .f32) : FVec Ideal S512x128 .f32 :=
  k0_pay172 (View.ld (Val := Elt Ideal) (e' := .f32) X (Rect.unit ![0, 0, 0] ![1, 256, 128] inb_S1x256x256_S1x256x128_0_0_0))
    (View.ld (Val := Elt Ideal) (e' := .f32) X (Rect.unit ![0, 0, 128] ![1, 256, 128] inb_S1x256x256_S1x256x128_0_0_128))

/-- The queries of a point, as they are scored. -/
def qb (X : FVec Ideal S1x256x256 .f32) : FVec Ideal S512x128 .bf16 := truncf .bf16 (qf X) bitsLt_bf16_f32

/-- Block 0 of the held keys. -/
def k0 (K : Vec Ideal S2048x128 .bf16) : Vec Ideal S256x128 .bf16 :=
  View.ld (Val := Elt Ideal) (e' := .bf16) K (Rect.unit ![0, 0] ![256, 128] inb_S2048x128_S256x128_0_0)
/-- Block 0 of the held values. -/
def v0 (V : Vec Ideal S8x128x256 .bf16) : Vec Ideal S1x128x256 .bf16 :=
  View.ld (Val := Elt Ideal) (e' := .bf16) V (Rect.unit ![0, 0, 0] ![1, 128, 256] inb_S8x128x256_S1x128x256_0_0_0)
/-- Block 1 of the held keys. -/
def k1 (K : Vec Ideal S2048x128 .bf16) : Vec Ideal S256x128 .bf16 :=
  View.ld (Val := Elt Ideal) (e' := .bf16) K (Rect.unit ![256, 0] ![256, 128] inb_S2048x128_S256x128_256_0)
/-- Block 1 of the held values. -/
def v1 (V : Vec Ideal S8x128x256 .bf16) : Vec Ideal S1x128x256 .bf16 :=
  View.ld (Val := Elt Ideal) (e' := .bf16) V (Rect.unit ![1, 0, 0] ![1, 128, 256] inb_S8x128x256_S1x128x256_1_0_0)
/-- Block 2 of the held keys. -/
def k2 (K : Vec Ideal S2048x128 .bf16) : Vec Ideal S256x128 .bf16 :=
  View.ld (Val := Elt Ideal) (e' := .bf16) K (Rect.unit ![512, 0] ![256, 128] inb_S2048x128_S256x128_512_0)
/-- Block 2 of the held values. -/
def v2 (V : Vec Ideal S8x128x256 .bf16) : Vec Ideal S1x128x256 .bf16 :=
  View.ld (Val := Elt Ideal) (e' := .bf16) V (Rect.unit ![2, 0, 0] ![1, 128, 256] inb_S8x128x256_S1x128x256_2_0_0)
/-- Block 3 of the held keys. -/
def k3 (K : Vec Ideal S2048x128 .bf16) : Vec Ideal S256x128 .bf16 :=
  View.ld (Val := Elt Ideal) (e' := .bf16) K (Rect.unit ![768, 0] ![256, 128] inb_S2048x128_S256x128_768_0)
/-- Block 3 of the held values. -/
def v3 (V : Vec Ideal S8x128x256 .bf16) : Vec Ideal S1x128x256 .bf16 :=
  View.ld (Val := Elt Ideal) (e' := .bf16) V (Rect.unit ![3, 0, 0] ![1, 128, 256] inb_S8x128x256_S1x128x256_3_0_0)
/-- Block 4 of the held keys. -/
def k4 (K : Vec Ideal S2048x128 .bf16) : Vec Ideal S256x128 .bf16 :=
  View.ld (Val := Elt Ideal) (e' := .bf16) K (Rect.unit ![1024, 0] ![256, 128] inb_S2048x128_S256x128_1024_0)
/-- Block 4 of the held values. -/
def v4 (V : Vec Ideal S8x128x256 .bf16) : Vec Ideal S1x128x256 .bf16 :=
  View.ld (Val := Elt Ideal) (e' := .bf16) V (Rect.unit ![4, 0, 0] ![1, 128, 256] inb_S8x128x256_S1x128x256_4_0_0)
/-- Block 5 of the held keys. -/
def k5 (K : Vec Ideal S2048x128 .bf16) : Vec Ideal S256x128 .bf16 :=
  View.ld (Val := Elt Ideal) (e' := .bf16) K (Rect.unit ![1280, 0] ![256, 128] inb_S2048x128_S256x128_1280_0)
/-- Block 5 of the held values. -/
def v5 (V : Vec Ideal S8x128x256 .bf16) : Vec Ideal S1x128x256 .bf16 :=
  View.ld (Val := Elt Ideal) (e' := .bf16) V (Rect.unit ![5, 0, 0] ![1, 128, 256] inb_S8x128x256_S1x128x256_5_0_0)
/-- Block 6 of the held keys. -/
def k6 (K : Vec Ideal S2048x128 .bf16) : Vec Ideal S256x128 .bf16 :=
  View.ld (Val := Elt Ideal) (e' := .bf16) K (Rect.unit ![1536, 0] ![256, 128] inb_S2048x128_S256x128_1536_0)
/-- Block 6 of the held values. -/
def v6 (V : Vec Ideal S8x128x256 .bf16) : Vec Ideal S1x128x256 .bf16 :=
  View.ld (Val := Elt Ideal) (e' := .bf16) V (Rect.unit ![6, 0, 0] ![1, 128, 256] inb_S8x128x256_S1x128x256_6_0_0)
/-- Block 7 of the held keys. -/
def k7 (K : Vec Ideal S2048x128 .bf16) : Vec Ideal S256x128 .bf16 :=
  View.ld (Val := Elt Ideal) (e' := .bf16) K (Rect.unit ![1792, 0] ![256, 128] inb_S2048x128_S256x128_1792_0)
/-- Block 7 of the held values. -/
def v7 (V : Vec Ideal S8x128x256 .bf16) : Vec Ideal S1x128x256 .bf16 :=
  View.ld (Val := Elt Ideal) (e' := .bf16) V (Rect.unit ![7, 0, 0] ![1, 128, 256] inb_S8x128x256_S1x128x256_7_0_0)
/-- Blocks 0 and 1 of the held keys. -/
def kk0 (K : Vec Ideal S2048x128 .bf16) : Vec Ideal S512x128 .bf16 :=
  View.ld (Val := Elt Ideal) (e' := .bf16) K (Rect.unit ![0, 0] ![512, 128] inb_S2048x128_S512x128_0_0)
/-- Blocks 2 and 3 of the held keys. -/
def kk2 (K : Vec Ideal S2048x128 .bf16) : Vec Ideal S512x128 .bf16 :=
  View.ld (Val := Elt Ideal) (e' := .bf16) K (Rect.unit ![512, 0] ![512, 128] inb_S2048x128_S512x128_512_0)
/-- Blocks 4 and 5 of the held keys. -/
def kk4 (K : Vec Ideal S2048x128 .bf16) : Vec Ideal S512x128 .bf16 :=
  View.ld (Val := Elt Ideal) (e' := .bf16) K (Rect.unit ![1024, 0] ![512, 128] inb_S2048x128_S512x128_1024_0)

/-- Query block 1. -/
theorem outB (c : Fin nD) (t : Fin cfg0.N) (h0 : ¬t.val % 8 = 0) (h1 : ¬t.val % 8 = 0) (h2 : t.val % 8 = 1) (h3 : ¬t.val % 8 = 2) (h4 : ¬t.val % 8 = 3) (h5 : ¬t.val % 8 = 4) (h6 : ¬t.val % 8 = 5) (h7 : ¬t.val % 8 = 6) (h8 : ¬t.val % 8 = 7)
    (K : Vec Ideal S2048x128 .bf16) (V : Vec Ideal S8x128x256 .bf16) (G : Vec Ideal S128x128 .f32)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2.1 = V)
    (hG : (outsAt0 m c (t.val - 1) (Nat.lt_of_le_of_lt (Nat.sub_le _ _) t.isLt)).2.2.2 = G) :
    (outsAt0 m c t.val t.isLt).1 = outBlk (fin (st1 (st0 (own (sc1 (qb (iblk m c 0 t)) (k1 K))) (v1 V)) (sc1 (qb (iblk m c 0 t)) (k0 K)) (v0 V))) := by
  rw [outsAt0_B m c t h0 h1 h2 h3 h4 h5 h6 h7 h8]
  frame_open
  simp (disch := decide) only [View.read_writes_junk_eq_canon, View.canon_cons_unit_lit',
    View.ld_unit_lit', View.readAt_eq_ld, Memref.IsWhole.read_unread, read_unread_whole, hK, hV, hG]
  simp only [k0_pay26, k0_pay27, k0_pay28, k0_pay29, k0_pay30, k0_pay31, k0_pay32, k0_pay176, k0_pay177, k0_pay178,
    k0_pay173, outBlk, fin, half0, half1, st0, st1, st2, mx1, ex1, sm1, mx2, ex2, sm2, vt, pv, lo, hi, sc1, sc2, own, qpos, early, gts, cnt, rk,
    bia, sel1, sel2, row0, row1, row2, row3, row4, row5, row6, qb, qf, k0, k1, k2, k3, k4, k5, k6, k7, v0, v1, v2, v3, v4, v5, v6, v7, kk0, kk2, kk4]

/-- Query block 2. -/
theorem outC (c : Fin nD) (t : Fin cfg0.N) (h0 : ¬t.val % 8 = 0) (h1 : ¬t.val % 8 = 0) (h2 : ¬t.val % 8 = 1) (h3 : t.val % 8 = 2) (h4 : ¬t.val % 8 = 3) (h5 : ¬t.val % 8 = 4) (h6 : ¬t.val % 8 = 5) (h7 : ¬t.val % 8 = 6) (h8 : ¬t.val % 8 = 7)
    (K : Vec Ideal S2048x128 .bf16) (V : Vec Ideal S8x128x256 .bf16) (G : Vec Ideal S128x128 .f32)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2.1 = V)
    (hG : (outsAt0 m c (t.val - 1) (Nat.lt_of_le_of_lt (Nat.sub_le _ _) t.isLt)).2.2.2 = G) :
    (outsAt0 m c t.val t.isLt).1 = outBlk (fin (st2 (st0 (own (sc1 (qb (iblk m c 0 t)) (k2 K))) (v2 V)) (sc2 (qb (iblk m c 0 t)) (kk0 K)) (v0 V) (v1 V))) := by
  rw [outsAt0_C m c t h0 h1 h2 h3 h4 h5 h6 h7 h8]
  frame_open
  simp (disch := decide) only [View.read_writes_junk_eq_canon, View.canon_cons_unit_lit',
    View.ld_unit_lit', View.readAt_eq_ld, Memref.IsWhole.read_unread, read_unread_whole, hK, hV, hG]
  simp only [k0_pay33, k0_pay34, k0_pay35, k0_pay36, k0_pay37, k0_pay38, k0_pay39, k0_pay40, k0_pay41, k0_pay42,
    k0_pay173, outBlk, fin, half0, half1, st0, st1, st2, mx1, ex1, sm1, mx2, ex2, sm2, vt, pv, lo, hi, sc1, sc2, own, qpos, early, gts, cnt, rk,
    bia, sel1, sel2, row0, row1, row2, row3, row4, row5, row6, qb, qf, k0, k1, k2, k3, k4, k5, k6, k7, v0, v1, v2, v3, v4, v5, v6, v7, kk0, kk2, kk4]

/-- Query block 3. -/
theorem outD (c : Fin nD) (t : Fin cfg0.N) (h0 : ¬t.val % 8 = 0) (h1 : ¬t.val % 8 = 0) (h2 : ¬t.val % 8 = 1) (h3 : ¬t.val % 8 = 2) (h4 : t.val % 8 = 3) (h5 : ¬t.val % 8 = 4) (h6 : ¬t.val % 8 = 5) (h7 : ¬t.val % 8 = 6) (h8 : ¬t.val % 8 = 7)
    (K : Vec Ideal S2048x128 .bf16) (V : Vec Ideal S8x128x256 .bf16) (G : Vec Ideal S128x128 .f32)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2.1 = V)
    (hG : (outsAt0 m c (t.val - 1) (Nat.lt_of_le_of_lt (Nat.sub_le _ _) t.isLt)).2.2.2 = G) :
    (outsAt0 m c t.val t.isLt).1 = outBlk (fin (st1 (st2 (st0 (own (sc1 (qb (iblk m c 0 t)) (k3 K))) (v3 V)) (sc2 (qb (iblk m c 0 t)) (kk0 K)) (v0 V) (v1 V)) (sc1 (qb (iblk m c 0 t)) (k2 K)) (v2 V))) := by
  rw [outsAt0_D m c t h0 h1 h2 h3 h4 h5 h6 h7 h8]
  frame_open
  simp (disch := decide) only [View.read_writes_junk_eq_canon, View.canon_cons_unit_lit',
    View.ld_unit_lit', View.readAt_eq_ld, Memref.IsWhole.read_unread, read_unread_whole, hK, hV, hG]
  simp only [k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay179, k0_pay180, k0_pay181,
    k0_pay173, outBlk, fin, half0, half1, st0, st1, st2, mx1, ex1, sm1, mx2, ex2, sm2, vt, pv, lo, hi, sc1, sc2, own, qpos, early, gts, cnt, rk,
    bia, sel1, sel2, row0, row1, row2, row3, row4, row5, row6, qb, qf, k0, k1, k2, k3, k4, k5, k6, k7, v0, v1, v2, v3, v4, v5, v6, v7, kk0, kk2, kk4]

/-- Query block 4. -/
theorem outE (c : Fin nD) (t : Fin cfg0.N) (h0 : ¬t.val % 8 = 0) (h1 : ¬t.val % 8 = 0) (h2 : ¬t.val % 8 = 1) (h3 : ¬t.val % 8 = 2) (h4 : ¬t.val % 8 = 3) (h5 : t.val % 8 = 4) (h6 : ¬t.val % 8 = 5) (h7 : ¬t.val % 8 = 6) (h8 : ¬t.val % 8 = 7)
    (K : Vec Ideal S2048x128 .bf16) (V : Vec Ideal S8x128x256 .bf16) (G : Vec Ideal S128x128 .f32)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2.1 = V)
    (hG : (outsAt0 m c (t.val - 1) (Nat.lt_of_le_of_lt (Nat.sub_le _ _) t.isLt)).2.2.2 = G) :
    (outsAt0 m c t.val t.isLt).1 = outBlk (fin (st2 (st2 (st0 (own (sc1 (qb (iblk m c 0 t)) (k4 K))) (v4 V)) (sel2 (sc2 (qb (iblk m c 0 t)) (kk0 K)) (row0 (bia 4#32 G (qf (iblk m c 0 t)))) (row1 (bia 4#32 G (qf (iblk m c 0 t))))) (v0 V) (v1 V)) (sel2 (sc2 (qb (iblk m c 0 t)) (kk2 K)) (row2 (bia 4#32 G (qf (iblk m c 0 t)))) (row3 (bia 4#32 G (qf (iblk m c 0 t))))) (v2 V) (v3 V))) := by
  rw [outsAt0_E m c t h0 h1 h2 h3 h4 h5 h6 h7 h8]
  frame_open
  simp (disch := decide) only [View.read_writes_junk_eq_canon, View.canon_cons_unit_lit',
    View.ld_unit_lit', View.readAt_eq_ld, Memref.IsWhole.read_unread, read_unread_whole, hK, hV, hG]
  simp only [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay182,
    k0_pay173, outBlk, fin, half0, half1, st0, st1, st2, mx1, ex1, sm1, mx2, ex2, sm2, vt, pv, lo, hi, sc1, sc2, own, qpos, early, gts, cnt, rk,
    bia, sel1, sel2, row0, row1, row2, row3, row4, row5, row6, qb, qf, k0, k1, k2, k3, k4, k5, k6, k7, v0, v1, v2, v3, v4, v5, v6, v7, kk0, kk2, kk4]

/-- Query block 5. -/
theorem outF (c : Fin nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : t.val % 8 = 5) (h7 : ¬t.val % 8 = 6) (h8 : ¬t.val % 8 = 7)
    (K : Vec Ideal S2048x128 .bf16) (V : Vec Ideal S8x128x256 .bf16) (G : Vec Ideal S128x128 .f32)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2.1 = V)
    (hG : (outsAt0 m c (t.val - 1) (Nat.lt_of_le_of_lt (Nat.sub_le _ _) t.isLt)).2.2.2 = G) :
    (outsAt0 m c t.val t.isLt).1 = outBlk (fin (st1 (st2 (st2 (st0 (own (sc1 (qb (iblk m c 0 t)) (k5 K))) (v5 V)) (sel2 (sc2 (qb (iblk m c 0 t)) (kk0 K)) (row0 (bia 5#32 G (qf (iblk m c 0 t)))) (row1 (bia 5#32 G (qf (iblk m c 0 t))))) (v0 V) (v1 V)) (sel2 (sc2 (qb (iblk m c 0 t)) (kk2 K)) (row2 (bia 5#32 G (qf (iblk m c 0 t)))) (row3 (bia 5#32 G (qf (iblk m c 0 t))))) (v2 V) (v3 V)) (sel1 (sc1 (qb (iblk m c 0 t)) (k4 K)) (row4 (bia 5#32 G (qf (iblk m c 0 t))))) (v4 V))) := by
  rw [outsAt0_F m c t h0 h1 h2 h3 h4 h5 h6 h7 h8]
  frame_open
  simp (disch := decide) only [View.read_writes_junk_eq_canon, View.canon_cons_unit_lit',
    View.ld_unit_lit', View.readAt_eq_ld, Memref.IsWhole.read_unread, read_unread_whole, hK, hV, hG]
  simp only [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay183, k0_pay184, k0_pay185,
    k0_pay173, outBlk, fin, half0, half1, st0, st1, st2, mx1, ex1, sm1, mx2, ex2, sm2, vt, pv, lo, hi, sc1, sc2, own, qpos, early, gts, cnt, rk,
    bia, sel1, sel2, row0, row1, row2, row3, row4, row5, row6, qb, qf, k0, k1, k2, k3, k4, k5, k6, k7, v0, v1, v2, v3, v4, v5, v6, v7, kk0, kk2, kk4]

/-- Query block 6. -/
theorem outG (c : Fin nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : t.val % 8 = 6) (h8 : ¬t.val % 8 = 7)
    (K : Vec Ideal S2048x128 .bf16) (V : Vec Ideal S8x128x256 .bf16) (G : Vec Ideal S128x128 .f32)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2.1 = V)
    (hG : (outsAt0 m c (t.val - 1) (Nat.lt_of_le_of_lt (Nat.sub_le _ _) t.isLt)).2.2.2 = G) :
    (outsAt0 m c t.val t.isLt).1 = outBlk (fin (st2 (st2 (st2 (st0 (own (sc1 (qb (iblk m c 0 t)) (k6 K))) (v6 V)) (sel2 (sc2 (qb (iblk m c 0 t)) (kk0 K)) (row0 (bia 6#32 G (qf (iblk m c 0 t)))) (row1 (bia 6#32 G (qf (iblk m c 0 t))))) (v0 V) (v1 V)) (sel2 (sc2 (qb (iblk m c 0 t)) (kk2 K)) (row2 (bia 6#32 G (qf (iblk m c 0 t)))) (row3 (bia 6#32 G (qf (iblk m c 0 t))))) (v2 V) (v3 V)) (sel2 (sc2 (qb (iblk m c 0 t)) (kk4 K)) (row4 (bia 6#32 G (qf (iblk m c 0 t)))) (row5 (bia 6#32 G (qf (iblk m c 0 t))))) (v4 V) (v5 V))) := by
  rw [outsAt0_G m c t h0 h1 h2 h3 h4 h5 h6 h7 h8]
  frame_open
  simp (disch := decide) only [View.read_writes_junk_eq_canon, View.canon_cons_unit_lit',
    View.ld_unit_lit', View.readAt_eq_ld, Memref.IsWhole.read_unread, read_unread_whole, hK, hV, hG]
  simp only [k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay1,
    k0_pay173, outBlk, fin, half0, half1, st0, st1, st2, mx1, ex1, sm1, mx2, ex2, sm2, vt, pv, lo, hi, sc1, sc2, own, qpos, early, gts, cnt, rk,
    bia, sel1, sel2, row0, row1, row2, row3, row4, row5, row6, qb, qf, k0, k1, k2, k3, k4, k5, k6, k7, v0, v1, v2, v3, v4, v5, v6, v7, kk0, kk2, kk4]

/-- Query block 7. -/
theorem outH (c : Fin nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : t.val % 8 = 7)
    (K : Vec Ideal S2048x128 .bf16) (V : Vec Ideal S8x128x256 .bf16) (G : Vec Ideal S128x128 .f32)
    (hK : (outsAt0 m c (t.val - 1) (Nat.lt_of_le_of_lt (Nat.sub_le _ _) t.isLt)).2.1 = K)
    (hV : (outsAt0 m c (t.val - 1) (Nat.lt_of_le_of_lt (Nat.sub_le _ _) t.isLt)).2.2.1 = V)
    (hG : (outsAt0 m c (t.val - 1) (Nat.lt_of_le_of_lt (Nat.sub_le _ _) t.isLt)).2.2.2 = G) :
    (outsAt0 m c t.val t.isLt).1 = outBlk (fin (st1 (st2 (st2 (st2 (st0 (own (sc1 (qb (iblk m c 0 t)) (k7 K))) (v7 V)) (sel2 (sc2 (qb (iblk m c 0 t)) (kk0 K)) (row0 (bia 7#32 G (qf (iblk m c 0 t)))) (row1 (bia 7#32 G (qf (iblk m c 0 t))))) (v0 V) (v1 V)) (sel2 (sc2 (qb (iblk m c 0 t)) (kk2 K)) (row2 (bia 7#32 G (qf (iblk m c 0 t)))) (row3 (bia 7#32 G (qf (iblk m c 0 t))))) (v2 V) (v3 V)) (sel2 (sc2 (qb (iblk m c 0 t)) (kk4 K)) (row4 (bia 7#32 G (qf (iblk m c 0 t)))) (row5 (bia 7#32 G (qf (iblk m c 0 t))))) (v4 V) (v5 V)) (sel1 (sc1 (qb (iblk m c 0 t)) (k6 K)) (row6 (bia 7#32 G (qf (iblk m c 0 t))))) (v6 V))) := by
  rw [outsAt0_H m c t h0 h1 h2 h3 h4 h5 h6 h7 h8]
  frame_open
  simp (disch := decide) only [View.read_writes_junk_eq_canon, View.canon_cons_unit_lit',
    View.ld_unit_lit', View.readAt_eq_ld, Memref.IsWhole.read_unread, read_unread_whole, hK, hV, hG]
  simp only [k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay2, k0_pay3, k0_pay4,
    k0_pay173, outBlk, fin, half0, half1, st0, st1, st2, mx1, ex1, sm1, mx2, ex2, sm2, vt, pv, lo, hi, sc1, sc2, own, qpos, early, gts, cnt, rk,
    bia, sel1, sel2, row0, row1, row2, row3, row4, row5, row6, qb, qf, k0, k1, k2, k3, k4, k5, k6, k7, v0, v1, v2, v3, v4, v5, v6, v7, kk0, kk2, kk4]

end Cert.MobaIdeal.Value

end
-- ==== Proof.MobaScratch.lean ====
/-
  The scratch buffers of the block-sparse attention's kernel: the keys, the values transposed block by block, and the mean
  of every block of keys. The first query block of a head stages them, the other seven read them.
-/
module

public import proofs.«01_k».proof.Proof.MobaKernel

@[expose] public section

set_option maxRecDepth 16384

noncomputable section

open Idealize.ShloMosaic Idealize.ShloMosaic.TcCoe Idealize.SL.Sem
open Idealize.ShloMosaic.Pipeline (Dat)

namespace Cert.MobaIdeal.Value

open Cert.MobaIdeal Cert.MobaIdeal.Gen

variable (m : (ℓ : Loc nD τ sig) → Buf (Elt Ideal) ℓ)

/-- The first query block. -/
theorem outA (c : Fin nD) (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    (outsAt0 m c t.val t.isLt).1 = outBlk (fin (st0 (own (sc1 (qb (iblk m c 0 t)) (k0 (k0_pay5 (iblk m c 1 t)))))
      (k0_pay8 (View.ld (Val := Elt Ideal) (e' := .f32) (iblk m c 2 t) (Rect.unit ![0, 0, 0] ![1, 256, 128] inb_S1x2048x128_S1x256x128_0_0_0))))) := by
  rw [outsAt0_A m c t h0 h1 h2 h3 h4 h5 h6 h7 h8]
  frame_open
  simp (disch := decide) only [↓ View.readCov_skip, ↓ View.readCov_cons_toLoadRect, ↓ View.readCov_fill]
  simp (disch := decide) only [View.read_writes_junk_eq_canon, View.canon_cons_unit_lit',
    View.ld_unit_lit', View.readAt_eq_ld, Memref.IsWhole.read_unread, read_unread_whole, View.readCov_unit_lit', View.readCov_cons_unit_lit']
  simp only [k0_pay24, k0_pay25, k0_pay174, k0_pay175, k0_pay173, k0_pay5, k0_pay8, outBlk, fin, half0, half1, st0, mx1, ex1, sm1, vt, pv, sc1, own, qpos, qb, qf, k0]
  rfl

/-- The first query block stages the keys. -/
theorem keysA (c : Fin nD) (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7)
    (r : Fin 2048) (d : Fin 128) :
    (outsAt0 m c t.val t.isLt).2.1 (ix2 r d) = (iblk m c 1 t : FVec Ideal S1x2048x128 .f32) (ix3 0 r d) := by
  rw [outsAt0_A m c t h0 h1 h2 h3 h4 h5 h6 h7 h8]
  frame_out
  pointwise [k0_pay5]

/-- Stored value block 0 is its 256 rows transposed. -/
theorem vpay0_at (x : FVec Ideal S1x256x128 .f32) (d : Fin 128) (k : Fin 256) :
    k0_pay8 (F := Ideal) x (ix3 0 d k) = x (ix3 0 k d) := by pointwise [k0_pay8]
/-- Stored value block 1 is its 256 rows transposed. -/
theorem vpay1_at (x : FVec Ideal S1x256x128 .f32) (d : Fin 128) (k : Fin 256) :
    k0_pay11 (F := Ideal) x (ix3 0 d k) = x (ix3 0 k d) := by pointwise [k0_pay11]
/-- Stored value block 2 is its 256 rows transposed. -/
theorem vpay2_at (x : FVec Ideal S1x256x128 .f32) (d : Fin 128) (k : Fin 256) :
    k0_pay13 (F := Ideal) x (ix3 0 d k) = x (ix3 0 k d) := by pointwise [k0_pay13]
/-- Stored value block 3 is its 256 rows transposed. -/
theorem vpay3_at (x : FVec Ideal S1x256x128 .f32) (d : Fin 128) (k : Fin 256) :
    k0_pay16 (F := Ideal) x (ix3 0 d k) = x (ix3 0 k d) := by pointwise [k0_pay16]
/-- Stored value block 4 is its 256 rows transposed. -/
theorem vpay4_at (x : FVec Ideal S1x256x128 .f32) (d : Fin 128) (k : Fin 256) :
    k0_pay18 (F := Ideal) x (ix3 0 d k) = x (ix3 0 k d) := by pointwise [k0_pay18]
/-- Stored value block 5 is its 256 rows transposed. -/
theorem vpay5_at (x : FVec Ideal S1x256x128 .f32) (d : Fin 128) (k : Fin 256) :
    k0_pay21 (F := Ideal) x (ix3 0 d k) = x (ix3 0 k d) := by pointwise [k0_pay21]
/-- Stored value block 6 is its 256 rows transposed. -/
theorem vpay6_at (x : FVec Ideal S1x256x128 .f32) (d : Fin 128) (k : Fin 256) :
    k0_pay23 (F := Ideal) x (ix3 0 d k) = x (ix3 0 k d) := by pointwise [k0_pay23]
/-- Stored value block 7 is its 256 rows transposed. -/
theorem vpay7_at (x : FVec Ideal S1x256x128 .f32) (d : Fin 128) (k : Fin 256) :
    k0_pay171 (F := Ideal) x (ix3 0 d k) = x (ix3 0 k d) := by pointwise [k0_pay171]
/-- Stored mean 0 is the mean of its 256 rows. -/
theorem mpay0_at (x : FVec Ideal S1x256x128 .f32) (d : Fin 128) :
    k0_pay7 (F := Ideal) x (ix2 0 d) = Ideal.div (∑ k : Fin 256, x (ix3 0 k d)) (Ideal.ofBits .f32 0x43800000#32) := by
  pointwise [k0_pay7]
/-- Stored mean 1 is the mean of its 256 rows. -/
theorem mpay1_at (x : FVec Ideal S1x256x128 .f32) (d : Fin 128) :
    k0_pay10 (F := Ideal) (k0_pay9 x) (Scalar.ofBits .f32 0x43800000#32) (ix2 0 d) = Ideal.div (∑ k : Fin 256, x (ix3 0 k d)) (Ideal.ofBits .f32 0x43800000#32) := by
  pointwise [k0_pay10, k0_pay9]
/-- Stored mean 2 is the mean of its 256 rows. -/
theorem mpay2_at (x : FVec Ideal S1x256x128 .f32) (d : Fin 128) :
    k0_pay12 (F := Ideal) x (ix2 0 d) = Ideal.div (∑ k : Fin 256, x (ix3 0 k d)) (Ideal.ofBits .f32 0x43800000#32) := by
  pointwise [k0_pay12]
/-- Stored mean 3 is the mean of its 256 rows. -/
theorem mpay3_at (x : FVec Ideal S1x256x128 .f32) (d : Fin 128) :
    k0_pay15 (F := Ideal) (k0_pay14 x) (ix2 0 d) = Ideal.div (∑ k : Fin 256, x (ix3 0 k d)) (Ideal.ofBits .f32 0x43800000#32) := by
  pointwise [k0_pay15, k0_pay14]
/-- Stored mean 4 is the mean of its 256 rows. -/
theorem mpay4_at (x : FVec Ideal S1x256x128 .f32) (d : Fin 128) :
    k0_pay17 (F := Ideal) x (ix2 0 d) = Ideal.div (∑ k : Fin 256, x (ix3 0 k d)) (Ideal.ofBits .f32 0x43800000#32) := by
  pointwise [k0_pay17]
/-- Stored mean 5 is the mean of its 256 rows. -/
theorem mpay5_at (x : FVec Ideal S1x256x128 .f32) (d : Fin 128) :
    k0_pay20 (F := Ideal) (k0_pay19 x) (ix2 0 d) = Ideal.div (∑ k : Fin 256, x (ix3 0 k d)) (Ideal.ofBits .f32 0x43800000#32) := by
  pointwise [k0_pay20, k0_pay19]
/-- Stored mean 6 is the mean of its 256 rows. -/
theorem mpay6_at (x : FVec Ideal S1x256x128 .f32) (d : Fin 128) :
    k0_pay22 (F := Ideal) x (ix2 0 d) = Ideal.div (∑ k : Fin 256, x (ix3 0 k d)) (Ideal.ofBits .f32 0x43800000#32) := by
  pointwise [k0_pay22]
/-- Stored mean 7 is the mean of its 256 rows. -/
theorem mpay7_at (x : FVec Ideal S1x256x128 .f32) (d : Fin 128) :
    k0_pay170 (F := Ideal) x (ix2 0 d) = Ideal.div (∑ k : Fin 256, x (ix3 0 k d)) (Ideal.ofBits .f32 0x43800000#32) := by
  pointwise [k0_pay170]

/-- An index of a value block by its coordinates. -/
theorem tile_ix (x : S1x128x256.Idx) (d : Fin 128) (k : Fin 256) (h1 : d.val = (x 1).val) (h2 : k.val = (x 2).val) :
    x = ix3 0 d k := by
  funext a
  match a with
  | ⟨0, _⟩ => exact Subsingleton.elim (α := Fin 1) _ _
  | ⟨1, _⟩ => exact Fin.ext h1.symm
  | ⟨2, _⟩ => exact Fin.ext h2.symm

/-- A stored row read away from it. -/
theorem row_skip (k : ℕ) (inb) (w : (Rect.unit (s := S128x128) ![k, 0] ![1, 128] inb).shape.Idx → Elt Ideal .f32)
    (L : List (View.Piece (Elt Ideal) S128x128 .f32)) (n : Fin 128) (d : Fin 128) (h : n.val ≠ k) :
    View.canon (⟨Rect.unit ![k, 0] ![1, 128] inb, w⟩ :: L) (ix2 n d) = View.canon L (ix2 n d) :=
  View.canon_cons_of_not_mem _ _ fun hm => by
    have hm' : (ix2 n d : S128x128.Idx) ∈ (Rect.unit (s := S128x128) ![k, 0] ![1, 128] inb).set := hm
    rw [Rect.mem_set_unit] at hm'
    have h' : k ≤ n.val ∧ n.val < k + 1 := hm' 0
    omega

/-- A stored row read back. -/
theorem row_hit (k : ℕ) (inb) (w : (Rect.unit (s := S128x128) ![k, 0] ![1, 128] inb).shape.Idx → Elt Ideal .f32)
    (L : List (View.Piece (Elt Ideal) S128x128 .f32)) (n : Fin 128) (d : Fin 128) (h : n.val = k) :
    View.canon (⟨Rect.unit ![k, 0] ![1, 128] inb, w⟩ :: L) (ix2 n d) = w (ix2 (0 : Fin 1) d) := by
  have e : (ix2 n d : S128x128.Idx) = (Rect.unit (s := S128x128) ![k, 0] ![1, 128] inb).emb (ix2 (0 : Fin 1) d) := by
    funext a
    match a with
    | ⟨0, _⟩ => exact Fin.ext (show n.val = k + 1 * 0 by omega)
    | ⟨1, _⟩ => exact Fin.ext (show d.val = 0 + 1 * d.val by omega)
  rw [e]
  exact View.canon_cons_emb _ _ _ _

/-- A load of the rows of block 0. -/
theorem rows0 (X : FVec Ideal S1x2048x128 .f32) (k : Fin 256) (d : Fin 128) :
    (View.ld (Val := Elt Ideal) (e' := .f32) X (Rect.unit ![0, 0, 0] ![1, 256, 128] inb_S1x2048x128_S1x256x128_0_0_0) : FVec Ideal S1x256x128 .f32) (ix3 0 k d)
      = X (ix3 0 ⟨0 * 256 + k.val, by omega⟩ d) := by
  pointwise; try rfl
/-- A load of the rows of block 1. -/
theorem rows1 (X : FVec Ideal S1x2048x128 .f32) (k : Fin 256) (d : Fin 128) :
    (View.ld (Val := Elt Ideal) (e' := .f32) X (Rect.unit ![0, 256, 0] ![1, 256, 128] inb_S1x2048x128_S1x256x128_0_256_0) : FVec Ideal S1x256x128 .f32) (ix3 0 k d)
      = X (ix3 0 ⟨1 * 256 + k.val, by omega⟩ d) := by
  pointwise; try rfl
/-- A load of the rows of block 2. -/
theorem rows2 (X : FVec Ideal S1x2048x128 .f32) (k : Fin 256) (d : Fin 128) :
    (View.ld (Val := Elt Ideal) (e' := .f32) X (Rect.unit ![0, 512, 0] ![1, 256, 128] inb_S1x2048x128_S1x256x128_0_512_0) : FVec Ideal S1x256x128 .f32) (ix3 0 k d)
      = X (ix3 0 ⟨2 * 256 + k.val, by omega⟩ d) := by
  pointwise; try rfl
/-- A load of the rows of block 3. -/
theorem rows3 (X : FVec Ideal S1x2048x128 .f32) (k : Fin 256) (d : Fin 128) :
    (View.ld (Val := Elt Ideal) (e' := .f32) X (Rect.unit ![0, 768, 0] ![1, 256, 128] inb_S1x2048x128_S1x256x128_0_768_0) : FVec Ideal S1x256x128 .f32) (ix3 0 k d)
      = X (ix3 0 ⟨3 * 256 + k.val, by omega⟩ d) := by
  pointwise; try rfl
/-- A load of the rows of block 4. -/
theorem rows4 (X : FVec Ideal S1x2048x128 .f32) (k : Fin 256) (d : Fin 128) :
    (View.ld (Val := Elt Ideal) (e' := .f32) X (Rect.unit ![0, 1024, 0] ![1, 256, 128] inb_S1x2048x128_S1x256x128_0_1024_0) : FVec Ideal S1x256x128 .f32) (ix3 0 k d)
      = X (ix3 0 ⟨4 * 256 + k.val, by omega⟩ d) := by
  pointwise; try rfl
/-- A load of the rows of block 5. -/
theorem rows5 (X : FVec Ideal S1x2048x128 .f32) (k : Fin 256) (d : Fin 128) :
    (View.ld (Val := Elt Ideal) (e' := .f32) X (Rect.unit ![0, 1280, 0] ![1, 256, 128] inb_S1x2048x128_S1x256x128_0_1280_0) : FVec Ideal S1x256x128 .f32) (ix3 0 k d)
      = X (ix3 0 ⟨5 * 256 + k.val, by omega⟩ d) := by
  pointwise; try rfl
/-- A load of the rows of block 6. -/
theorem rows6 (X : FVec Ideal S1x2048x128 .f32) (k : Fin 256) (d : Fin 128) :
    (View.ld (Val := Elt Ideal) (e' := .f32) X (Rect.unit ![0, 1536, 0] ![1, 256, 128] inb_S1x2048x128_S1x256x128_0_1536_0) : FVec Ideal S1x256x128 .f32) (ix3 0 k d)
      = X (ix3 0 ⟨6 * 256 + k.val, by omega⟩ d) := by
  pointwise; try rfl
/-- A load of the rows of block 7. -/
theorem rows7 (X : FVec Ideal S1x2048x128 .f32) (k : Fin 256) (d : Fin 128) :
    (View.ld (Val := Elt Ideal) (e' := .f32) X (Rect.unit ![0, 1792, 0] ![1, 256, 128] inb_S1x2048x128_S1x256x128_0_1792_0) : FVec Ideal S1x256x128 .f32) (ix3 0 k d)
      = X (ix3 0 ⟨7 * 256 + k.val, by omega⟩ d) := by
  pointwise; try rfl

/-- The first query block stages the values, transposed block by block. -/
theorem valsA (c : Fin nD) (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7)
    (n : Fin 8) (d : Fin 128) (k : Fin 256) :
    (outsAt0 m c t.val t.isLt).2.2.1 (ix3 n d k) = (iblk m c 2 t : FVec Ideal S1x2048x128 .f32) (ix3 0 ⟨n.val * 256 + k.val, by omega⟩ d) := by
  rw [outsAt0_A m c t h0 h1 h2 h3 h4 h5 h6 h7 h8]
  frame_out
  generalize (iblk m c 2 t : FVec Ideal S1x2048x128 .f32) = X
  canon_tiles x h
  · obtain rfl : n = 7 := Fin.ext (by have e : n.val = 7 + (x 0).val := h0; have hx : (x 0).val < 1 := (x 0).isLt; show n.val = 7; omega)
    rw [tile_ix x d k h1 h2]
    exact (vpay7_at (View.ld (Val := Elt Ideal) (e' := .f32) X (Rect.unit ![0, 1792, 0] ![1, 256, 128] inb_S1x2048x128_S1x256x128_0_1792_0)) d k).trans (rows7 X k d)
  · obtain rfl : n = 6 := Fin.ext (by have e : n.val = 6 + (x 0).val := h0; have hx : (x 0).val < 1 := (x 0).isLt; show n.val = 6; omega)
    rw [tile_ix x d k h1 h2]
    exact (vpay6_at (View.ld (Val := Elt Ideal) (e' := .f32) X (Rect.unit ![0, 1536, 0] ![1, 256, 128] inb_S1x2048x128_S1x256x128_0_1536_0)) d k).trans (rows6 X k d)
  · obtain rfl : n = 5 := Fin.ext (by have e : n.val = 5 + (x 0).val := h0; have hx : (x 0).val < 1 := (x 0).isLt; show n.val = 5; omega)
    rw [tile_ix x d k h1 h2]
    exact (vpay5_at (View.ld (Val := Elt Ideal) (e' := .f32) X (Rect.unit ![0, 1280, 0] ![1, 256, 128] inb_S1x2048x128_S1x256x128_0_1280_0)) d k).trans (rows5 X k d)
  · obtain rfl : n = 4 := Fin.ext (by have e : n.val = 4 + (x 0).val := h0; have hx : (x 0).val < 1 := (x 0).isLt; show n.val = 4; omega)
    rw [tile_ix x d k h1 h2]
    exact (vpay4_at (View.ld (Val := Elt Ideal) (e' := .f32) X (Rect.unit ![0, 1024, 0] ![1, 256, 128] inb_S1x2048x128_S1x256x128_0_1024_0)) d k).trans (rows4 X k d)
  · obtain rfl : n = 3 := Fin.ext (by have e : n.val = 3 + (x 0).val := h0; have hx : (x 0).val < 1 := (x 0).isLt; show n.val = 3; omega)
    rw [tile_ix x d k h1 h2]
    exact (vpay3_at (View.ld (Val := Elt Ideal) (e' := .f32) X (Rect.unit ![0, 768, 0] ![1, 256, 128] inb_S1x2048x128_S1x256x128_0_768_0)) d k).trans (rows3 X k d)
  · obtain rfl : n = 2 := Fin.ext (by have e : n.val = 2 + (x 0).val := h0; have hx : (x 0).val < 1 := (x 0).isLt; show n.val = 2; omega)
    rw [tile_ix x d k h1 h2]
    exact (vpay2_at (View.ld (Val := Elt Ideal) (e' := .f32) X (Rect.unit ![0, 512, 0] ![1, 256, 128] inb_S1x2048x128_S1x256x128_0_512_0)) d k).trans (rows2 X k d)
  · obtain rfl : n = 1 := Fin.ext (by have e : n.val = 1 + (x 0).val := h0; have hx : (x 0).val < 1 := (x 0).isLt; show n.val = 1; omega)
    rw [tile_ix x d k h1 h2]
    exact (vpay1_at (View.ld (Val := Elt Ideal) (e' := .f32) X (Rect.unit ![0, 256, 0] ![1, 256, 128] inb_S1x2048x128_S1x256x128_0_256_0)) d k).trans (rows1 X k d)
  · obtain rfl : n = 0 := Fin.ext (by have e : n.val = (x 0).val := h0; have hx : (x 0).val < 1 := (x 0).isLt; show n.val = 0; omega)
    rw [tile_ix x d k h1 h2]
    exact (vpay0_at (View.ld (Val := Elt Ideal) (e' := .f32) X (Rect.unit ![0, 0, 0] ![1, 256, 128] inb_S1x2048x128_S1x256x128_0_0_0)) d k).trans (rows0 X k d)

/-- The first query block stages the mean of every block of keys. -/
theorem meansA (c : Fin nD) (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7)
    (n : Fin 8) (d : Fin 128) :
    (outsAt0 m c t.val t.isLt).2.2.2 (ix2 ⟨n.val, by omega⟩ d) = Ideal.div (∑ k : Fin 256, (iblk m c 1 t : FVec Ideal S1x2048x128 .f32)
      (ix3 0 ⟨n.val * 256 + k.val, by omega⟩ d)) (Ideal.ofBits .f32 0x43800000#32) := by
  rw [outsAt0_A m c t h0 h1 h2 h3 h4 h5 h6 h7 h8]
  frame_out
  generalize (iblk m c 1 t : FVec Ideal S1x2048x128 .f32) = X
  match n with
  | ⟨0, _⟩ =>
    refine (row_skip 7 _ _ _ ⟨0, by decide⟩ d (by decide)).trans ?_
    refine (row_skip 6 _ _ _ ⟨0, by decide⟩ d (by decide)).trans ?_
    refine (row_skip 5 _ _ _ ⟨0, by decide⟩ d (by decide)).trans ?_
    refine (row_skip 4 _ _ _ ⟨0, by decide⟩ d (by decide)).trans ?_
    refine (row_skip 3 _ _ _ ⟨0, by decide⟩ d (by decide)).trans ?_
    refine (row_skip 2 _ _ _ ⟨0, by decide⟩ d (by decide)).trans ?_
    refine (row_skip 1 _ _ _ ⟨0, by decide⟩ d (by decide)).trans ?_
    refine (row_hit 0 _ _ _ ⟨0, by decide⟩ d rfl).trans ((mpay0_at (View.ld (Val := Elt Ideal) (e' := .f32) X (Rect.unit ![0, 0, 0] ![1, 256, 128] inb_S1x2048x128_S1x256x128_0_0_0)) d).trans ?_)
    exact congrArg (fun z => Ideal.div z (Ideal.ofBits .f32 0x43800000#32)) (Finset.sum_congr rfl fun k _ => rows0 X k d)
  | ⟨1, _⟩ =>
    refine (row_skip 7 _ _ _ ⟨1, by decide⟩ d (by decide)).trans ?_
    refine (row_skip 6 _ _ _ ⟨1, by decide⟩ d (by decide)).trans ?_
    refine (row_skip 5 _ _ _ ⟨1, by decide⟩ d (by decide)).trans ?_
    refine (row_skip 4 _ _ _ ⟨1, by decide⟩ d (by decide)).trans ?_
    refine (row_skip 3 _ _ _ ⟨1, by decide⟩ d (by decide)).trans ?_
    refine (row_skip 2 _ _ _ ⟨1, by decide⟩ d (by decide)).trans ?_
    refine (row_hit 1 _ _ _ ⟨1, by decide⟩ d rfl).trans ((mpay1_at (View.ld (Val := Elt Ideal) (e' := .f32) X (Rect.unit ![0, 256, 0] ![1, 256, 128] inb_S1x2048x128_S1x256x128_0_256_0)) d).trans ?_)
    exact congrArg (fun z => Ideal.div z (Ideal.ofBits .f32 0x43800000#32)) (Finset.sum_congr rfl fun k _ => rows1 X k d)
  | ⟨2, _⟩ =>
    refine (row_skip 7 _ _ _ ⟨2, by decide⟩ d (by decide)).trans ?_
    refine (row_skip 6 _ _ _ ⟨2, by decide⟩ d (by decide)).trans ?_
    refine (row_skip 5 _ _ _ ⟨2, by decide⟩ d (by decide)).trans ?_
    refine (row_skip 4 _ _ _ ⟨2, by decide⟩ d (by decide)).trans ?_
    refine (row_skip 3 _ _ _ ⟨2, by decide⟩ d (by decide)).trans ?_
    refine (row_hit 2 _ _ _ ⟨2, by decide⟩ d rfl).trans ((mpay2_at (View.ld (Val := Elt Ideal) (e' := .f32) X (Rect.unit ![0, 512, 0] ![1, 256, 128] inb_S1x2048x128_S1x256x128_0_512_0)) d).trans ?_)
    exact congrArg (fun z => Ideal.div z (Ideal.ofBits .f32 0x43800000#32)) (Finset.sum_congr rfl fun k _ => rows2 X k d)
  | ⟨3, _⟩ =>
    refine (row_skip 7 _ _ _ ⟨3, by decide⟩ d (by decide)).trans ?_
    refine (row_skip 6 _ _ _ ⟨3, by decide⟩ d (by decide)).trans ?_
    refine (row_skip 5 _ _ _ ⟨3, by decide⟩ d (by decide)).trans ?_
    refine (row_skip 4 _ _ _ ⟨3, by decide⟩ d (by decide)).trans ?_
    refine (row_hit 3 _ _ _ ⟨3, by decide⟩ d rfl).trans ((mpay3_at (View.ld (Val := Elt Ideal) (e' := .f32) X (Rect.unit ![0, 768, 0] ![1, 256, 128] inb_S1x2048x128_S1x256x128_0_768_0)) d).trans ?_)
    exact congrArg (fun z => Ideal.div z (Ideal.ofBits .f32 0x43800000#32)) (Finset.sum_congr rfl fun k _ => rows3 X k d)
  | ⟨4, _⟩ =>
    refine (row_skip 7 _ _ _ ⟨4, by decide⟩ d (by decide)).trans ?_
    refine (row_skip 6 _ _ _ ⟨4, by decide⟩ d (by decide)).trans ?_
    refine (row_skip 5 _ _ _ ⟨4, by decide⟩ d (by decide)).trans ?_
    refine (row_hit 4 _ _ _ ⟨4, by decide⟩ d rfl).trans ((mpay4_at (View.ld (Val := Elt Ideal) (e' := .f32) X (Rect.unit ![0, 1024, 0] ![1, 256, 128] inb_S1x2048x128_S1x256x128_0_1024_0)) d).trans ?_)
    exact congrArg (fun z => Ideal.div z (Ideal.ofBits .f32 0x43800000#32)) (Finset.sum_congr rfl fun k _ => rows4 X k d)
  | ⟨5, _⟩ =>
    refine (row_skip 7 _ _ _ ⟨5, by decide⟩ d (by decide)).trans ?_
    refine (row_skip 6 _ _ _ ⟨5, by decide⟩ d (by decide)).trans ?_
    refine (row_hit 5 _ _ _ ⟨5, by decide⟩ d rfl).trans ((mpay5_at (View.ld (Val := Elt Ideal) (e' := .f32) X (Rect.unit ![0, 1280, 0] ![1, 256, 128] inb_S1x2048x128_S1x256x128_0_1280_0)) d).trans ?_)
    exact congrArg (fun z => Ideal.div z (Ideal.ofBits .f32 0x43800000#32)) (Finset.sum_congr rfl fun k _ => rows5 X k d)
  | ⟨6, _⟩ =>
    refine (row_skip 7 _ _ _ ⟨6, by decide⟩ d (by decide)).trans ?_
    refine (row_hit 6 _ _ _ ⟨6, by decide⟩ d rfl).trans ((mpay6_at (View.ld (Val := Elt Ideal) (e' := .f32) X (Rect.unit ![0, 1536, 0] ![1, 256, 128] inb_S1x2048x128_S1x256x128_0_1536_0)) d).trans ?_)
    exact congrArg (fun z => Ideal.div z (Ideal.ofBits .f32 0x43800000#32)) (Finset.sum_congr rfl fun k _ => rows6 X k d)
  | ⟨7, _⟩ =>
    refine (row_hit 7 _ _ _ ⟨7, by decide⟩ d rfl).trans ((mpay7_at (View.ld (Val := Elt Ideal) (e' := .f32) X (Rect.unit ![0, 1792, 0] ![1, 256, 128] inb_S1x2048x128_S1x256x128_0_1792_0)) d).trans ?_)
    exact congrArg (fun z => Ideal.div z (Ideal.ofBits .f32 0x43800000#32)) (Finset.sum_congr rfl fun k _ => rows7 X k d)

/-- The later query blocks leave the scratch buffers alone. -/
theorem carried (c : Fin nD) (t : Fin cfg0.N) (h : ¬t.val % 8 = 0) :
    (outsAt0 m c t.val t.isLt).2 = (outsAt0 m c (t.val - 1) (Nat.lt_of_le_of_lt (Nat.sub_le _ _) t.isLt)).2 := by
  have h3 : t.val % 8 = 1 ∨ t.val % 8 = 2 ∨ t.val % 8 = 3 ∨ t.val % 8 = 4 ∨ t.val % 8 = 5 ∨ t.val % 8 = 6 ∨ t.val % 8 = 7 := by omega
  rcases h3 with h3 | h3 | h3 | h3 | h3 | h3 | h3
  · rw [outsAt0_B m c t h h h3 (by omega) (by omega) (by omega) (by omega) (by omega) (by omega)]; rfl
  · rw [outsAt0_C m c t h h (by omega) h3 (by omega) (by omega) (by omega) (by omega) (by omega)]; rfl
  · rw [outsAt0_D m c t h h (by omega) (by omega) h3 (by omega) (by omega) (by omega) (by omega)]; rfl
  · rw [outsAt0_E m c t h h (by omega) (by omega) (by omega) h3 (by omega) (by omega) (by omega)]; rfl
  · rw [outsAt0_F m c t h h (by omega) (by omega) (by omega) (by omega) h3 (by omega) (by omega)]; rfl
  · rw [outsAt0_G m c t h h (by omega) (by omega) (by omega) (by omega) (by omega) h3 (by omega)]; rfl
  · rw [outsAt0_H m c t h h (by omega) (by omega) (by omega) (by omega) (by omega) (by omega) h3]; rfl

/-- At every point the scratch buffers hold the point's head's keys, values and block means. -/
theorem scratch (c : Fin nD) : ∀ (n : ℕ) (h : n < cfg0.N),
    (∀ (r : Fin 2048) (d : Fin 128), (outsAt0 m c n h).2.1 (ix2 r d) = (iblk m c 1 ⟨n, h⟩ : FVec Ideal S1x2048x128 .f32) (ix3 0 r d))
    ∧ (∀ (i : Fin 8) (d : Fin 128) (k : Fin 256), (outsAt0 m c n h).2.2.1 (ix3 i d k)
      = (iblk m c 2 ⟨n, h⟩ : FVec Ideal S1x2048x128 .f32) (ix3 0 ⟨i.val * 256 + k.val, by omega⟩ d))
    ∧ ∀ (i : Fin 8) (d : Fin 128), (outsAt0 m c n h).2.2.2 (ix2 ⟨i.val, by omega⟩ d)
      = Ideal.div (∑ k : Fin 256, (iblk m c 1 ⟨n, h⟩ : FVec Ideal S1x2048x128 .f32) (ix3 0 ⟨i.val * 256 + k.val, by omega⟩ d))
        (Ideal.ofBits .f32 0x43800000#32) := by
  have first : ∀ (n : ℕ) (h : n < cfg0.N), n % 8 = 0 → _ := fun n h h0 =>
    And.intro (keysA m c ⟨n, h⟩ h0 h0 (by simp only; omega) (by simp only; omega) (by simp only; omega) (by simp only; omega)
        (by simp only; omega) (by simp only; omega) (by simp only; omega))
      (And.intro (valsA m c ⟨n, h⟩ h0 h0 (by simp only; omega) (by simp only; omega) (by simp only; omega) (by simp only; omega)
        (by simp only; omega) (by simp only; omega) (by simp only; omega))
      (meansA m c ⟨n, h⟩ h0 h0 (by simp only; omega) (by simp only; omega) (by simp only; omega) (by simp only; omega)
        (by simp only; omega) (by simp only; omega) (by simp only; omega)))
  intro n
  induction n with
  | zero => exact fun h => first 0 h rfl
  | succ n ih =>
    intro h
    by_cases h0 : (n + 1) % 8 = 0
    · exact first (n + 1) h h0
    · have key := ih (Nat.lt_of_succ_lt h)
      have hc := carried m c ⟨n + 1, h⟩ h0
      have e1 : (n + 1) / 32 = n / 32 := by omega
      have e2 : (n + 1) / 8 % 4 = n / 8 % 4 := by omega
      refine ⟨fun r d => ?_, fun i d k => ?_, fun i d => ?_⟩
      · refine (congrFun (congrArg Prod.fst hc) _).trans ((key.1 r d).trans ?_)
        rw [k_at, k_at]; simp only [e1, e2]
      · refine (congrFun (congrArg (fun z => z.2.1) hc) _).trans ((key.2.1 i d k).trans ?_)
        rw [v_at, v_at]; simp only [e1, e2]
      · refine (congrFun (congrArg (fun z => z.2.2) hc) _).trans ((key.2.2 i d).trans ?_)
        simp only [k_at, e1, e2]

end Cert.MobaIdeal.Value

end
-- ==== Proof.MobaPoint.lean ====
/-
  The block the block-sparse attention's kernel writes at a grid point, as the specification's entries, and the whole
  result.
-/
module

public import proofs.«01_k».proof.Proof.MobaSel
public import proofs.«01_k».proof.Proof.MobaScratch

@[expose] public section

set_option maxRecDepth 16384

noncomputable section

open Idealize.ShloMosaic Idealize.ShloMosaic.TcCoe Idealize.SL.Sem
open Idealize.ShloMosaic.Pipeline (Dat)

namespace Cert.MobaIdeal.Value

open Cert.MobaIdeal Cert.MobaIdeal.Gen Cert.Softmax Cert.Moba
open scoped Classical

/-! ## Tiles read at an entry -/

/-- The queries of a point: column `j` is row `j % 256` of head `j / 256`. -/
theorem qf_at (X : FVec Ideal S1x256x256 .f32) (j : Fin 512) (d : Fin 128) :
    qf X (ix2 j d) = X (ix3 0 ⟨j.val % 256, by omega⟩ ⟨j.val / 256 * 128 + d.val, by omega⟩) := by
  pointwise [qf, k0_pay172]
  by_cases h : j.val < 256
  · rw [dif_pos h]
    pointwise
    blk_ext []
  · rw [dif_neg h]
    pointwise
    blk_ext []

/-- The float of 256. -/
theorem ofBits_256 : (Ideal.ofBits .f32 0x43800000#32 : EReal) = ((256 : ℝ) : EReal) := by
  simp [Ideal.ofBits, Ideal.ieee]
  rw [← EReal.coe_mul]; norm_num

/-- Block 0 of the held keys at an entry. -/
theorem k0_at (K : FVec Ideal S2048x128 .bf16) (i : Fin 256) (d : Fin 128) : k0 K (ix2 i d) = K (ix2 (key 0 i) d) := by
  pointwise [k0]; first | rfl | blk_ext [key]
/-- Block 0 of the held values at an entry. -/
theorem v0_at (V : FVec Ideal S8x128x256 .bf16) (d : Fin 128) (i : Fin 256) : v0 V (ix3 0 d i) = V (ix3 0 d i) := by
  pointwise [v0]
/-- Block 1 of the held keys at an entry. -/
theorem k1_at (K : FVec Ideal S2048x128 .bf16) (i : Fin 256) (d : Fin 128) : k1 K (ix2 i d) = K (ix2 (key 1 i) d) := by
  pointwise [k1]; first | rfl | blk_ext [key]
/-- Block 1 of the held values at an entry. -/
theorem v1_at (V : FVec Ideal S8x128x256 .bf16) (d : Fin 128) (i : Fin 256) : v1 V (ix3 0 d i) = V (ix3 1 d i) := by
  pointwise [v1]
/-- Block 2 of the held keys at an entry. -/
theorem k2_at (K : FVec Ideal S2048x128 .bf16) (i : Fin 256) (d : Fin 128) : k2 K (ix2 i d) = K (ix2 (key 2 i) d) := by
  pointwise [k2]; first | rfl | blk_ext [key]
/-- Block 2 of the held values at an entry. -/
theorem v2_at (V : FVec Ideal S8x128x256 .bf16) (d : Fin 128) (i : Fin 256) : v2 V (ix3 0 d i) = V (ix3 2 d i) := by
  pointwise [v2]
/-- Block 3 of the held keys at an entry. -/
theorem k3_at (K : FVec Ideal S2048x128 .bf16) (i : Fin 256) (d : Fin 128) : k3 K (ix2 i d) = K (ix2 (key 3 i) d) := by
  pointwise [k3]; first | rfl | blk_ext [key]
/-- Block 3 of the held values at an entry. -/
theorem v3_at (V : FVec Ideal S8x128x256 .bf16) (d : Fin 128) (i : Fin 256) : v3 V (ix3 0 d i) = V (ix3 3 d i) := by
  pointwise [v3]
/-- Block 4 of the held keys at an entry. -/
theorem k4_at (K : FVec Ideal S2048x128 .bf16) (i : Fin 256) (d : Fin 128) : k4 K (ix2 i d) = K (ix2 (key 4 i) d) := by
  pointwise [k4]; first | rfl | blk_ext [key]
/-- Block 4 of the held values at an entry. -/
theorem v4_at (V : FVec Ideal S8x128x256 .bf16) (d : Fin 128) (i : Fin 256) : v4 V (ix3 0 d i) = V (ix3 4 d i) := by
  pointwise [v4]
/-- Block 5 of the held keys at an entry. -/
theorem k5_at (K : FVec Ideal S2048x128 .bf16) (i : Fin 256) (d : Fin 128) : k5 K (ix2 i d) = K (ix2 (key 5 i) d) := by
  pointwise [k5]; first | rfl | blk_ext [key]
/-- Block 5 of the held values at an entry. -/
theorem v5_at (V : FVec Ideal S8x128x256 .bf16) (d : Fin 128) (i : Fin 256) : v5 V (ix3 0 d i) = V (ix3 5 d i) := by
  pointwise [v5]
/-- Block 6 of the held keys at an entry. -/
theorem k6_at (K : FVec Ideal S2048x128 .bf16) (i : Fin 256) (d : Fin 128) : k6 K (ix2 i d) = K (ix2 (key 6 i) d) := by
  pointwise [k6]; first | rfl | blk_ext [key]
/-- Block 6 of the held values at an entry. -/
theorem v6_at (V : FVec Ideal S8x128x256 .bf16) (d : Fin 128) (i : Fin 256) : v6 V (ix3 0 d i) = V (ix3 6 d i) := by
  pointwise [v6]
/-- Block 7 of the held keys at an entry. -/
theorem k7_at (K : FVec Ideal S2048x128 .bf16) (i : Fin 256) (d : Fin 128) : k7 K (ix2 i d) = K (ix2 (key 7 i) d) := by
  pointwise [k7]; first | rfl | blk_ext [key]
/-- Block 7 of the held values at an entry. -/
theorem v7_at (V : FVec Ideal S8x128x256 .bf16) (d : Fin 128) (i : Fin 256) : v7 V (ix3 0 d i) = V (ix3 7 d i) := by
  pointwise [v7]
/-- Blocks 0 and 1 of the held keys at an entry. -/
theorem kk0_at (K : FVec Ideal S2048x128 .bf16) (i : Fin 256) (d : Fin 128) :
    kk0 K (ix2 ⟨i.val, by omega⟩ d) = K (ix2 (key 0 i) d) ∧ kk0 K (ix2 ⟨256 + i.val, by omega⟩ d) = K (ix2 (key 1 i) d) := by
  constructor
  · pointwise [kk0]; blk_ext [key]
  · pointwise [kk0]; blk_ext [key]
/-- Blocks 2 and 3 of the held keys at an entry. -/
theorem kk2_at (K : FVec Ideal S2048x128 .bf16) (i : Fin 256) (d : Fin 128) :
    kk2 K (ix2 ⟨i.val, by omega⟩ d) = K (ix2 (key 2 i) d) ∧ kk2 K (ix2 ⟨256 + i.val, by omega⟩ d) = K (ix2 (key 3 i) d) := by
  constructor
  · pointwise [kk2]; blk_ext [key]
  · pointwise [kk2]; blk_ext [key]
/-- Blocks 4 and 5 of the held keys at an entry. -/
theorem kk4_at (K : FVec Ideal S2048x128 .bf16) (i : Fin 256) (d : Fin 128) :
    kk4 K (ix2 ⟨i.val, by omega⟩ d) = K (ix2 (key 4 i) d) ∧ kk4 K (ix2 ⟨256 + i.val, by omega⟩ d) = K (ix2 (key 5 i) d) := by
  constructor
  · pointwise [kk4]; blk_ext [key]
  · pointwise [kk4]; blk_ext [key]
/-- The bias of block 0 at a column. -/
theorem row0_at (b : FVec Ideal S8x512 .f32) (j : Fin 512) : row0 b (ix2 0 j) = b (ix2 0 j) := by
  pointwise [row0]
/-- The bias of block 1 at a column. -/
theorem row1_at (b : FVec Ideal S8x512 .f32) (j : Fin 512) : row1 b (ix2 0 j) = b (ix2 1 j) := by
  pointwise [row1]
/-- The bias of block 2 at a column. -/
theorem row2_at (b : FVec Ideal S8x512 .f32) (j : Fin 512) : row2 b (ix2 0 j) = b (ix2 2 j) := by
  pointwise [row2]
/-- The bias of block 3 at a column. -/
theorem row3_at (b : FVec Ideal S8x512 .f32) (j : Fin 512) : row3 b (ix2 0 j) = b (ix2 3 j) := by
  pointwise [row3]
/-- The bias of block 4 at a column. -/
theorem row4_at (b : FVec Ideal S8x512 .f32) (j : Fin 512) : row4 b (ix2 0 j) = b (ix2 4 j) := by
  pointwise [row4]
/-- The bias of block 5 at a column. -/
theorem row5_at (b : FVec Ideal S8x512 .f32) (j : Fin 512) : row5 b (ix2 0 j) = b (ix2 5 j) := by
  pointwise [row5]
/-- The bias of block 6 at a column. -/
theorem row6_at (b : FVec Ideal S8x512 .f32) (j : Fin 512) : row6 b (ix2 0 j) = b (ix2 6 j) := by
  pointwise [row6]

/-! ## The passes of the eight query blocks -/

/-- An index of a head's half of the block by its coordinates. -/
theorem half_ix (x : S1x256x128.Idx) (r : Fin 256) (d : Fin 128) (h1 : r.val = (x 1).val) (h2 : d.val = (x 2).val) : x = ix3 0 r d := by
  funext a
  match a with
  | ⟨0, _⟩ => exact Subsingleton.elim (α := Fin 1) _ _
  | ⟨1, _⟩ => exact Fin.ext h1.symm
  | ⟨2, _⟩ => exact Fin.ext h2.symm

/-- The written block of the weighted means at an entry. -/
theorem outBlk_at (o : FVec Ideal S128x512 .f32) (r : Fin 256) (g : Fin 2) (d : Fin 128) :
    outBlk o (ix3 0 r ⟨g.val * 128 + d.val, by omega⟩) = o (ix2 d ⟨g.val * 256 + r.val, by omega⟩) := by
  unfold outBlk
  canon_tiles x h
  · obtain rfl : g = 1 := Fin.ext (by
      have e : g.val * 128 + d.val = 128 + (x 2).val := h2
      have hx : (x 2).val < 128 := (x 2).isLt
      show g.val = 1; omega)
    have e2 : 1 * 128 + d.val = 128 + (x 2).val := h2
    rw [half_ix x r d h1 (by omega), half1_at]
    exact congrArg (fun z => o (ix2 d z)) (Fin.ext (show 256 + r.val = 1 * 256 + r.val by omega))
  · obtain rfl : g = 0 := Fin.ext (by
      have e : g.val * 128 + d.val = (x 2).val := h2
      have hx : (x 2).val < 128 := (x 2).isLt
      show g.val = 0; omega)
    have e2 : 0 * 128 + d.val = (x 2).val := h2
    rw [half_ix x r d h1 (by omega), half0_at]
    exact congrArg (fun z => o (ix2 d z)) (Fin.ext (show r.val = 0 * 256 + r.val by omega))

section
variable (K V : Fin 2048 → Fin 128 → ℝ) (Q : Fin 512 → Fin 128 → ℝ) (q : FVec Ideal S512x128 .bf16)
  (KK : FVec Ideal S2048x128 .bf16) (VV : FVec Ideal S8x128x256 .bf16) (B : FVec Ideal S8x512 .f32)
  (hq : ∀ j d, q (ix2 j d) = (Q j d : EReal)) (hK : ∀ i d, KK (ix2 i d) = (K i d : EReal))
  (hV : ∀ n d i, VV (ix3 n d i) = (V (key n i) d : EReal))
include hq hK hV

/-- The pass of query block 1. -/
theorem done1 :
    Done K V Q (st1 (st0 (own (sc1 q (k1 KK))) (v1 VV)) (sc1 q (k0 KK)) (v0 VV)) 1 :=
  Good.cast (g1p K V Q q hq 1 0 (by decide) (by decide) _ _ _
    (g0 K V Q q hq 1 (k1 KK) (v1 VV) (fun i d => (k1_at KK i d).trans (hK _ d)) (fun d i => (v1_at VV d i).trans (hV 1 d i)))
    (k0 KK) (v0 VV) (fun i d => (k0_at KK i d).trans (hK _ d)) (fun d i => (v0_at VV d i).trans (hV 0 d i)))
    (fun j => by rw [Fin.sum_univ_eight]; simp (disch := decide) only [S_late, add_zero]; ring)
    (fun j d => by rw [Fin.sum_univ_eight]; simp (disch := decide) only [N_late, add_zero]; ring)

/-- The pass of query block 2. -/
theorem done2 :
    Done K V Q (st2 (st0 (own (sc1 q (k2 KK))) (v2 VV)) (sc2 q (kk0 KK)) (v0 VV) (v1 VV)) 2 :=
  Good.cast (g2p K V Q q hq 2 0 1 (by decide) (by decide) (by decide) _ _ _
    (g0 K V Q q hq 2 (k2 KK) (v2 VV) (fun i d => (k2_at KK i d).trans (hK _ d)) (fun d i => (v2_at VV d i).trans (hV 2 d i)))
    (kk0 KK) (v0 VV) (v1 VV) (fun i d => (kk0_at KK i d).1.trans (hK _ d)) (fun i d => (kk0_at KK i d).2.trans (hK _ d))
    (fun d i => (v0_at VV d i).trans (hV 0 d i)) (fun d i => (v1_at VV d i).trans (hV 1 d i)))
    (fun j => by rw [Fin.sum_univ_eight]; simp (disch := decide) only [S_late, add_zero]; ring)
    (fun j d => by rw [Fin.sum_univ_eight]; simp (disch := decide) only [N_late, add_zero]; ring)

/-- The pass of query block 3. -/
theorem done3 :
    Done K V Q (st1 (st2 (st0 (own (sc1 q (k3 KK))) (v3 VV)) (sc2 q (kk0 KK)) (v0 VV) (v1 VV)) (sc1 q (k2 KK)) (v2 VV)) 3 :=
  Good.cast (g1p K V Q q hq 3 2 (by decide) (by decide) _ _ _
    (g2p K V Q q hq 3 0 1 (by decide) (by decide) (by decide) _ _ _
    (g0 K V Q q hq 3 (k3 KK) (v3 VV) (fun i d => (k3_at KK i d).trans (hK _ d)) (fun d i => (v3_at VV d i).trans (hV 3 d i)))
    (kk0 KK) (v0 VV) (v1 VV) (fun i d => (kk0_at KK i d).1.trans (hK _ d)) (fun i d => (kk0_at KK i d).2.trans (hK _ d))
    (fun d i => (v0_at VV d i).trans (hV 0 d i)) (fun d i => (v1_at VV d i).trans (hV 1 d i)))
    (k2 KK) (v2 VV) (fun i d => (k2_at KK i d).trans (hK _ d)) (fun d i => (v2_at VV d i).trans (hV 2 d i)))
    (fun j => by rw [Fin.sum_univ_eight]; simp (disch := decide) only [S_late, add_zero]; ring)
    (fun j d => by rw [Fin.sum_univ_eight]; simp (disch := decide) only [N_late, add_zero]; ring)

/-- The pass of query block 4. -/
theorem done4
    (hB : ∀ n j, B (ix2 n j) = if Chosen (gate K (Q j)) 4 n then (0 : EReal) else ⊥):
    Done K V Q (st2 (st2 (st0 (own (sc1 q (k4 KK))) (v4 VV)) (sel2 (sc2 q (kk0 KK)) (row0 B) (row1 B)) (v0 VV) (v1 VV)) (sel2 (sc2 q (kk2 KK)) (row2 B) (row3 B)) (v2 VV) (v3 VV)) 4 :=
  Good.cast (g2s K V Q q hq 4 2 3 (by decide) (by decide) _ _ _
    (g2s K V Q q hq 4 0 1 (by decide) (by decide) _ _ _
    (g0 K V Q q hq 4 (k4 KK) (v4 VV) (fun i d => (k4_at KK i d).trans (hK _ d)) (fun d i => (v4_at VV d i).trans (hV 4 d i)))
    (kk0 KK) (v0 VV) (v1 VV) (row0 B) (row1 B) (fun i d => (kk0_at KK i d).1.trans (hK _ d)) (fun i d => (kk0_at KK i d).2.trans (hK _ d))
    (fun d i => (v0_at VV d i).trans (hV 0 d i)) (fun d i => (v1_at VV d i).trans (hV 1 d i))
    (fun j => (row0_at B j).trans (hB 0 j)) (fun j => (row1_at B j).trans (hB 1 j)))
    (kk2 KK) (v2 VV) (v3 VV) (row2 B) (row3 B) (fun i d => (kk2_at KK i d).1.trans (hK _ d)) (fun i d => (kk2_at KK i d).2.trans (hK _ d))
    (fun d i => (v2_at VV d i).trans (hV 2 d i)) (fun d i => (v3_at VV d i).trans (hV 3 d i))
    (fun j => (row2_at B j).trans (hB 2 j)) (fun j => (row3_at B j).trans (hB 3 j)))
    (fun j => by rw [Fin.sum_univ_eight]; simp (disch := decide) only [S_late, add_zero]; ring)
    (fun j d => by rw [Fin.sum_univ_eight]; simp (disch := decide) only [N_late, add_zero]; ring)

/-- The pass of query block 5. -/
theorem done5
    (hB : ∀ n j, B (ix2 n j) = if Chosen (gate K (Q j)) 5 n then (0 : EReal) else ⊥):
    Done K V Q (st1 (st2 (st2 (st0 (own (sc1 q (k5 KK))) (v5 VV)) (sel2 (sc2 q (kk0 KK)) (row0 B) (row1 B)) (v0 VV) (v1 VV)) (sel2 (sc2 q (kk2 KK)) (row2 B) (row3 B)) (v2 VV) (v3 VV)) (sel1 (sc1 q (k4 KK)) (row4 B)) (v4 VV)) 5 :=
  Good.cast (g1s K V Q q hq 5 4 (by decide) _ _ _
    (g2s K V Q q hq 5 2 3 (by decide) (by decide) _ _ _
    (g2s K V Q q hq 5 0 1 (by decide) (by decide) _ _ _
    (g0 K V Q q hq 5 (k5 KK) (v5 VV) (fun i d => (k5_at KK i d).trans (hK _ d)) (fun d i => (v5_at VV d i).trans (hV 5 d i)))
    (kk0 KK) (v0 VV) (v1 VV) (row0 B) (row1 B) (fun i d => (kk0_at KK i d).1.trans (hK _ d)) (fun i d => (kk0_at KK i d).2.trans (hK _ d))
    (fun d i => (v0_at VV d i).trans (hV 0 d i)) (fun d i => (v1_at VV d i).trans (hV 1 d i))
    (fun j => (row0_at B j).trans (hB 0 j)) (fun j => (row1_at B j).trans (hB 1 j)))
    (kk2 KK) (v2 VV) (v3 VV) (row2 B) (row3 B) (fun i d => (kk2_at KK i d).1.trans (hK _ d)) (fun i d => (kk2_at KK i d).2.trans (hK _ d))
    (fun d i => (v2_at VV d i).trans (hV 2 d i)) (fun d i => (v3_at VV d i).trans (hV 3 d i))
    (fun j => (row2_at B j).trans (hB 2 j)) (fun j => (row3_at B j).trans (hB 3 j)))
    (k4 KK) (v4 VV) (row4 B) (fun i d => (k4_at KK i d).trans (hK _ d)) (fun d i => (v4_at VV d i).trans (hV 4 d i))
    (fun j => (row4_at B j).trans (hB 4 j)))
    (fun j => by rw [Fin.sum_univ_eight]; simp (disch := decide) only [S_late, add_zero]; ring)
    (fun j d => by rw [Fin.sum_univ_eight]; simp (disch := decide) only [N_late, add_zero]; ring)

/-- The pass of query block 6. -/
theorem done6
    (hB : ∀ n j, B (ix2 n j) = if Chosen (gate K (Q j)) 6 n then (0 : EReal) else ⊥):
    Done K V Q (st2 (st2 (st2 (st0 (own (sc1 q (k6 KK))) (v6 VV)) (sel2 (sc2 q (kk0 KK)) (row0 B) (row1 B)) (v0 VV) (v1 VV)) (sel2 (sc2 q (kk2 KK)) (row2 B) (row3 B)) (v2 VV) (v3 VV)) (sel2 (sc2 q (kk4 KK)) (row4 B) (row5 B)) (v4 VV) (v5 VV)) 6 :=
  Good.cast (g2s K V Q q hq 6 4 5 (by decide) (by decide) _ _ _
    (g2s K V Q q hq 6 2 3 (by decide) (by decide) _ _ _
    (g2s K V Q q hq 6 0 1 (by decide) (by decide) _ _ _
    (g0 K V Q q hq 6 (k6 KK) (v6 VV) (fun i d => (k6_at KK i d).trans (hK _ d)) (fun d i => (v6_at VV d i).trans (hV 6 d i)))
    (kk0 KK) (v0 VV) (v1 VV) (row0 B) (row1 B) (fun i d => (kk0_at KK i d).1.trans (hK _ d)) (fun i d => (kk0_at KK i d).2.trans (hK _ d))
    (fun d i => (v0_at VV d i).trans (hV 0 d i)) (fun d i => (v1_at VV d i).trans (hV 1 d i))
    (fun j => (row0_at B j).trans (hB 0 j)) (fun j => (row1_at B j).trans (hB 1 j)))
    (kk2 KK) (v2 VV) (v3 VV) (row2 B) (row3 B) (fun i d => (kk2_at KK i d).1.trans (hK _ d)) (fun i d => (kk2_at KK i d).2.trans (hK _ d))
    (fun d i => (v2_at VV d i).trans (hV 2 d i)) (fun d i => (v3_at VV d i).trans (hV 3 d i))
    (fun j => (row2_at B j).trans (hB 2 j)) (fun j => (row3_at B j).trans (hB 3 j)))
    (kk4 KK) (v4 VV) (v5 VV) (row4 B) (row5 B) (fun i d => (kk4_at KK i d).1.trans (hK _ d)) (fun i d => (kk4_at KK i d).2.trans (hK _ d))
    (fun d i => (v4_at VV d i).trans (hV 4 d i)) (fun d i => (v5_at VV d i).trans (hV 5 d i))
    (fun j => (row4_at B j).trans (hB 4 j)) (fun j => (row5_at B j).trans (hB 5 j)))
    (fun j => by rw [Fin.sum_univ_eight]; simp (disch := decide) only [S_late, add_zero]; ring)
    (fun j d => by rw [Fin.sum_univ_eight]; simp (disch := decide) only [N_late, add_zero]; ring)

/-- The pass of query block 7. -/
theorem done7
    (hB : ∀ n j, B (ix2 n j) = if Chosen (gate K (Q j)) 7 n then (0 : EReal) else ⊥):
    Done K V Q (st1 (st2 (st2 (st2 (st0 (own (sc1 q (k7 KK))) (v7 VV)) (sel2 (sc2 q (kk0 KK)) (row0 B) (row1 B)) (v0 VV) (v1 VV)) (sel2 (sc2 q (kk2 KK)) (row2 B) (row3 B)) (v2 VV) (v3 VV)) (sel2 (sc2 q (kk4 KK)) (row4 B) (row5 B)) (v4 VV) (v5 VV)) (sel1 (sc1 q (k6 KK)) (row6 B)) (v6 VV)) 7 :=
  Good.cast (g1s K V Q q hq 7 6 (by decide) _ _ _
    (g2s K V Q q hq 7 4 5 (by decide) (by decide) _ _ _
    (g2s K V Q q hq 7 2 3 (by decide) (by decide) _ _ _
    (g2s K V Q q hq 7 0 1 (by decide) (by decide) _ _ _
    (g0 K V Q q hq 7 (k7 KK) (v7 VV) (fun i d => (k7_at KK i d).trans (hK _ d)) (fun d i => (v7_at VV d i).trans (hV 7 d i)))
    (kk0 KK) (v0 VV) (v1 VV) (row0 B) (row1 B) (fun i d => (kk0_at KK i d).1.trans (hK _ d)) (fun i d => (kk0_at KK i d).2.trans (hK _ d))
    (fun d i => (v0_at VV d i).trans (hV 0 d i)) (fun d i => (v1_at VV d i).trans (hV 1 d i))
    (fun j => (row0_at B j).trans (hB 0 j)) (fun j => (row1_at B j).trans (hB 1 j)))
    (kk2 KK) (v2 VV) (v3 VV) (row2 B) (row3 B) (fun i d => (kk2_at KK i d).1.trans (hK _ d)) (fun i d => (kk2_at KK i d).2.trans (hK _ d))
    (fun d i => (v2_at VV d i).trans (hV 2 d i)) (fun d i => (v3_at VV d i).trans (hV 3 d i))
    (fun j => (row2_at B j).trans (hB 2 j)) (fun j => (row3_at B j).trans (hB 3 j)))
    (kk4 KK) (v4 VV) (v5 VV) (row4 B) (row5 B) (fun i d => (kk4_at KK i d).1.trans (hK _ d)) (fun i d => (kk4_at KK i d).2.trans (hK _ d))
    (fun d i => (v4_at VV d i).trans (hV 4 d i)) (fun d i => (v5_at VV d i).trans (hV 5 d i))
    (fun j => (row4_at B j).trans (hB 4 j)) (fun j => (row5_at B j).trans (hB 5 j)))
    (k6 KK) (v6 VV) (row6 B) (fun i d => (k6_at KK i d).trans (hK _ d)) (fun d i => (v6_at VV d i).trans (hV 6 d i))
    (fun j => (row6_at B j).trans (hB 6 j)))
    (fun j => by rw [Fin.sum_univ_eight]; ring)
    (fun j d => by rw [Fin.sum_univ_eight]; ring)

end

/-- The pass of the first query block. -/
theorem done0 (K V : Fin 2048 → Fin 128 → ℝ) (Q : Fin 512 → Fin 128 → ℝ) (q : FVec Ideal S512x128 .bf16)
    (kt : FVec Ideal S256x128 .bf16) (v : FVec Ideal S1x128x256 .bf16) (hq : ∀ j d, q (ix2 j d) = (Q j d : EReal))
    (hk : ∀ i d, kt (ix2 i d) = (K (key 0 i) d : EReal)) (hv : ∀ d i, v (ix3 0 d i) = (V (key 0 i) d : EReal)) :
    Done K V Q (st0 (own (sc1 q kt)) v) 0 :=
  Good.cast (g0 K V Q q hq 0 kt v hk hv)
    (fun j => (Fintype.sum_eq_single 0 fun n hn => S_late K Q 0 j n (Fin.pos_of_ne_zero hn)).symm)
    (fun j d => (Fintype.sum_eq_single 0 fun n hn => N_late K V Q 0 j d n (Fin.pos_of_ne_zero hn)).symm)

/-! ## The grid points -/

variable (m : (ℓ : Loc nD τ sig) → Buf (Elt Ideal) ℓ)

/-- The query of column `j` of query block `c`. -/
def colQ (A : Fin 8192 → Fin 4096 → ℝ) (b h : Fin 4) (c : Fin 8) (j : Fin 512) (d : Fin 128) : ℝ :=
  queryM A b h ⟨j.val / 256, by omega⟩ (pos c j) d

/-- The means of the key blocks, from the held sums. -/
theorem mean_real (K : Fin 2048 → Fin 128 → ℝ) (n : Fin 8) (d : Fin 128) (x : Fin 256 → EReal) (hx : ∀ k, x k = (K (key n k) d : EReal)) :
    Ideal.div (∑ k, x k) (Ideal.ofBits .f32 0x43800000#32) = (meanK K n d : EReal) := by
  rw [ofBits_256, sum_eq_coe hx, Ideal.div_coe (by norm_num), ← EReal.coe_mul, mul_one_div]
  rfl

/-- The block written at a grid point is the specification's. -/
theorem point_at (c : Dev nD) (A : Fin 8192 → Fin 4096 → ℝ)
    (hA : ∀ r k, (m ((c : Thread nD τ).loc main_arg0) : FVec Ideal S8192x4096 .f32) (ix2 r k) = (A r k : EReal))
    (t : Fin cfg0.N) (r : Fin 256) (g : Fin 2) (e : Fin 128) :
    ((outsAt0 m c t.val t.isLt).1 : FVec Ideal S1x256x256 .bf16) (ix3 0 r ⟨g.val * 128 + e.val, by omega⟩)
      = (spec A ⟨t.val / 32, (idx t).2.2.2.2⟩ ⟨t.val / 8 % 4, by omega⟩ g ⟨t.val % 8 * 256 + r.val, by omega⟩ e : EReal) := by
  have hb := (idx t).2.2.2.2
  generalize hK0 : keysM A ⟨t.val / 32, hb⟩ ⟨t.val / 8 % 4, by omega⟩ = K
  generalize hV0 : valsM A ⟨t.val / 32, hb⟩ ⟨t.val / 8 % 4, by omega⟩ = V
  generalize hQ0 : colQ A ⟨t.val / 32, hb⟩ ⟨t.val / 8 % 4, by omega⟩ ⟨t.val % 8, by omega⟩ = Q
  have hq : ∀ j d, qf (iblk m c 0 t) (ix2 j d) = (Q j d : EReal) := fun j d => by
    rw [qf_at, q_at, hA, ← hQ0]; rfl
  have hqb : ∀ j d, qb (iblk m c 0 t) (ix2 j d) = (Q j d : EReal) := hq
  have hk : ∀ (i : Fin 2048) (d : Fin 128), (iblk m c 1 t : FVec Ideal S1x2048x128 .f32) (ix3 0 i d) = (K i d : EReal) := fun i d => by
    rw [k_at, hA, ← hK0]; rfl
  have hv : ∀ (i : Fin 2048) (d : Fin 128), (iblk m c 2 t : FVec Ideal S1x2048x128 .f32) (ix3 0 i d) = (V i d : EReal) := fun i d => by
    rw [v_at, hA, ← hV0]; rfl
  suffices H : ∃ x, (outsAt0 m c t.val t.isLt).1 = outBlk (fin x) ∧ Done K V Q x ⟨t.val % 8, by omega⟩ by
    obtain ⟨x, h1, h2⟩ := H
    rw [h1, outBlk_at, fin_done K V Q x _ h2]
    refine congrArg (fun z : ℝ => (z : EReal)) ?_
    have hp : pos ⟨t.val % 8, by omega⟩ ⟨g.val * 256 + r.val, by omega⟩ = ⟨t.val % 8 * 256 + r.val, by omega⟩ :=
      Fin.ext (show t.val % 8 * 256 + (g.val * 256 + r.val) % 256 = _ by simp only; omega)
    have hg : (⟨(g.val * 256 + r.val) / 256, by omega⟩ : Fin 2) = g := Fin.ext (by simp only; omega)
    have hQ : Q ⟨g.val * 256 + r.val, by omega⟩ = queryM A ⟨t.val / 32, hb⟩ ⟨t.val / 8 % 4, by omega⟩ g ⟨t.val % 8 * 256 + r.val, by omega⟩ := by
      rw [← hQ0]; funext d
      show queryM A _ _ ⟨(g.val * 256 + r.val) / 256, _⟩ _ d = _
      rw [hp, hg]
    rw [hp, hQ, ← hK0, ← hV0]; rfl
  by_cases h0 : t.val % 8 = 0
  · refine ⟨_, outA m c t h0 h0 (by omega) (by omega) (by omega) (by omega) (by omega) (by omega) (by omega), ?_⟩
    have hc : (⟨t.val % 8, by omega⟩ : Fin 8) = 0 := Fin.ext h0
    rw [hc]
    refine done0 K V Q _ _ _ hqb (fun i d => ?_) fun d i => ?_
    · rw [k0_at]
      exact Eq.trans (by pointwise [k0_pay5]) (hk (key 0 i) d)
    · rw [vpay0_at, rows0]
      exact hv (key 0 i) d
  · have hc := carried m c t h0
    have hs := scratch m c t.val t.isLt
    have hK : ∀ i d, (outsAt0 m c (t.val - 1) (Nat.lt_of_le_of_lt (Nat.sub_le _ _) t.isLt)).2.1 (ix2 i d) = (K i d : EReal) := fun i d =>
      (congrFun (congrArg Prod.fst hc) (ix2 i d)).symm.trans ((hs.1 i d).trans (hk i d))
    have hV : ∀ n d i, (outsAt0 m c (t.val - 1) (Nat.lt_of_le_of_lt (Nat.sub_le _ _) t.isLt)).2.2.1 (ix3 n d i) = (V (key n i) d : EReal) :=
      fun n d i => (congrFun (congrArg (fun z => z.2.1) hc) (ix3 n d i)).symm.trans ((hs.2.1 n d i).trans (hv (key n i) d))
    have hG : ∀ (n : Fin 8) d, (outsAt0 m c (t.val - 1) (Nat.lt_of_le_of_lt (Nat.sub_le _ _) t.isLt)).2.2.2 (ix2 (wide n) d)
        = (meanK K n d : EReal) := fun n d =>
      (congrFun (congrArg (fun z => z.2.2) hc) (ix2 (wide n) d)).symm.trans ((hs.2.2 n d).trans
        (mean_real K n d _ fun k => hk (key n k) d))
    have hB : ∀ (c' n : Fin 8) (j : Fin 512), bia (BitVec.ofNat 32 c'.val) (outsAt0 m c (t.val - 1) (Nat.lt_of_le_of_lt (Nat.sub_le _ _) t.isLt)).2.2.2
        (qf (iblk m c 0 t)) (ix2 n j) = if Chosen (gate K (Q j)) c' n then (0 : EReal) else ⊥ := fun c' n j =>
      bia_at _ _ (meanK K) Q hG hq c' n j
    have h3 : t.val % 8 = 1 ∨ t.val % 8 = 2 ∨ t.val % 8 = 3 ∨ t.val % 8 = 4 ∨ t.val % 8 = 5 ∨ t.val % 8 = 6 ∨ t.val % 8 = 7 := by omega
    rcases h3 with h3 | h3 | h3 | h3 | h3 | h3 | h3
    · refine ⟨_, outB m c t h0 h0 h3 (by omega) (by omega) (by omega) (by omega) (by omega) (by omega) _ _ _ rfl rfl rfl, ?_⟩
      rw [show (⟨t.val % 8, by omega⟩ : Fin 8) = 1 from Fin.ext h3]
      exact done1 K V Q _ _ _ hqb hK hV
    · refine ⟨_, outC m c t h0 h0 (by omega) h3 (by omega) (by omega) (by omega) (by omega) (by omega) _ _ _ rfl rfl rfl, ?_⟩
      rw [show (⟨t.val % 8, by omega⟩ : Fin 8) = 2 from Fin.ext h3]
      exact done2 K V Q _ _ _ hqb hK hV
    · refine ⟨_, outD m c t h0 h0 (by omega) (by omega) h3 (by omega) (by omega) (by omega) (by omega) _ _ _ rfl rfl rfl, ?_⟩
      rw [show (⟨t.val % 8, by omega⟩ : Fin 8) = 3 from Fin.ext h3]
      exact done3 K V Q _ _ _ hqb hK hV
    · refine ⟨_, outE m c t h0 h0 (by omega) (by omega) (by omega) h3 (by omega) (by omega) (by omega) _ _ _ rfl rfl rfl, ?_⟩
      rw [show (⟨t.val % 8, by omega⟩ : Fin 8) = 4 from Fin.ext h3]
      exact done4 K V Q _ _ _ _ hqb hK hV (hB 4)
    · refine ⟨_, outF m c t h0 h0 (by omega) (by omega) (by omega) (by omega) h3 (by omega) (by omega) _ _ _ rfl rfl rfl, ?_⟩
      rw [show (⟨t.val % 8, by omega⟩ : Fin 8) = 5 from Fin.ext h3]
      exact done5 K V Q _ _ _ _ hqb hK hV (hB 5)
    · refine ⟨_, outG m c t h0 h0 (by omega) (by omega) (by omega) (by omega) (by omega) h3 (by omega) _ _ _ rfl rfl rfl, ?_⟩
      rw [show (⟨t.val % 8, by omega⟩ : Fin 8) = 6 from Fin.ext h3]
      exact done6 K V Q _ _ _ _ hqb hK hV (hB 6)
    · refine ⟨_, outH m c t h0 h0 (by omega) (by omega) (by omega) (by omega) (by omega) (by omega) h3 _ _ _ rfl rfl rfl, ?_⟩
      rw [show (⟨t.val % 8, by omega⟩ : Fin 8) = 7 from Fin.ext h3]
      exact done7 K V Q _ _ _ _ hqb hK hV (hB 7)

/-! ## The result -/

/-- The specification's array. -/
def whole (A : Fin 8192 → Fin 4096 → ℝ) : FVec Ideal S4x2048x1024 .bf16 := fun y => (cell A (y 0) (y 1) (y 2) : EReal)

/-- The kernel's result is the specification's array. -/
theorem final_at (c : Dev nD) (A : Fin 8192 → Fin 4096 → ℝ)
    (hA : ∀ r k, (m ((c : Thread nD τ).loc main_arg0) : FVec Ideal S8192x4096 .f32) (ix2 r k) = (A r k : EReal)) :
    (dats m 0 c).arrAt 3 cfg0.N = whole A := by
  refine (dats m 0 c).arrAt_eq_of_covers 3 _ (by decide +kernel) fun t hf y => ?_
  have h3 := (idx t).2.2.2.1
  have hb := (idx t).2.2.2.2
  blk_simp
  rw [after0_3]
  have hy1 : (y 1).val < 256 := (y 1).isLt
  have hy2 : (y 2).val < 256 := (y 2).isLt
  have hy0 : (y 0).val = 0 := by have h : (y 0).val < 1 := (y 0).isLt; omega
  have ey : y = (ix3 (0 : Fin 1) (y 1) (⟨(⟨(y 2).val / 128, by omega⟩ : Fin 2).val * 128 + (⟨(y 2).val % 128, by omega⟩ : Fin 128).val, by simp only; omega⟩ : Fin 256) : S1x256x256.Idx) := by
    funext a
    match a with
    | ⟨0, _⟩ => exact Fin.ext hy0
    | ⟨1, _⟩ => rfl
    | ⟨2, _⟩ => exact Fin.ext (show (y 2).val = (y 2).val / 128 * 128 + (y 2).val % 128 by omega)
  refine (congrArg (outsAt0 m c t.val t.isLt).1 ey).trans ((point_at m c A hA t (y 1) ⟨(y 2).val / 128, by omega⟩ ⟨(y 2).val % 128, by omega⟩).trans ?_)
  rw [← cell_at]
  show whole A (ix3 ⟨t.val / 32, hb⟩ ⟨t.val % 8 * 256 + (y 1).val, by omega⟩ ⟨t.val / 8 % 4 * 256 + ((y 2).val / 128 * 128 + (y 2).val % 128), by omega⟩) = _
  refine congrArg _ ?_
  blk_ext [h3]

end Cert.MobaIdeal.Value

end
-- ==== Proof.MobaSteps.lean ====
/-
  The block-sparse attention's reference, step by step: the means of the key blocks, the gates, the three greatest gates of
  every query, the gathered keys and values, the masked scores, their softmax, and the weighted values. Each step is read
  at an index.
-/
module

public import proofs.«01_k».proof.Proof.Gen.MobaReferenceIdeal.Run
public import proofs.«01_k».proof.Proof.MobaSpec
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.MobaReferenceIdeal.Value

open Cert.MobaReferenceIdeal Cert.MobaReferenceIdeal.Gen Cert.Softmax Cert.Moba

/-! ## The steps -/

/-- The block of every position. -/
def rOwn : IVec S2048 32 :=
  select (andi (cmpi .ne (signi (iotaInDim S2048 32 0)) (broadcastInDim S2048 ![] bcast_S_S2048 (signi (id (constantI S_ 32 256#32)))))
    (cmpi .ne (Host.remsi (iotaInDim S2048 32 0) (broadcastInDim S2048 ![] bcast_S_S2048 (id (constantI S_ 32 256#32))))
      (broadcastInDim S2048 ![] bcast_S_S2048 (constantI S_ 32 0#32))))
    (subi (Host.divsi (iotaInDim S2048 32 0) (broadcastInDim S2048 ![] bcast_S_S2048 (id (constantI S_ 32 256#32))))
      (broadcastInDim S2048 ![] bcast_S_S2048 (constantI S_ 32 1#32)))
    (Host.divsi (iotaInDim S2048 32 0) (broadcastInDim S2048 ![] bcast_S_S2048 (id (constantI S_ 32 256#32))))

/-- The keys: sequence, key head, block, place, column. -/
def rK (a : FVec Ideal S8192x4096 .f32) : FVec Ideal S4x4x8x256x128 .f32 :=
  transpose S4x4x8x256x128 [0, 3, 1, 2, 4] (shapeCast _ (extractStridedSlice S4x2048x512 ![0, 0, 2560] (shapeCast _ a shapeCasts_S8192x4096_S4x2048x4096) slices_S4x2048x4096_S4x2048x512_0_0_2560) shapeCasts_S4x2048x512_S4x8x256x4x128) transposes_S4x8x256x4x128_S4x4x8x256x128_0_3_1_2_4

/-- The values: sequence, key head, block, place, column. -/
def rV (a : FVec Ideal S8192x4096 .f32) : FVec Ideal S4x4x8x256x128 .f32 :=
  transpose S4x4x8x256x128 [0, 3, 1, 2, 4] (shapeCast _ (extractStridedSlice S4x2048x512 ![0, 0, 3584] (shapeCast _ a shapeCasts_S8192x4096_S4x2048x4096) slices_S4x2048x4096_S4x2048x512_0_0_3584) shapeCasts_S4x2048x512_S4x8x256x4x128) transposes_S4x8x256x4x128_S4x4x8x256x128_0_3_1_2_4

/-- The queries: sequence, position, key head, head of the pair, column. -/
def rQ (a : FVec Ideal S8192x4096 .f32) : FVec Ideal S4x2048x4x2x128 .f32 :=
  shapeCast _ (extractStridedSlice S4x2048x1024 ![0, 0, 1024] (shapeCast _ a shapeCasts_S8192x4096_S4x2048x4096) slices_S4x2048x4096_S4x2048x1024_0_0_1024) shapeCasts_S4x2048x1024_S4x2048x4x2x128

/-- The gates of the blocks. -/
def rGate (k : FVec Ideal S4x4x8x256x128 .f32) (q : FVec Ideal S4x2048x4x2x128 .f32) : FVec Ideal S4x2048x4x2x8 .f32 :=
  transpose S4x2048x4x2x8 [0, 3, 1, 4, 2] (Host.dotGeneral dot_S4x4x8x128_S4x2048x4x2x128_S4x4x8x2048x2_3_4_2_13_01_02 none (Host.divf (Host.reduceAdd k (constant S_ .f32 0x00000000#32) reducesTo_S4x4x8x256x128_S4x4x8x128_d3 h_S_) (broadcastInDim S4x4x8x128 ![] bcast_S_S4x4x8x128 (constant S_ .f32 0x43800000#32))) q) transposes_S4x4x8x2048x2_S4x2048x4x2x8_0_3_1_4_2

/-- The gates with the blocks that are not before the query's masked. -/
def rMasked (g : FVec Ideal S4x2048x4x2x8 .f32) : FVec Ideal S4x2048x4x2x8 .f32 :=
  select (broadcastInDim S4x2048x4x2x8 ![0, 1, 2, 3, 4] bcast_S1x2048x1x1x8_S4x2048x4x2x8_0_1_2_3_4 (broadcastInDim S1x2048x1x1x8 ![1, 4] bcast_S2048x8_S1x2048x1x1x8_1_4 (cmpi .slt (broadcastInDim S2048x8 ![0, 1] bcast_S1x8_S2048x8_0_1 (broadcastInDim S1x8 ![1] bcast_S8_S1x8_1 (iotaInDim S8 32 0))) (broadcastInDim S2048x8 ![0, 1] bcast_S2048x1_S2048x8_0_1 (broadcastInDim S2048x1 ![0] bcast_S2048_S2048x1_0 rOwn))))) g (broadcastInDim S4x2048x4x2x8 ![] bcast_S_S4x2048x4x2x8 (id (constant S_ .f32 0xFF800000#32)))

/-- The three greatest gates of every query. -/
def rTop (g : FVec Ideal S4x2048x4x2x8 .f32) : FVec Ideal S4x2048x4x2x3 .f32 :=
  (Host.topK S4x2048x4x2x3 4 (FloatOps.cmpfTotal .gt) g sliceFits_S4x2048x4x2x8_S4x2048x4x2x3).1

/-- Their blocks. -/
def rTopIdx (g : FVec Ideal S4x2048x4x2x8 .f32) : IVec S4x2048x4x2x3 32 :=
  (Host.topK S4x2048x4x2x3 4 (FloatOps.cmpfTotal .gt) g sliceFits_S4x2048x4x2x8_S4x2048x4x2x3).2

/-- The blocks read: the three and the query's own. -/
def rIdx (i : IVec S4x2048x4x2x3 32) : IVec S4x2048x4x2x4 32 :=
  concatenate S4x2048x4x2x4 4 [⟨S4x2048x4x2x3, i⟩, ⟨S4x2048x4x2x1, (broadcastInDim S4x2048x4x2x1 ![0, 1, 2, 3, 4] bcast_S1x2048x1x1x1_S4x2048x4x2x1_0_1_2_3_4 (broadcastInDim S1x2048x1x1x1 ![1] bcast_S2048_S1x2048x1x1x1_1 rOwn))⟩] concatenates_S4x2048x4x2x3_S4x2048x4x2x1_S4x2048x4x2x4_d4

/-- Which of the blocks read count: those of a finite gate, and the own. -/
def rValid (x : FVec Ideal S4x2048x4x2x3 .f32) : IVec S4x2048x4x2x4 1 :=
  concatenate S4x2048x4x2x4 4 [⟨S4x2048x4x2x3, (cmpf .olt (Host.absf x) (broadcastInDim S4x2048x4x2x3 ![] bcast_S_S4x2048x4x2x3 (constant S_ .f32 0x7F800000#32)))⟩, ⟨S4x2048x4x2x1, (broadcastInDim S4x2048x4x2x1 ![] bcast_S_S4x2048x4x2x1 (constantI S_ 1 1#1))⟩] concatenates_S4x2048x4x2x3_S4x2048x4x2x1_S4x2048x4x2x4_d4

/-- The sequence as the gather takes it. -/
def rB : IVec S4x2048x4x2x4x1 32 :=
  broadcastInDim S4x2048x4x2x4x1 ![0, 1, 2, 3, 4] bcast_S4x2048x4x2x4_S4x2048x4x2x4x1_0_1_2_3_4 (broadcastInDim S4x2048x4x2x4 ![0, 1, 2, 3, 4] bcast_S4x1x1x1x1_S4x2048x4x2x4_0_1_2_3_4 (select (cmpi .slt (broadcastInDim S4x1x1x1x1 ![0] bcast_S4_S4x1x1x1x1_0 (iotaInDim S4 32 0)) (broadcastInDim S4x1x1x1x1 ![] bcast_S_S4x1x1x1x1 (constantI S_ 32 0#32))) (addi (broadcastInDim S4x1x1x1x1 ![0] bcast_S4_S4x1x1x1x1_0 (iotaInDim S4 32 0)) (broadcastInDim S4x1x1x1x1 ![] bcast_S_S4x1x1x1x1 (constantI S_ 32 4#32))) (broadcastInDim S4x1x1x1x1 ![0] bcast_S4_S4x1x1x1x1_0 (iotaInDim S4 32 0))))

/-- The key head as the gather takes it. -/
def rH : IVec S4x2048x4x2x4x1 32 :=
  broadcastInDim S4x2048x4x2x4x1 ![0, 1, 2, 3, 4] bcast_S4x2048x4x2x4_S4x2048x4x2x4x1_0_1_2_3_4 (broadcastInDim S4x2048x4x2x4 ![0, 1, 2, 3, 4] bcast_S1x1x4x1x1_S4x2048x4x2x4_0_1_2_3_4 (select (cmpi .slt (broadcastInDim S1x1x4x1x1 ![2] bcast_S4_S1x1x4x1x1_2 (iotaInDim S4 32 0)) (broadcastInDim S1x1x4x1x1 ![] bcast_S_S1x1x4x1x1 (constantI S_ 32 0#32))) (addi (broadcastInDim S1x1x4x1x1 ![2] bcast_S4_S1x1x4x1x1_2 (iotaInDim S4 32 0)) (broadcastInDim S1x1x4x1x1 ![] bcast_S_S1x1x4x1x1 (constantI S_ 32 4#32))) (broadcastInDim S1x1x4x1x1 ![2] bcast_S4_S1x1x4x1x1_2 (iotaInDim S4 32 0))))

/-- The block as the gather takes it. -/
def rN (i : IVec S4x2048x4x2x4 32) : IVec S4x2048x4x2x4x1 32 :=
  broadcastInDim S4x2048x4x2x4x1 ![0, 1, 2, 3, 4] bcast_S4x2048x4x2x4_S4x2048x4x2x4x1_0_1_2_3_4 (select (cmpi .slt i (broadcastInDim S4x2048x4x2x4 ![] bcast_S_S4x2048x4x2x4 (constantI S_ 32 0#32))) (addi i (broadcastInDim S4x2048x4x2x4 ![] bcast_S_S4x2048x4x2x4 (constantI S_ 32 8#32))) i)

/-- The places the gather reads at. -/
def rStart (i : IVec S4x2048x4x2x4 32) : IVec S4x2048x4x2x4x3 32 :=
  concatenate S4x2048x4x2x4x3 5 [⟨S4x2048x4x2x4x1, rB⟩, ⟨S4x2048x4x2x4x1, rH⟩, ⟨S4x2048x4x2x4x1, rN i⟩] concatenates_S4x2048x4x2x4x1_S4x2048x4x2x4x1_S4x2048x4x2x4x1_S4x2048x4x2x4x3_d5

/-- The rows of the blocks read. -/
def rRows (x : FVec Ideal S4x4x8x256x128 .f32) (st : IVec S4x2048x4x2x4x3 32) : FVec Ideal S4x2048x4x2x4x256x128 .f32 :=
  Host.gather gather_S4x4x8x256x128_S4x2048x4x2x4x3_S4x2048x4x2x4x256x128_56_012_n_n_012_5_111256128 x st

/-- The scaled scores. -/
def rScore (q : FVec Ideal S4x2048x4x2x128 .f32) (k : FVec Ideal S4x2048x4x2x4x256x128 .f32) : FVec Ideal S4x2048x4x2x4x256 .f32 :=
  mulf (Host.dotGeneral dot_S4x2048x4x2x128_S4x2048x4x2x4x256x128_S4x2048x4x2x4x256_4_6_n_45_0123_0123 none q k) (broadcastInDim S4x2048x4x2x4x256 ![] bcast_S_S4x2048x4x2x4x256 (constant S_ .f32 0x3DB504F3#32))

/-- Which scores count: those of the blocks that count, at keys not after the query. -/
def rMask (v : IVec S4x2048x4x2x4 1) (i : IVec S4x2048x4x2x4 32) : IVec S4x2048x4x2x4x256 1 :=
  andi (broadcastInDim S4x2048x4x2x4x256 ![0, 1, 2, 3, 4, 5] bcast_S4x2048x4x2x4x1_S4x2048x4x2x4x256_0_1_2_3_4_5 (broadcastInDim S4x2048x4x2x4x1 ![0, 1, 2, 3, 4] bcast_S4x2048x4x2x4_S4x2048x4x2x4x1_0_1_2_3_4 v)) (cmpi .sle (addi (broadcastInDim S4x2048x4x2x4x256 ![0, 1, 2, 3, 4, 5] bcast_S4x2048x4x2x4x1_S4x2048x4x2x4x256_0_1_2_3_4_5 (muli (broadcastInDim S4x2048x4x2x4x1 ![0, 1, 2, 3, 4] bcast_S4x2048x4x2x4_S4x2048x4x2x4x1_0_1_2_3_4 i) (broadcastInDim S4x2048x4x2x4x1 ![] bcast_S_S4x2048x4x2x4x1 (constantI S_ 32 256#32)))) (broadcastInDim S4x2048x4x2x4x256 ![0, 1, 2, 3, 4, 5] bcast_S1x1x1x1x1x256_S4x2048x4x2x4x256_0_1_2_3_4_5 (broadcastInDim S1x1x1x1x1x256 ![5] bcast_S256_S1x1x1x1x1x256_5 (iotaInDim S256 32 0)))) (broadcastInDim S4x2048x4x2x4x256 ![0, 1, 2, 3, 4, 5] bcast_S1x2048x1x1x1x1_S4x2048x4x2x4x256_0_1_2_3_4_5 (broadcastInDim S1x2048x1x1x1x1 ![1] bcast_S2048_S1x2048x1x1x1x1_1 (iotaInDim S2048 32 0))))

/-- The masked scores, the blocks read one after another. -/
def rLogit (m : IVec S4x2048x4x2x4x256 1) (s : FVec Ideal S4x2048x4x2x4x256 .f32) : FVec Ideal S4x2048x4x2x1024 .f32 :=
  shapeCast _ (select m s (broadcastInDim S4x2048x4x2x4x256 ![] bcast_S_S4x2048x4x2x4x256 (id (constant S_ .f32 0xFF800000#32)))) shapeCasts_S4x2048x4x2x4x256_S4x2048x4x2x1024

/-- The greatest score of every query. -/
def rMax (s : FVec Ideal S4x2048x4x2x1024 .f32) : FVec Ideal S4x2048x4x2 .f32 :=
  maximumf (broadcastInDim S4x2048x4x2 ![] bcast_S_S4x2048x4x2 (constant S_ .f32 0xFF800000#32)) (Host.reduce FloatOps.maximumf s (constant S_ .f32 0xFF800000#32) reducesTo_S4x2048x4x2x1024_S4x2048x4x2_d4 h_S_)

/-- A number per query, over the keys read. -/
def rOver (x : FVec Ideal S4x2048x4x2 .f32) : FVec Ideal S4x2048x4x2x1024 .f32 :=
  broadcastInDim S4x2048x4x2x1024 ![0, 1, 2, 3, 4] bcast_S4x2048x4x2x1_S4x2048x4x2x1024_0_1_2_3_4 (broadcastInDim S4x2048x4x2x1 ![0, 1, 2, 3] bcast_S4x2048x4x2_S4x2048x4x2x1_0_1_2_3 x)

/-- The exponentials of the scores less their greatest. -/
def rExp (s : FVec Ideal S4x2048x4x2x1024 .f32) : FVec Ideal S4x2048x4x2x1024 .f32 := Host.exp (subf s (rOver (rMax s)))

/-- The sums over the keys read. -/
def rSum (s : FVec Ideal S4x2048x4x2x1024 .f32) : FVec Ideal S4x2048x4x2 .f32 :=
  Host.reduceAdd s (constant S_ .f32 0x00000000#32) reducesTo_S4x2048x4x2x1024_S4x2048x4x2_d4 h_S_

/-- The softmax. -/
def rProb (s : FVec Ideal S4x2048x4x2x1024 .f32) : FVec Ideal S4x2048x4x2x1024 .f32 := Host.divf (rExp s) (rOver (rSum (rExp s)))

/-- The weighted values. -/
def rOut (p : FVec Ideal S4x2048x4x2x1024 .f32) (v : FVec Ideal S4x2048x4x2x4x256x128 .f32) : FVec Ideal S4x2048x4x2x128 .f32 :=
  Host.dotGeneral dot_S4x2048x4x2x4x256_S4x2048x4x2x4x256x128_S4x2048x4x2x128_54_54_n_6_0123_0123 none (shapeCast _ p shapeCasts_S4x2048x4x2x1024_S4x2048x4x2x4x256) v

/-- The heads side by side. -/
def rFlat (o : FVec Ideal S4x2048x4x2x128 .f32) : FVec Ideal S4x2048x1024 .bf16 :=
  truncf .bf16 (shapeCast _ o shapeCasts_S4x2048x4x2x128_S4x2048x1024) bitsLt_bf16_f32

/-- The masked gates of the arguments. -/
def gM (a : FVec Ideal S8192x4096 .f32) : FVec Ideal S4x2048x4x2x8 .f32 := rMasked (rGate (rK a) (rQ a))

/-- The blocks read, of the arguments. -/
def iM (a : FVec Ideal S8192x4096 .f32) : IVec S4x2048x4x2x4 32 := rIdx (rTopIdx (gM a))

/-- The masked scores of the arguments. -/
def lM (a : FVec Ideal S8192x4096 .f32) : FVec Ideal S4x2048x4x2x1024 .f32 :=
  rLogit (rMask (rValid (rTop (gM a))) (iM a)) (rScore (rQ a) (rRows (rK a) (rStart (iM a))))

/-- The reference's result is the steps one after another. -/
theorem res_steps (m : (ℓ : Loc nD τ sig) → Buf (Elt Ideal) ℓ) (c : Dev nD) :
    res_out0 m c = rFlat (rOut (rProb (lM (m ((c : Thread nD τ).loc main_arg0))))
      (rRows (rV (m ((c : Thread nD τ).loc main_arg0))) (rStart (iM (m ((c : Thread nD τ).loc main_arg0)))))) := by
  show res_main_v113 m c = _
  unfold res_main_v113
  rfl

/-! ## The steps at an index -/

/-- The block of a position. -/
theorem rOwn_at : ∀ i : Fin 2048, rOwn (ix1 i) = BitVec.ofNat 32 (i.val / 256) := by decide +kernel

/-- The keys at an index: a column of the projected row. -/
theorem rK_at (a : FVec Ideal S8192x4096 .f32) (b h : Fin 4) (n : Fin 8) (r : Fin 256) (d : Fin 128) :
    rK a (ix5 b h n r d) = a (ix2 ⟨b.val * 2048 + (key n r).val, by omega⟩ ⟨2560 + (h.val * 128 + d.val), by omega⟩) := by
  pointwise [rK]
  blk_ext [key]

/-- The values at an index: a column of the projected row. -/
theorem rV_at (a : FVec Ideal S8192x4096 .f32) (b h : Fin 4) (n : Fin 8) (r : Fin 256) (d : Fin 128) :
    rV a (ix5 b h n r d) = a (ix2 ⟨b.val * 2048 + (key n r).val, by omega⟩ ⟨3584 + (h.val * 128 + d.val), by omega⟩) := by
  pointwise [rV]
  blk_ext [key]

/-- The queries at an index: a column of the projected row. -/
theorem rQ_at (a : FVec Ideal S8192x4096 .f32) (b : Fin 4) (i : Fin 2048) (h : Fin 4) (g : Fin 2) (d : Fin 128) :
    rQ a (ix5 b i h g d) = a (ix2 ⟨b.val * 2048 + i.val, by omega⟩ ⟨1024 + (h.val * 256 + (g.val * 128 + d.val)), by omega⟩) := by
  pointwise [rQ]
  blk_ext

/-- The gates at an index. -/
theorem rGate_at (k : FVec Ideal S4x4x8x256x128 .f32) (q : FVec Ideal S4x2048x4x2x128 .f32) (b : Fin 4) (i : Fin 2048) (h : Fin 4)
    (g : Fin 2) (n : Fin 8) : rGate k q (ix5 b i h g n)
      = ∑ d : Fin 128, Ideal.div (∑ r : Fin 256, k (ix5 b h n r d)) (Ideal.ofBits .f32 0x43800000#32) * q (ix5 b i h g d) := by
  pointwise [rGate]

/-- The masked gates at an index. -/
theorem rMasked_at (x : FVec Ideal S4x2048x4x2x8 .f32) (b : Fin 4) (i : Fin 2048) (h : Fin 4)
    (g : Fin 2) (n : Fin 8) : rMasked x (ix5 b i h g n) = if n < blk i then x (ix5 b i h g n) else ⊥ := by
  pointwise [rMasked]
  rw [rOwn_at]
  refine (congrArg (fun w => if w = 1#1 then x (ix5 b i h g n) else _) (WordCmp.cmpi_slt_ofNat (by omega) (by omega))).trans ?_
  by_cases h : n < blk i
  · rw [if_pos h, decide_eq_true (show n.val < i.val / 256 from h)]; rfl
  · rw [if_neg h, decide_eq_false (show ¬ n.val < i.val / 256 from h)]
    show (Ideal.ofBits .f32 0xFF800000#32 : EReal) = ⊥
    simp [Ideal.ofBits, Ideal.ieee]

/-- Where the descending sort of a query's gates takes its entries from. -/
def tops (x : FVec Ideal S4x2048x4x2x8 .f32) (b : Fin 4) (i : Fin 2048) (h : Fin 4) (g : Fin 2) : Fin 8 → Fin 8 :=
  sortedFrom (gtB fun k => x (ix5 b i h g k))

/-- The comparator along the sorted axis. -/
theorem before_eq (x : FVec Ideal S4x2048x4x2x8 .f32) (b : Fin 4) (i : Fin 2048) (h : Fin 4) (g : Fin 2) (p : Fin 8) :
    (fun k k' : Fin 8 => (FloatOps.cmpfTotal (F := Ideal) .gt (x ((ix5 b i h g p : S4x2048x4x2x8.Idx).along 4 k))
      (x ((ix5 b i h g p : S4x2048x4x2x8.Idx).along 4 k')) == 1#1)) = gtB fun k => x (ix5 b i h g k) := by
  have ha : ∀ k : Fin 8, (ix5 b i h g p : S4x2048x4x2x8.Idx).along 4 k = ix5 b i h g k := fun k => by
    funext a
    match a with
    | ⟨0, _⟩ => rfl
    | ⟨1, _⟩ => rfl
    | ⟨2, _⟩ => rfl
    | ⟨3, _⟩ => rfl
    | ⟨4, _⟩ => rfl
  funext k k'
  rw [ha, ha]
  show (BitVec.ofBool (decide ((x (ix5 b i h g k') : EReal) < x (ix5 b i h g k))) == 1#1) = decide _
  by_cases hlt : (x (ix5 b i h g k') : EReal) < x (ix5 b i h g k)
  · simp [hlt]
  · simp [hlt]

/-- The sorted positions of a slice's entry. -/
theorem slice_ix (b : Fin 4) (i : Fin 2048) (h : Fin 4) (g : Fin 2) (s : Fin 3) {α : Type} (x : S4x2048x4x2x8.Idx → α) :
    extractStridedSlice S4x2048x4x2x3 (fun _ => 0) x sliceFits_S4x2048x4x2x8_S4x2048x4x2x3 (ix5 b i h g s)
      = x (ix5 b i h g ⟨s.val, by omega⟩) := by
  refine congrArg x ?_
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)
  | ⟨4, _⟩ => exact Fin.ext (Nat.zero_add _)

/-- The greatest gates at an index. -/
theorem rTop_at (x : FVec Ideal S4x2048x4x2x8 .f32) (b : Fin 4) (i : Fin 2048) (h : Fin 4) (g : Fin 2) (s : Fin 3) :
    rTop x (ix5 b i h g s) = x (ix5 b i h g (tops x b i h g ⟨s.val, by omega⟩)) := by
  unfold rTop Host.topK
  dsimp only
  refine (slice_ix b i h g s _).trans ?_
  unfold Host.sort2
  rw [dif_pos (by decide)]
  refine (congrArg (fun f => x ((ix5 b i h g ⟨s.val, by omega⟩ : S4x2048x4x2x8.Idx).along 4 (sortedFrom f (⟨s.val, by omega⟩ : Fin 8))))
    (before_eq x b i h g ⟨s.val, by omega⟩)).trans ?_
  refine congrArg x ?_
  funext a
  match a with
  | ⟨0, _⟩ => rfl
  | ⟨1, _⟩ => rfl
  | ⟨2, _⟩ => rfl
  | ⟨3, _⟩ => rfl
  | ⟨4, _⟩ => rfl

/-- Their blocks at an index. -/
theorem rTopIdx_at (x : FVec Ideal S4x2048x4x2x8 .f32) (b : Fin 4) (i : Fin 2048) (h : Fin 4) (g : Fin 2) (s : Fin 3) :
    rTopIdx x (ix5 b i h g s) = BitVec.ofNat 32 (tops x b i h g ⟨s.val, by omega⟩).val := by
  unfold rTopIdx Host.topK
  dsimp only
  refine (slice_ix b i h g s _).trans ?_
  unfold Host.sort2
  rw [dif_pos (by decide)]
  exact congrArg (fun f => BitVec.ofNat 32 (sortedFrom f (⟨s.val, by omega⟩ : Fin 8)).val) (before_eq x b i h g ⟨s.val, by omega⟩)

/-- The blocks read, at an index. -/
theorem rIdx_at (t : IVec S4x2048x4x2x3 32) (b : Fin 4) (i : Fin 2048) (h : Fin 4) (g : Fin 2) (s : Fin 4) :
    rIdx t (ix5 b i h g s) = if hs : s.val < 3 then t (ix5 b i h g ⟨s.val, hs⟩) else BitVec.ofNat 32 (i.val / 256) := by
  pointwise [rIdx]
  rw [rOwn_at]

/-- Which of them count, at an index. -/
theorem rValid_at (x : FVec Ideal S4x2048x4x2x3 .f32) (b : Fin 4) (i : Fin 2048) (h : Fin 4) (g : Fin 2) (s : Fin 4) :
    rValid x (ix5 b i h g s) = if hs : s.val < 3 then Ideal.cmp .olt (max (x (ix5 b i h g ⟨s.val, hs⟩) : EReal) (-(x (ix5 b i h g ⟨s.val, hs⟩) : EReal))) ⊤ else 1#1 := by
  have ht : (Ideal.ofBits .f32 0x7F800000#32 : EReal) = ⊤ := by simp [Ideal.ofBits, Ideal.ieee]
  pointwise [rValid]
  rw [← ht]
  rfl

/-- A small number is its own remainder at a lookup. -/
theorem small4 : ∀ b : Fin 4, min (BitVec.ofNat 32 b.val).toInt.toNat 3 = b.val := by decide

/-- A block's number is its own remainder at a lookup. -/
theorem small8 : ∀ b : Fin 8, min (BitVec.ofNat 32 b.val).toInt.toNat 7 = b.val := by decide

/-- The sequence as the gather takes it, at an index. -/
theorem rB_at (b : Fin 4) (i : Fin 2048) (h : Fin 4) (g : Fin 2) (s : Fin 4) (z : Fin 1) : rB (ix6 b i h g s z) = BitVec.ofNat 32 b.val := by
  have hb : ∀ b : Fin 4, (if IntOp.cmpi .slt (BitVec.ofNat 32 b.val) 0#32 = 1#1 then BitVec.ofNat 32 b.val + 4#32 else BitVec.ofNat 32 b.val)
      = BitVec.ofNat 32 b.val := by decide
  pointwise [rB]
  exact hb b

/-- The key head as the gather takes it, at an index. -/
theorem rH_at (b : Fin 4) (i : Fin 2048) (h : Fin 4) (g : Fin 2) (s : Fin 4) (z : Fin 1) : rH (ix6 b i h g s z) = BitVec.ofNat 32 h.val := by
  have hb : ∀ b : Fin 4, (if IntOp.cmpi .slt (BitVec.ofNat 32 b.val) 0#32 = 1#1 then BitVec.ofNat 32 b.val + 4#32 else BitVec.ofNat 32 b.val)
      = BitVec.ofNat 32 b.val := by decide
  pointwise [rH]
  exact hb h

/-- The block as the gather takes it, at an index. -/
theorem rN_at (t : IVec S4x2048x4x2x4 32) (b : Fin 4) (i : Fin 2048) (h : Fin 4) (g : Fin 2) (s : Fin 4) (z : Fin 1) (n : Fin 8)
    (hn : t (ix5 b i h g s) = BitVec.ofNat 32 n.val) : rN t (ix6 b i h g s z) = BitVec.ofNat 32 n.val := by
  have hb : ∀ b : Fin 8, (if IntOp.cmpi .slt (BitVec.ofNat 32 b.val) 0#32 = 1#1 then BitVec.ofNat 32 b.val + 8#32 else BitVec.ofNat 32 b.val)
      = BitVec.ofNat 32 b.val := by decide
  pointwise [rN]
  rw [hn]
  exact hb n

/-- The places the gather reads at, at an index. -/
theorem rStart_at (t : IVec S4x2048x4x2x4 32) (b : Fin 4) (i : Fin 2048) (h : Fin 4) (g : Fin 2) (s : Fin 4) (n : Fin 8)
    (hn : t (ix5 b i h g s) = BitVec.ofNat 32 n.val) : rStart t (ix6 b i h g s 0) = BitVec.ofNat 32 b.val
      ∧ rStart t (ix6 b i h g s 1) = BitVec.ofNat 32 h.val ∧ rStart t (ix6 b i h g s 2) = BitVec.ofNat 32 n.val := by
  refine ⟨?_, ?_, ?_⟩
  · refine Eq.trans ?_ (rB_at b i h g s 0)
    pointwise [rStart]
  · refine Eq.trans ?_ (rH_at b i h g s 0)
    pointwise [rStart]
  · refine Eq.trans ?_ (rN_at t b i h g s 0 n hn)
    pointwise [rStart]

/-- The index of a component of a gathered row's place. -/
theorem start_ix (b : Fin 4) (i : Fin 2048) (h : Fin 4) (g : Fin 2) (s : Fin 4) (r : Fin 256) (d : Fin 128) (k : Fin 3) :
    gather_S4x4x8x256x128_S4x2048x4x2x4x3_S4x2048x4x2x4x256x128_56_012_n_n_012_5_111256128.siIdx (ix7 b i h g s r d) k = ix6 b i h g s k := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

/-- The gathered rows at an index. -/
theorem rRows_at (x : FVec Ideal S4x4x8x256x128 .f32) (st : IVec S4x2048x4x2x4x3 32) (b : Fin 4) (i : Fin 2048) (h : Fin 4) (g : Fin 2)
    (s : Fin 4) (r : Fin 256) (d : Fin 128) : rRows x st (ix7 b i h g s r d)
      = x (ix5 ⟨min (st (ix6 b i h g s 0)).toInt.toNat 3, by omega⟩ ⟨min (st (ix6 b i h g s 1)).toInt.toNat 3, by omega⟩
        ⟨min (st (ix6 b i h g s 2)).toInt.toNat 7, by omega⟩ r d) := by
  unfold rRows Host.gather
  refine congrArg x ?_
  funext a
  refine Fin.ext ?_
  match a with
  | ⟨0, _⟩ =>
    show GatherDims.start _ _ st 0 + GatherDims.batchCoord _ _ 0 + GatherDims.offCoord _ _ 0 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (by decide)]
    refine congrArg (fun w : S4x2048x4x2x4x3.Idx => min (st w).toInt.toNat 3) (start_ix b i h g s r d 0)
  | ⟨1, _⟩ =>
    show GatherDims.start _ _ st 1 + GatherDims.batchCoord _ _ 1 + GatherDims.offCoord _ _ 1 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (by decide)]
    refine congrArg (fun w : S4x2048x4x2x4x3.Idx => min (st w).toInt.toNat 3) (start_ix b i h g s r d 1)
  | ⟨2, _⟩ =>
    show GatherDims.start _ _ st 2 + GatherDims.batchCoord _ _ 2 + GatherDims.offCoord _ _ 2 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (by decide)]
    refine congrArg (fun w : S4x2048x4x2x4x3.Idx => min (st w).toInt.toNat 7) (start_ix b i h g s r d 2)
  | ⟨3, _⟩ =>
    show GatherDims.start _ _ st 3 + GatherDims.batchCoord _ _ 3 + GatherDims.offCoord _ _ 3 = _
    rw [GatherDims.batchCoord_eq_zero _ _ _ List.not_mem_nil]
    unfold GatherDims.start
    rw [dif_neg (by decide)]
    exact Nat.zero_add _
  | ⟨4, _⟩ =>
    show GatherDims.start _ _ st 4 + GatherDims.batchCoord _ _ 4 + GatherDims.offCoord _ _ 4 = _
    rw [GatherDims.batchCoord_eq_zero _ _ _ List.not_mem_nil]
    unfold GatherDims.start
    rw [dif_neg (by decide)]
    exact Nat.zero_add _

/-- The scaled scores at an index. -/
theorem rScore_at (q : FVec Ideal S4x2048x4x2x128 .f32) (k : FVec Ideal S4x2048x4x2x4x256x128 .f32) (b : Fin 4) (i : Fin 2048) (h : Fin 4)
    (g : Fin 2) (s : Fin 4) (r : Fin 256) : rScore q k (ix6 b i h g s r)
      = (∑ d : Fin 128, q (ix5 b i h g d) * k (ix7 b i h g s r d)) * Ideal.ofBits .f32 0x3DB504F3#32 := by
  pointwise [rScore]

/-- Which scores count, at an index. -/
theorem rMask_at (v : IVec S4x2048x4x2x4 1) (t : IVec S4x2048x4x2x4 32) (b : Fin 4) (i : Fin 2048) (h : Fin 4)
    (g : Fin 2) (s : Fin 4) (r : Fin 256) : rMask v t (ix6 b i h g s r)
      = v (ix5 b i h g s) &&& IntOp.cmpi .sle (t (ix5 b i h g s) * 256#32 + BitVec.ofNat 32 r.val) (BitVec.ofNat 32 i.val) := by
  pointwise [rMask]
  rfl

/-- The masked scores at an index. -/
theorem rLogit_at (m : IVec S4x2048x4x2x4x256 1) (x : FVec Ideal S4x2048x4x2x4x256 .f32) (b : Fin 4) (i : Fin 2048) (h : Fin 4)
    (g : Fin 2) (k : Fin 1024) : rLogit m x (ix5 b i h g k)
      = if m (ix6 b i h g ⟨k.val / 256, by omega⟩ ⟨k.val % 256, by omega⟩) = 1#1 then x (ix6 b i h g ⟨k.val / 256, by omega⟩ ⟨k.val % 256, by omega⟩) else ⊥ := by
  have ht : (Ideal.ofBits .f32 0xFF800000#32 : EReal) = ⊥ := by simp [Ideal.ofBits, Ideal.ieee]
  pointwise [rLogit]
  exact congrArg (fun z : EReal => if m (ix6 b i h g ⟨k.val / 256, by omega⟩ ⟨k.val % 256, by omega⟩) = 1#1
    then (x (ix6 b i h g ⟨k.val / 256, by omega⟩ ⟨k.val % 256, by omega⟩) : EReal) else z) ht

/-- A number per query spread over the keys. -/
theorem rOver_at (x : FVec Ideal S4x2048x4x2 .f32) (b : Fin 4) (i : Fin 2048) (h : Fin 4)
    (g : Fin 2) (k : Fin 1024) : rOver x (ix5 b i h g k) = x (ix4 b i h g) := by
  pointwise [rOver]

/-- The sum over the keys read, at an index. -/
theorem rSum_at (x : FVec Ideal S4x2048x4x2x1024 .f32) (b : Fin 4) (i : Fin 2048) (h : Fin 4)
    (g : Fin 2) : rSum x (ix4 b i h g) = ∑ k : Fin 1024, x (ix5 b i h g k) := by
  pointwise [rSum]

/-- The indices a reduction over the keys gathers. -/
theorem fiber (b : Fin 4) (i : Fin 2048) (h : Fin 4) (g : Fin 2) (y : S4x2048x4x2x1024.Idx) :
    reducesTo_S4x2048x4x2x1024_S4x2048x4x2_d4.drop y = ix4 b i h g ↔ ∃ k : Fin 1024, ix5 b i h g k = y := by
  constructor
  · intro e
    refine ⟨y 4, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext a; apply Fin.ext
    match a with
    | ⟨0, _⟩ => rfl
    | ⟨1, _⟩ => rfl
    | ⟨2, _⟩ => rfl
    | ⟨3, _⟩ => rfl

/-- A greatest over the keys. -/
theorem max_last (x : FVec Ideal S4x2048x4x2x1024 .f32) (z : FVec Ideal S_ .f32) (b : Fin 4) (i : Fin 2048) (h : Fin 4) (g : Fin 2) :
    Host.reduce (FloatOps.maximumf (F := Ideal) (φ := .f32)) x z reducesTo_S4x2048x4x2x1024_S4x2048x4x2_d4 h_S_ (ix4 b i h g)
      = Finset.univ.fold (max : EReal → EReal → EReal) (z (Shape.Idx.first h_S_)) fun k : Fin 1024 => x (ix5 b i h g k) := by
  have hm : (FloatOps.maximumf (F := Ideal) (φ := .f32)) = (max : EReal → EReal → EReal) := rfl
  rw [hm, Host.reduce_eq_fold]
  exact Finset.fold_filter_eq_fold_of_fiber _ _ (fun k : Fin 1024 => ix5 b i h g k) (fun _ _ e => congrFun e 4) (fiber b i h g) _ x

/-- The entrywise greater, at an index. -/
theorem max_at {s : Shape} (x y : FVec Ideal s .f32) (i : s.Idx) : maximumf x y i = max (x i : EReal) (y i) := rfl

/-- The initial value of a greatest. -/
theorem bot_at {s : Shape} (i : s.Idx) : (constant s .f32 0xFF800000#32 : FVec Ideal s .f32) i = (⊥ : EReal) := by
  show (Ideal.ofBits .f32 0xFF800000#32 : EReal) = ⊥
  simp [Ideal.ofBits, Ideal.ieee]

/-- The greatest score at an index. -/
theorem rMax_at (x : FVec Ideal S4x2048x4x2x1024 .f32) (b : Fin 4) (i : Fin 2048) (h : Fin 4)
    (g : Fin 2) : rMax x (ix4 b i h g) = Finset.univ.fold max (⊥ : EReal) fun k : Fin 1024 => x (ix5 b i h g k) := by
  unfold rMax
  have hb : ∀ z : FVec Ideal S_ .f32, broadcastInDim S4x2048x4x2 ![] bcast_S_S4x2048x4x2 z (ix4 b i h g) = z ix0 := fun z => by pointwise
  rw [max_at, max_last, hb, bot_at, bot_at, max_eq_right bot_le]

/-- The softmax at an index. -/
theorem rProb_at (x : FVec Ideal S4x2048x4x2x1024 .f32) (b : Fin 4) (i : Fin 2048) (h : Fin 4) (g : Fin 2) (k : Fin 1024) :
    rProb x (ix5 b i h g k) = Ideal.div (Ideal.exp (x (ix5 b i h g k) - rMax x (ix4 b i h g)))
      (∑ l : Fin 1024, Ideal.exp (x (ix5 b i h g l) - rMax x (ix4 b i h g))) := by
  have he : ∀ l, rExp x (ix5 b i h g l) = Ideal.exp (x (ix5 b i h g l) - rMax x (ix4 b i h g)) := fun l => by
    pointwise [rExp]
    rw [rOver_at]
  pointwise [rProb]
  rw [rOver_at, rSum_at]
  simp only [he]

/-- The weighted values at an index. -/
theorem rOut_at (p : FVec Ideal S4x2048x4x2x1024 .f32) (v : FVec Ideal S4x2048x4x2x4x256x128 .f32) (b : Fin 4) (i : Fin 2048) (h : Fin 4)
    (g : Fin 2) (e : Fin 128) : rOut p v (ix5 b i h g e)
      = ∑ s : Fin 4, ∑ r : Fin 256, p (ix5 b i h g ⟨s.val * 256 + r.val, by omega⟩) * v (ix7 b i h g s r e) := by
  pointwise [rOut]
  rw [Finset.sum_comm]

/-- The heads side by side, at an index. -/
theorem rFlat_at (o : FVec Ideal S4x2048x4x2x128 .f32) (b : Fin 4) (i : Fin 2048) (e : Fin 1024) :
    rFlat o (ix3 b i e) = o (ix5 b i ⟨e.val / 256, by omega⟩ ⟨e.val / 128 % 2, by omega⟩ ⟨e.val % 128, by omega⟩) := by
  pointwise [rFlat]
  try blk_ext

end Cert.MobaReferenceIdeal.Value

end
-- ==== Proof.MobaReference.lean ====
/-
  The block-sparse attention's reference as the specification: the four blocks a query reads are the three of the greatest
  gates and its own; the softmax over their keys is an average whose weights are those of the blocks the query sees.
-/
module

public import proofs.«01_k».proof.Proof.MobaSteps

@[expose] public section

set_option maxRecDepth 16384

noncomputable section

open Idealize.ShloMosaic Idealize.ShloMosaic.TcCoe Idealize.SL.Sem

namespace Cert.MobaReferenceIdeal.Value

open Cert.MobaReferenceIdeal Cert.MobaReferenceIdeal.Gen Cert.Softmax Cert.Moba
open scoped Classical

/-- A block's width. -/
theorem ofBits_256 : (Ideal.ofBits .f32 0x43800000#32 : EReal) = ((256 : ℝ) : EReal) := by
  simp [Ideal.ofBits, Ideal.ieee]
  rw [← EReal.coe_mul]; norm_num

/-- The scale of the scores. -/
theorem ofBits_scale : (Ideal.ofBits .f32 0x3DB504F3#32 : EReal) = ((11863283 / 134217728 : ℝ) : EReal) := by
  simp [Ideal.ofBits, Ideal.ieee]
  rw [← EReal.coe_mul]; norm_num

/-- The block read at a place: the sort's source at the first three, the query's own at the last. -/
def place (G : Fin 8 → ℝ) (c : Fin 8) (s : Fin 4) : Fin 8 := if hs : s.val < 3 then src G c ⟨s.val, by omega⟩ else c

/-- Whether the block read at a place counts. -/
def Ok (G : Fin 8 → ℝ) (c : Fin 8) (s : Fin 4) : Prop := s.val < 3 → place G c s < c

/-- The places that count carry the blocks seen. -/
theorem sum_place (G : Fin 8 → ℝ) (c : Fin 8) (F : Fin 8 → ℝ) :
    ∑ s : Fin 4, (if Ok G c s then F (place G c s) else 0) = ∑ n, if Seen G c n then F n else 0 := by
  rw [← sum_seen, Fin.sum_univ_castSucc]
  congr 1
  · refine Finset.sum_congr rfl fun s _ => ?_
    have hp : place G c s.castSucc = src G c ⟨s.val, by omega⟩ := dif_pos (show s.castSucc.val < 3 from s.isLt)
    have hk : Ok G c s.castSucc ↔ src G c ⟨s.val, by omega⟩ < c := by
      unfold Ok
      rw [hp]
      exact ⟨fun h => h s.isLt, fun h _ => h⟩
    rw [hp]
    simp only [hk]
  · have hp : place G c (Fin.last 3) = c := dif_neg (by decide)
    have hk : Ok G c (Fin.last 3) := fun h => absurd h (by decide)
    rw [if_pos hk, hp]

section
variable (a : FVec Ideal S8192x4096 .f32) (A : Fin 8192 → Fin 4096 → ℝ) (hA : ∀ r k, a (ix2 r k) = (A r k : EReal))
variable (b : Fin 4) (i : Fin 2048) (h : Fin 4) (g : Fin 2)

include hA

/-- The gates of the arguments. -/
theorem gate_spec (n : Fin 8) : rGate (rK a) (rQ a) (ix5 b i h g n) = (gate (keysM A b h) (queryM A b h g i) n : EReal) := by
  rw [rGate_at]
  unfold gate
  refine sum_eq_coe fun d => ?_
  rw [show (∑ r : Fin 256, rK a (ix5 b h n r d)) = ((∑ r : Fin 256, keysM A b h (key n r) d : ℝ) : EReal) from
    sum_eq_coe fun r => (rK_at a b h n r d).trans (hA _ _), ofBits_256, Ideal.div_coe (by norm_num), rQ_at, hA, ← EReal.coe_mul,
    ← EReal.coe_mul]
  unfold meanK
  rw [mul_one_div]
  rfl

/-- The masked gates of the arguments. -/
theorem masked_spec : (fun n => gM a (ix5 b i h g n)) = gateM (gate (keysM A b h) (queryM A b h g i)) (blk i) := by
  funext n
  unfold gM
  rw [rMasked_at, gate_spec a A hA b i h g n]
  rfl

/-- The sort's sources of the arguments. -/
theorem tops_spec : tops (gM a) b i h g = src (gate (keysM A b h) (queryM A b h g i)) (blk i) := by
  unfold tops src
  rw [masked_spec a A hA b i h g]

/-- The blocks read, of the arguments. -/
theorem idx_spec (s : Fin 4) : iM a (ix5 b i h g s) = BitVec.ofNat 32 (place (gate (keysM A b h) (queryM A b h g i)) (blk i) s).val := by
  unfold iM place
  rw [rIdx_at]
  split
  · rw [rTopIdx_at, tops_spec a A hA b i h g]
  · rfl

/-- Which of them count, of the arguments. -/
theorem valid_spec (s : Fin 4) : rValid (rTop (gM a)) (ix5 b i h g s)
    = if Ok (gate (keysM A b h) (queryM A b h g i)) (blk i) s then 1#1 else 0#1 := by
  have hcmp : ∀ x : EReal, Ideal.cmp .olt x ⊤ = BitVec.ofBool (decide (x < ⊤)) := fun _ => rfl
  rw [rValid_at]
  by_cases hs : s.val < 3
  · rw [dif_pos hs, rTop_at, tops_spec a A hA b i h g]
    have hp : place (gate (keysM A b h) (queryM A b h g i)) (blk i) s
        = src (gate (keysM A b h) (queryM A b h g i)) (blk i) ⟨s.val, by omega⟩ := dif_pos hs
    have hx : ∀ n, (gM a (ix5 b i h g n) : EReal) = gateM (gate (keysM A b h) (queryM A b h g i)) (blk i) n :=
      fun n => congrFun (masked_spec a A hA b i h g) n
    rw [hx, hcmp, ← hp]
    unfold gateM
    by_cases hc : place (gate (keysM A b h) (queryM A b h g i)) (blk i) s < blk i
    · rw [if_pos hc, if_pos (show Ok _ _ s from fun _ => hc), decide_eq_true]
      · rfl
      · rw [← EReal.coe_neg]
        exact max_lt (EReal.coe_lt_top _) (EReal.coe_lt_top _)
    · rw [if_neg hc, if_neg (show ¬ Ok _ _ s from fun hk => hc (hk hs)), decide_eq_false]
      · rfl
      · rw [EReal.neg_bot]
        simp
  · rw [dif_neg hs, if_pos (show Ok _ _ s from fun hk => absurd hk hs)]

/-- The rows read, of the arguments. -/
theorem rows_spec (x : FVec Ideal S4x4x8x256x128 .f32) (s : Fin 4) (r : Fin 256) (d : Fin 128) :
    rRows x (rStart (iM a)) (ix7 b i h g s r d) = x (ix5 b h (place (gate (keysM A b h) (queryM A b h g i)) (blk i) s) r d) := by
  obtain ⟨h0, h1, h2⟩ := rStart_at (iM a) b i h g s _ (idx_spec a A hA b i h g s)
  rw [rRows_at]
  simp only [h0, h1, h2, small4, small8]

/-- The scores read, of the arguments. -/
theorem score_spec (s : Fin 4) (r : Fin 256) : rScore (rQ a) (rRows (rK a) (rStart (iM a))) (ix6 b i h g s r)
    = (score (keysM A b h) (queryM A b h g i) (key (place (gate (keysM A b h) (queryM A b h g i)) (blk i) s) r) : EReal) := by
  rw [rScore_at, ofBits_scale]
  unfold score
  rw [EReal.coe_mul]
  congr 1
  refine sum_eq_coe fun d => ?_
  rw [rows_spec a A hA, rQ_at, rK_at, hA, hA, ← EReal.coe_mul]
  rfl

/-- Which scores count, of the arguments. -/
theorem mask_spec (s : Fin 4) (r : Fin 256) : rMask (rValid (rTop (gM a))) (iM a) (ix6 b i h g s r) = 1#1
    ↔ (Ok (gate (keysM A b h) (queryM A b h g i)) (blk i) s
      ∧ (place (gate (keysM A b h) (queryM A b h g i)) (blk i) s).val * 256 + r.val ≤ i.val) := by
  rw [rMask_at, valid_spec a A hA, idx_spec a A hA]
  have hi := i.isLt
  have hr := r.isLt
  have hn := (place (gate (keysM A b h) (queryM A b h g i)) (blk i) s).isLt
  rw [← BitVec.ofNat_mul, ← BitVec.ofNat_add, WordCmp.cmpi_sle_ofNat (by omega) (by omega)]
  by_cases h1 : Ok (gate (keysM A b h) (queryM A b h g i)) (blk i) s
  · by_cases h2 : (place (gate (keysM A b h) (queryM A b h g i)) (blk i) s).val * 256 + r.val ≤ i.val
    · simp [h1, h2]
    · simp [h1, h2]
  · simp [h1]

end

/-- The key read at place `k` of the keys read one after another. -/
def Live (K : Fin 2048 → Fin 128 → ℝ) (q : Fin 128 → ℝ) (i : Fin 2048) (s : Fin 4) (r : Fin 256) : Prop :=
  Ok (gate K q) (blk i) s ∧ (place (gate K q) (blk i) s).val * 256 + r.val ≤ i.val

/-- The score of the key read. -/
def scr (K : Fin 2048 → Fin 128 → ℝ) (q : Fin 128 → ℝ) (i : Fin 2048) (s : Fin 4) (r : Fin 256) : ℝ :=
  score K q (key (place (gate K q) (blk i) s) r)

/-- The weight of a key read is that of its block, if the block counts. -/
theorem wt_live (K : Fin 2048 → Fin 128 → ℝ) (q : Fin 128 → ℝ) (i : Fin 2048) (s : Fin 4) (r : Fin 256) :
    wt 1 (Live K q i s r) (scr K q i s r) = if Ok (gate K q) (blk i) s then wgt K q i (place (gate K q) (blk i) s) r else 0 := by
  unfold wgt wt Live scr
  by_cases h1 : Ok (gate K q) (blk i) s
  · by_cases h2 : (place (gate K q) (blk i) s).val * 256 + r.val ≤ i.val
    · simp [h1, h2]
    · simp [h1, h2]
  · simp [h1]

/-- The weights of the keys read sum to the denominator. -/
theorem sum_den (K : Fin 2048 → Fin 128 → ℝ) (q : Fin 128 → ℝ) (i : Fin 2048) :
    ∑ s : Fin 4, ∑ r : Fin 256, wt 1 (Live K q i s r) (scr K q i s r) = den K q i := by
  unfold den
  rw [← sum_place (gate K q) (blk i) fun n => ∑ r, wgt K q i n r]
  refine Finset.sum_congr rfl fun s _ => ?_
  simp only [wt_live]
  split
  · rfl
  · exact Finset.sum_const_zero

/-- The weighted values of the keys read sum to the numerator. -/
theorem sum_num (K V : Fin 2048 → Fin 128 → ℝ) (q : Fin 128 → ℝ) (i : Fin 2048) (e : Fin 128) :
    ∑ s : Fin 4, ∑ r : Fin 256, wt 1 (Live K q i s r) (scr K q i s r) * V (key (place (gate K q) (blk i) s) r) e = num K V q i e := by
  unfold num
  rw [← sum_place (gate K q) (blk i) fun n => ∑ r, wgt K q i n r * V (key n r) e]
  refine Finset.sum_congr rfl fun s _ => ?_
  simp only [wt_live]
  split
  · rfl
  · simp

/-- The block of a place among the keys read. -/
def tile (k : Fin 1024) : Fin 4 := ⟨k.val / 256, by omega⟩

/-- The row of a place among the keys read. -/
def rowOf (k : Fin 1024) : Fin 256 := ⟨k.val % 256, by omega⟩

/-- The place of a row of a block read. -/
def placeOf (s : Fin 4) (r : Fin 256) : Fin 1024 := ⟨s.val * 256 + r.val, by omega⟩

/-- A place's block. -/
theorem pl_at (s : Fin 4) (r : Fin 256) : tile (placeOf s r) = s := Fin.ext (show (s.val * 256 + r.val) / 256 = s.val by omega)

/-- A place's row. -/
theorem rw_at (s : Fin 4) (r : Fin 256) : rowOf (placeOf s r) = r := Fin.ext (show (s.val * 256 + r.val) % 256 = r.val by omega)

section
variable (a : FVec Ideal S8192x4096 .f32) (A : Fin 8192 → Fin 4096 → ℝ) (hA : ∀ r k, a (ix2 r k) = (A r k : EReal))
variable (b : Fin 4) (i : Fin 2048) (h : Fin 4) (g : Fin 2)

include hA

/-- The masked scores of the arguments. -/
theorem logit_spec (k : Fin 1024) : lM a (ix5 b i h g k) = if Live (keysM A b h) (queryM A b h g i) i (tile k) (rowOf k)
    then (scr (keysM A b h) (queryM A b h g i) i (tile k) (rowOf k) : EReal) else ⊥ := by
  unfold lM
  rw [rLogit_at]
  exact if_congr (mask_spec a A hA b i h g (tile k) (rowOf k)) (score_spec a A hA b i h g (tile k) (rowOf k)) rfl

/-- The softmax of the arguments. -/
theorem prob_spec (k : Fin 1024) : rProb (lM a) (ix5 b i h g k)
    = ((wt 1 (Live (keysM A b h) (queryM A b h g i) i (tile k) (rowOf k)) (scr (keysM A b h) (queryM A b h g i) i (tile k) (rowOf k))
      / den (keysM A b h) (queryM A b h g i) i : ℝ) : EReal) := by
  rw [rProb_at]
  have hx : Live (keysM A b h) (queryM A b h g i) i (tile (placeOf 3 ⟨i.val % 256, by omega⟩)) (rowOf (placeOf 3 ⟨i.val % 256, by omega⟩)) := by
    rw [pl_at, rw_at]
    refine ⟨fun hk => absurd hk (by decide), ?_⟩
    rw [show place (gate (keysM A b h) (queryM A b h g i)) (blk i) 3 = blk i from dif_neg (by decide)]
    show i.val / 256 * 256 + i.val % 256 ≤ i.val
    omega
  refine (prob_at expo_exp (fun k => Live (keysM A b h) (queryM A b h g i) i (tile k) (rowOf k))
    (fun k => scr (keysM A b h) (queryM A b h g i) i (tile k) (rowOf k)) _ (logit_spec a A hA b i h g) ⟨_, hx⟩ (rMax_at _ _ _ _ _) k).trans ?_
  rw [← sum_den, Fin.sum_univ_tiles 4 256 rfl]
  simp only [show ∀ (s : Fin 4) (r : Fin 256), (tile ⟨s.val * 256 + r.val, by omega⟩ : Fin 4) = s from pl_at,
    show ∀ (s : Fin 4) (r : Fin 256), (rowOf ⟨s.val * 256 + r.val, by omega⟩ : Fin 256) = r from rw_at]

/-- The weighted values of the arguments. -/
theorem out_spec (e : Fin 128) : rOut (rProb (lM a)) (rRows (rV a) (rStart (iM a))) (ix5 b i h g e) = (spec A b h g i e : EReal) := by
  rw [rOut_at]
  unfold spec attn
  rw [← sum_num, Finset.sum_div]
  refine sum_eq_coe fun s => ?_
  rw [Finset.sum_div]
  refine sum_eq_coe fun r => ?_
  refine (congrArg₂ (fun x y : EReal => x * y) (prob_spec a A hA b i h g (placeOf s r))
    ((rows_spec a A hA b i h g (rV a) s r e).trans ((rV_at a b h _ r e).trans (hA _ _)))).trans ?_
  rw [pl_at, rw_at, ← EReal.coe_mul, mul_div_right_comm]
  rfl

end

/-- The reference's result is the specification's array. -/
theorem final_at (m : (ℓ : Loc nD τ sig) → Buf (Elt Ideal) ℓ) (c : Dev nD) (A : Fin 8192 → Fin 4096 → ℝ)
    (hA : ∀ r k, (m ((c : Thread nD τ).loc main_arg0) : FVec Ideal S8192x4096 .f32) (ix2 r k) = (A r k : EReal)) :
    res_out0 m c = fun y : S4x2048x1024.Idx => (cell A (y 0) (y 1) (y 2) : EReal) := by
  rw [res_steps]
  funext y
  exact (congrArg _ (eq_ix3 y)).trans ((rFlat_at _ (y 0) (y 1) (y 2)).trans (out_spec _ A hA _ _ _ _ _))

end Cert.MobaReferenceIdeal.Value

end
-- ==== Proof.MobaClaims.lean ====
/-
  The claims about the block-sparse attention: the reference's frame, the named constant, and the equality of kernel and
  reference over the extended reals where the projected rows are finite.
-/
module

public import proofs.«01_k».proof.Defs
public import proofs.«01_k».proof.Proof.Gen.Moba
public import proofs.«01_k».proof.Proof.Gen.Moba.Frame
public import proofs.«01_k».proof.Proof.Gen.MobaIdeal
public import proofs.«01_k».proof.Proof.Gen.MobaReferenceIdeal.Run
public import proofs.«01_k».proof.Proof.DiffClaims
public import proofs.«01_k».proof.Proof.MobaPoint
public import proofs.«01_k».proof.Proof.MobaReference
public import Idealize.ShloMosaic.Lib.Claim
public import Idealize.ShloMosaic.Lib.Quiescent
public import Idealize.ShloMosaic.Adequacy

@[expose] public section

set_option maxRecDepth 16384

noncomputable section

namespace Cert.MobaClaims

open Idealize.ShloMosaic Idealize.SL.Sem

/-- The reference runs and leaves its argument unchanged. -/
theorem frame_ri : Cert.quiescent_MobaReferenceIdeal (hMobaReferenceIdeal := Cert.MobaReferenceIdeal.Gen.facts) := by
  intro m g _
  exact (θ_run _ _ _).mono (fun r h => ⟨fun c => (h c).2, sem_eq_zero_of_no_sems (sig := Cert.MobaReferenceIdeal.sig) rfl r.2⟩)
    (Cert.MobaReferenceIdeal.Value.run m g)

/-- The float that the version folds the scale to is the float of the named real number. -/
theorem preserves : Cert.preserves_Moba_MobaIdeal :=
  IdealRules.named_const.statement Cert.MobaIdeal.κ "moba_scale_log2e" .f32 0x3E0293EE#32
    (((11863283 / 134217728) * (Real.log 2)⁻¹ : ℝ) : EReal) rfl

/-- The side conditions of the precondition. -/
theorem facts_finite : Cert.Pre_finite_rows.Facts where
  bcast_S_S8192x4096 := ⟨fun a => a.elim0, fun a => a.elim0⟩

/-- Kernel and reference end with equal results over the extended reals, where the rows are finite. -/
theorem algebraic : Cert.algebraic_MobaIdeal_MobaReferenceIdeal_pre_finite_rows (hMobaIdeal := Cert.MobaIdeal.Gen.facts)
    (hMobaReferenceIdeal := Cert.MobaReferenceIdeal.Gen.facts) (hPre_finite_rows := facts_finite) := by
  pair_intro
  · run_from Cert.MobaIdeal.Gen.run_main m g
  · run_from Cert.MobaReferenceIdeal.Value.run m' g'
    have e0 := hagree c
    have r0 := DiffClaims.real_of facts_finite.bcast_S_S8192x4096 _ (hpre c)
    choose A hA using fun (r : Fin 8192) (k : Fin 4096) => r0 (ix2 r k)
    refine (Cert.MobaReferenceIdeal.Value.final_at m' c A fun i k => ?_).trans (Cert.MobaIdeal.Value.final_at m c A hA).symm
    rw [e0]; exact hA i k

end Cert.MobaClaims

end
-- ==== Proof.lean ====
/-
  The proof of `Cert.Claim`. The claims of the calls are in Proof/DiffClaims.lean (the differential attention) and, one
  module for each of the others, in Proof/MlpClaims.lean, Proof/QkvClaims.lean, Proof/OutProjClaims.lean, Proof/PleClaims.lean, Proof/QkvSampleClaims.lean, Proof/PleSampleClaims.lean, Proof/MobaClaims.lean;
  the frames of the kernels are the generated ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.KernelIdeal.Value
public import proofs.«01_k».proof.Proof.Gen.MlpIdeal.Value
public import proofs.«01_k».proof.Proof.Gen.ReferenceIdeal.Run
public import proofs.«01_k».proof.Proof.Gen.MlpReferenceIdeal.Run
public import proofs.«01_k».proof.Proof.MlpClaims
public import proofs.«01_k».proof.Proof.QkvClaims
public import proofs.«01_k».proof.Proof.OutProjClaims
public import proofs.«01_k».proof.Proof.PleClaims
public import proofs.«01_k».proof.Proof.QkvSampleClaims
public import proofs.«01_k».proof.Proof.PleSampleClaims
public import proofs.«01_k».proof.Proof.MobaClaims
public import proofs.«01_k».proof.Proof.DiffClaims
public import Idealize.ShloMosaic.Adequacy
public import Idealize.ShloMosaic.Init

@[expose] public section

noncomputable section

namespace Cert.Proof

open Idealize.ShloMosaic Idealize.SL.Sem

/-- All the claims, at the facts that the generated modules prove. -/
theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Qkv.Gen.facts, Cert.QkvIdeal.Gen.facts, Cert.QkvReferenceIdeal.Gen.facts,
  Cert.OutProj.Gen.facts, Cert.OutProjIdeal.Gen.facts, Cert.OutProjReferenceIdeal.Gen.facts,
  Cert.Ple.Gen.facts, Cert.PleIdeal.Gen.facts, Cert.PleReferenceIdeal.Gen.facts,
  Cert.QkvSample.Gen.facts, Cert.QkvSampleIdeal.Gen.facts, Cert.QkvSampleReferenceIdeal.Gen.facts,
  Cert.PleSample.Gen.facts, Cert.PleSampleIdeal.Gen.facts, Cert.PleSampleReferenceIdeal.Gen.facts,
  Cert.Moba.Gen.facts, Cert.MobaIdeal.Gen.facts, Cert.MobaReferenceIdeal.Gen.facts,
  Cert.DiffClaims.facts_finite,
  Cert.MobaClaims.facts_finite,
  fun m ρ _ => Cert.Kernel.Gen.frame m ρ,
  fun m ρ _ => Cert.KernelIdeal.Gen.frame m ρ,
  fun m ρ _ => Cert.KernelIdeal.Gen.frame m ρ,
  Cert.DiffClaims.frame_ri,
  fun m ρ _ => Cert.DiffClaims.frame_ri m ρ trivial,
  fun m ρ _ => Cert.Mlp.Gen.frame m ρ,
  fun m ρ _ => Cert.MlpIdeal.Gen.frame m ρ,
  Cert.MlpClaims.frame_ri,
  fun m ρ _ => Cert.Qkv.Gen.frame m ρ,
  fun m ρ _ => Cert.QkvIdeal.Gen.frame m ρ,
  Cert.QkvClaims.frame_ri,
  fun m ρ _ => Cert.OutProj.Gen.frame m ρ,
  fun m ρ _ => Cert.OutProjIdeal.Gen.frame m ρ,
  Cert.OutProjClaims.frame_ri,
  fun m ρ _ => Cert.Ple.Gen.frame m ρ,
  fun m ρ _ => Cert.PleIdeal.Gen.frame m ρ,
  Cert.PleClaims.frame_ri,
  fun m ρ _ => Cert.QkvSample.Gen.frame m ρ,
  fun m ρ _ => Cert.QkvSampleIdeal.Gen.frame m ρ,
  Cert.QkvSampleClaims.frame_ri,
  fun m ρ _ => Cert.PleSample.Gen.frame m ρ,
  fun m ρ _ => Cert.PleSampleIdeal.Gen.frame m ρ,
  Cert.PleSampleClaims.frame_ri,
  fun m ρ _ => Cert.Moba.Gen.frame m ρ,
  fun m ρ _ => Cert.MobaIdeal.Gen.frame m ρ,
  fun m ρ _ => Cert.MobaIdeal.Gen.frame m ρ,
  Cert.MobaClaims.frame_ri,
  fun m ρ _ => Cert.MobaClaims.frame_ri m ρ trivial,
  Cert.DiffClaims.preserves,
  Cert.DiffClaims.algebraic,
  trivial,
  Cert.MlpClaims.algebraic,
  trivial,
  Cert.QkvClaims.algebraic,
  trivial,
  Cert.OutProjClaims.algebraic,
  trivial,
  Cert.PleClaims.algebraic,
  trivial,
  Cert.QkvSampleClaims.algebraic,
  trivial,
  Cert.PleSampleClaims.algebraic,
  Cert.MobaClaims.preserves,
  Cert.MobaClaims.algebraic⟩

end Cert.Proof

end
